-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v53_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_v29) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v22) = v2 c
          ∧ r.2.mem ((c.tc : Thread Cert.Reference7Ideal.nD Cert.Reference7Ideal.τ).loc Cert.Reference7Ideal.main_v23) = v3 c
          ∧ r.2.mem ((c.tc : Thread Cert.Reference7Ideal.nD Cert.Reference7Ideal.τ).loc Cert.Reference7Ideal.main_v29) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v43) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v97) = v0 c
          ∧ r.2.mem ((c.tc : Thread Cert.Reference10Ideal.nD Cert.Reference10Ideal.τ).loc Cert.Reference10Ideal.main_v76) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S2x65536x1024 : Shape := ⟨3, ![2, 65536, 1024]⟩
abbrev S7x65536x1024 : Shape := ⟨3, ![7, 65536, 1024]⟩
abbrev S1x1024 : Shape := ⟨2, ![1, 1024]⟩
abbrev S1x128 : Shape := ⟨2, ![1, 128]⟩
abbrev S16x8x128x128 : Shape := ⟨4, ![16, 8, 128, 128]⟩
abbrev S65536x1024 : Shape := ⟨2, ![65536, 1024]⟩
abbrev S1x512x1024 : Shape := ⟨3, ![1, 512, 1024]⟩
abbrev S1x8x128x128 : Shape := ⟨4, ![1, 8, 128, 128]⟩
abbrev S512x1024 : Shape := ⟨2, ![512, 1024]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x64 : Shape := ⟨2, ![64, 64]⟩
abbrev S1x64x1024 : Shape := ⟨3, ![1, 64, 1024]⟩
abbrev S64x1024 : Shape := ⟨2, ![64, 1024]⟩
abbrev S64x128 : Shape := ⟨2, ![64, 128]⟩
abbrev S1x64x128 : Shape := ⟨3, ![1, 64, 128]⟩
abbrev S64 : Shape := ⟨1, ![64]⟩
abbrev S64x1 : Shape := ⟨2, ![64, 1]⟩

abbrev nBuf : Space → Nat
  | .hbm => 7
  | .vmem => 17
  | .smem => 0
  | _ => 0

abbrev bufTy : (tb : Table) → Fin (tcTables nBuf tb) → BufTy
  | .hbm, ⟨0, _⟩ => ⟨S2x65536x1024, .f32⟩
  | .hbm, ⟨1, _⟩ => ⟨S7x65536x1024, .bf16⟩
  | .hbm, ⟨2, _⟩ => ⟨S1x1024, .f32⟩
  | .hbm, ⟨3, _⟩ => ⟨S1x128, .f32⟩
  | .hbm, ⟨4, _⟩ => ⟨S16x8x128x128, .f32⟩
  | .hbm, ⟨5, _⟩ => ⟨S65536x1024, .bf16⟩
  | .hbm, ⟨6, _⟩ => ⟨S16x8x128x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024, .f32⟩
  | .local _ .vmem, ⟨9, _⟩ => ⟨S1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S512x1024, .bf16⟩
  | .local _ .vmem, ⟨13, _⟩ => ⟨S512x1024, .bf16⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S2x65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_4 : BitVec 32 := 0#32
  let c8_i32 : BitVec 32 := 8#32
  let v14 : BitVec 32 := Scalar.addi c0_i32_4 c8_i32
  let c1_i32 : BitVec 32 := 1#32
  ⟨c0_i32_4, v14, c1_i32⟩
def k0_mult1 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  v18
def k0_off1 (k0_t1 : Fin k0_t1_loop.trips) : Fin 3 → Nat :=
  let c0_7 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v20 : Index := Scalar.indexCast v19
  let c0_8 : Index := 0#32
  ![0, v20.toNat, 0]
def k0_off2 (k0_t1 : Fin k0_t1_loop.trips) : Fin 3 → Nat :=
  let c0_20 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v64 : Index := Scalar.indexCast v19
  let c0_21 : Index := 0#32
  ![0, v64.toNat, 0]
def k0_off3 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v133 : Index := Scalar.indexCast v19
  let c0_43 : Index := 0#32
  ![v133.toNat, 0]
def k0_off4 (k0_t1 : Fin k0_t1_loop.trips) : Fin 3 → Nat :=
  let c0_44 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v138 : Index := Scalar.indexCast v19
  let c128 : Index := 128#32
  ![0, v138.toNat, 128]
def k0_off5 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v207 : Index := Scalar.indexCast v19
  let c128_65 : Index := 128#32
  ![v207.toNat, 128]
def k0_off6 (k0_t1 : Fin k0_t1_loop.trips) : Fin 3 → Nat :=
  let c0_66 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v212 : Index := Scalar.indexCast v19
  let c256 : Index := 256#32
  ![0, v212.toNat, 256]
def k0_off7 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v281 : Index := Scalar.indexCast v19
  let c256_87 : Index := 256#32
  ![v281.toNat, 256]
def k0_off8 (k0_t1 : Fin k0_t1_loop.trips) : Fin 3 → Nat :=
  let c0_88 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v286 : Index := Scalar.indexCast v19
  let c384 : Index := 384#32
  ![0, v286.toNat, 384]
def k0_off9 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v355 : Index := Scalar.indexCast v19
  let c384_109 : Index := 384#32
  ![v355.toNat, 384]
def k0_off10 (k0_t1 : Fin k0_t1_loop.trips) : Fin 3 → Nat :=
  let c0_110 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v360 : Index := Scalar.indexCast v19
  let c512 : Index := 512#32
  ![0, v360.toNat, 512]
def k0_off11 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v429 : Index := Scalar.indexCast v19
  let c512_131 : Index := 512#32
  ![v429.toNat, 512]
def k0_off12 (k0_t1 : Fin k0_t1_loop.trips) : Fin 3 → Nat :=
  let c0_132 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v434 : Index := Scalar.indexCast v19
  let c640 : Index := 640#32
  ![0, v434.toNat, 640]
def k0_off13 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v503 : Index := Scalar.indexCast v19
  let c640_153 : Index := 640#32
  ![v503.toNat, 640]
def k0_off14 (k0_t1 : Fin k0_t1_loop.trips) : Fin 3 → Nat :=
  let c0_154 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v508 : Index := Scalar.indexCast v19
  let c768 : Index := 768#32
  ![0, v508.toNat, 768]
def k0_off15 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v577 : Index := Scalar.indexCast v19
  let c768_175 : Index := 768#32
  ![v577.toNat, 768]
def k0_off16 (k0_t1 : Fin k0_t1_loop.trips) : Fin 3 → Nat :=
  let c0_176 : Index := 0#32
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v582 : Index := Scalar.indexCast v19
  let c896 : Index := 896#32
  ![0, v582.toNat, 896]
def k0_off17 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v18 : BitVec 32 := Scalar.muli arg12 c64_i32
  let v19 : BitVec 32 := v18
  let v651 : Index := Scalar.indexCast v19
  let c896_197 : Index := 896#32
  ![v651.toNat, 896]
def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_6 : BitVec 32 := 0#32
  let v17 : BitVec 1 := Scalar.cmpi .ne v16 c0_i32_6
  v17

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x65536x1024 : Shape := ⟨3, ![2, 65536, 1024]⟩
abbrev S7x65536x1024 : Shape := ⟨3, ![7, 65536, 1024]⟩
abbrev S1x1024 : Shape := ⟨2, ![1, 1024]⟩
abbrev S1x128 : Shape := ⟨2, ![1, 128]⟩
abbrev S16x8x128x128 : Shape := ⟨4, ![16, 8, 128, 128]⟩
abbrev S1x65536x1024 : Shape := ⟨3, ![1, 65536, 1024]⟩
abbrev S65536x1024 : Shape := ⟨2, ![65536, 1024]⟩
abbrev S16x4096x8x128 : Shape := ⟨4, ![16, 4096, 8, 128]⟩
abbrev S8x128 : Shape := ⟨2, ![8, 128]⟩
abbrev S_ : Shape := ⟨0, ![]⟩
abbrev S1x1x8x128 : Shape := ⟨4, ![1, 1, 8, 128]⟩
abbrev S16x64x64x8x128 : Shape := ⟨5, ![16, 64, 64, 8, 128]⟩
abbrev S64x16x64x8x128 : Shape := ⟨5, ![64, 16, 64, 8, 128]⟩
abbrev S1x16x64x8x128 : Shape := ⟨5, ![1, 16, 64, 8, 128]⟩
abbrev S16x64x8x128 : Shape := ⟨4, ![16, 64, 8, 128]⟩
abbrev S16x1x8x128 : Shape := ⟨4, ![16, 1, 8, 128]⟩
abbrev S64x64 : Shape := ⟨2, ![64, 64]⟩
abbrev S16x8x64x64 : Shape := ⟨4, ![16, 8, 64, 64]⟩
abbrev S16x8x128x64 : Shape := ⟨4, ![16, 8, 128, 64]⟩
abbrev S16x8x128 : Shape := ⟨3, ![16, 8, 128]⟩
abbrev S16x8x128x1 : Shape := ⟨4, ![16, 8, 128, 1]⟩
abbrev S128 : Shape := ⟨1, ![128]⟩
abbrev S16x4096x8 : Shape := ⟨3, ![16, 4096, 8]⟩
abbrev S16x4096x8x1 : Shape := ⟨4, ![16, 4096, 8, 1]⟩
abbrev S1x1x1x128 : Shape := ⟨4, ![1, 1, 1, 128]⟩

abbrev nBuf : Space → Nat
  | .hbm => 201
  | .vmem => 0
  | .smem => 0
  | _ => 0

abbrev hbmTy0_0 (i : Nat) : BufTy := match i % 128 with
  | 0 => ⟨S2x65536x1024, .f32⟩
  | 1 => ⟨S7x65536x1024, .bf16⟩
  | 2 => ⟨S1x1024, .f32⟩
  | 3 => ⟨S1x128, .f32⟩
  | 4 => ⟨S16x8x128x128, .f32⟩
  | 5 => ⟨S1x65536x1024, .f32⟩
  | 6 => ⟨S65536x1024, .f32⟩
  | 7 => ⟨S1x65536x1024, .f32⟩
  | 8 => ⟨S65536x1024, .f32⟩
  | 9 => ⟨S1x65536x1024, .bf16⟩
  | 10 => ⟨S65536x1024, .bf16⟩
  | 11 => ⟨S65536x1024, .f32⟩
  | 12 => ⟨S16x4096x8x128, .f32⟩
  | 13 => ⟨S8x128, .f32⟩
  | 14 => ⟨S8x128, .f32⟩
  | 15 => ⟨S8x128, .f32⟩
  | 16 => ⟨S8x128, .f32⟩
  | 17 => ⟨S16x4096x8x128, .f32⟩
  | 18 => ⟨S_, .f32⟩
  | 19 => ⟨S16x4096x8x128, .f32⟩
  | 20 => ⟨S16x4096x8x128, .f32⟩
  | 21 => ⟨S16x4096x8x128, .f32⟩
  | 22 => ⟨S16x4096x8x128, .f32⟩
  | 23 => ⟨S16x4096x8x128, .i1⟩
  | 24 => ⟨S16x4096x8x128, .f32⟩
  | 25 => ⟨S16x4096x8x128, .f32⟩
  | 26 => ⟨S16x4096x8x128, .f32⟩
  | 27 => ⟨S16x4096x8x128, .f32⟩
  | 28 => ⟨S16x4096x8x128, .f32⟩
  | 29 => ⟨S16x4096x8x128, .f32⟩
  | 30 => ⟨S16x4096x8x128, .f32⟩
  | 31 => ⟨S16x4096x8x128, .f32⟩
  | 32 => ⟨S16x4096x8x128, .f32⟩
  | 33 => ⟨S1x1x8x128, .f32⟩
  | 34 => ⟨S16x4096x8x128, .f32⟩
  | 35 => ⟨S16x4096x8x128, .f32⟩
  | 36 => ⟨S1x1x8x128, .f32⟩
  | 37 => ⟨S16x4096x8x128, .f32⟩
  | 38 => ⟨S16x4096x8x128, .f32⟩
  | 39 => ⟨S16x4096x8x128, .f32⟩
  | 40 => ⟨S16x4096x8x128, .f32⟩
  | 41 => ⟨S16x4096x8x128, .i1⟩
  | 42 => ⟨S16x4096x8x128, .f32⟩
  | 43 => ⟨S16x4096x8x128, .f32⟩
  | 44 => ⟨S16x4096x8x128, .f32⟩
  | 45 => ⟨S16x4096x8x128, .f32⟩
  | 46 => ⟨S16x4096x8x128, .f32⟩
  | 47 => ⟨S16x4096x8x128, .f32⟩
  | 48 => ⟨S16x4096x8x128, .f32⟩
  | 49 => ⟨S16x4096x8x128, .f32⟩
  | 50 => ⟨S_, .f32⟩
  | 51 => ⟨S8x128, .f32⟩
  | 52 => ⟨S8x128, .f32⟩
  | 53 => ⟨S16x4096x8x128, .f32⟩
  | 54 => ⟨S16x4096x8x128, .f32⟩
  | 55 => ⟨S16x4096x8x128, .f32⟩
  | 56 => ⟨S_, .f32⟩
  | 57 => ⟨S16x4096x8x128, .f32⟩
  | 58 => ⟨S16x4096x8x128, .f32⟩
  | 59 => ⟨S_, .f32⟩
  | 60 => ⟨S16x4096x8x128, .f32⟩
  | 61 => ⟨S16x4096x8x128, .f32⟩
  | 62 => ⟨S1x1x8x128, .f32⟩
  | 63 => ⟨S16x4096x8x128, .f32⟩
  | 64 => ⟨S16x4096x8x128, .f32⟩
  | 65 => ⟨S16x4096x8x128, .f32⟩
  | 66 => ⟨S16x4096x8x128, .f32⟩
  | 67 => ⟨S16x64x64x8x128, .f32⟩
  | 68 => ⟨S64x16x64x8x128, .f32⟩
  | 69 => ⟨S16x64x64x8x128, .f32⟩
  | 70 => ⟨S64x16x64x8x128, .f32⟩
  | 71 => ⟨S16x64x64x8x128, .f32⟩
  | 72 => ⟨S64x16x64x8x128, .f32⟩
  | 73 => ⟨S16x64x64x8x128, .f32⟩
  | 74 => ⟨S64x16x64x8x128, .f32⟩
  | 75 => ⟨S_, .f32⟩
  | 76 => ⟨S64x16x64x8x128, .f32⟩
  | 77 => ⟨S_, .i32⟩
  | 78 => ⟨S64x16x64x8x128, .f32⟩
  | 79 => ⟨S64x16x64x8x128, .f32⟩
  | 80 => ⟨S64x16x64x8x128, .f32⟩
  | 81 => ⟨S64x16x64x8x128, .f32⟩
  | 82 => ⟨S_, .i32⟩
  | 83 => ⟨S16x8x128x128, .f32⟩
  | 84 => ⟨S64x16x64x8x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x16x64x8x128, .f32⟩
  | 92 => ⟨S16x64x8x128, .f32⟩
  | 93 => ⟨S_, .i32⟩
  | 94 => ⟨S_, .i32⟩
  | 95 => ⟨S_, .i32⟩
  | 96 => ⟨S_, .i32⟩
  | 97 => ⟨S1x16x64x8x128, .f32⟩
  | 98 => ⟨S16x64x8x128, .f32⟩
  | 99 => ⟨S_, .i32⟩
  | 100 => ⟨S_, .i32⟩
  | 101 => ⟨S_, .i32⟩
  | 102 => ⟨S_, .i32⟩
  | 103 => ⟨S1x16x64x8x128, .f32⟩
  | 104 => ⟨S16x64x8x128, .f32⟩
  | 105 => ⟨S_, .i32⟩
  | 106 => ⟨S_, .i32⟩
  | 107 => ⟨S_, .i32⟩
  | 108 => ⟨S_, .i32⟩
  | 109 => ⟨S1x16x64x8x128, .f32⟩
  | 110 => ⟨S16x64x8x128, .f32⟩
  | 111 => ⟨S_, .f32⟩
  | 112 => ⟨S_, .f32⟩
  | 113 => ⟨S16x64x8x128, .f32⟩
  | 114 => ⟨S16x1x8x128, .f32⟩
  | 115 => ⟨S16x1x8x128, .f32⟩
  | 116 => ⟨S16x64x8x128, .f32⟩
  | 117 => ⟨S16x64x8x128, .f32⟩
  | 118 => ⟨S16x64x8x128, .f32⟩
  | 119 => ⟨S16x64x8x128, .f32⟩
  | 120 => ⟨S16x64x8x128, .f32⟩
  | 121 => ⟨S16x64x8x128, .f32⟩
  | 122 => ⟨S16x64x8x128, .f32⟩
  | 123 => ⟨S16x64x8x128, .f32⟩
  | 124 => ⟨S16x64x8x128, .f32⟩
  | 125 => ⟨S16x64x8x128, .f32⟩
  | 126 => ⟨S16x64x8x128, .f32⟩
  | 127 => ⟨S16x64x8x128, .f32⟩
  | _ => ⟨S2x65536x1024, .f32⟩

abbrev hbmTy0_1 (i : Nat) : BufTy := match i % 128 with
  | 0 => ⟨S16x64x8x128, .f32⟩
  | 1 => ⟨S16x64x8x128, .f32⟩
  | 2 => ⟨S_, .i1⟩
  | 3 => ⟨S64x64, .i1⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .i1⟩
  | 11 => ⟨S64x64, .i1⟩
  | 12 => ⟨S64x64, .i1⟩
  | 13 => ⟨S16x8x64x64, .f32⟩
  | 14 => ⟨S_, .f32⟩
  | 15 => ⟨S_, .f32⟩
  | 16 => ⟨S16x8x64x64, .i1⟩
  | 17 => ⟨S16x8x64x64, .f32⟩
  | 18 => ⟨S16x8x64x64, .f32⟩
  | 19 => ⟨S16x8x128x64, .f32⟩
  | 20 => ⟨S16x64x8x128, .f32⟩
  | 21 => ⟨S16x8x128x64, .f32⟩
  | 22 => ⟨S16x64x8x128, .f32⟩
  | 23 => ⟨S16x64x8x128, .f32⟩
  | 24 => ⟨S16x8x128, .f32⟩
  | 25 => ⟨S16x8x128, .f32⟩
  | 26 => ⟨S16x8x128x1, .f32⟩
  | 27 => ⟨S16x8x128x128, .f32⟩
  | 28 => ⟨S16x8x128x128, .f32⟩
  | 29 => ⟨S16x8x128x128, .f32⟩
  | 30 => ⟨S16x8x128x128, .f32⟩
  | 31 => ⟨S1x16x64x8x128, .f32⟩
  | 32 => ⟨S_, .i32⟩
  | 33 => ⟨S_, .i32⟩
  | 34 => ⟨S_, .i32⟩
  | 35 => ⟨S_, .i32⟩
  | 36 => ⟨S64x16x64x8x128, .f32⟩
  | 37 => ⟨S_, .i32⟩
  | 38 => ⟨S_, .i32⟩
  | 39 => ⟨S16x64x64x8x128, .f32⟩
  | 40 => ⟨S16x4096x8x128, .f32⟩
  | 41 => ⟨S1x65536x1024, .bf16⟩
  | 42 => ⟨S65536x1024, .bf16⟩
  | 43 => ⟨S65536x1024, .f32⟩
  | 44 => ⟨S128, .f32⟩
  | 45 => ⟨S16x4096x8x128, .f32⟩
  | 46 => ⟨S_, .f32⟩
  | 47 => ⟨S16x4096x8, .f32⟩
  | 48 => ⟨S16x4096x8x1, .f32⟩
  | 49 => ⟨S_, .f32⟩
  | 50 => ⟨S16x4096x8x1, .f32⟩
  | 51 => ⟨S16x4096x8x1, .f32⟩
  | 52 => ⟨S_, .f32⟩
  | 53 => ⟨S16x4096x8x1, .f32⟩
  | 54 => ⟨S16x4096x8x1, .f32⟩
  | 55 => ⟨S16x4096x8x1, .f32⟩
  | 56 => ⟨S16x4096x8x128, .f32⟩
  | 57 => ⟨S16x4096x8x128, .f32⟩
  | 58 => ⟨S1x1x1x128, .f32⟩
  | 59 => ⟨S16x4096x8x128, .f32⟩
  | 60 => ⟨S16x4096x8x128, .f32⟩
  | 61 => ⟨S65536x1024, .f32⟩
  | 62 => ⟨S65536x1024, .f32⟩
  | 63 => ⟨S65536x1024, .f32⟩
  | 64 => ⟨S_, .f32⟩
  | 65 => ⟨S65536x1024, .f32⟩
  | 66 => ⟨S65536x1024, .f32⟩
  | 67 => ⟨S_, .f32⟩
  | 68 => ⟨S65536x1024, .f32⟩
  | 69 => ⟨S65536x1024, .f32⟩
  | 70 => ⟨S65536x1024, .f32⟩
  | 71 => ⟨S65536x1024, .f32⟩
  | 72 => ⟨S65536x1024, .bf16⟩
  | _ => ⟨S2x65536x1024, .f32⟩

abbrev hbmTy (i : Nat) : BufTy := match i / 128 with
  | 0 => hbmTy0_0 i
  | 1 => hbmTy0_1 i
  | _ => ⟨S2x65536x1024, .f32⟩

abbrev bufTy : (tb : Table) → Fin (tcTables nBuf tb) → BufTy
  | .hbm, ⟨i, _⟩ => hbmTy i
  | _, _ => ⟨S2x65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_0 : Ref sig .tc := ⟨.hbm, 56, rfl⟩
abbrev main_v35 : Ref sig .tc := ⟨.hbm, 57, rfl⟩
abbrev main_v36 : Ref sig .tc := ⟨.hbm, 58, rfl⟩
abbrev main_cst_1 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_2 : Ref sig .tc := ⟨.hbm, 75, rfl⟩
abbrev main_v52 : Ref sig .tc := ⟨.hbm, 76, rfl⟩
abbrev main_c : Ref sig .tc := ⟨.hbm, 77, rfl⟩
abbrev main_v53_0 : Ref sig .tc := ⟨.hbm, 78, rfl⟩
abbrev main_v53_1 : Ref sig .tc := ⟨.hbm, 79, rfl⟩
abbrev main_v53_2 : Ref sig .tc := ⟨.hbm, 80, rfl⟩
abbrev main_v53_3 : Ref sig .tc := ⟨.hbm, 81, rfl⟩
abbrev main_v53_4 : Ref sig .tc := ⟨.hbm, 82, rfl⟩
abbrev main_v53_5 : Ref sig .tc := ⟨.hbm, 83, rfl⟩
abbrev main_v53_6 : Ref sig .tc := ⟨.hbm, 84, rfl⟩
abbrev main_while0c_c_12 : Ref sig .tc := ⟨.hbm, 85, rfl⟩
abbrev main_while0c_v77 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_call1_c_1 : Ref sig .tc := ⟨.hbm, 89, rfl⟩
abbrev main_while0b_call1_c_2 : Ref sig .tc := ⟨.hbm, 90, rfl⟩
abbrev main_while0b_call1_v0 : Ref sig .tc := ⟨.hbm, 91, rfl⟩
abbrev main_while0b_v77 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_c_1 : Ref sig .tc := ⟨.hbm, 95, rfl⟩
abbrev main_while0b_call2_c_2 : Ref sig .tc := ⟨.hbm, 96, rfl⟩
abbrev main_while0b_call2_v0 : Ref sig .tc := ⟨.hbm, 97, rfl⟩
abbrev main_while0b_v78 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_call3_v0 : Ref sig .tc := ⟨.hbm, 103, rfl⟩
abbrev main_while0b_v79 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_c_1 : Ref sig .tc := ⟨.hbm, 107, rfl⟩
abbrev main_while0b_call4_c_2 : Ref sig .tc := ⟨.hbm, 108, rfl⟩
abbrev main_while0b_call4_v0 : Ref sig .tc := ⟨.hbm, 109, rfl⟩
abbrev main_while0b_v80 : Ref sig .tc := ⟨.hbm, 110, rfl⟩
abbrev main_while0b_call5_call0_cst : Ref sig .tc := ⟨.hbm, 111, rfl⟩
abbrev main_while0b_call5_call0_v0 : Ref sig .tc := ⟨.hbm, 112, rfl⟩
abbrev main_while0b_v81 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_v85 : Ref sig .tc := ⟨.hbm, 117, rfl⟩
abbrev main_while0b_v86 : Ref sig .tc := ⟨.hbm, 118, rfl⟩
abbrev main_while0b_v87 : Ref sig .tc := ⟨.hbm, 119, rfl⟩
abbrev main_while0b_v88 : Ref sig .tc := ⟨.hbm, 120, rfl⟩
abbrev main_while0b_v89 : Ref sig .tc := ⟨.hbm, 121, rfl⟩
abbrev main_while0b_v90 : Ref sig .tc := ⟨.hbm, 122, rfl⟩
abbrev main_while0b_v91 : Ref sig .tc := ⟨.hbm, 123, rfl⟩
abbrev main_while0b_v92 : Ref sig .tc := ⟨.hbm, 124, rfl⟩
abbrev main_while0b_v93 : Ref sig .tc := ⟨.hbm, 125, rfl⟩
abbrev main_while0b_v94 : Ref sig .tc := ⟨.hbm, 126, rfl⟩
abbrev main_while0b_v95 : Ref sig .tc := ⟨.hbm, 127, rfl⟩
abbrev main_while0b_v96 : Ref sig .tc := ⟨.hbm, 128, rfl⟩
abbrev main_while0b_v97 : Ref sig .tc := ⟨.hbm, 129, rfl⟩
abbrev main_while0b_c_12 : Ref sig .tc := ⟨.hbm, 130, rfl⟩
abbrev main_while0b_v98 : Ref sig .tc := ⟨.hbm, 131, rfl⟩
abbrev main_while0b_call6_v0 : Ref sig .tc := ⟨.hbm, 132, rfl⟩
abbrev main_while0b_call6_c : Ref sig .tc := ⟨.hbm, 133, rfl⟩
abbrev main_while0b_call6_v1 : Ref sig .tc := ⟨.hbm, 134, rfl⟩
abbrev main_while0b_call6_v2 : Ref sig .tc := ⟨.hbm, 135, rfl⟩
abbrev main_while0b_call6_v3 : Ref sig .tc := ⟨.hbm, 136, rfl⟩
abbrev main_while0b_call6_v4 : Ref sig .tc := ⟨.hbm, 137, rfl⟩
abbrev main_while0b_call6_c_0 : Ref sig .tc := ⟨.hbm, 138, rfl⟩
abbrev main_while0b_call6_v5 : Ref sig .tc := ⟨.hbm, 139, rfl⟩
abbrev main_while0b_v99 : Ref sig .tc := ⟨.hbm, 140, rfl⟩
abbrev main_while0b_v100 : Ref sig .tc := ⟨.hbm, 141, rfl⟩
abbrev main_while0b_cst_13 : Ref sig .tc := ⟨.hbm, 142, rfl⟩
abbrev main_while0b_call7_v0 : Ref sig .tc := ⟨.hbm, 143, rfl⟩
abbrev main_while0b_call7_v1 : Ref sig .tc := ⟨.hbm, 144, rfl⟩
abbrev main_while0b_call7_v2 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_v107 : Ref sig .tc := ⟨.hbm, 152, rfl⟩
abbrev main_while0b_v108 : Ref sig .tc := ⟨.hbm, 153, rfl⟩
abbrev main_while0b_v109 : Ref sig .tc := ⟨.hbm, 154, rfl⟩
abbrev main_while0b_v110 : Ref sig .tc := ⟨.hbm, 155, rfl⟩
abbrev main_while0b_v111 : Ref sig .tc := ⟨.hbm, 156, rfl⟩
abbrev main_while0b_v112 : Ref sig .tc := ⟨.hbm, 157, rfl⟩
abbrev main_while0b_v113 : Ref sig .tc := ⟨.hbm, 158, rfl⟩
abbrev main_while0b_call8_v0 : Ref sig .tc := ⟨.hbm, 159, rfl⟩
abbrev main_while0b_call8_c : Ref sig .tc := ⟨.hbm, 160, rfl⟩
abbrev main_while0b_call8_c_0 : Ref sig .tc := ⟨.hbm, 161, rfl⟩
abbrev main_while0b_call8_c_1 : Ref sig .tc := ⟨.hbm, 162, rfl⟩
abbrev main_while0b_call8_c_2 : Ref sig .tc := ⟨.hbm, 163, rfl⟩
abbrev main_while0b_v114 : Ref sig .tc := ⟨.hbm, 164, rfl⟩
abbrev main_while0b_c_14 : Ref sig .tc := ⟨.hbm, 165, rfl⟩
abbrev main_while0b_v115 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_cst_3 : Ref sig .tc := ⟨.hbm, 174, rfl⟩
abbrev main_v61 : Ref sig .tc := ⟨.hbm, 175, rfl⟩
abbrev main_v62 : Ref sig .tc := ⟨.hbm, 176, rfl⟩
abbrev main_cst_4 : Ref sig .tc := ⟨.hbm, 177, rfl⟩
abbrev main_v63 : Ref sig .tc := ⟨.hbm, 178, rfl⟩
abbrev main_v64 : Ref sig .tc := ⟨.hbm, 179, rfl⟩
abbrev main_cst_5 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S65536x1024 : Shape := ⟨2, ![65536, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 6
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S65536x1024 : Shape := ⟨2, ![65536, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x5632 : Shape := ⟨2, ![65536, 5632]⟩
abbrev S65536x2816 : Shape := ⟨2, ![65536, 2816]⟩

abbrev nBuf : Space → Nat
  | .hbm => 56
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1024x5632, .f32⟩
  | .hbm, ⟨23, _⟩ => ⟨S65536x5632, .f32⟩
  | .hbm, ⟨24, _⟩ => ⟨S65536x2816, .f32⟩
  | .hbm, ⟨25, _⟩ => ⟨S65536x2816, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S2816x1024, .f32⟩
  | .hbm, ⟨37, _⟩ => ⟨S65536x1024, .f32⟩
  | .hbm, ⟨38, _⟩ => ⟨S65536x1024, .f32⟩
  | .hbm, ⟨39, _⟩ => ⟨S1024, .f32⟩
  | .hbm, ⟨40, _⟩ => ⟨S65536x1024, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x1, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel3.lean ====
abbrev S65536x1024 : Shape := ⟨2, ![65536, 1024]⟩
abbrev S1x1024 : Shape := ⟨2, ![1, 1024]⟩
abbrev S1024x9216 : Shape := ⟨2, ![1024, 9216]⟩
abbrev S1024x128 : Shape := ⟨2, ![1024, 128]⟩
abbrev S1x128 : Shape := ⟨2, ![1, 128]⟩
abbrev S2x65536x1024 : Shape := ⟨3, ![2, 65536, 1024]⟩
abbrev S7x65536x1024 : Shape := ⟨3, ![7, 65536, 1024]⟩
abbrev S65536x128 : Shape := ⟨2, ![65536, 128]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x9216, .bf16⟩
  | .hbm, ⟨3, _⟩ => ⟨S1024x128, .bf16⟩
  | .hbm, ⟨4, _⟩ => ⟨S1x128, .f32⟩
  | .hbm, ⟨5, _⟩ => ⟨S2x65536x1024, .f32⟩
  | .hbm, ⟨6, _⟩ => ⟨S7x65536x1024, .bf16⟩
  | .hbm, ⟨7, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1x128, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![64, 9], ![false, false]⟩

def k0_cond2 (i : grid0.Coords) : BitVec 1 :=
  let arg1 : BitVec 32 := BitVec.ofNat 32 (i 1).val
  let c2_i32 : BitVec 32 := 2#32
  let v6 : BitVec 1 := Scalar.cmpi .slt arg1 c2_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c2_i32_5 : BitVec 32 := 2#32
  let v9 : BitVec 1 := Scalar.cmpi .sge arg1 c2_i32_5
  let v10 : BitVec 32 := Scalar.extui v9
  let c0_i32_6 : BitVec 32 := 0#32
  let v11 : BitVec 1 := Scalar.cmpi .ne v10 c0_i32_6
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![v0.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S65536x1024 : Shape := ⟨2, ![65536, 1024]⟩
abbrev S1x1024 : Shape := ⟨2, ![1, 1024]⟩
abbrev S1024x9216 : Shape := ⟨2, ![1024, 9216]⟩
abbrev S1024x128 : Shape := ⟨2, ![1024, 128]⟩
abbrev S1x128 : Shape := ⟨2, ![1, 128]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x9216 : Shape := ⟨2, ![65536, 9216]⟩
abbrev S1x65536x1024 : Shape := ⟨3, ![1, 65536, 1024]⟩
abbrev S2x65536x1024 : Shape := ⟨3, ![2, 65536, 1024]⟩
abbrev S7x65536x1024 : Shape := ⟨3, ![7, 65536, 1024]⟩
abbrev S65536x128 : Shape := ⟨2, ![65536, 128]⟩
abbrev S128 : Shape := ⟨1, ![128]⟩

abbrev nBuf : Space → Nat
  | .hbm => 67
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x9216, .bf16⟩
  | .hbm, ⟨3, _⟩ => ⟨S1024x128, .bf16⟩
  | .hbm, ⟨4, _⟩ => ⟨S1x128, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1024x9216, .f32⟩
  | .hbm, ⟨23, _⟩ => ⟨S65536x9216, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S1x65536x1024, .f32⟩
  | .hbm, ⟨34, _⟩ => ⟨S1x65536x1024, .f32⟩
  | .hbm, ⟨35, _⟩ => ⟨S2x65536x1024, .f32⟩
  | .hbm, ⟨36, _⟩ => ⟨S1x65536x1024, .f32⟩
  | .hbm, ⟨37, _⟩ => ⟨S1x65536x1024, .f32⟩
  | .hbm, ⟨38, _⟩ => ⟨S1x65536x1024, .f32⟩
  | .hbm, ⟨39, _⟩ => ⟨S1x65536x1024, .f32⟩
  | .hbm, ⟨40, _⟩ => ⟨S1x65536x1024, .f32⟩
  | .hbm, ⟨41, _⟩ => ⟨S1x65536x1024, .f32⟩
  | .hbm, ⟨42, _⟩ => ⟨S1x65536x1024, .f32⟩
  | .hbm, ⟨43, _⟩ => ⟨S7x65536x1024, .f32⟩
  | .hbm, ⟨44, _⟩ => ⟨S7x65536x1024, .bf16⟩
  | .hbm, ⟨45, _⟩ => ⟨S1024x128, .f32⟩
  | .hbm, ⟨46, _⟩ => ⟨S65536x128, .f32⟩
  | .hbm, ⟨47, _⟩ => ⟨S128, .f32⟩
  | .hbm, ⟨48, _⟩ => ⟨S1x128, .f32⟩
  | .hbm, ⟨49, _⟩ => ⟨S65536x128, .f32⟩
  | .hbm, ⟨50, _⟩ => ⟨S65536x128, .f32⟩
  | .hbm, ⟨51, _⟩ => ⟨S65536x128, .f32⟩
  | .hbm, ⟨52, _⟩ => ⟨S_, .f32⟩
  | .hbm, ⟨53, _⟩ => ⟨S65536x128, .f32⟩
  | .hbm, ⟨54, _⟩ => ⟨S65536x128, .f32⟩
  | .hbm, ⟨55, _⟩ => ⟨S65536x128, .f32⟩
  | .hbm, ⟨56, _⟩ => ⟨S65536x128, .f32⟩
  | .hbm, ⟨57, _⟩ => ⟨S65536x128, .i1⟩
  | .hbm, ⟨58, _⟩ => ⟨S65536x128, .f32⟩
  | .hbm, ⟨59, _⟩ => ⟨S65536x128, .f32⟩
  | .hbm, ⟨60, _⟩ => ⟨S65536x128, .f32⟩
  | .hbm, ⟨61, _⟩ => ⟨S65536x128, .f32⟩
  | .hbm, ⟨62, _⟩ => ⟨S65536x128, .f32⟩
  | .hbm, ⟨63, _⟩ => ⟨S65536x128, .f32⟩
  | .hbm, ⟨64, _⟩ => ⟨S65536x128, .f32⟩
  | .hbm, ⟨65, _⟩ => ⟨S65536x128, .f32⟩
  | .hbm, ⟨66, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== Kernel4.lean ====
abbrev S65536x1024 : Shape := ⟨2, ![65536, 1024]⟩
abbrev S1x1024 : Shape := ⟨2, ![1, 1024]⟩
abbrev S1024x4096 : Shape := ⟨2, ![1024, 4096]⟩
abbrev S65536x8x128 : Shape := ⟨3, ![65536, 8, 128]⟩
abbrev S4x65536x1024 : Shape := ⟨3, ![4, 65536, 1024]⟩
abbrev S512x1024 : Shape := ⟨2, ![512, 1024]⟩
abbrev S512x8x128 : Shape := ⟨3, ![512, 8, 128]⟩
abbrev S4x512x1024 : Shape := ⟨3, ![4, 512, 1024]⟩
abbrev S512 : Shape := ⟨1, ![512]⟩
abbrev S512x1 : Shape := ⟨2, ![512, 1]⟩
abbrev S1024x1024 : Shape := ⟨2, ![1024, 1024]⟩
abbrev S1x512x1024 : Shape := ⟨3, ![1, 512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x4096, .bf16⟩
  | .hbm, ⟨3, _⟩ => ⟨S65536x8x128, .f32⟩
  | .hbm, ⟨4, _⟩ => ⟨S65536x8x128, .f32⟩
  | .hbm, ⟨5, _⟩ => ⟨S65536x8x128, .f32⟩
  | .hbm, ⟨6, _⟩ => ⟨S65536x8x128, .f32⟩
  | .hbm, ⟨7, _⟩ => ⟨S4x65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x8x128, .f32⟩
  | .local _ .vmem, ⟨5, _⟩ => ⟨S512x8x128, .f32⟩
  | .local _ .vmem, ⟨6, _⟩ => ⟨S512x8x128, .f32⟩
  | .local _ .vmem, ⟨7, _⟩ => ⟨S512x8x128, .f32⟩
  | .local _ .vmem, ⟨8, _⟩ => ⟨S512x8x128, .f32⟩
  | .local _ .vmem, ⟨9, _⟩ => ⟨S512x8x128, .f32⟩
  | .local _ .vmem, ⟨10, _⟩ => ⟨S512x8x128, .f32⟩
  | .local _ .vmem, ⟨11, _⟩ => ⟨S512x8x128, .f32⟩
  | .local _ .vmem, ⟨12, _⟩ => ⟨S4x512x1024, .bf16⟩
  | .local _ .vmem, ⟨13, _⟩ => ⟨S4x512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S65536x1024 : Shape := ⟨2, ![65536, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x4096 : Shape := ⟨2, ![65536, 4096]⟩
abbrev S65536x8x128 : Shape := ⟨3, ![65536, 8, 128]⟩
abbrev S1x65536x1024 : Shape := ⟨3, ![1, 65536, 1024]⟩
abbrev S4x65536x1024 : Shape := ⟨3, ![4, 65536, 1024]⟩

abbrev nBuf : Space → Nat
  | .hbm => 36
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x4096, .bf16⟩
  | .hbm, ⟨3, _⟩ => ⟨S1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x4096, .f32⟩
  | .hbm, ⟨21, _⟩ => ⟨S65536x4096, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x8x128, .f32⟩
  | .hbm, ⟨27, _⟩ => ⟨S65536x8x128, .f32⟩
  | .hbm, ⟨28, _⟩ => ⟨S65536x8x128, .f32⟩
  | .hbm, ⟨29, _⟩ => ⟨S65536x8x128, .f32⟩
  | .hbm, ⟨30, _⟩ => ⟨S1x65536x1024, .f32⟩
  | .hbm, ⟨31, _⟩ => ⟨S1x65536x1024, .f32⟩
  | .hbm, ⟨32, _⟩ => ⟨S1x65536x1024, .f32⟩
  | .hbm, ⟨33, _⟩ => ⟨S1x65536x1024, .f32⟩
  | .hbm, ⟨34, _⟩ => ⟨S4x65536x1024, .f32⟩
  | .hbm, ⟨35, _⟩ => ⟨S4x65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel5.lean ====
abbrev S65536x1024 : Shape := ⟨2, ![65536, 1024]⟩
abbrev S7x65536x1024 : Shape := ⟨3, ![7, 65536, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S7x65536x1024, .bf16⟩
  | .hbm, ⟨4, _⟩ => ⟨S65536x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_4 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_5 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S65536x1024 : Shape := ⟨2, ![65536, 1024]⟩
abbrev S7x65536x1024 : Shape := ⟨3, ![7, 65536, 1024]⟩
abbrev S1024x1024 : Shape := ⟨2, ![1024, 1024]⟩
abbrev S1x65536x1024 : Shape := ⟨3, ![1, 65536, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S7x65536x1024, .bf16⟩
  | .hbm, ⟨4, _⟩ => ⟨S65536x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x65536x1024, .bf16⟩
  | .hbm, ⟨10, _⟩ => ⟨S65536x1024, .bf16⟩
  | .hbm, ⟨11, _⟩ => ⟨S65536x1024, .f32⟩
  | .hbm, ⟨12, _⟩ => ⟨S1x65536x1024, .bf16⟩
  | .hbm, ⟨13, _⟩ => ⟨S65536x1024, .bf16⟩
  | .hbm, ⟨14, _⟩ => ⟨S65536x1024, .f32⟩
  | .hbm, ⟨15, _⟩ => ⟨S1x65536x1024, .bf16⟩
  | .hbm, ⟨16, _⟩ => ⟨S65536x1024, .bf16⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S1024x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S1024x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S1024x1024, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S1024x1024, .f32⟩
  | .hbm, ⟨57, _⟩ => ⟨S65536x1024, .f32⟩
  | .hbm, ⟨58, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel6.lean ====
abbrev S512x1024 : Shape := ⟨2, ![512, 1024]⟩
abbrev S1x1024 : Shape := ⟨2, ![1, 1024]⟩
abbrev S1024x5632 : Shape := ⟨2, ![1024, 5632]⟩
abbrev S2816x1024 : Shape := ⟨2, ![2816, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference6Ideal.lean ====
abbrev S512x1024 : Shape := ⟨2, ![512, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 56
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S1024x5632, .f32⟩
  | .hbm, ⟨23, _⟩ => ⟨S512x5632, .f32⟩
  | .hbm, ⟨24, _⟩ => ⟨S512x2816, .f32⟩
  | .hbm, ⟨25, _⟩ => ⟨S512x2816, .f32⟩
  | .hbm, ⟨26, _⟩ => ⟨S512x2816, .f32⟩
  | .hbm, ⟨27, _⟩ => ⟨S512x2816, .f32⟩
  | .hbm, ⟨28, _⟩ => ⟨S_, .f32⟩
  | .hbm, ⟨29, _⟩ => ⟨S512x2816, .f32⟩
  | .hbm, ⟨30, _⟩ => ⟨S512x2816, .f32⟩
  | .hbm, ⟨31, _⟩ => ⟨S_, .f32⟩
  | .hbm, ⟨32, _⟩ => ⟨S512x2816, .f32⟩
  | .hbm, ⟨33, _⟩ => ⟨S512x2816, .f32⟩
  | .hbm, ⟨34, _⟩ => ⟨S512x2816, .f32⟩
  | .hbm, ⟨35, _⟩ => ⟨S512x2816, .f32⟩
  | .hbm, ⟨36, _⟩ => ⟨S2816x1024, .f32⟩
  | .hbm, ⟨37, _⟩ => ⟨S512x1024, .f32⟩
  | .hbm, ⟨38, _⟩ => ⟨S512x1024, .f32⟩
  | .hbm, ⟨39, _⟩ => ⟨S1024, .f32⟩
  | .hbm, ⟨40, _⟩ => ⟨S512x1024, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S_, .f32⟩
  | .hbm, ⟨45, _⟩ => ⟨S512x1, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S512x1, .f32⟩
  | .hbm, ⟨51, _⟩ => ⟨S512x1024, .f32⟩
  | .hbm, ⟨52, _⟩ => ⟨S512x1024, .f32⟩
  | .hbm, ⟨53, _⟩ => ⟨S1x1024, .f32⟩
  | .hbm, ⟨54, _⟩ => ⟨S512x1024, .f32⟩
  | .hbm, ⟨55, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel7.lean ====
abbrev S512x1024 : Shape := ⟨2, ![512, 1024]⟩
abbrev S1x1024 : Shape := ⟨2, ![1, 1024]⟩
abbrev S1024x4096 : Shape := ⟨2, ![1024, 4096]⟩
abbrev S512x8x128 : Shape := ⟨3, ![512, 8, 128]⟩
abbrev S4x512x1024 : Shape := ⟨3, ![4, 512, 1024]⟩
abbrev S512 : Shape := ⟨1, ![512]⟩
abbrev S512x1 : Shape := ⟨2, ![512, 1]⟩
abbrev S1024x1024 : Shape := ⟨2, ![1024, 1024]⟩
abbrev S1x512x1024 : Shape := ⟨3, ![1, 512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x4096, .bf16⟩
  | .hbm, ⟨3, _⟩ => ⟨S512x8x128, .f32⟩
  | .hbm, ⟨4, _⟩ => ⟨S512x8x128, .f32⟩
  | .hbm, ⟨5, _⟩ => ⟨S512x8x128, .f32⟩
  | .hbm, ⟨6, _⟩ => ⟨S512x8x128, .f32⟩
  | .hbm, ⟨7, _⟩ => ⟨S4x512x1024, .bf16⟩
  | .local _ .vmem, ⟨0, _⟩ => ⟨S512x1024, .f32⟩
  | .local _ .vmem, ⟨1, _⟩ => ⟨S1x1024, .f32⟩
  | .local _ .vmem, ⟨2, _⟩ => ⟨S1024x4096, .bf16⟩
  | .local _ .vmem, ⟨3, _⟩ => ⟨S512x8x128, .f32⟩
  | .local _ .vmem, ⟨4, _⟩ => ⟨S512x8x128, .f32⟩
  | .local _ .vmem, ⟨5, _⟩ => ⟨S512x8x128, .f32⟩
  | .local _ .vmem, ⟨6, _⟩ => ⟨S512x8x128, .f32⟩
  | .local _ .vmem, ⟨7, _⟩ => ⟨S4x512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S512x1024 : Shape := ⟨2, ![512, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S512 : Shape := ⟨1, ![512]⟩
abbrev S512x1 : Shape := ⟨2, ![512, 1]⟩
abbrev S512x4096 : Shape := ⟨2, ![512, 4096]⟩
abbrev S512x8x128 : Shape := ⟨3, ![512, 8, 128]⟩
abbrev S1x512x1024 : Shape := ⟨3, ![1, 512, 1024]⟩
abbrev S4x512x1024 : Shape := ⟨3, ![4, 512, 1024]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x4096, .bf16⟩
  | .hbm, ⟨3, _⟩ => ⟨S1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S1024x4096, .f32⟩
  | .hbm, ⟨21, _⟩ => ⟨S512x4096, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S512x8x128, .f32⟩
  | .hbm, ⟨27, _⟩ => ⟨S512x8x128, .f32⟩
  | .hbm, ⟨28, _⟩ => ⟨S512x8x128, .f32⟩
  | .hbm, ⟨29, _⟩ => ⟨S512x8x128, .f32⟩
  | .hbm, ⟨30, _⟩ => ⟨S1x512x1024, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S4x512x1024, .f32⟩
  | .hbm, ⟨35, _⟩ => ⟨S4x512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel8.lean ====
abbrev S512x1024 : Shape := ⟨2, ![512, 1024]⟩
abbrev S1x1024 : Shape := ⟨2, ![1, 1024]⟩
abbrev S1024x9216 : Shape := ⟨2, ![1024, 9216]⟩
abbrev S1024x128 : Shape := ⟨2, ![1024, 128]⟩
abbrev S1x128 : Shape := ⟨2, ![1, 128]⟩
abbrev S2x512x1024 : Shape := ⟨3, ![2, 512, 1024]⟩
abbrev S7x512x1024 : Shape := ⟨3, ![7, 512, 1024]⟩
abbrev S512x128 : Shape := ⟨2, ![512, 128]⟩
abbrev S1024x1024 : Shape := ⟨2, ![1024, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x9216, .bf16⟩
  | .hbm, ⟨3, _⟩ => ⟨S1024x128, .bf16⟩
  | .hbm, ⟨4, _⟩ => ⟨S1x128, .f32⟩
  | .hbm, ⟨5, _⟩ => ⟨S2x512x1024, .f32⟩
  | .hbm, ⟨6, _⟩ => ⟨S7x512x1024, .bf16⟩
  | .hbm, ⟨7, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S1x128, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S512x128, .f32⟩
  | .local _ .vmem, ⟨11, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![1, 9], ![false, false]⟩

def k0_cond2 (i : grid0.Coords) : BitVec 1 :=
  let arg1 : BitVec 32 := BitVec.ofNat 32 (i 1).val
  let c2_i32 : BitVec 32 := 2#32
  let v6 : BitVec 1 := Scalar.cmpi .slt arg1 c2_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c2_i32_5 : BitVec 32 := 2#32
  let v9 : BitVec 1 := Scalar.cmpi .sge arg1 c2_i32_5
  let v10 : BitVec 32 := Scalar.extui v9
  let c0_i32_6 : BitVec 32 := 0#32
  let v11 : BitVec 1 := Scalar.cmpi .ne v10 c0_i32_6
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![v0.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference8Ideal.lean ====
abbrev S512x1024 : Shape := ⟨2, ![512, 1024]⟩
abbrev S1x1024 : Shape := ⟨2, ![1, 1024]⟩
abbrev S1024x9216 : Shape := ⟨2, ![1024, 9216]⟩
abbrev S1024x128 : Shape := ⟨2, ![1024, 128]⟩
abbrev S1x128 : Shape := ⟨2, ![1, 128]⟩
abbrev S1024 : Shape := ⟨1, ![1024]⟩
abbrev S_ : Shape := ⟨0, ![]⟩
abbrev S512 : Shape := ⟨1, ![512]⟩
abbrev S512x1 : Shape := ⟨2, ![512, 1]⟩
abbrev S512x9216 : Shape := ⟨2, ![512, 9216]⟩
abbrev S1x512x1024 : Shape := ⟨3, ![1, 512, 1024]⟩
abbrev S2x512x1024 : Shape := ⟨3, ![2, 512, 1024]⟩
abbrev S7x512x1024 : Shape := ⟨3, ![7, 512, 1024]⟩
abbrev S512x128 : Shape := ⟨2, ![512, 128]⟩
abbrev S128 : Shape := ⟨1, ![128]⟩

abbrev nBuf : Space → Nat
  | .hbm => 67
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x9216, .bf16⟩
  | .hbm, ⟨3, _⟩ => ⟨S1024x128, .bf16⟩
  | .hbm, ⟨4, _⟩ => ⟨S1x128, .f32⟩
  | .hbm, ⟨5, _⟩ => ⟨S1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S1024x9216, .f32⟩
  | .hbm, ⟨23, _⟩ => ⟨S512x9216, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S1x512x1024, .f32⟩
  | .hbm, ⟨34, _⟩ => ⟨S1x512x1024, .f32⟩
  | .hbm, ⟨35, _⟩ => ⟨S2x512x1024, .f32⟩
  | .hbm, ⟨36, _⟩ => ⟨S1x512x1024, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S1x512x1024, .f32⟩
  | .hbm, ⟨41, _⟩ => ⟨S1x512x1024, .f32⟩
  | .hbm, ⟨42, _⟩ => ⟨S1x512x1024, .f32⟩
  | .hbm, ⟨43, _⟩ => ⟨S7x512x1024, .f32⟩
  | .hbm, ⟨44, _⟩ => ⟨S7x512x1024, .bf16⟩
  | .hbm, ⟨45, _⟩ => ⟨S1024x128, .f32⟩
  | .hbm, ⟨46, _⟩ => ⟨S512x128, .f32⟩
  | .hbm, ⟨47, _⟩ => ⟨S128, .f32⟩
  | .hbm, ⟨48, _⟩ => ⟨S1x128, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S_, .f32⟩
  | .hbm, ⟨53, _⟩ => ⟨S512x128, .f32⟩
  | .hbm, ⟨54, _⟩ => ⟨S512x128, .f32⟩
  | .hbm, ⟨55, _⟩ => ⟨S512x128, .f32⟩
  | .hbm, ⟨56, _⟩ => ⟨S512x128, .f32⟩
  | .hbm, ⟨57, _⟩ => ⟨S512x128, .i1⟩
  | .hbm, ⟨58, _⟩ => ⟨S512x128, .f32⟩
  | .hbm, ⟨59, _⟩ => ⟨S512x128, .f32⟩
  | .hbm, ⟨60, _⟩ => ⟨S512x128, .f32⟩
  | .hbm, ⟨61, _⟩ => ⟨S512x128, .f32⟩
  | .hbm, ⟨62, _⟩ => ⟨S512x128, .f32⟩
  | .hbm, ⟨63, _⟩ => ⟨S512x128, .f32⟩
  | .hbm, ⟨64, _⟩ => ⟨S512x128, .f32⟩
  | .hbm, ⟨65, _⟩ => ⟨S512x128, .f32⟩
  | .hbm, ⟨66, _⟩ => ⟨S512x128, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== Kernel9.lean ====
abbrev S512x1024 : Shape := ⟨2, ![512, 1024]⟩
abbrev S7x512x1024 : Shape := ⟨3, ![7, 512, 1024]⟩
abbrev S1024x1024 : Shape := ⟨2, ![1024, 1024]⟩
abbrev S1x512x1024 : Shape := ⟨3, ![1, 512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .bf16⟩
  | .hbm, ⟨3, _⟩ => ⟨S7x512x1024, .bf16⟩
  | .hbm, ⟨4, _⟩ => ⟨S512x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_4 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_5 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference9Ideal.lean ====
abbrev S512x1024 : Shape := ⟨2, ![512, 1024]⟩
abbrev S7x512x1024 : Shape := ⟨3, ![7, 512, 1024]⟩
abbrev S1024x1024 : Shape := ⟨2, ![1024, 1024]⟩
abbrev S1x512x1024 : Shape := ⟨3, ![1, 512, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .bf16⟩
  | .hbm, ⟨3, _⟩ => ⟨S7x512x1024, .bf16⟩
  | .hbm, ⟨4, _⟩ => ⟨S512x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x512x1024, .bf16⟩
  | .hbm, ⟨10, _⟩ => ⟨S512x1024, .bf16⟩
  | .hbm, ⟨11, _⟩ => ⟨S512x1024, .f32⟩
  | .hbm, ⟨12, _⟩ => ⟨S1x512x1024, .bf16⟩
  | .hbm, ⟨13, _⟩ => ⟨S512x1024, .bf16⟩
  | .hbm, ⟨14, _⟩ => ⟨S512x1024, .f32⟩
  | .hbm, ⟨15, _⟩ => ⟨S1x512x1024, .bf16⟩
  | .hbm, ⟨16, _⟩ => ⟨S512x1024, .bf16⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S1024x1024, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S1024x1024, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S_, .f32⟩
  | .hbm, ⟨46, _⟩ => ⟨S512x1024, .f32⟩
  | .hbm, ⟨47, _⟩ => ⟨S512x1024, .f32⟩
  | .hbm, ⟨48, _⟩ => ⟨S_, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S1024x1024, .f32⟩
  | .hbm, ⟨53, _⟩ => ⟨S512x1024, .f32⟩
  | .hbm, ⟨54, _⟩ => ⟨S512x1024, .f32⟩
  | .hbm, ⟨55, _⟩ => ⟨S512x1024, .f32⟩
  | .hbm, ⟨56, _⟩ => ⟨S1024x1024, .f32⟩
  | .hbm, ⟨57, _⟩ => ⟨S512x1024, .f32⟩
  | .hbm, ⟨58, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel10.lean ====
abbrev S2x512x1024 : Shape := ⟨3, ![2, 512, 1024]⟩
abbrev S7x512x1024 : Shape := ⟨3, ![7, 512, 1024]⟩
abbrev S1x1024 : Shape := ⟨2, ![1, 1024]⟩
abbrev S1x128 : Shape := ⟨2, ![1, 128]⟩
abbrev S16x8x128x128 : Shape := ⟨4, ![16, 8, 128, 128]⟩
abbrev S512x1024 : Shape := ⟨2, ![512, 1024]⟩
abbrev S1x32x1024 : Shape := ⟨3, ![1, 32, 1024]⟩
abbrev S1x8x128x128 : Shape := ⟨4, ![1, 8, 128, 128]⟩
abbrev S32x1024 : Shape := ⟨2, ![32, 1024]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S32x32 : Shape := ⟨2, ![32, 32]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩

abbrev nBuf : Space → Nat
  | .hbm => 7
  | .vmem => 17
  | .smem => 0
  | _ => 0

abbrev bufTy : (tb : Table) → Fin (tcTables nBuf tb) → BufTy
  | .hbm, ⟨0, _⟩ => ⟨S2x512x1024, .f32⟩
  | .hbm, ⟨1, _⟩ => ⟨S7x512x1024, .bf16⟩
  | .hbm, ⟨2, _⟩ => ⟨S1x1024, .f32⟩
  | .hbm, ⟨3, _⟩ => ⟨S1x128, .f32⟩
  | .hbm, ⟨4, _⟩ => ⟨S16x8x128x128, .f32⟩
  | .hbm, ⟨5, _⟩ => ⟨S512x1024, .bf16⟩
  | .hbm, ⟨6, _⟩ => ⟨S16x8x128x128, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x1024, .f32⟩
  | .local _ .vmem, ⟨9, _⟩ => ⟨S1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S32x1024, .bf16⟩
  | .local _ .vmem, ⟨13, _⟩ => ⟨S32x1024, .bf16⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 1], ![false, false]⟩

def k0_mult1 : BitVec 32 :=
  let c0_i32_4 : BitVec 32 := 0#32
  let c32_i32 : BitVec 32 := 32#32
  let v14 : BitVec 32 := Scalar.muli c0_i32_4 c32_i32
  v14
def k0_off1 : Fin 3 → Nat :=
  let c0_5 : Index := 0#32
  let c0_i32_4 : BitVec 32 := 0#32
  let c32_i32 : BitVec 32 := 32#32
  let v14 : BitVec 32 := Scalar.muli c0_i32_4 c32_i32
  let v15 : BitVec 32 := v14
  let v16 : Index := Scalar.indexCast v15
  let c0_6 : Index := 0#32
  ![0, v16.toNat, 0]
def k0_off2 : Fin 3 → Nat :=
  let c0_18 : Index := 0#32
  let c0_i32_4 : BitVec 32 := 0#32
  let c32_i32 : BitVec 32 := 32#32
  let v14 : BitVec 32 := Scalar.muli c0_i32_4 c32_i32
  let v15 : BitVec 32 := v14
  let v60 : Index := Scalar.indexCast v15
  let c0_19 : Index := 0#32
  ![0, v60.toNat, 0]
def k0_off3 : Fin 2 → Nat :=
  let c0_i32_4 : BitVec 32 := 0#32
  let c32_i32 : BitVec 32 := 32#32
  let v14 : BitVec 32 := Scalar.muli c0_i32_4 c32_i32
  let v15 : BitVec 32 := v14
  let v129 : Index := Scalar.indexCast v15
  let c0_41 : Index := 0#32
  ![v129.toNat, 0]
def k0_off4 : Fin 3 → Nat :=
  let c0_42 : Index := 0#32
  let c0_i32_4 : BitVec 32 := 0#32
  let c32_i32 : BitVec 32 := 32#32
  let v14 : BitVec 32 := Scalar.muli c0_i32_4 c32_i32
  let v15 : BitVec 32 := v14
  let v134 : Index := Scalar.indexCast v15
  let c128 : Index := 128#32
  ![0, v134.toNat, 128]
def k0_off5 : Fin 2 → Nat :=
  let c0_i32_4 : BitVec 32 := 0#32
  let c32_i32 : BitVec 32 := 32#32
  let v14 : BitVec 32 := Scalar.muli c0_i32_4 c32_i32
  let v15 : BitVec 32 := v14
  let v203 : Index := Scalar.indexCast v15
  let c128_63 : Index := 128#32
  ![v203.toNat, 128]
def k0_off6 : Fin 3 → Nat :=
  let c0_64 : Index := 0#32
  let c0_i32_4 : BitVec 32 := 0#32
  let c32_i32 : BitVec 32 := 32#32
  let v14 : BitVec 32 := Scalar.muli c0_i32_4 c32_i32
  let v15 : BitVec 32 := v14
  let v208 : Index := Scalar.indexCast v15
  let c256 : Index := 256#32
  ![0, v208.toNat, 256]
def k0_off7 : Fin 2 → Nat :=
  let c0_i32_4 : BitVec 32 := 0#32
  let c32_i32 : BitVec 32 := 32#32
  let v14 : BitVec 32 := Scalar.muli c0_i32_4 c32_i32
  let v15 : BitVec 32 := v14
  let v277 : Index := Scalar.indexCast v15
  let c256_85 : Index := 256#32
  ![v277.toNat, 256]
def k0_off8 : Fin 3 → Nat :=
  let c0_86 : Index := 0#32
  let c0_i32_4 : BitVec 32 := 0#32
  let c32_i32 : BitVec 32 := 32#32
  let v14 : BitVec 32 := Scalar.muli c0_i32_4 c32_i32
  let v15 : BitVec 32 := v14
  let v282 : Index := Scalar.indexCast v15
  let c384 : Index := 384#32
  ![0, v282.toNat, 384]
def k0_off9 : Fin 2 → Nat :=
  let c0_i32_4 : BitVec 32 := 0#32
  let c32_i32 : BitVec 32 := 32#32
  let v14 : BitVec 32 := Scalar.muli c0_i32_4 c32_i32
  let v15 : BitVec 32 := v14
  let v351 : Index := Scalar.indexCast v15
  let c384_107 : Index := 384#32
  ![v351.toNat, 384]
def k0_off10 : Fin 3 → Nat :=
  let c0_108 : Index := 0#32
  let c0_i32_4 : BitVec 32 := 0#32
  let c32_i32 : BitVec 32 := 32#32
  let v14 : BitVec 32 := Scalar.muli c0_i32_4 c32_i32
  let v15 : BitVec 32 := v14
  let v356 : Index := Scalar.indexCast v15
  let c512 : Index := 512#32
  ![0, v356.toNat, 512]
def k0_off11 : Fin 2 → Nat :=
  let c0_i32_4 : BitVec 32 := 0#32
  let c32_i32 : BitVec 32 := 32#32
  let v14 : BitVec 32 := Scalar.muli c0_i32_4 c32_i32
  let v15 : BitVec 32 := v14
  let v425 : Index := Scalar.indexCast v15
  let c512_129 : Index := 512#32
  ![v425.toNat, 512]
def k0_off12 : Fin 3 → Nat :=
  let c0_130 : Index := 0#32
  let c0_i32_4 : BitVec 32 := 0#32
  let c32_i32 : BitVec 32 := 32#32
  let v14 : BitVec 32 := Scalar.muli c0_i32_4 c32_i32
  let v15 : BitVec 32 := v14
  let v430 : Index := Scalar.indexCast v15
  let c640 : Index := 640#32
  ![0, v430.toNat, 640]
def k0_off13 : Fin 2 → Nat :=
  let c0_i32_4 : BitVec 32 := 0#32
  let c32_i32 : BitVec 32 := 32#32
  let v14 : BitVec 32 := Scalar.muli c0_i32_4 c32_i32
  let v15 : BitVec 32 := v14
  let v499 : Index := Scalar.indexCast v15
  let c640_151 : Index := 640#32
  ![v499.toNat, 640]
def k0_off14 : Fin 3 → Nat :=
  let c0_152 : Index := 0#32
  let c0_i32_4 : BitVec 32 := 0#32
  let c32_i32 : BitVec 32 := 32#32
  let v14 : BitVec 32 := Scalar.muli c0_i32_4 c32_i32
  let v15 : BitVec 32 := v14
  let v504 : Index := Scalar.indexCast v15
  let c768 : Index := 768#32
  ![0, v504.toNat, 768]
def k0_off15 : Fin 2 → Nat :=
  let c0_i32_4 : BitVec 32 := 0#32
  let c32_i32 : BitVec 32 := 32#32
  let v14 : BitVec 32 := Scalar.muli c0_i32_4 c32_i32
  let v15 : BitVec 32 := v14
  let v573 : Index := Scalar.indexCast v15
  let c768_173 : Index := 768#32
  ![v573.toNat, 768]
def k0_off16 : Fin 3 → Nat :=
  let c0_174 : Index := 0#32
  let c0_i32_4 : BitVec 32 := 0#32
  let c32_i32 : BitVec 32 := 32#32
  let v14 : BitVec 32 := Scalar.muli c0_i32_4 c32_i32
  let v15 : BitVec 32 := v14
  let v578 : Index := Scalar.indexCast v15
  let c896 : Index := 896#32
  ![0, v578.toNat, 896]
def k0_off17 : Fin 2 → Nat :=
  let c0_i32_4 : BitVec 32 := 0#32
  let c32_i32 : BitVec 32 := 32#32
  let v14 : BitVec 32 := Scalar.muli c0_i32_4 c32_i32
  let v15 : BitVec 32 := v14
  let v647 : Index := Scalar.indexCast v15
  let c896_195 : Index := 896#32
  ![v647.toNat, 896]
def k0_cond2 (i : grid0.Coords) : BitVec 1 :=
  let arg1 : BitVec 32 := BitVec.ofNat 32 (i 1).val
  let c0_i32_196 : BitVec 32 := 0#32
  let v649 : BitVec 1 := Scalar.cmpi .eq arg1 c0_i32_196
  let v650 : BitVec 32 := Scalar.extui v649
  let c0_i32_197 : BitVec 32 := 0#32
  let v651 : BitVec 1 := Scalar.cmpi .ne v650 c0_i32_197
  v651

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference10Ideal.lean ====
abbrev S2x512x1024 : Shape := ⟨3, ![2, 512, 1024]⟩
abbrev S7x512x1024 : Shape := ⟨3, ![7, 512, 1024]⟩
abbrev S1x1024 : Shape := ⟨2, ![1, 1024]⟩
abbrev S1x128 : Shape := ⟨2, ![1, 128]⟩
abbrev S16x8x128x128 : Shape := ⟨4, ![16, 8, 128, 128]⟩
abbrev S1x512x1024 : Shape := ⟨3, ![1, 512, 1024]⟩
abbrev S512x1024 : Shape := ⟨2, ![512, 1024]⟩
abbrev S16x32x8x128 : Shape := ⟨4, ![16, 32, 8, 128]⟩
abbrev S8x128 : Shape := ⟨2, ![8, 128]⟩
abbrev S_ : Shape := ⟨0, ![]⟩
abbrev S1x1x8x128 : Shape := ⟨4, ![1, 1, 8, 128]⟩
abbrev S16x1x8x128 : Shape := ⟨4, ![16, 1, 8, 128]⟩
abbrev S32x32 : Shape := ⟨2, ![32, 32]⟩
abbrev S16x8x32x32 : Shape := ⟨4, ![16, 8, 32, 32]⟩
abbrev S16x8x128x32 : Shape := ⟨4, ![16, 8, 128, 32]⟩
abbrev S16x8x128 : Shape := ⟨3, ![16, 8, 128]⟩
abbrev S16x8x128x1 : Shape := ⟨4, ![16, 8, 128, 1]⟩
abbrev S128 : Shape := ⟨1, ![128]⟩
abbrev S16x32x8 : Shape := ⟨3, ![16, 32, 8]⟩
abbrev S16x32x8x1 : Shape := ⟨4, ![16, 32, 8, 1]⟩
abbrev S1x1x1x128 : Shape := ⟨4, ![1, 1, 1, 128]⟩

abbrev nBuf : Space → Nat
  | .hbm => 147
  | .vmem => 0
  | .smem => 0
  | _ => 0

abbrev hbmTy0_0 (i : Nat) : BufTy := match i % 128 with
  | 0 => ⟨S2x512x1024, .f32⟩
  | 1 => ⟨S7x512x1024, .bf16⟩
  | 2 => ⟨S1x1024, .f32⟩
  | 3 => ⟨S1x128, .f32⟩
  | 4 => ⟨S16x8x128x128, .f32⟩
  | 5 => ⟨S1x512x1024, .f32⟩
  | 6 => ⟨S512x1024, .f32⟩
  | 7 => ⟨S1x512x1024, .f32⟩
  | 8 => ⟨S512x1024, .f32⟩
  | 9 => ⟨S1x512x1024, .bf16⟩
  | 10 => ⟨S512x1024, .bf16⟩
  | 11 => ⟨S512x1024, .f32⟩
  | 12 => ⟨S16x32x8x128, .f32⟩
  | 13 => ⟨S8x128, .f32⟩
  | 14 => ⟨S8x128, .f32⟩
  | 15 => ⟨S8x128, .f32⟩
  | 16 => ⟨S8x128, .f32⟩
  | 17 => ⟨S16x32x8x128, .f32⟩
  | 18 => ⟨S_, .f32⟩
  | 19 => ⟨S16x32x8x128, .f32⟩
  | 20 => ⟨S16x32x8x128, .f32⟩
  | 21 => ⟨S16x32x8x128, .f32⟩
  | 22 => ⟨S16x32x8x128, .f32⟩
  | 23 => ⟨S16x32x8x128, .i1⟩
  | 24 => ⟨S16x32x8x128, .f32⟩
  | 25 => ⟨S16x32x8x128, .f32⟩
  | 26 => ⟨S16x32x8x128, .f32⟩
  | 27 => ⟨S16x32x8x128, .f32⟩
  | 28 => ⟨S16x32x8x128, .f32⟩
  | 29 => ⟨S16x32x8x128, .f32⟩
  | 30 => ⟨S16x32x8x128, .f32⟩
  | 31 => ⟨S16x32x8x128, .f32⟩
  | 32 => ⟨S16x32x8x128, .f32⟩
  | 33 => ⟨S1x1x8x128, .f32⟩
  | 34 => ⟨S16x32x8x128, .f32⟩
  | 35 => ⟨S16x32x8x128, .f32⟩
  | 36 => ⟨S1x1x8x128, .f32⟩
  | 37 => ⟨S16x32x8x128, .f32⟩
  | 38 => ⟨S16x32x8x128, .f32⟩
  | 39 => ⟨S16x32x8x128, .f32⟩
  | 40 => ⟨S16x32x8x128, .f32⟩
  | 41 => ⟨S16x32x8x128, .i1⟩
  | 42 => ⟨S16x32x8x128, .f32⟩
  | 43 => ⟨S16x32x8x128, .f32⟩
  | 44 => ⟨S16x32x8x128, .f32⟩
  | 45 => ⟨S16x32x8x128, .f32⟩
  | 46 => ⟨S16x32x8x128, .f32⟩
  | 47 => ⟨S16x32x8x128, .f32⟩
  | 48 => ⟨S16x32x8x128, .f32⟩
  | 49 => ⟨S16x32x8x128, .f32⟩
  | 50 => ⟨S_, .f32⟩
  | 51 => ⟨S8x128, .f32⟩
  | 52 => ⟨S8x128, .f32⟩
  | 53 => ⟨S16x32x8x128, .f32⟩
  | 54 => ⟨S16x32x8x128, .f32⟩
  | 55 => ⟨S16x32x8x128, .f32⟩
  | 56 => ⟨S_, .f32⟩
  | 57 => ⟨S16x32x8x128, .f32⟩
  | 58 => ⟨S16x32x8x128, .f32⟩
  | 59 => ⟨S_, .f32⟩
  | 60 => ⟨S16x32x8x128, .f32⟩
  | 61 => ⟨S16x32x8x128, .f32⟩
  | 62 => ⟨S1x1x8x128, .f32⟩
  | 63 => ⟨S16x32x8x128, .f32⟩
  | 64 => ⟨S16x32x8x128, .f32⟩
  | 65 => ⟨S16x32x8x128, .f32⟩
  | 66 => ⟨S16x32x8x128, .f32⟩
  | 67 => ⟨S_, .f32⟩
  | 68 => ⟨S_, .f32⟩
  | 69 => ⟨S16x32x8x128, .f32⟩
  | 70 => ⟨S16x1x8x128, .f32⟩
  | 71 => ⟨S16x1x8x128, .f32⟩
  | 72 => ⟨S16x32x8x128, .f32⟩
  | 73 => ⟨S16x32x8x128, .f32⟩
  | 74 => ⟨S16x32x8x128, .f32⟩
  | 75 => ⟨S16x32x8x128, .f32⟩
  | 76 => ⟨S16x32x8x128, .f32⟩
  | 77 => ⟨S16x32x8x128, .f32⟩
  | 78 => ⟨S16x32x8x128, .f32⟩
  | 79 => ⟨S16x32x8x128, .f32⟩
  | 80 => ⟨S16x32x8x128, .f32⟩
  | 81 => ⟨S16x32x8x128, .f32⟩
  | 82 => ⟨S16x32x8x128, .f32⟩
  | 83 => ⟨S16x32x8x128, .f32⟩
  | 84 => ⟨S16x32x8x128, .f32⟩
  | 85 => ⟨S16x32x8x128, .f32⟩
  | 86 => ⟨S_, .i1⟩
  | 87 => ⟨S32x32, .i1⟩
  | 88 => ⟨S32x32, .i32⟩
  | 89 => ⟨S_, .i32⟩
  | 90 => ⟨S32x32, .i32⟩
  | 91 => ⟨S32x32, .i32⟩
  | 92 => ⟨S32x32, .i32⟩
  | 93 => ⟨S32x32, .i1⟩
  | 94 => ⟨S_, .i1⟩
  | 95 => ⟨S32x32, .i1⟩
  | 96 => ⟨S32x32, .i1⟩
  | 97 => ⟨S16x8x32x32, .f32⟩
  | 98 => ⟨S_, .f32⟩
  | 99 => ⟨S_, .f32⟩
  | 100 => ⟨S16x8x32x32, .i1⟩
  | 101 => ⟨S16x8x32x32, .f32⟩
  | 102 => ⟨S16x8x32x32, .f32⟩
  | 103 => ⟨S16x8x128x32, .f32⟩
  | 104 => ⟨S16x32x8x128, .f32⟩
  | 105 => ⟨S16x8x128x32, .f32⟩
  | 106 => ⟨S16x32x8x128, .f32⟩
  | 107 => ⟨S16x32x8x128, .f32⟩
  | 108 => ⟨S16x8x128, .f32⟩
  | 109 => ⟨S16x8x128, .f32⟩
  | 110 => ⟨S16x8x128x1, .f32⟩
  | 111 => ⟨S16x8x128x128, .f32⟩
  | 112 => ⟨S16x8x128x128, .f32⟩
  | 113 => ⟨S16x8x128x128, .f32⟩
  | 114 => ⟨S16x8x128x128, .f32⟩
  | 115 => ⟨S1x512x1024, .bf16⟩
  | 116 => ⟨S512x1024, .bf16⟩
  | 117 => ⟨S512x1024, .f32⟩
  | 118 => ⟨S128, .f32⟩
  | 119 => ⟨S16x32x8x128, .f32⟩
  | 120 => ⟨S_, .f32⟩
  | 121 => ⟨S16x32x8, .f32⟩
  | 122 => ⟨S16x32x8x1, .f32⟩
  | 123 => ⟨S_, .f32⟩
  | 124 => ⟨S16x32x8x1, .f32⟩
  | 125 => ⟨S16x32x8x1, .f32⟩
  | 126 => ⟨S_, .f32⟩
  | 127 => ⟨S16x32x8x1, .f32⟩
  | _ => ⟨S2x512x1024, .f32⟩

abbrev hbmTy0_1 (i : Nat) : BufTy := match i % 128 with
  | 0 => ⟨S16x32x8x1, .f32⟩
  | 1 => ⟨S16x32x8x1, .f32⟩
  | 2 => ⟨S16x32x8x128, .f32⟩
  | 3 => ⟨S16x32x8x128, .f32⟩
  | 4 => ⟨S1x1x1x128, .f32⟩
  | 5 => ⟨S16x32x8x128, .f32⟩
  | 6 => ⟨S16x32x8x128, .f32⟩
  | 7 => ⟨S512x1024, .f32⟩
  | 8 => ⟨S512x1024, .f32⟩
  | 9 => ⟨S512x1024, .f32⟩
  | 10 => ⟨S_, .f32⟩
  | 11 => ⟨S512x1024, .f32⟩
  | 12 => ⟨S512x1024, .f32⟩
  | 13 => ⟨S_, .f32⟩
  | 14 => ⟨S512x1024, .f32⟩
  | 15 => ⟨S512x1024, .f32⟩
  | 16 => ⟨S512x1024, .f32⟩
  | 17 => ⟨S512x1024, .f32⟩
  | 18 => ⟨S512x1024, .bf16⟩
  | _ => ⟨S2x512x1024, .f32⟩

abbrev hbmTy (i : Nat) : BufTy := match i / 128 with
  | 0 => hbmTy0_0 i
  | 1 => hbmTy0_1 i
  | _ => ⟨S2x512x1024, .f32⟩

abbrev bufTy : (tb : Table) → Fin (tcTables nBuf tb) → BufTy
  | .hbm, ⟨i, _⟩ => hbmTy i
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_0 : Ref sig .tc := ⟨.hbm, 56, rfl⟩
abbrev main_v35 : Ref sig .tc := ⟨.hbm, 57, rfl⟩
abbrev main_v36 : Ref sig .tc := ⟨.hbm, 58, rfl⟩
abbrev main_cst_1 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_call0_cst : Ref sig .tc := ⟨.hbm, 67, rfl⟩
abbrev main_call1_call0_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c : Ref sig .tc := ⟨.hbm, 86, rfl⟩
abbrev main_v61 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_0 : Ref sig .tc := ⟨.hbm, 94, rfl⟩
abbrev main_call2_v5 : Ref sig .tc := ⟨.hbm, 95, rfl⟩
abbrev main_v62 : Ref sig .tc := ⟨.hbm, 96, rfl⟩
abbrev main_v63 : Ref sig .tc := ⟨.hbm, 97, rfl⟩
abbrev main_cst_2 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_3 : Ref sig .tc := ⟨.hbm, 120, rfl⟩
abbrev main_v82 : Ref sig .tc := ⟨.hbm, 121, rfl⟩
abbrev main_v83 : Ref sig .tc := ⟨.hbm, 122, rfl⟩
abbrev main_cst_4 : Ref sig .tc := ⟨.hbm, 123, rfl⟩
abbrev main_v84 : Ref sig .tc := ⟨.hbm, 124, rfl⟩
abbrev main_v85 : Ref sig .tc := ⟨.hbm, 125, rfl⟩
abbrev main_cst_5 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩

abbrev nD : Nat := 1
abbrev τ : Topo := Topo.v7x

variable {F : FTy → Type} [FloatOps F]
-- ==== Proof.KernIdeal.Loops.lean ====
/- The loops of the kernel over the reals: their trips, in closed form. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_hgrn` -/

/-- The class of invariants of `cc0_hgrn`'s counted loop `k0_t1_loop` (`scf.for %arg12 = %c0_i32_4
   to %14 step %c1_i32 : i32 {`), trip `k0_t1`, carrying `Unit`, region `Gen.k0_t1_body`.
   Classifier: AFFINE — every store at a `Rect.unit` whose offsets are a stated closed form of the
   trips, nothing carried, no transfer or conditional inside: the invariant is the pieces of the
   trips before `k`. The region loads back what it stores into
   `arg11` (an accumulation): each trip's pieces are stated as functions of the contents it finds
   there. One trip calls the parts `k0_part2`, `k0_part3`, `k0_part4`, `k0_part5`, `k0_part6`,
   `k0_part7`, `k0_part8`, `k0_part9`, `k0_part10`, `k0_part11`, `k0_part12`, `k0_part13`,
   `k0_part14`, `k0_part15`. Per trip it STORES through arg11 at ![0, 0, 0]; arg9 at (k0_off3
   k0_t1); arg11 at ![1, 0, 0]; arg9 at (k0_off5 k0_t1); arg11 at ![2, 0, 0]; arg9 at (k0_off7
   k0_t1); arg11 at ![3, 0, 0]; arg9 at (k0_off9 k0_t1); arg11 at ![4, 0, 0]; arg9 at (k0_off11
   k0_t1); arg11 at ![5, 0, 0]; arg9 at (k0_off13 k0_t1); and 4 more. It LOADS through arg3 at
   (k0_off1 k0_t1); arg2 at (k0_off2 k0_t1); arg4 at (k0_off2 k0_t1); arg11 at ![0, 0, 0]; arg5 at
   (k0_off2 k0_t1); arg9 at (k0_off3 k0_t1); arg2 at (k0_off4 k0_t1); arg4 at (k0_off4 k0_t1); arg11
   at ![1, 0, 0]; arg5 at (k0_off4 k0_t1); arg9 at (k0_off5 k0_t1); arg2 at (k0_off6 k0_t1); and
   more. Below: `Gen.loopInv_k0_t1` (`@[sl_loop]`), at the frame kit's algebra — a run at
   that algebra (the generated frame's, or a hand proof's over `MT nD τ sig Unit (Elt F) ℕ (UR sig
   nD τ) ℕ`) goes through the loop with nothing more to state; a proof at another algebra instances
   the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (v3 : Vec F S1x1024 .f32) (v8 : Vec F S1x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 v3 v8)

/-! ### `k0_t1_loop`: the generated invariant (classifier: affine) -/

/-- One trip's resources: what the region reads (arg2, arg3, arg4, arg5) at its contents, what it
   writes (arg9, arg11) at any. -/
abbrev Trip_k0_t1 (c : Dev nD) (arg2 : Memref sig .tc .vmem S1x512x1024 .f32) (arg3 : Memref sig .tc .vmem S1x512x1024 .f32) (arg4 : Memref sig .tc .vmem S1x512x1024 .bf16) (arg5 : Memref sig .tc .vmem S1x512x1024 .bf16) (arg9 : Memref sig .tc .vmem S512x1024 .bf16) (arg11 : Memref sig .tc .vmem S8x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg9 : BufTy.Contents (Elt F) arg9.view.ty) (f_arg11 : BufTy.Contents (Elt F) arg11.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} f_arg9) ∗ (arg11.view.loc (c : Thread nD τ) ↦[arg11.view.set]{fullShare} f_arg11))

/-- ONE TRIP of `k0_t1_loop` at a symbolic `k`, run by `sl_exec` (its rectangles' offsets closed
   forms of `k`, their geometry linear arithmetic): the pieces it writes into arg9, arg11 are the
   run's own finds — the witnesses `sl_close` assigns handing the buffers to the continuation, as
   functions of the contents the trip finds in the memrefs it writes (the region loads some of them
   back). `@[irreducible]`: cited, never unfolded. -/
@[irreducible] def trip_k0_t1 (𝒱 : Variants) (c : Dev nD) (bd : Option 𝒱.V) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (v3 : Vec F S1x1024 .f32) (v8 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) :
    Σ' (L_arg9 : (BufTy.Contents (Elt F) arg11.view.ty → List (View.Piece (Elt F) S512x1024 .bf16))) , { L_arg11 : (BufTy.Contents (Elt F) arg11.view.ty → List (View.Piece (Elt F) S8x128x128 .f32)) // ∀ (E : Set ℕ) (f_arg9 : BufTy.Contents (Elt F) arg9.view.ty) (f_arg11 : BufTy.Contents (Elt F) arg11.view.ty),
      Trip_k0_t1 (F := F) c arg2 arg3 arg4 arg5 arg9 arg11 X_arg2 X_arg3 X_arg4 X_arg5 f_arg9 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v3 v8 k PUnit.unit)
          (fun _ => Trip_k0_t1 (F := F) c arg2 arg3 arg4 arg5 arg9 arg11 X_arg2 X_arg3 X_arg4 X_arg5 (arg9.view.writes (Elt F) f_arg9 (L_arg9 f_arg11)) (arg11.view.writes (Elt F) f_arg11 (L_arg11 f_arg11))) } := by
  have hk : k.val < 8 := Nat.lt_of_lt_of_le k.isLt k0_t1_abs.2.1
  refine ⟨?_, ?_, fun E f_arg9 f_arg11 => ?run⟩
  case run =>
    unfold k0_t1_body
    iintro ⟨HR_arg2, HR_arg3, HR_arg4, HR_arg5, HW_arg9, HW_arg11⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (v3 : Vec F S1x1024 .f32) (v8 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (f_arg11 : BufTy.Contents (Elt F) arg11.view.ty) : List (View.Piece (Elt F) S512x1024 .bf16) × List (View.Piece (Elt F) S8x128x128 .f32) :=
  ((trip_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 k).1 f_arg11, (trip_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 k).2.1 f_arg11)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (v3 : Vec F S1x1024 .f32) (v8 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G_arg11 : BufTy.Contents (Elt F) arg11.view.ty) (k : ℕ) (prev : List (View.Piece (Elt F) S512x1024 .bf16) × List (View.Piece (Elt F) S8x128x128 .f32)) : List (View.Piece (Elt F) S512x1024 .bf16) × List (View.Piece (Elt F) S8x128x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 ⟨k, h⟩ (arg11.view.writes (Elt F) G_arg11 prev.2)).1 ++ prev.1, (tripL_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 ⟨k, h⟩ (arg11.view.writes (Elt F) G_arg11 prev.2)).2 ++ prev.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (v3 : Vec F S1x1024 .f32) (v8 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G_arg11 : BufTy.Contents (Elt F) arg11.view.ty) : ℕ → List (View.Piece (Elt F) S512x1024 .bf16) × List (View.Piece (Elt F) S8x128x128 .f32)
  | 0 => ([], [])
  | k + 1 => pb_k0_t1Step 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 k (pb_k0_t1 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 k)

theorem pb_k0_t1_succ (𝒱 : Variants) (c : Dev nD) (bd : Option 𝒱.V) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (v3 : Vec F S1x1024 .f32) (v8 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G_arg11 : BufTy.Contents (Elt F) arg11.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 (k.val + 1)
      = ((tripL_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 k (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 k.val).2)).1 ++ (pb_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 k.val).1, (tripL_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 k (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 k.val).2)).2 ++ (pb_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 k.val).2) := by
  rw [pb_k0_t1.eq_2]; unfold pb_k0_t1Step; exact dif_pos k.isLt

/-- THE INVARIANT before trip `k`: arg2, arg3, arg4, arg5 read at `X_·`; arg9, arg11 holding the
   pieces of the trips before `k` written over the contents at loop entry `G_·` (stated `∃ f, … ∗ ⌜f
   = …⌝`, so that a hypothesis of any contents matches and the equation is what is proved). -/
abbrev inv_k0_t1 (𝒱 : Variants) (c : Dev nD) (bd : Option 𝒱.V) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (v3 : Vec F S1x1024 .f32) (v8 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G_arg9 : BufTy.Contents (Elt F) arg9.view.ty) (G_arg11 : BufTy.Contents (Elt F) arg11.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 k).1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 G_arg11 k).2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (v3 : Vec F S1x1024 .f32) (v8 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G_arg9 : BufTy.Contents (Elt F) arg9.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 v3 v8 where
  inv := inv_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 G_arg9 G_arg11
  step k acc := by
    iintro ⟨HR_arg2, HR_arg3, HR_arg4, HR_arg5, ⟨%f_arg9, HW_arg9, %h_arg9⟩, ⟨%f_arg11, HW_arg11, %h_arg11⟩⟩
    iapply (wp_wand_r Idealize.ShloMosaic.frame (wpE (defs₀ (F := F)) 𝒱 (c : Thread nD τ) bd) E)
    isplitl [HR_arg2 HR_arg3 HR_arg4 HR_arg5 HW_arg9 HW_arg11]
    · iapply ((trip_k0_t1 (F := F) 𝒱 c bd i arg2 harg2 arg3 harg3 arg4 harg4 arg5 harg5 arg6 harg6 arg7 harg7 arg8 harg8 arg9 harg9 arg10 harg10 arg11 harg11 v3 v8 X_arg2 X_arg3 X_arg4 X_arg5 k).2.2 E f_arg9 f_arg11)
      isplitl [HR_arg2]; · iexact HR_arg2
      isplitl [HR_arg3]; · iexact HR_arg3
      isplitl [HR_arg4]; · iexact HR_arg4
      isplitl [HR_arg5]; · iexact HR_arg5
      isplitl [HW_arg9]; · iexact HW_arg9
      iexact HW_arg11
    · iintro %_ ⟨HR_arg2, HR_arg3, HR_arg4, HR_arg5, HW_arg9, HW_arg11⟩
      isplitl [HR_arg2]; · iexact HR_arg2
      isplitl [HR_arg3]; · iexact HR_arg3
      isplitl [HR_arg4]; · iexact HR_arg4
      isplitl [HR_arg5]; · iexact HR_arg5
      rw [pb_k0_t1_succ]
      isplitl [HW_arg9]
      · iexists _; isplitl [HW_arg9]; · iexact HW_arg9
        ipureintro; rw [h_arg9, h_arg11, ← View.writes_append]
      iexists _; isplitl [HW_arg11]; · iexact HW_arg11
      ipureintro; rw [h_arg11, ← View.writes_append]

end Cert.KernelIdeal.Gen

end
-- ==== Proof.KernIdeal.Runs.lean ====
/- What the cases of the kernel over the reals's run share. -/
module

public import proofs.«01_k».proof.Proof.Gen.KernelIdeal.Launch
public import proofs.«01_k».proof.Proof.Gen.KernelIdeal.Skeleton
public import proofs.«01_k».proof.Proof.KernIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 1).trans (((dats 0 c).arrAt_in 1 rfl _).trans ((hA c 1).trans (V_main_arg0 m c))),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 7, through which its contents are stated (`View.read_writes_of_cover`: the
    choice does not matter). -/
abbrev VO0_7 : View sig .tc .vmem S512x1024 .bf16 := (Memref.whole cc0_stg7_0 : Memref sig .tc .vmem S512x1024 .bf16).view
/-- One staging buffer of output window 8, through which its contents are stated (`View.read_writes_of_cover`: the
    choice does not matter). -/
abbrev VO0_8 : View sig .tc .vmem S1x8x128x128 .f32 := (Memref.whole cc0_stg8_0 : Memref sig .tc .vmem S1x8x128x128 .f32).view
/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x128x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S8x128x128 .f32 := Memref.whole cc0_scratch0
/-- The scratch `arg11` the kernel carries between points, as a view: what it holds is stated through it. -/
abbrev VS0_0 : View sig .tc .vmem S8x128x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KernIdeal.RunA.lean ====
/- The run of the kernel over the reals's body at a sequence's first point. -/
module

public import proofs.«01_k».proof.Proof.KernIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, … 120: 16 of 128), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) :
    Σ' (L7 : List (View.Piece (Elt F) S512x1024 .bf16)), Σ' (L8 : List (View.Piece (Elt F) S1x8x128x128 .f32)), { LS0 : List (View.Piece (Elt F) S8x128x128 .f32) //
      ∀ (xi8 : Vec F S1x8x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11) K } := by
  refine ⟨?_, [], ?_, fun xi8 E K => ?run⟩
  case run =>
    simp only [cc0_hgrn_eq_skeleton]; unfold cc0_hgrn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.KernelIdeal.Gen

end
-- ==== Proof.KernIdeal.RunB.lean ====
/- The run of the kernel over the reals's body at a middle point. -/
module

public import proofs.«01_k».proof.Proof.KernIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 126: 96 of 128), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) :
    Σ' (L7 : List (View.Piece (Elt F) S512x1024 .bf16)), Σ' (L8 : List (View.Piece (Elt F) S1x8x128x128 .f32)), { LS0 : List (View.Piece (Elt F) S8x128x128 .f32) //
      ∀ (xi8 : Vec F S1x8x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11) K } := by
  refine ⟨?_, [], ?_, fun xi8 E K => ?run⟩
  case run =>
    simp only [cc0_hgrn_eq_skeleton]; unfold cc0_hgrn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.KernelIdeal.Gen

end
-- ==== Proof.KernIdeal.RunC.lean ====
/- The run of the kernel over the reals's body at a sequence's last point. -/
module

public import proofs.«01_k».proof.Proof.KernIdeal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7, 15, … 127: 16 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) :
    Σ' (L7 : List (View.Piece (Elt F) S512x1024 .bf16)), Σ' (L8 : List (View.Piece (Elt F) S1x8x128x128 .f32)), { LS0 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_hgrn_eq_skeleton]; unfold cc0_hgrn_skel
    simp only [k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Gen

end
-- ==== Proof.KernIdeal.Frame.lean ====
/- The frame of the kernel over the reals: point by point contents, then the run. -/
module

public import proofs.«01_k».proof.Proof.KernIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (64 stores of `S64x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (y : S512x1024.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S64x128.size (by sl_kernel_rfl) y

/-- What case A leaves in output 7's staging buffer: its pieces read back over junk. -/
def out0_A_7 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) : Vec F S512x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) : Vec F S1x8x128x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's pieces for scratch `arg11`, which the kernel carries between points, cover it: 72 pieces of `S1x128x128` tiling it (Lib/Ring.lean `Piece.tiledL`). -/
theorem scover0_A_0 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (y : S8x128x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1 S1x128x128.size (by sl_kernel_rfl) y

/-- What case A leaves in scratch `arg11`: its pieces read back over junk. -/
def sout0_A_0 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) : Vec F S8x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1)

/-- Case B's pieces for output 7 tile its block (64 stores of `S64x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) (y : S512x1024.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S64x128.size (by sl_kernel_rfl) y

/-- What case B leaves in output 7's staging buffer: its pieces read back over junk. -/
def out0_B_7 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) : Vec F S512x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) : Vec F S1x8x128x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case B's pieces for scratch `arg11`, which the kernel carries between points, cover it: 64 pieces of `S1x128x128` tiling it (Lib/Ring.lean `Piece.tiledL`). -/
theorem scover0_B_0 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) (y : S8x128x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1x128x128.size (by sl_kernel_rfl) y

/-- What case B leaves in scratch `arg11`: its pieces read back over junk. -/
def sout0_B_0 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) : Vec F S8x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- Case C's pieces for output 7 tile its block (64 stores of `S64x128`, checked by the kernel's evaluation: Lib/Ring.lean `Piece.tiledL`, linear in the pieces, through a loop's `@[irreducible]` trip theorem too), so they cover it. -/
theorem cover0_C_7 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) (y : S512x1024.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S64x128.size (by sl_kernel_rfl) y

/-- What case C leaves in output 7's staging buffer: its pieces read back over junk. -/
def out0_C_7 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) : Vec F S512x1024 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)

/-- Case C's pieces for output 8 tile its block (8 stores of `S1x1x128x128`, checked by the kernel's evaluation: Lib/Ring.lean `Piece.tiledL`, linear in the pieces, through a loop's `@[irreducible]` trip theorem too), so they cover it. -/
theorem cover0_C_8 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) (y : S1x8x128x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1x1x128x128.size (by sl_kernel_rfl) y

/-- What case C leaves in output 8's staging buffer: its pieces read back over junk. -/
def out0_C_8 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) : Vec F S1x8x128x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case C's pieces for scratch `arg11`, which the kernel carries between points, cover it: 64 pieces of `S1x128x128` tiling it (Lib/Ring.lean `Piece.tiledL`). -/
theorem scover0_C_0 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) (y : S8x128x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1x128x128.size (by sl_kernel_rfl) y

/-- What case C leaves in scratch `arg11`: its pieces read back over junk. -/
def sout0_C_0 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S1x512x1024 .f32) (x1 : Vec F S1x512x1024 .f32) (x2 : Vec F S1x512x1024 .bf16) (x3 : Vec F S1x512x1024 .bf16) (x4 : Vec F S1x1024 .f32) (x5 : Vec F S1x128 .f32) (x6 : Vec F S1x8x128x128 .f32) (xs0 : Vec F S8x128x128 .f32) : Vec F S8x128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S1x8x128x128 .f32 × Vec F S8x128x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      if h1 : (n + 1) % 8 = 7 then
        False.elim (by have hN : n + 1 < 128 := lt_of_lt_of_eq hn (show cfg0.N = 128 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)

/-- `outsAt0` at a point of case A: that case's contents. -/
theorem outsAt0_A (c : Dev nD) (t : Fin cfg0.N) (h0 : t.val % 8 = 0) (h1 : ¬t.val % 8 = 7) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 12000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
      · rw [PhiS_castSucc m c t, PhiS_pos m c _ _ hz]
        rw [outsAt0_A m c t h0 h1]
        unfold out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexists _; iexact HS0
        iintro ⟨H0, H1, H2, H3, H4, H5, H6, ⟨%e7, H7⟩, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        unfold out0_C_7 out0_C_8 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        unfold out0_B_7 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _)
        iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KernIdeal.Value.lean ====
/- The results of the kernel over the reals, block by block. -/
module

public import proofs.«01_k».proof.Proof.KernIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 8 = 0) (h1 : ¬t.val % 8 = 7) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 8 = 0) (h1 : ¬t.val % 8 = 7) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  simp only [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 8 = 0) (h1 : t.val % 8 = 7) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  simp only [flushed7, outsAt0_C m c t h0 h1]

/-- The index map sends distinct grid points to distinct block indices (decided over the 128 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S65536x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 8 = 0) (h1 : ¬t.val % 8 = 7) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 8 = 0) (h1 : ¬t.val % 8 = 7) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  simp only [flushed8, outsAt0_B m c t h0 h1]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 8 = 0) (h1 : t.val % 8 = 7) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  simp only [flushed8, outsAt0_C m c t h0 h1]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S16x8x128x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 8)
    stores the scratch whole without reading what it held, and `acc` does not enter there (nor where no point meets the
    conditions: `acc`, never read). -/
def scAt0_0 (c : Dev nD) (n : ℕ) (hb : n < cfg0.N) (acc : Vec F S8x128x128 .f32) : Vec F S8x128x128 .f32 :=
  if h0 : n % 8 = 0 then
    if h1 : n % 8 = 7 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    if h1 : n % 8 = 7 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2.2) 8 (fun n h => scAt0_0 m c n h (VS0_0.read (Elt F) VS0_0.junk)) (scAt0_0 m c)
    (fun n h hn => by
      have hN := lt_of_lt_of_eq h (show cfg0.N = 128 from N_0)
      by_cases h0 : n % 8 = 0 <;> by_cases h1 : n % 8 = 7
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 128 from N_0)
      by_cases h0 : (n + 1) % 8 = 0 <;> by_cases h1 : (n + 1) % 8 = 7
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x1024 .bf16 × Vec F S1x8x128x128 .f32 × Vec F S8x128x128 .f32 :=
  ((VO0_7.read (Elt F) VO0_7.junk, VO0_8.read (Elt F) VO0_8.junk, VS0_0.read (Elt F) VS0_0.junk) : Vec F S512x1024 .bf16 × Vec F S1x8x128x128 .f32 × Vec F S8x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x1024 .bf16 × Vec F S1x8x128x128 .f32 × Vec F S8x128x128 .f32) : Vec F S512x1024 .bf16 × Vec F S1x8x128x128 .f32 × Vec F S8x128x128 .f32 :=
  if h0 : n % 8 = 0 then
    if h1 : n % 8 = 7 then
      False.elim (by have hN : n < 128 := lt_of_lt_of_eq hb (show cfg0.N = 128 from N_0); omega)
    else
      (out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)))
  else
    if h1 : n % 8 = 7 then
      (out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2, out0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2)
    else
      (out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2)

/-- `stAt0` at a point of case A: that case's contents. -/
theorem stAt0_A (c : Dev nD) (t : Fin cfg0.N) (acc : Vec F S512x1024 .bf16 × Vec F S1x8x128x128 .f32 × Vec F S8x128x128 .f32) (h0 : t.val % 8 = 0) (h1 : ¬t.val % 8 = 7) :
    stAt0 m c t.val t.isLt acc = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) :=
  (dif_pos h0).trans ((dif_neg h1).trans rfl)

/-- `stAt0` at a point of case B: that case's contents, over `acc`. -/
theorem stAt0_B (c : Dev nD) (t : Fin cfg0.N) (acc : Vec F S512x1024 .bf16 × Vec F S1x8x128x128 .f32 × Vec F S8x128x128 .f32) (h0 : ¬t.val % 8 = 0) (h1 : ¬t.val % 8 = 7) :
    stAt0 m c t.val t.isLt acc = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2) :=
  (dif_neg h0).trans ((dif_neg h1).trans rfl)

/-- `stAt0` at a point of case C: that case's contents, over `acc`. -/
theorem stAt0_C (c : Dev nD) (t : Fin cfg0.N) (acc : Vec F S512x1024 .bf16 × Vec F S1x8x128x128 .f32 × Vec F S8x128x128 .f32) (h0 : ¬t.val % 8 = 0) (h1 : t.val % 8 = 7) :
    stAt0 m c t.val t.isLt acc = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 128 from N_0)
  have e := Pipeline.eq_accAt_of_mod (fun n h => outsAt0 m c n h) 128 (fun n h => stAt0 m c n h junk0) (stAt0 m c)
    (fun n h _ => by
      have hN := lt_of_lt_of_eq h (show cfg0.N = 128 from N_0)
      obtain rfl : n = 0 := by omega
      exact outsAt0_zero m c h)
    (fun n h _ => outsAt0_succ m c n h)
    (by decide) n hn (by have := Nat.div_add_mod n 128; omega)
  have hd : n / 128 = 0 := Nat.div_eq_of_lt hN
  have hm : n % 128 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 7 -/

/-- The block of the array that holds index `i`, numbered in the order the points write the blocks back (one per point),
    `i`'s place in it, and the point that writes it back. -/
abbrev run7Of (i : S65536x1024.Idx) : ℕ := 1 * ((i 0).val / 512 - 0) + 1 * ((i 1).val / 1024 - 0)
set_option backward.proofsInPublic true in
abbrev loc7Of (i : S65536x1024.Idx) : S512x1024.Idx := fun a => match a with
  | ⟨0, _⟩ => ⟨(i 0).val % 512, Nat.mod_lt _ (by decide)⟩
  | ⟨1, _⟩ => ⟨(i 1).val % 1024, Nat.mod_lt _ (by decide)⟩
abbrev pt7Of (i : S65536x1024.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v0_0) := fun i =>
  if h : pt7Of i < cfg0.N then
    (Pipeline.accAt (fun n h => stAt0 m c n h junk0) (stAt0 m c) 0 (pt7Of i) (by omega)).1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 2) ∧ win0_7.index t (0 : Fin 2) ≤ 127
    ∧ 0 ≤ win0_7.index t (1 : Fin 2) ∧ win0_7.index t (1 : Fin 2) ≤ 0
    ∧ 1 * (win0_7.index t (0 : Fin 2) - 0) + 1 * (win0_7.index t (1 : Fin 2) - 0) = t.val :=
  (by decide +kernel : ∀ t : Fin grid0.N, _)

/-- Every block of the box is SOME flushing point's: `onto7Pt`, the point that writes back the block at place `q` of the box. -/
abbrev onto7Pt (q0 : Fin 128) (q1 : Fin 1) : Fin grid0.N :=
  ⟨1 * q0.val + 1 * q1.val, lt_of_lt_of_eq (by omega) N_0.symm⟩
theorem idx_onto7 : ∀ (q0 : Fin 128) (q1 : Fin 1), ∃ t : Fin cfg0.N, (cfg0.win 7).flush t = true ∧ win0_7.index t = ![q0.val + 0, q1.val + 0] :=
  fun q0 q1 => ⟨onto7Pt q0 q1, (by decide +kernel : ∀ (q0 : Fin 128) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 512 := (y 0).isLt
  have hy1 : (y 1).val < 1024 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 1024 + 1 * (y 1).val := rfl
  have hr : run7Of (((cfg0.win 7).blk t).view.emb y) = t.val := by
    show 1 * ((((cfg0.win 7).blk t).view.emb y 0).val / 512 - 0) + 1 * ((((cfg0.win 7).blk t).view.emb y 1).val / 1024 - 0) = _
    rw [hb0, hb1]
    rw [show (win0_7.index t (0 : Fin 2) * 512 + 1 * (y 0).val) / 512 = win0_7.index t (0 : Fin 2) from by omega]; rw [show (win0_7.index t (1 : Fin 2) * 1024 + 1 * (y 1).val) / 1024 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 512 = (y 0).val; rw [hb0]; omega
    | ⟨1, _⟩ => show (((cfg0.win 7).blk t).view.emb y 1).val % 1024 = (y 1).val; rw [hb1]; omega
  have hp : pt7Of (((cfg0.win 7).blk t).view.emb y) = t.val := by
    exact hr
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S65536x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v0_0).slice (win0_7.rect t)).set ↔ _
  rw [View.set_slice_whole, Rect.mem_set_unit]
  exact Iff.rfl

/-- THE COVERED INDICES: in some flushing point's block iff inside the box those blocks fill. -/
theorem covered_iff7 (i : S65536x1024.Idx) :
    (∃ t : Fin cfg0.N, (cfg0.win 7).flush t = true ∧ i ∈ ((cfg0.win 7).blk t).view.set) ↔ 0 ≤ (i 0).val ∧ (i 0).val < 65536 ∧ 0 ≤ (i 1).val ∧ (i 1).val < 1024 := by
  constructor
  · rintro ⟨t, -, hi⟩
    rw [mem_blk7] at hi
    have b0 : win0_7.index t (0 : Fin 2) * 512 ≤ (i 0).val ∧ (i 0).val < win0_7.index t (0 : Fin 2) * 512 + 512 := hi 0
    have b1 : win0_7.index t (1 : Fin 2) * 1024 ≤ (i 1).val ∧ (i 1).val < win0_7.index t (1 : Fin 2) * 1024 + 1024 := hi 1
    obtain ⟨e0, e1, e2⟩ := idx_facts7 t
    omega
  · intro h
    have hi0 : (i 0).val < 65536 := (i 0).isLt
    have hi1 : (i 1).val < 1024 := (i 1).isLt
    obtain ⟨t, hft, ht⟩ := idx_onto7 ⟨(i 0).val / 512 - 0, by omega⟩ ⟨(i 1).val / 1024 - 0, by omega⟩
    have q0 : win0_7.index t (0 : Fin 2) = (i 0).val / 512 - 0 + 0 := congrFun ht 0
    have q1 : win0_7.index t (1 : Fin 2) = (i 1).val / 1024 - 0 + 0 := congrFun ht 1
    refine ⟨t, hft, ?_⟩
    rw [mem_blk7]
    intro a
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 1024 ≤ (i 1).val ∧ (i 1).val < win0_7.index t (1 : Fin 2) * 1024 + 1024; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 65536 := (i 0).isLt; have h1 : (i 1).val < 1024 := (i 1).isLt; omega))

/-! ## Output window 8 -/

/-- The block of the array that holds index `i`, numbered in the order the points write the blocks back (one every 8 points),
    `i`'s place in it, and the point that writes it back (the last of its 8). -/
abbrev run8Of (i : S16x8x128x128.Idx) : ℕ := 1 * ((i 0).val / 1 - 0) + 1 * ((i 1).val / 8 - 0) + 1 * ((i 2).val / 128 - 0) + 1 * ((i 3).val / 128 - 0)
set_option backward.proofsInPublic true in
abbrev loc8Of (i : S16x8x128x128.Idx) : S1x8x128x128.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 128, Nat.mod_lt _ (by decide)⟩
  | ⟨3, _⟩ => ⟨(i 3).val % 128, Nat.mod_lt _ (by decide)⟩
abbrev pt8Of (i : S16x8x128x128.Idx) : ℕ := 8 * run8Of i + 7

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v0_1) := fun i =>
  if h : pt8Of i < cfg0.N then
    (Pipeline.accAt (fun n h => stAt0 m c n h junk0) (stAt0 m c) 0 (pt8Of i) (by omega)).2.1 (loc8Of i)
  else V m c (Pipeline.arrRef spec0 8) i

/-- The printed index map, decided over the grid: output window 8's block indices stay in the box, and the block number
    read off them is the point's (`t / 8`). -/
theorem idx_facts8 : ∀ t : Fin cfg0.N, 0 ≤ win0_8.index t (0 : Fin 4) ∧ win0_8.index t (0 : Fin 4) ≤ 15
    ∧ 0 ≤ win0_8.index t (1 : Fin 4) ∧ win0_8.index t (1 : Fin 4) ≤ 0
    ∧ 0 ≤ win0_8.index t (2 : Fin 4) ∧ win0_8.index t (2 : Fin 4) ≤ 0
    ∧ 0 ≤ win0_8.index t (3 : Fin 4) ∧ win0_8.index t (3 : Fin 4) ≤ 0
    ∧ 1 * (win0_8.index t (0 : Fin 4) - 0) + 1 * (win0_8.index t (1 : Fin 4) - 0) + 1 * (win0_8.index t (2 : Fin 4) - 0) + 1 * (win0_8.index t (3 : Fin 4) - 0) = t.val / 8 :=
  (by decide +kernel : ∀ t : Fin grid0.N, _)

/-- Every block of the box is SOME flushing point's: `onto8Pt`, the point that writes back the block at place `q` of the box (the last point of its run). -/
abbrev onto8Pt (q0 : Fin 16) (q1 : Fin 1) (q2 : Fin 1) (q3 : Fin 1) : Fin grid0.N :=
  ⟨8 * (1 * q0.val + 1 * q1.val + 1 * q2.val + 1 * q3.val) + 7, lt_of_lt_of_eq (by omega) N_0.symm⟩
theorem idx_onto8 : ∀ (q0 : Fin 16) (q1 : Fin 1) (q2 : Fin 1) (q3 : Fin 1), ∃ t : Fin cfg0.N, (cfg0.win 8).flush t = true ∧ win0_8.index t = ![q0.val + 0, q1.val + 0, q2.val + 0, q3.val + 0] :=
  fun q0 q1 q2 q3 => ⟨onto8Pt q0 q1 q2 q3, (by decide +kernel : ∀ (q0 : Fin 16) (q1 : Fin 1) (q2 : Fin 1) (q3 : Fin 1), win0_8.flush (onto8Pt q0 q1 q2 q3) = true ∧ win0_8.index (onto8Pt q0 q1 q2 q3) = ![q0.val + 0, q1.val + 0, q2.val + 0, q3.val + 0]) q0 q1 q2 q3⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  have hm : t.val % 8 = 7 := (flush0_8 t).mp hf
  obtain ⟨e0, e1, e2, e3, e4⟩ := idx_facts8 t
  funext y
  have hy0 : (y 0).val < 1 := (y 0).isLt
  have hy1 : (y 1).val < 8 := (y 1).isLt
  have hy2 : (y 2).val < 128 := (y 2).isLt
  have hy3 : (y 3).val < 128 := (y 3).isLt
  have hb0 : (((cfg0.win 8).blk t).view.emb y 0).val = win0_8.index t (0 : Fin 4) * 1 + 1 * (y 0).val := rfl
  have hb1 : (((cfg0.win 8).blk t).view.emb y 1).val = win0_8.index t (1 : Fin 4) * 8 + 1 * (y 1).val := rfl
  have hb2 : (((cfg0.win 8).blk t).view.emb y 2).val = win0_8.index t (2 : Fin 4) * 128 + 1 * (y 2).val := rfl
  have hb3 : (((cfg0.win 8).blk t).view.emb y 3).val = win0_8.index t (3 : Fin 4) * 128 + 1 * (y 3).val := rfl
  have hr : run8Of (((cfg0.win 8).blk t).view.emb y) = t.val / 8 := by
    show 1 * ((((cfg0.win 8).blk t).view.emb y 0).val / 1 - 0) + 1 * ((((cfg0.win 8).blk t).view.emb y 1).val / 8 - 0) + 1 * ((((cfg0.win 8).blk t).view.emb y 2).val / 128 - 0) + 1 * ((((cfg0.win 8).blk t).view.emb y 3).val / 128 - 0) = _
    rw [hb0, hb1, hb2, hb3]
    rw [show (win0_8.index t (0 : Fin 4) * 1 + 1 * (y 0).val) / 1 = win0_8.index t (0 : Fin 4) from by omega]; rw [show (win0_8.index t (1 : Fin 4) * 8 + 1 * (y 1).val) / 8 = win0_8.index t (1 : Fin 4) from by omega]; rw [show (win0_8.index t (2 : Fin 4) * 128 + 1 * (y 2).val) / 128 = win0_8.index t (2 : Fin 4) from by omega]; rw [show (win0_8.index t (3 : Fin 4) * 128 + 1 * (y 3).val) / 128 = win0_8.index t (3 : Fin 4) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 8 = (y 1).val; rw [hb1]; omega
    | ⟨2, _⟩ => show (((cfg0.win 8).blk t).view.emb y 2).val % 128 = (y 2).val; rw [hb2]; omega
    | ⟨3, _⟩ => show (((cfg0.win 8).blk t).view.emb y 3).val % 128 = (y 3).val; rw [hb3]; omega
  have hp : pt8Of (((cfg0.win 8).blk t).view.emb y) = t.val := by
    show 8 * run8Of (((cfg0.win 8).blk t).view.emb y) + 7 = _
    rw [hr]; have := Nat.div_add_mod t.val 8; omega
  show (Pipeline.accAt (fun n h => stAt0 m c n h junk0) (stAt0 m c) 0 t.val _).2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S16x8x128x128.Idx) :
    i ∈ ((cfg0.win 8).blk t).view.set ↔ ∀ a : Fin 4, win0_8.index t a * S1x8x128x128.size a ≤ (i a).val ∧ (i a).val < win0_8.index t a * S1x8x128x128.size a + S1x8x128x128.size a := by
  show i ∈ ((View.whole main_v0_1).slice (win0_8.rect t)).set ↔ _
  rw [View.set_slice_whole, Rect.mem_set_unit]
  exact Iff.rfl

/-- THE COVERED INDICES: in some flushing point's block iff inside the box those blocks fill. -/
theorem covered_iff8 (i : S16x8x128x128.Idx) :
    (∃ t : Fin cfg0.N, (cfg0.win 8).flush t = true ∧ i ∈ ((cfg0.win 8).blk t).view.set) ↔ 0 ≤ (i 0).val ∧ (i 0).val < 16 ∧ 0 ≤ (i 1).val ∧ (i 1).val < 8 ∧ 0 ≤ (i 2).val ∧ (i 2).val < 128 ∧ 0 ≤ (i 3).val ∧ (i 3).val < 128 := by
  constructor
  · rintro ⟨t, -, hi⟩
    rw [mem_blk8] at hi
    have b0 : win0_8.index t (0 : Fin 4) * 1 ≤ (i 0).val ∧ (i 0).val < win0_8.index t (0 : Fin 4) * 1 + 1 := hi 0
    have b1 : win0_8.index t (1 : Fin 4) * 8 ≤ (i 1).val ∧ (i 1).val < win0_8.index t (1 : Fin 4) * 8 + 8 := hi 1
    have b2 : win0_8.index t (2 : Fin 4) * 128 ≤ (i 2).val ∧ (i 2).val < win0_8.index t (2 : Fin 4) * 128 + 128 := hi 2
    have b3 : win0_8.index t (3 : Fin 4) * 128 ≤ (i 3).val ∧ (i 3).val < win0_8.index t (3 : Fin 4) * 128 + 128 := hi 3
    obtain ⟨e0, e1, e2, e3, e4⟩ := idx_facts8 t
    omega
  · intro h
    have hi0 : (i 0).val < 16 := (i 0).isLt
    have hi1 : (i 1).val < 8 := (i 1).isLt
    have hi2 : (i 2).val < 128 := (i 2).isLt
    have hi3 : (i 3).val < 128 := (i 3).isLt
    obtain ⟨t, hft, ht⟩ := idx_onto8 ⟨(i 0).val / 1 - 0, by omega⟩ ⟨(i 1).val / 8 - 0, by omega⟩ ⟨(i 2).val / 128 - 0, by omega⟩ ⟨(i 3).val / 128 - 0, by omega⟩
    have q0 : win0_8.index t (0 : Fin 4) = (i 0).val / 1 - 0 + 0 := congrFun ht 0
    have q1 : win0_8.index t (1 : Fin 4) = (i 1).val / 8 - 0 + 0 := congrFun ht 1
    have q2 : win0_8.index t (2 : Fin 4) = (i 2).val / 128 - 0 + 0 := congrFun ht 2
    have q3 : win0_8.index t (3 : Fin 4) = (i 3).val / 128 - 0 + 0 := congrFun ht 3
    refine ⟨t, hft, ?_⟩
    rw [mem_blk8]
    intro a
    match a with
    | ⟨0, _⟩ => show win0_8.index t (0 : Fin 4) * 1 ≤ (i 0).val ∧ (i 0).val < win0_8.index t (0 : Fin 4) * 1 + 1; omega
    | ⟨1, _⟩ => show win0_8.index t (1 : Fin 4) * 8 ≤ (i 1).val ∧ (i 1).val < win0_8.index t (1 : Fin 4) * 8 + 8; omega
    | ⟨2, _⟩ => show win0_8.index t (2 : Fin 4) * 128 ≤ (i 2).val ∧ (i 2).val < win0_8.index t (2 : Fin 4) * 128 + 128; omega
    | ⟨3, _⟩ => show win0_8.index t (3 : Fin 4) * 128 ≤ (i 3).val ∧ (i 3).val < win0_8.index t (3 : Fin 4) * 128 + 128; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 16 := (i 0).isLt; have h1 : (i 1).val < 8 := (i 1).isLt; have h2 : (i 2).val < 128 := (i 2).isLt; have h3 : (i 3).val < 128 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0_0) = G7 m c
      ∧ r.2.mem ((c : Thread nD τ).loc main_v0_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post7 m r h c).trans (final7 m c),
      (post8 m r h c).trans (final8 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.Hgrn.Spec.lean ====
module

public import Idealize.ShloMosaic.Lib.Pointwise

@[expose] public section

noncomputable section

namespace Cert.Hgrn

open Idealize.ShloMosaic

/-! One chunk of 64 tokens of the gated recurrence, written as plain functions of extended reals: the log gate, its
running sum over the chunk, the state after the chunk and the chunk's outputs. -/

/-- Channel `b` of head `h`, among the 1024 channels. -/
def col (h : Fin 8) (b : Fin 128) : Fin 1024 := ⟨128 * h.val + b.val, by omega⟩

/-- The logarithm of the sigmoid. -/
def lsig (z : EReal) : EReal := min z 0 - Ideal.log (1 + Ideal.exp (0 - FloatOps.absf (F := Ideal) (φ := .f32) z))

/-- The sigmoid. -/
def sigm (z : EReal) : EReal := Ideal.div 1 (1 + Ideal.exp (0 - z))

/-- The log gate of a token: the logarithm of `l + (1 - l) * sigmoid z`. -/
def gate (l z : EReal) : EReal :=
  max (Ideal.log l) (Ideal.log1p (0 - l) + lsig z) +
    Ideal.log (1 + Ideal.exp (0 - FloatOps.absf (F := Ideal) (φ := .f32) (Ideal.log l - (Ideal.log1p (0 - l) + lsig z))))

/-- The running sum of the log gates of a channel, from the chunk's first token to token `r`. -/
def cum (l : EReal) (z : Fin 64 → EReal) (r : Fin 64) : EReal := ∑ x, if x ≤ r then gate l (z x) else 0

/-- The inputs of one chunk: the gates' and queries' projections, the values, the output gate's projection, and the
two parameter rows. -/
structure Chunk where
  zq : Fin 64 → Fin 1024 → EReal
  zf : Fin 64 → Fin 1024 → EReal
  v : Fin 64 → Fin 1024 → EReal
  og : Fin 64 → Fin 1024 → EReal
  lb : Fin 1024 → EReal
  gn : Fin 128 → EReal

namespace Chunk

variable (C : Chunk)

/-- The running sum of the log gates of channel `j`. -/
def L (r : Fin 64) (j : Fin 1024) : EReal := cum (C.lb j) (fun x => C.zf x j) r

/-- The key of a token. -/
def key (r : Fin 64) (j : Fin 1024) : EReal := (1 - C.lb j) * sigm (0 - C.zf r j)

/-- The state after the chunk, value channel by key channel, from the state before it. -/
def next (st : Fin 8 → Fin 128 → Fin 128 → EReal) (h : Fin 8) (a b : Fin 128) : EReal :=
  st h a b * Ideal.exp (C.L 63 (col h b)) +
    ∑ x, C.v x (col h a) * (C.key x (col h b) * Ideal.exp (C.L 63 (col h b) - C.L x (col h b)))

/-- The weight of token `x` in the output of token `r`. -/
def att (h : Fin 8) (r x : Fin 64) : EReal :=
  if x ≤ r then
    ∑ d, C.zq r (col h d) * Ideal.exp (C.L r (col h d) - C.L 32 (col h d)) *
      (C.key x (col h d) * Ideal.exp (C.L 32 (col h d) - C.L x (col h d)))
  else 0

/-- The output of token `r` before the norm. -/
def raw (st : Fin 8 → Fin 128 → Fin 128 → EReal) (h : Fin 8) (r : Fin 64) (b : Fin 128) : EReal :=
  (∑ d, C.zq r (col h d) * Ideal.exp (C.L r (col h d)) * st h b d) + ∑ x, C.att h r x * C.v x (col h b)

/-- The output of token `r`: normalised over the head's channels and gated. -/
def out (st : Fin 8 → Fin 128 → Fin 128 → EReal) (h : Fin 8) (r : Fin 64) (b : Fin 128) : EReal :=
  C.raw st h r b *
      Ideal.rsqrt
        (Ideal.div (∑ d, C.raw st h r d * C.raw st h r d) (Ideal.ofBits FTy.f32 1124073472#32) +
          Ideal.ofBits FTy.f32 897988541#32) *
      C.gn b *
    (C.og r (col h b) * sigm (C.og r (col h b)))

end Chunk

/-- Token `r` of chunk `n` of sequence `b`, among all tokens. -/
def tok (b : Fin 16) (n : ℕ) (r : Fin 64) : Fin 65536 :=
  ⟨(4096 * b.val + 64 * n + r.val) % 65536, Nat.mod_lt _ (by decide)⟩

section
variable (zf : (⟨3, ![2, 65536, 1024]⟩ : Shape).Idx → EReal) (zb : (⟨3, ![7, 65536, 1024]⟩ : Shape).Idx → EReal)
  (lb : (⟨2, ![1, 1024]⟩ : Shape).Idx → EReal) (gn : (⟨2, ![1, 128]⟩ : Shape).Idx → EReal)
  (s0 : (⟨4, ![16, 8, 128, 128]⟩ : Shape).Idx → EReal)

/-- The inputs of chunk `n` of sequence `b`. -/
def chunkOf (b : Fin 16) (n : ℕ) : Chunk where
  zq := fun r j => zf (ix3 0 (tok b n r) j)
  zf := fun r j => zf (ix3 1 (tok b n r) j)
  v := fun r j => zb (ix3 0 (tok b n r) j)
  og := fun r j => zb (ix3 1 (tok b n r) j)
  lb := fun j => lb (ix2 0 j)
  gn := fun j => gn (ix2 0 j)

/-- The state of sequence `b` before chunk `n`, value channel by key channel. -/
def stateAt (b : Fin 16) : ℕ → Fin 8 → Fin 128 → Fin 128 → EReal
  | 0 => fun h a d => s0 (ix4 b h d a)
  | n + 1 => (chunkOf zf zb lb gn b n).next (stateAt b n)

/-- The recurrence's output at a token and a channel. -/
def outAt (b : Fin 16) (n : ℕ) (h : Fin 8) (r : Fin 64) (d : Fin 128) : EReal :=
  (chunkOf zf zb lb gn b n).out (stateAt zf zb lb gn s0 b n) h r d

end

end Cert.Hgrn

end
-- ==== Proof.Hgrn.Trip.lean ====
module

public import proofs.«01_k».proof.Proof.KernIdeal.Value
public import proofs.«01_k».proof.Proof.Hgrn.Spec
public import Idealize.ShloMosaic.Lib.Pipeline.ValueKit.Tiles

@[expose] public section

set_option maxRecDepth 16384

noncomputable section

namespace Cert.KernelIdeal.Gen

open Idealize.ShloMosaic Idealize.ShloMosaic.TcCoe Cert.Hgrn

/-- A comparison of two tokens of a chunk, as the number one or zero, times a value. -/
theorem tril_mul (a x : Fin 64) (y : EReal) :
    FloatOps.sitofp (F := Ideal) FTy.f32
        (BitVec.setWidth 32 (IntOp.cmpi CmpIPredicate.sge (BitVec.ofNat 32 a.val) (BitVec.ofNat 32 x.val))) * y
      = if x ≤ a then y else 0 := by
  have h : ∀ a x : Fin 64, BitVec.setWidth 32 (IntOp.cmpi CmpIPredicate.sge (BitVec.ofNat 32 a.val) (BitVec.ofNat 32 x.val))
      = if x ≤ a then 1#32 else 0#32 := by decide +kernel
  rw [h]
  split
  · exact (congrArg (· * y) (show FloatOps.sitofp (F := Ideal) FTy.f32 1#32 = (1 : EReal) by simp [FloatOps.sitofp])).trans (one_mul y)
  · exact (congrArg (· * y) (show FloatOps.sitofp (F := Ideal) FTy.f32 0#32 = (0 : EReal) by simp [FloatOps.sitofp])).trans (zero_mul y)

/-- The same at the chunk's last token. -/
theorem tril_mul_63 (x : Fin 64) (y : EReal) :
    FloatOps.sitofp (F := Ideal) FTy.f32
        (BitVec.setWidth 32 (IntOp.cmpi CmpIPredicate.sge 63#32 (BitVec.ofNat 32 x.val))) * y
      = if x ≤ 63 then y else 0 := tril_mul 63 x y

/-- The same at the chunk's middle token. -/
theorem tril_mul_32 (x : Fin 64) (y : EReal) :
    FloatOps.sitofp (F := Ideal) FTy.f32
        (BitVec.setWidth 32 (IntOp.cmpi CmpIPredicate.sge 32#32 (BitVec.ofNat 32 x.val))) * y
      = if x ≤ 32 then y else 0 := tril_mul 32 x y

/-- A choice by a comparison of two tokens of a chunk. -/
theorem tril_select (a x : Fin 64) (y : EReal) :
    Scalar.select (IntOp.cmpi CmpIPredicate.sge (BitVec.ofNat 32 a.val) (BitVec.ofNat 32 x.val)) y 0
      = if x ≤ a then y else 0 := by
  have h : ∀ a x : Fin 64, IntOp.cmpi CmpIPredicate.sge (BitVec.ofNat 32 a.val) (BitVec.ofNat 32 x.val)
      = if x ≤ a then 1#1 else 0#1 := by decide +kernel
  rw [h]
  split <;> rfl

/-- A read of some rows and columns of a block of 512 rows. -/
theorem readAt_rows {e : EltTy} (m : Memref sig .tc .vmem S1x512x1024 e) {w : ℕ} (off : Fin 3 → ℕ)
    (inb : ∀ a, off a + (![1, 64, w] : Fin 3 → ℕ) a ≤ S1x512x1024.size a) (X : BufTy.Contents (Elt Ideal) m.view.ty)
    (o p : ℕ) (hoff : off = ![0, o, p]) (z : Fin 1) (a : Fin 64) (b : Fin w) :
    View.readAt (Elt Ideal) m.view (Rect.unit (s := S1x512x1024) off ![1, 64, w] inb).toLoadRect X (ix3 z a b)
      = m.view.read (Elt Ideal) X (ix3 0 ⟨o + a.val, by subst hoff; have := inb 1; simp at this; omega⟩
          ⟨p + b.val, by subst hoff; have := inb 2; simp at this; omega⟩) := by
  subst hoff
  rw [View.readAt_eq_ld]
  refine View.ld_unit_apply_of _ _ _ _ _ _ fun i => ?_
  fin_cases i
  · have := z.isLt
    simp
  · simp
  · simp

/-- The row of a block of 512 tokens that token `r` of chunk `k` is in. -/
def rowIx (k : Fin k0_t1_loop.trips) (r : Fin 64) : Fin 512 :=
  ⟨64 * k.val + r.val, by have h := k.isLt; have : k0_t1_loop.trips = 8 := by decide
                          omega⟩

theorem rowIx_mk (k : Fin k0_t1_loop.trips) (r : Fin 64) (h) : (⟨64 * k.val + r.val, h⟩ : Fin 512) = rowIx k r := rfl

theorem col_mk_0 (b : Fin 128) (h) : (⟨b.val, h⟩ : Fin 1024) = col 0 b := Fin.ext (by simp [col])

theorem col_mk_1 (b : Fin 128) (h) : (⟨128 + b.val, h⟩ : Fin 1024) = col 1 b := rfl

theorem col_mk_2 (b : Fin 128) (h) : (⟨256 + b.val, h⟩ : Fin 1024) = col 2 b := rfl

theorem col_mk_3 (b : Fin 128) (h) : (⟨384 + b.val, h⟩ : Fin 1024) = col 3 b := rfl

theorem col_mk_4 (b : Fin 128) (h) : (⟨512 + b.val, h⟩ : Fin 1024) = col 4 b := rfl

theorem col_mk_5 (b : Fin 128) (h) : (⟨640 + b.val, h⟩ : Fin 1024) = col 5 b := rfl

theorem col_mk_6 (b : Fin 128) (h) : (⟨768 + b.val, h⟩ : Fin 1024) = col 6 b := rfl

theorem col_mk_7 (b : Fin 128) (h) : (⟨896 + b.val, h⟩ : Fin 1024) = col 7 b := rfl

/-- The inputs of chunk `k` of a block. -/
def chunkAt (x0 x1 x2 x3 : S1x512x1024.Idx → EReal) (lb : S1x1024.Idx → EReal) (gn : S1x128.Idx → EReal)
    (k : Fin k0_t1_loop.trips) : Chunk where
  zq := fun r j => x0 (ix3 0 (rowIx k r) j)
  zf := fun r j => x1 (ix3 0 (rowIx k r) j)
  v := fun r j => x2 (ix3 0 (rowIx k r) j)
  og := fun r j => x3 (ix3 0 (rowIx k r) j)
  lb := fun j => lb (ix2 0 j)
  gn := fun j => gn (ix2 0 j)

/-- The chunk's running sum of log gates, as the trip computes it. -/
theorem r_1_apply (arg3 : Memref sig .tc .vmem S1x512x1024 .f32) (v3 : Vec Ideal S1x1024 .f32)
    (X : BufTy.Contents (Elt Ideal) arg3.view.ty) (k : Fin k0_t1_loop.trips) (r : Fin 64) (j : Fin 1024) :
    trip_k0_t1.sl.r_1 arg3 v3 X k (ix2 r j)
      = cum (v3 (ix2 0 j)) (fun x => arg3.view.read (Elt Ideal) X (ix3 0 (rowIx k x) j)) r := by
  unfold trip_k0_t1.sl.r_1
  unfold_payloads
  pointwise
  simp only [tril_mul, readAt_rows _ _ _ _ _ _ (k0_off1_eq k), Nat.zero_add]
  rfl

/-- A block piece of the output that holds, row by row and channel by channel, the values of `G`. -/
theorem piece_rows (k : Fin k0_t1_loop.trips) (h : Fin 8) (off : Fin 2 → ℕ)
    (inb : ∀ a, off a + (![64, 128] : Fin 2 → ℕ) a ≤ S512x1024.size a) (o : ℕ) (hoff : off = ![o, 128 * h.val])
    (ho : o = 64 * k.val) (w : (⟨2, ![64, 128]⟩ : Shape).Idx → EReal) (G : S512x1024.Idx → EReal)
    (hw : ∀ a b, w (ix2 a b) = G (ix2 (rowIx k a) (col h b)))
    (x : (⟨2, ![64, 128]⟩ : Shape).Idx) : w x = G ((Rect.unit (s := S512x1024) off ![64, 128] inb).emb x) := by
  subst hoff ho
  obtain ⟨a, b, rfl⟩ : ∃ a b, x = ix2 a b := ⟨x 0, x 1, by ext i; fin_cases i <;> rfl⟩
  rw [hw]
  refine congrArg G (funext fun i => Fin.ext ?_)
  refine Eq.trans ?_ (Rect.idx_unit_val _ _ _ _ _).symm
  fin_cases i <;> rfl

/-- A head's piece of the carried state that holds the values of `G`. -/
theorem piece_head (h : Fin 8) (off : Fin 3 → ℕ)
    (inb : ∀ a, off a + (![1, 128, 128] : Fin 3 → ℕ) a ≤ S8x128x128.size a) (hoff : off = ![h.val, 0, 0])
    (w : (⟨3, ![1, 128, 128]⟩ : Shape).Idx → EReal) (G : S8x128x128.Idx → EReal)
    (hw : ∀ a b, w (ix3 0 a b) = G (ix3 h a b))
    (x : (⟨3, ![1, 128, 128]⟩ : Shape).Idx) : w x = G ((Rect.unit (s := S8x128x128) off ![1, 128, 128] inb).emb x) := by
  subst hoff
  obtain ⟨a, b, rfl⟩ : ∃ a b, x = ix3 0 a b := ⟨x 1, x 2, by ext i; fin_cases i <;> first | rfl | (have := (x 0).isLt; simp at this ⊢; omega)⟩
  rw [hw]
  refine congrArg G (funext fun i => Fin.ext ?_)
  refine Eq.trans ?_ (Rect.idx_unit_val _ _ _ _ _).symm
  fin_cases i <;> simp

/-- A read of one head of the carried state. -/
theorem readAt_head (m : Memref sig .tc .vmem S8x128x128 .f32) (h : ℕ)
    (inb : ∀ a, (![h, 0, 0] : Fin 3 → ℕ) a + (![1, 128, 128] : Fin 3 → ℕ) a ≤ S8x128x128.size a)
    (X : BufTy.Contents (Elt Ideal) m.view.ty) (z : Fin 1) (a b : Fin 128) :
    View.readAt (Elt Ideal) m.view (Rect.unit (s := S8x128x128) ![h, 0, 0] ![1, 128, 128] inb).toLoadRect X (ix3 z a b)
      = m.view.read (Elt Ideal) X (ix3 ⟨h, by have := inb 0; simp at this; omega⟩ a b) := by
  rw [View.readAt_eq_ld]
  refine View.ld_unit_apply_of _ _ _ _ _ _ fun i => ?_
  fin_cases i
  · have := z.isLt
    simp
  · simp
  · simp

end Cert.KernelIdeal.Gen

end
-- ==== Proof.Hgrn.TripState.lean ====
module

public import proofs.«01_k».proof.Proof.Hgrn.Trip

@[expose] public section

set_option maxRecDepth 16384

noncomputable section

namespace Cert.KernelIdeal.Gen

open Idealize.ShloMosaic Idealize.ShloMosaic.TcCoe Cert.Hgrn

section
variable (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole)
  (c : Dev nD) (i : grid0.Coords) (v3 : Vec Ideal S1x1024 .f32) (v8 : Vec Ideal S1x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (k : Fin k0_t1_loop.trips) (f : BufTy.Contents (Elt Ideal) arg11.view.ty)

open trip_k0_t1.sl in
set_option maxHeartbeats 4000000 in
/-- The pieces a trip stores into the carried state hold the state after the trip's chunk. -/
theorem trip_state (G : S8x128x128.Idx → EReal)
    (hG : ∀ h a b, G (ix3 h a b) = (chunkAt (arg2.view.read (Elt Ideal) X2) (arg3.view.read (Elt Ideal) X3)
      (arg4.view.read (Elt Ideal) X4) (arg5.view.read (Elt Ideal) X5) v3 v8 k).next
        (fun h a b => arg11.view.read (Elt Ideal) f (ix3 h a b)) h a b) :
    ∀ p ∈ (tripL_k0_t1 (F := Ideal) Variants.none c none i arg2 harg2 arg3 harg3 arg4 harg4 arg5 harg5 arg6 harg6 arg7 harg7 arg8 harg8 arg9 harg9 arg10 harg10 arg11 harg11 v3 v8 X2 X3 X4 X5 k f).2, ∀ x, p.2 x = G (p.1.emb x) := by
  unfold tripL_k0_t1 trip_k0_t1
  dsimp only
  simp only [List.forall_mem_cons, List.not_mem_nil, false_imp_iff, implies_true, and_true]
  refine ⟨piece_head 7 _ _ rfl _ G fun a b => ?_,
    piece_head 6 _ _ rfl _ G fun a b => ?_,
    piece_head 5 _ _ rfl _ G fun a b => ?_,
    piece_head 4 _ _ rfl _ G fun a b => ?_,
    piece_head 3 _ _ rfl _ G fun a b => ?_,
    piece_head 2 _ _ rfl _ G fun a b => ?_,
    piece_head 1 _ _ rfl _ G fun a b => ?_,
    piece_head 0 _ _ rfl _ G fun a b => ?_⟩
  all_goals
    rw [hG]
    dsimp only [r_7, r_2, r_36, r_12, r_3, r_10, r_25, r_18, r_27, r_37, r_39, v315, r_43, r_9, v389, r_21, r_24, r_33, r_14, v167, r_5, r_28, r_22, r_29, r_4, r_31, r_19, r_26, r_40, r, v463, r_44, r_20, v611, r_41, v537, r_6, r_15, r_32, r_16, r_8, r_13, r_35, r_23, r_38, r_45, r_11, r_46, r_34, r_47, r_17, r_42, v241, r_30]
    unfold_payloads
    pointwise
    simp only [tril_mul, tril_mul_63, tril_mul_32, tril_select, readAt_rows _ _ _ _ _ _ (k0_off1_eq k), readAt_rows _ _ _ _ _ _ (k0_off2_eq k), readAt_rows _ _ _ _ _ _ (k0_off4_eq k), readAt_rows _ _ _ _ _ _ (k0_off6_eq k), readAt_rows _ _ _ _ _ _ (k0_off8_eq k), readAt_rows _ _ _ _ _ _ (k0_off10_eq k), readAt_rows _ _ _ _ _ _ (k0_off12_eq k), readAt_rows _ _ _ _ _ _ (k0_off14_eq k), readAt_rows _ _ _ _ _ _ (k0_off16_eq k), readAt_head, r_1_apply, Nat.zero_add, rowIx_mk, col_mk_0, col_mk_1, col_mk_2,
      col_mk_3, col_mk_4, col_mk_5, col_mk_6, col_mk_7, Fin.reduceFinMk]
    simp only [Chunk.next, Chunk.L, Chunk.key, chunkAt, sigm, cum, gate, lsig]
    try rfl

end

end Cert.KernelIdeal.Gen

end
-- ==== Proof.Hgrn.TripOut.lean ====
module

public import proofs.«01_k».proof.Proof.Hgrn.Trip

@[expose] public section

set_option maxRecDepth 16384

noncomputable section

namespace Cert.KernelIdeal.Gen

open Idealize.ShloMosaic Idealize.ShloMosaic.TcCoe Cert.Hgrn

section
variable (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole)
  (c : Dev nD) (i : grid0.Coords) (v3 : Vec Ideal S1x1024 .f32) (v8 : Vec Ideal S1x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (k : Fin k0_t1_loop.trips) (f : BufTy.Contents (Elt Ideal) arg11.view.ty)

open trip_k0_t1.sl in
set_option maxHeartbeats 4000000 in
/-- The pieces a trip stores into the output block hold the outputs of the trip's chunk. -/
theorem trip_out (G : S512x1024.Idx → EReal)
    (hG : ∀ h a b, G (ix2 (rowIx k a) (col h b)) = (chunkAt (arg2.view.read (Elt Ideal) X2) (arg3.view.read (Elt Ideal) X3)
      (arg4.view.read (Elt Ideal) X4) (arg5.view.read (Elt Ideal) X5) v3 v8 k).out
        (fun h a b => arg11.view.read (Elt Ideal) f (ix3 h a b)) h a b) :
    ∀ p ∈ (tripL_k0_t1 (F := Ideal) Variants.none c none i arg2 harg2 arg3 harg3 arg4 harg4 arg5 harg5 arg6 harg6 arg7 harg7 arg8 harg8 arg9 harg9 arg10 harg10 arg11 harg11 v3 v8 X2 X3 X4 X5 k f).1, ∀ x, p.2 x = G (p.1.emb x) := by
  unfold tripL_k0_t1 trip_k0_t1
  dsimp only
  simp only [List.forall_mem_cons, List.not_mem_nil, false_imp_iff, implies_true, and_true]
  refine ⟨piece_rows k 7 _ _ _ (k0_off17_eq k) rfl _ G fun a b => ?_,
    piece_rows k 6 _ _ _ (k0_off15_eq k) rfl _ G fun a b => ?_,
    piece_rows k 5 _ _ _ (k0_off13_eq k) rfl _ G fun a b => ?_,
    piece_rows k 4 _ _ _ (k0_off11_eq k) rfl _ G fun a b => ?_,
    piece_rows k 3 _ _ _ (k0_off9_eq k) rfl _ G fun a b => ?_,
    piece_rows k 2 _ _ _ (k0_off7_eq k) rfl _ G fun a b => ?_,
    piece_rows k 1 _ _ _ (k0_off5_eq k) rfl _ G fun a b => ?_,
    piece_rows k 0 _ _ _ (k0_off3_eq k) rfl _ G fun a b => ?_⟩
  all_goals
    rw [hG]
    unfold_payloads
    pointwise
    try dsimp only [r_47, r_38, r_35, r_30, r_21, r_18, r_13, r_4]
    try unfold_payloads
    try pointwise
    dsimp only [r_7, r_2, r_36, r_12, r_3, r_10, r_25, r_27, r_37, r_39, v315, r_43, r_9, v389, r_24, r_33, r_14, v167, r_5, r_28, r_22, r_29, r_31, r_19, r_26, r_40, r, v463, r_44, r_20, v611, r_41, v537, r_6, r_15, r_32, r_16, r_8, r_23, r_45, r_11, r_46, r_34, r_17, r_42, v241]
    unfold_payloads
    pointwise
    simp only [tril_mul, tril_mul_63, tril_mul_32, tril_select, readAt_rows _ _ _ _ _ _ (k0_off1_eq k), readAt_rows _ _ _ _ _ _ (k0_off2_eq k), readAt_rows _ _ _ _ _ _ (k0_off4_eq k), readAt_rows _ _ _ _ _ _ (k0_off6_eq k), readAt_rows _ _ _ _ _ _ (k0_off8_eq k), readAt_rows _ _ _ _ _ _ (k0_off10_eq k), readAt_rows _ _ _ _ _ _ (k0_off12_eq k), readAt_rows _ _ _ _ _ _ (k0_off14_eq k), readAt_rows _ _ _ _ _ _ (k0_off16_eq k), readAt_head, r_1_apply, Nat.zero_add, rowIx_mk, col_mk_0, col_mk_1, col_mk_2,
      col_mk_3, col_mk_4, col_mk_5, col_mk_6, col_mk_7, Fin.reduceFinMk, Fin.eta]
    simp only [Chunk.out, Chunk.raw, Chunk.att, Chunk.L, Chunk.key, chunkAt, sigm, ite_mul, zero_mul]
  all_goals simp only [cum, gate, lsig]

end

end Cert.KernelIdeal.Gen

end
-- ==== Proof.Hgrn.Loop.lean ====
module

public import proofs.«01_k».proof.Proof.Hgrn.TripState
public import proofs.«01_k».proof.Proof.Hgrn.TripOut

@[expose] public section

set_option maxRecDepth 16384

noncomputable section

namespace Cert.KernelIdeal.Gen

open Idealize.ShloMosaic Idealize.ShloMosaic.TcCoe Cert.Hgrn

section
variable (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole)
  (c : Dev nD) (i : grid0.Coords) (v3 : Vec Ideal S1x1024 .f32) (v8 : Vec Ideal S1x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (G0 : BufTy.Contents (Elt Ideal) arg11.view.ty)

/-- A trip's pieces cover the carried state. -/
theorem trip_cover (k : Fin k0_t1_loop.trips) (f : BufTy.Contents (Elt Ideal) arg11.view.ty) (y : S8x128x128.Idx) :
    ∃ p ∈ (tripL_k0_t1 (F := Ideal) Variants.none c none i arg2 harg2 arg3 harg3 arg4 harg4 arg5 harg5 arg6 harg6 arg7 harg7 arg8 harg8 arg9 harg9 arg10 harg10 arg11 harg11 v3 v8 X2 X3 X4 X5 k f).2, y ∈ p.1.set :=
  View.cover_of_tiledL (tripL_k0_t1 (F := Ideal) Variants.none c none i arg2 harg2 arg3 harg3 arg4 harg4 arg5 harg5 arg6 harg6 arg7 harg7 arg8 harg8 arg9 harg9 arg10 harg10 arg11 harg11 v3 v8 X2 X3 X4 X5 k f).2 S1x128x128.size (by sl_kernel_rfl) y

variable (CH : ℕ → Chunk) (ST : ℕ → Fin 8 → Fin 128 → Fin 128 → EReal) (base : ℕ)
  (hST : ∀ n, ST (n + 1) = (CH n).next (ST n))
  (hCH : ∀ k, chunkAt (arg2.view.read (Elt Ideal) X2) (arg3.view.read (Elt Ideal) X3)
      (arg4.view.read (Elt Ideal) X4) (arg5.view.read (Elt Ideal) X5) v3 v8 k = CH (base + k.val))
  (h0 : ∀ h a b, arg11.view.read (Elt Ideal) G0 (ix3 h a b) = ST base h a b)

include hST hCH h0

/-- Before trip `n` the carried state is the state after the chunks of the trips before. -/
theorem loop_state (n : ℕ) (hn : n ≤ k0_t1_loop.trips) (h : Fin 8) (a b : Fin 128) :
    arg11.view.read (Elt Ideal) (arg11.view.writes (Elt Ideal) G0 (pb_k0_t1 (F := Ideal) Variants.none c none i arg2 harg2 arg3 harg3 arg4 harg4 arg5 harg5 arg6 harg6 arg7 harg7 arg8 harg8 arg9 harg9 arg10 harg10 arg11 harg11 v3 v8 X2 X3 X4 X5 G0 n).2) (ix3 h a b) = ST (base + n) h a b := by
  induction n generalizing h a b with
  | zero => exact h0 h a b
  | succ n ih =>
    have e := pb_k0_t1_succ (F := Ideal) Variants.none c none i arg2 harg2 arg3 harg3 arg4 harg4 arg5 harg5 arg6 harg6 arg7 harg7 arg8 harg8 arg9 harg9 arg10 harg10 arg11 harg11 v3 v8 X2 X3 X4 X5 G0 ⟨n, hn⟩
    dsimp only at e
    rw [e, View.writes_append]
    have ih' := funext fun h => funext fun a => funext fun b => ih (Nat.le_of_succ_le hn) h a b
    have e1 := trip_state arg2 harg2 arg3 harg3 arg4 harg4 arg5 harg5 arg6 harg6 arg7 harg7 arg8 harg8 arg9 harg9 arg10 harg10 arg11 harg11 c i v3 v8 X2 X3 X4 X5 ⟨n, hn⟩ (arg11.view.writes (Elt Ideal) G0 (pb_k0_t1 (F := Ideal) Variants.none c none i arg2 harg2 arg3 harg3 arg4 harg4 arg5 harg5 arg6 harg6 arg7 harg7 arg8 harg8 arg9 harg9 arg10 harg10 arg11 harg11 v3 v8 X2 X3 X4 X5 G0 n).2)
      (fun y : S8x128x128.Idx => ST (base + (n + 1)) (y 0) (y 1) (y 2)) (fun h a b => by rw [hCH, ih', ← hST]; rfl)
    have e2 := trip_cover arg2 harg2 arg3 harg3 arg4 harg4 arg5 harg5 arg6 harg6 arg7 harg7 arg8 harg8 arg9 harg9 arg10 harg10 arg11 harg11 c i v3 v8 X2 X3 X4 X5 ⟨n, hn⟩ (arg11.view.writes (Elt Ideal) G0 (pb_k0_t1 (F := Ideal) Variants.none c none i arg2 harg2 arg3 harg3 arg4 harg4 arg5 harg5 arg6 harg6 arg7 harg7 arg8 harg8 arg9 harg9 arg10 harg10 arg11 harg11 v3 v8 X2 X3 X4 X5 G0 n).2) (ix3 h a b)
    exact View.read_writes_apply_of_pieces arg11.view _ (fun y : S8x128x128.Idx => ST (base + (n + 1)) (y 0) (y 1) (y 2)) _ e1 _ e2

/-- After the last trip the carried state is the state after the block's eight chunks, read through any view over
anything. -/
theorem loop_state_end {sg : RefSig} {κ : Kind} {sp : Space} (V : View sg κ sp S8x128x128 .f32)
    (f : BufTy.Contents (Elt Ideal) V.ty) (L : List (View.Piece (Elt Ideal) S8x128x128 .f32)) (h : Fin 8) (a b : Fin 128) :
    V.read (Elt Ideal) (V.writes (Elt Ideal) f ((pb_k0_t1 (F := Ideal) Variants.none c none i arg2 harg2 arg3 harg3 arg4 harg4 arg5 harg5 arg6 harg6 arg7 harg7 arg8 harg8 arg9 harg9 arg10 harg10 arg11 harg11 v3 v8 X2 X3 X4 X5 G0 8).2 ++ L)) (ix3 h a b) = ST (base + 8) h a b := by
  have hn : 7 < k0_t1_loop.trips := by decide
  have e := pb_k0_t1_succ (F := Ideal) Variants.none c none i arg2 harg2 arg3 harg3 arg4 harg4 arg5 harg5 arg6 harg6 arg7 harg7 arg8 harg8 arg9 harg9 arg10 harg10 arg11 harg11 v3 v8 X2 X3 X4 X5 G0 ⟨7, hn⟩
  dsimp only at e
  rw [e, List.append_assoc, View.writes_append]
  have ih' := funext fun h => funext fun a => funext fun b => loop_state arg2 harg2 arg3 harg3 arg4 harg4 arg5 harg5 arg6 harg6 arg7 harg7 arg8 harg8 arg9 harg9 arg10 harg10 arg11 harg11 c i v3 v8 X2 X3 X4 X5 G0 CH ST base hST hCH h0 7 hn.le h a b
  have e1 := trip_state arg2 harg2 arg3 harg3 arg4 harg4 arg5 harg5 arg6 harg6 arg7 harg7 arg8 harg8 arg9 harg9 arg10 harg10 arg11 harg11 c i v3 v8 X2 X3 X4 X5 ⟨7, hn⟩ (arg11.view.writes (Elt Ideal) G0 (pb_k0_t1 (F := Ideal) Variants.none c none i arg2 harg2 arg3 harg3 arg4 harg4 arg5 harg5 arg6 harg6 arg7 harg7 arg8 harg8 arg9 harg9 arg10 harg10 arg11 harg11 v3 v8 X2 X3 X4 X5 G0 7).2)
    (fun y : S8x128x128.Idx => ST (base + 8) (y 0) (y 1) (y 2)) (fun h a b => by rw [hCH, ih', ← hST]; rfl)
  have e2 := trip_cover arg2 harg2 arg3 harg3 arg4 harg4 arg5 harg5 arg6 harg6 arg7 harg7 arg8 harg8 arg9 harg9 arg10 harg10 arg11 harg11 c i v3 v8 X2 X3 X4 X5 ⟨7, hn⟩ (arg11.view.writes (Elt Ideal) G0 (pb_k0_t1 (F := Ideal) Variants.none c none i arg2 harg2 arg3 harg3 arg4 harg4 arg5 harg5 arg6 harg6 arg7 harg7 arg8 harg8 arg9 harg9 arg10 harg10 arg11 harg11 v3 v8 X2 X3 X4 X5 G0 7).2) (ix3 h a b)
  exact View.read_writes_apply_of_pieces V _ (fun y : S8x128x128.Idx => ST (base + 8) (y 0) (y 1) (y 2)) _ e1 _ e2

/-- The pieces of the trips before `n` hold the outputs of their chunks. -/
theorem loop_out (G : S512x1024.Idx → EReal)
    (hG : ∀ (k : Fin k0_t1_loop.trips) h a b, G (ix2 (rowIx k a) (col h b)) = (CH (base + k.val)).out (ST (base + k.val)) h a b)
    (n : ℕ) (hn : n ≤ k0_t1_loop.trips) : ∀ p ∈ (pb_k0_t1 (F := Ideal) Variants.none c none i arg2 harg2 arg3 harg3 arg4 harg4 arg5 harg5 arg6 harg6 arg7 harg7 arg8 harg8 arg9 harg9 arg10 harg10 arg11 harg11 v3 v8 X2 X3 X4 X5 G0 n).1, ∀ x, p.2 x = G (p.1.emb x) := by
  induction n with
  | zero => intro p hp; exact absurd hp List.not_mem_nil
  | succ n ih =>
    have e := pb_k0_t1_succ (F := Ideal) Variants.none c none i arg2 harg2 arg3 harg3 arg4 harg4 arg5 harg5 arg6 harg6 arg7 harg7 arg8 harg8 arg9 harg9 arg10 harg10 arg11 harg11 v3 v8 X2 X3 X4 X5 G0 ⟨n, hn⟩
    dsimp only at e
    rw [e]
    have ih' := funext fun h => funext fun a => funext fun b => loop_state arg2 harg2 arg3 harg3 arg4 harg4 arg5 harg5 arg6 harg6 arg7 harg7 arg8 harg8 arg9 harg9 arg10 harg10 arg11 harg11 c i v3 v8 X2 X3 X4 X5 G0 CH ST base hST hCH h0 n (Nat.le_of_succ_le hn) h a b
    intro p hp
    rcases List.mem_append.mp hp with hp | hp
    · refine trip_out arg2 harg2 arg3 harg3 arg4 harg4 arg5 harg5 arg6 harg6 arg7 harg7 arg8 harg8 arg9 harg9 arg10 harg10 arg11 harg11 c i v3 v8 X2 X3 X4 X5 ⟨n, hn⟩ _ G (fun h a b => ?_) p hp
      rw [hCH, ih']
      exact hG ⟨n, hn⟩ h a b
    · exact ih (Nat.le_of_succ_le hn) p hp

end

end Cert.KernelIdeal.Gen

end
-- ==== Proof.Hgrn.Case.lean ====
module

public import proofs.«01_k».proof.Proof.Hgrn.Loop

@[expose] public section

set_option maxRecDepth 16384

noncomputable section

namespace Cert.KernelIdeal.Gen

open Idealize.ShloMosaic Idealize.ShloMosaic.TcCoe Idealize.ShloMosaic.Tactic Cert.Hgrn

/-- A load of a whole buffer reads what it holds. -/
theorem readAt_all {s : Shape} {e : EltTy} (m : Memref sig .tc .vmem s e) (hm : m.IsWhole) (off : Fin s.rank → ℕ)
    (inb : ∀ a, off a + s.size a ≤ s.size a) (x : Vec Ideal s e) (hoff : off = fun _ => 0) :
    View.readAt (Elt Ideal) m.view (Rect.unit off s.size inb).toLoadRect (hm.unread x) = x := by
  subst hoff
  rw [View.readAt_eq_ld, hm.read_unread]
  exact View.ld_unit_zero rfl inb x

theorem trips_eq : Scf.trips 0#32 (Scalar.addi 0#32 8#32) 1#32 = 8 := by decide

/-- A block of 512 rows and 1024 channels given chunk by chunk, head by head. -/
def blockOf (f : ℕ → Fin 8 → Fin 64 → Fin 128 → EReal) : S512x1024.Idx → EReal := fun y =>
  f ((y 0).val / 64) ⟨(y 1).val / 128, by have h : (y 1).val < 1024 := (y 1).isLt
                                          omega⟩ ⟨(y 0).val % 64, by omega⟩ ⟨(y 1).val % 128, by omega⟩

theorem block_apply (f : ℕ → Fin 8 → Fin 64 → Fin 128 → EReal) (k : Fin k0_t1_loop.trips) (h : Fin 8) (a : Fin 64)
    (b : Fin 128) : blockOf f (ix2 (rowIx k a) (col h b)) = f k.val h a b := by
  unfold blockOf
  have e0 : ((ix2 (rowIx k a) (col h b) : S512x1024.Idx) 0).val = 64 * k.val + a.val := rfl
  have e1 : ((ix2 (rowIx k a) (col h b) : S512x1024.Idx) 1).val = 128 * h.val + b.val := rfl
  have ha := a.isLt
  have hb := b.isLt
  congr 1
  · omega
  · exact Fin.ext (by dsimp only; omega)
  · exact Fin.ext (by dsimp only; omega)
  · exact Fin.ext (by dsimp only; omega)

/-- A read of one head of a block of states. -/
theorem readAt_entry (m : Memref sig .tc .vmem S1x8x128x128 .f32) (hm : m.IsWhole) (h : ℕ)
    (inb : ∀ a, (![0, h, 0, 0] : Fin 4 → ℕ) a + (![1, 1, 128, 128] : Fin 4 → ℕ) a ≤ S1x8x128x128.size a)
    (X : Vec Ideal S1x8x128x128 .f32) (y z : Fin 1) (a b : Fin 128) :
    View.readAt (Elt Ideal) m.view (Rect.unit (s := S1x8x128x128) ![0, h, 0, 0] ![1, 1, 128, 128] inb).toLoadRect (hm.unread X) (ix4 y z a b)
      = X (ix4 0 ⟨h, by have := inb 1; simp at this; omega⟩ a b) := by
  rw [View.readAt_eq_ld, hm.read_unread]
  refine View.ld_unit_apply_of _ _ _ _ _ _ fun i => ?_
  have := y.isLt
  have := z.isLt
  fin_cases i <;> simp

/-- A piece of a block of states, one head of it, that holds the values of `G`. -/
theorem piece_entry (h : Fin 8) (off : Fin 4 → ℕ)
    (inb : ∀ a, off a + (![1, 1, 128, 128] : Fin 4 → ℕ) a ≤ S1x8x128x128.size a) (hoff : off = ![0, h.val, 0, 0])
    (w : (⟨4, ![1, 1, 128, 128]⟩ : Shape).Idx → EReal) (G : S1x8x128x128.Idx → EReal)
    (hw : ∀ a b, w (ix4 0 0 a b) = G (ix4 0 h a b))
    (x : (⟨4, ![1, 1, 128, 128]⟩ : Shape).Idx) : w x = G ((Rect.unit (s := S1x8x128x128) off ![1, 1, 128, 128] inb).emb x) := by
  subst hoff
  obtain ⟨a, b, rfl⟩ : ∃ a b, x = ix4 0 0 a b := ⟨x 2, x 3, by
    ext i
    have h0 : (x 0).val < 1 := (x 0).isLt
    have h1 : (x 1).val < 1 := (x 1).isLt
    fin_cases i <;> first | rfl | (simp; omega)⟩
  rw [hw]
  refine congrArg G (funext fun i => Fin.ext ?_)
  refine Eq.trans ?_ (Rect.idx_unit_val _ _ _ _ _).symm
  fin_cases i <;> simp

/-- The reset at a sequence's first block leaves the entry state, transposed. -/
theorem reset_state (arg8 : Memref sig .tc .vmem S1x8x128x128 .f32) (harg8 : arg8.IsWhole)
    (arg11 : Memref sig .tc .vmem S8x128x128 .f32) (c : Dev nD) (x6 : Vec Ideal S1x8x128x128 .f32)
    (h : Fin 8) (a b : Fin 128) :
    arg11.view.read (Elt Ideal) (arg11.view.writes (Elt Ideal) arg11.view.junk (kernelRun0_A.sl.HS0_8 c arg8 harg8 x6)) (ix3 h a b)
      = x6 (ix4 0 h b a) := by
  obtain ⟨G, hG⟩ : ∃ G : S8x128x128.Idx → EReal, ∀ h a b, G (ix3 h a b) = x6 (ix4 0 h b a) :=
    ⟨fun y => x6 (ix4 0 (y 0) (y 2) (y 1)), fun _ _ _ => rfl⟩
  refine (View.read_writes_apply_of_pieces arg11.view _ G _ ?_ _
    (View.cover_of_tiledL (kernelRun0_A.sl.HS0_8 c arg8 harg8 x6) S1x128x128.size (by sl_kernel_rfl) (ix3 h a b))).trans (hG h a b)
  unfold kernelRun0_A.sl.HS0_8
  simp only [List.forall_mem_cons, List.not_mem_nil, false_imp_iff, implies_true, and_true]
  refine ⟨piece_head 7 _ _ rfl _ G fun a b => ?_, piece_head 6 _ _ rfl _ G fun a b => ?_, piece_head 5 _ _ rfl _ G fun a b => ?_,
    piece_head 4 _ _ rfl _ G fun a b => ?_, piece_head 3 _ _ rfl _ G fun a b => ?_, piece_head 2 _ _ rfl _ G fun a b => ?_,
    piece_head 1 _ _ rfl _ G fun a b => ?_, piece_head 0 _ _ rfl _ G fun a b => ?_⟩
  all_goals
    rw [hG]
    try dsimp only [kernelRun0_A.sl.v60, kernelRun0_A.sl.v54, kernelRun0_A.sl.v48, kernelRun0_A.sl.v42]
    unfold_payloads
    pointwise
    exact readAt_entry _ _ _ _ _ _ _ _ _

section
variable (arg2 : Memref sig .tc .vmem S1x512x1024 .f32) (harg2 : arg2.IsWhole) (arg3 : Memref sig .tc .vmem S1x512x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S512x1024 .bf16) (harg9 : arg9.IsWhole) (arg10 : Memref sig .tc .vmem S1x8x128x128 .f32) (harg10 : arg10.IsWhole) (arg11 : Memref sig .tc .vmem S8x128x128 .f32) (harg11 : arg11.IsWhole)
  (c : Dev nD) (i : grid0.Coords)
  (x0 : Vec Ideal S1x512x1024 .f32) (x1 : Vec Ideal S1x512x1024 .f32) (x2 : Vec Ideal S1x512x1024 .bf16) (x3 : Vec Ideal S1x512x1024 .bf16) (x4 : Vec Ideal S1x1024 .f32) (x5 : Vec Ideal S1x128 .f32) (x6 : Vec Ideal S1x8x128x128 .f32) (xs0 : Vec Ideal S8x128x128 .f32)
  (CH : ℕ → Chunk) (ST : ℕ → Fin 8 → Fin 128 → Fin 128 → EReal) (base : ℕ)
  (hST : ∀ n, ST (n + 1) = (CH n).next (ST n))
  (hCH : ∀ k, chunkAt x0 x1 x2 x3 x4 x5 k = CH (base + k.val))

include hST hCH

/-- Case A leaves in the scratch the state after the block's chunks. -/
theorem state_A (hc0 : cond0_0 i) (hc1 : ¬cond0_1 i) (h0 : ∀ h a b, x6 (ix4 0 h b a) = ST base h a b) (h : Fin 8) (a b : Fin 128) :
    sout0_A_0 c i arg2 harg2 arg3 harg3 arg4 harg4 arg5 harg5 arg6 harg6 arg7 harg7 arg8 harg8 arg9 harg9 arg10 harg10 arg11 harg11 hc0 hc1 x0 x1 x2 x3 x4 x5 x6 (ix3 h a b) = ST (base + 8) h a b := by
  have hG0 : ∀ h a b, arg11.view.read (Elt Ideal) (arg11.view.writes (Elt Ideal) arg11.view.junk (kernelRun0_A.sl.HS0_8 c arg8 harg8 x6)) (ix3 h a b) = ST base h a b := fun h a b => (reset_state arg8 harg8 arg11 c x6 h a b).trans (h0 h a b)
  unfold sout0_A_0 kernelRun0_A
  dsimp only
  rw [trips_eq]
  refine loop_state_end arg2 harg2 arg3 harg3 arg4 harg4 arg5 harg5 arg6 harg6 arg7 harg7 arg8 harg8 arg9 harg9 arg10 harg10 arg11 harg11 c i _ _ _ _ _ _ _ CH ST base hST (fun k => ?_) hG0 VS0_0 _ _ h a b
  rw [harg2.read_unread, harg3.read_unread, harg4.read_unread, harg5.read_unread, ← hCH]
  congr 1
  · exact readAt_all arg6 harg6 _ _ x4 (by ext a; fin_cases a <;> rfl)
  · exact readAt_all arg7 harg7 _ _ x5 (by ext a; fin_cases a <;> rfl)

/-- Case A leaves in the output block the outputs of the block's chunks. -/
theorem out_A (hc0 : cond0_0 i) (hc1 : ¬cond0_1 i) (h0 : ∀ h a b, x6 (ix4 0 h b a) = ST base h a b)
    (k : Fin k0_t1_loop.trips) (h : Fin 8) (a : Fin 64) (b : Fin 128) :
    out0_A_7 c i arg2 harg2 arg3 harg3 arg4 harg4 arg5 harg5 arg6 harg6 arg7 harg7 arg8 harg8 arg9 harg9 arg10 harg10 arg11 harg11 hc0 hc1 x0 x1 x2 x3 x4 x5 x6 (ix2 (rowIx k a) (col h b)) = (CH (base + k.val)).out (ST (base + k.val)) h a b := by
  have hG0 : ∀ h a b, arg11.view.read (Elt Ideal) (arg11.view.writes (Elt Ideal) arg11.view.junk (kernelRun0_A.sl.HS0_8 c arg8 harg8 x6)) (ix3 h a b) = ST base h a b := fun h a b => (reset_state arg8 harg8 arg11 c x6 h a b).trans (h0 h a b)
  have hG := block_apply (fun k h a b => (CH (base + k)).out (ST (base + k)) h a b)
  refine (View.read_writes_apply_of_pieces VO0_7 VO0_7.junk
    (blockOf (fun k h a b => (CH (base + k)).out (ST (base + k)) h a b)) _ ?_ _
    (cover0_A_7 c i arg2 harg2 arg3 harg3 arg4 harg4 arg5 harg5 arg6 harg6 arg7 harg7 arg8 harg8 arg9 harg9 arg10 harg10 arg11 harg11 hc0 hc1 x0 x1 x2 x3 x4 x5 x6 _)).trans (hG k h a b)
  unfold kernelRun0_A
  dsimp only
  rw [trips_eq]
  refine loop_out arg2 harg2 arg3 harg3 arg4 harg4 arg5 harg5 arg6 harg6 arg7 harg7 arg8 harg8 arg9 harg9 arg10 harg10 arg11 harg11 c i _ _ _ _ _ _ _ CH ST base hST (fun k => ?_) hG0 _ hG 8 (by decide)
  rw [harg2.read_unread, harg3.read_unread, harg4.read_unread, harg5.read_unread, ← hCH]
  congr 1
  · exact readAt_all arg6 harg6 _ _ x4 (by ext a; fin_cases a <;> rfl)
  · exact readAt_all arg7 harg7 _ _ x5 (by ext a; fin_cases a <;> rfl)

/-- Case B leaves in the scratch the state after the block's chunks. -/
theorem state_B (hc0 : ¬cond0_0 i) (hc1 : ¬cond0_1 i) (h0 : ∀ h a b, xs0 (ix3 h a b) = ST base h a b) (h : Fin 8) (a b : Fin 128) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 (ix3 h a b) = ST (base + 8) h a b := by
  have hG0 : ∀ h a b, arg11.view.read (Elt Ideal) (harg11.unread xs0) (ix3 h a b) = ST base h a b := fun h a b => (congrFun (harg11.read_unread xs0) _).trans (h0 h a b)
  unfold sout0_B_0 kernelRun0_B
  dsimp only
  rw [trips_eq]
  rw [← List.append_nil (pb_k0_t1 _ _ _ _ _ _ _ _ _ _ _ _ _ _ _ _ _ _ _ _ _ _ _ _ _ _ _ _ _ _ _ _).2]
  refine loop_state_end arg2 harg2 arg3 harg3 arg4 harg4 arg5 harg5 arg6 harg6 arg7 harg7 arg8 harg8 arg9 harg9 arg10 harg10 arg11 harg11 c i _ _ _ _ _ _ _ CH ST base hST (fun k => ?_) hG0 VS0_0 _ _ h a b
  rw [harg2.read_unread, harg3.read_unread, harg4.read_unread, harg5.read_unread, ← hCH]
  congr 1
  · exact readAt_all arg6 harg6 _ _ x4 (by ext a; fin_cases a <;> rfl)
  · exact readAt_all arg7 harg7 _ _ x5 (by ext a; fin_cases a <;> rfl)

/-- Case B leaves in the output block the outputs of the block's chunks. -/
theorem out_B (hc0 : ¬cond0_0 i) (hc1 : ¬cond0_1 i) (h0 : ∀ h a b, xs0 (ix3 h a b) = ST base h a b)
    (k : Fin k0_t1_loop.trips) (h : Fin 8) (a : Fin 64) (b : Fin 128) :
    out0_B_7 c i arg2 harg2 arg3 harg3 arg4 harg4 arg5 harg5 arg6 harg6 arg7 harg7 arg8 harg8 arg9 harg9 arg10 harg10 arg11 harg11 hc0 hc1 x0 x1 x2 x3 x4 x5 x6 xs0 (ix2 (rowIx k a) (col h b)) = (CH (base + k.val)).out (ST (base + k.val)) h a b := by
  have hG0 : ∀ h a b, arg11.view.read (Elt Ideal) (harg11.unread xs0) (ix3 h a b) = ST base h a b := fun h a b => (congrFun (harg11.read_unread xs0) _).trans (h0 h a b)
  have hG := block_apply (fun k h a b => (CH (base + k)).out (ST (base + k)) h a b)
  refine (View.read_writes_apply_of_pieces VO0_7 VO0_7.junk
    (blockOf (fun k h a b => (CH (base + k)).out (ST (base + k)) h a b)) _ ?_ _
    (cover0_B_7 c i arg2 harg2 arg3 harg3 arg4 harg4 arg5 harg5 arg6 harg6 arg7 harg7 arg8 harg8 arg9 harg9 arg10 harg10 arg11 harg11 hc0 hc1 x0 x1 x2 x3 x4 x5 x6 xs0 _)).trans (hG k h a b)
  unfold kernelRun0_B
  dsimp only
  rw [trips_eq]
  refine loop_out arg2 harg2 arg3 harg3 arg4 harg4 arg5 harg5 arg6 harg6 arg7 harg7 arg8 harg8 arg9 harg9 arg10 harg10 arg11 harg11 c i _ _ _ _ _ _ _ CH ST base hST (fun k => ?_) hG0 _ hG 8 (by decide)
  rw [harg2.read_unread, harg3.read_unread, harg4.read_unread, harg5.read_unread, ← hCH]
  congr 1
  · exact readAt_all arg6 harg6 _ _ x4 (by ext a; fin_cases a <;> rfl)
  · exact readAt_all arg7 harg7 _ _ x5 (by ext a; fin_cases a <;> rfl)

/-- Case C leaves in the scratch the state after the block's chunks. -/
theorem state_C (hc0 : ¬cond0_0 i) (hc1 : cond0_1 i) (h0 : ∀ h a b, xs0 (ix3 h a b) = ST base h a b) (h : Fin 8) (a b : Fin 128) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 (ix3 h a b) = ST (base + 8) h a b := by
  have hG0 : ∀ h a b, arg11.view.read (Elt Ideal) (harg11.unread xs0) (ix3 h a b) = ST base h a b := fun h a b => (congrFun (harg11.read_unread xs0) _).trans (h0 h a b)
  unfold sout0_C_0 kernelRun0_C
  dsimp only
  rw [trips_eq]
  rw [← List.append_nil (pb_k0_t1 _ _ _ _ _ _ _ _ _ _ _ _ _ _ _ _ _ _ _ _ _ _ _ _ _ _ _ _ _ _ _ _).2]
  refine loop_state_end arg2 harg2 arg3 harg3 arg4 harg4 arg5 harg5 arg6 harg6 arg7 harg7 arg8 harg8 arg9 harg9 arg10 harg10 arg11 harg11 c i _ _ _ _ _ _ _ CH ST base hST (fun k => ?_) hG0 VS0_0 _ _ h a b
  rw [harg2.read_unread, harg3.read_unread, harg4.read_unread, harg5.read_unread, ← hCH]
  congr 1
  · exact readAt_all arg6 harg6 _ _ x4 (by ext a; fin_cases a <;> rfl)
  · exact readAt_all arg7 harg7 _ _ x5 (by ext a; fin_cases a <;> rfl)

/-- Case C leaves in the output block the outputs of the block's chunks. -/
theorem out_C (hc0 : ¬cond0_0 i) (hc1 : cond0_1 i) (h0 : ∀ h a b, xs0 (ix3 h a b) = ST base h a b)
    (k : Fin k0_t1_loop.trips) (h : Fin 8) (a : Fin 64) (b : Fin 128) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 (ix2 (rowIx k a) (col h b)) = (CH (base + k.val)).out (ST (base + k.val)) h a b := by
  have hG0 : ∀ h a b, arg11.view.read (Elt Ideal) (harg11.unread xs0) (ix3 h a b) = ST base h a b := fun h a b => (congrFun (harg11.read_unread xs0) _).trans (h0 h a b)
  have hG := block_apply (fun k h a b => (CH (base + k)).out (ST (base + k)) h a b)
  refine (View.read_writes_apply_of_pieces VO0_7 VO0_7.junk
    (blockOf (fun k h a b => (CH (base + k)).out (ST (base + k)) h a b)) _ ?_ _
    (cover0_C_7 c i arg2 harg2 arg3 harg3 arg4 harg4 arg5 harg5 arg6 harg6 arg7 harg7 arg8 harg8 arg9 harg9 arg10 harg10 arg11 harg11 hc0 hc1 x0 x1 x2 x3 x4 x5 x6 xs0 _)).trans (hG k h a b)
  unfold kernelRun0_C
  dsimp only
  rw [trips_eq]
  refine loop_out arg2 harg2 arg3 harg3 arg4 harg4 arg5 harg5 arg6 harg6 arg7 harg7 arg8 harg8 arg9 harg9 arg10 harg10 arg11 harg11 c i _ _ _ _ _ _ _ CH ST base hST (fun k => ?_) hG0 _ hG 8 (by decide)
  rw [harg2.read_unread, harg3.read_unread, harg4.read_unread, harg5.read_unread, ← hCH]
  congr 1
  · exact readAt_all arg6 harg6 _ _ x4 (by ext a; fin_cases a <;> rfl)
  · exact readAt_all arg7 harg7 _ _ x5 (by ext a; fin_cases a <;> rfl)

/-- Case C leaves in the final state's block the state after the block's chunks, transposed. -/
theorem final_C (hc0 : ¬cond0_0 i) (hc1 : cond0_1 i) (h0 : ∀ h a b, xs0 (ix3 h a b) = ST base h a b) (h : Fin 8) (a b : Fin 128) :
    out0_C_8 c i arg2 harg2 arg3 harg3 arg4 harg4 arg5 harg5 arg6 harg6 arg7 harg7 arg8 harg8 arg9 harg9 arg10 harg10 arg11 harg11 hc0 hc1 x0 x1 x2 x3 x4 x5 x6 xs0 (ix4 0 h b a) = ST (base + 8) h a b := by
  obtain ⟨G, hG⟩ : ∃ G : S1x8x128x128.Idx → EReal, ∀ h a b, G (ix4 0 h a b) = ST (base + 8) h b a :=
    ⟨fun y => ST (base + 8) (y 1) (y 3) (y 2), fun _ _ _ => rfl⟩
  refine (View.read_writes_apply_of_pieces VO0_8 VO0_8.junk G _ ?_ _
    (cover0_C_8 c i arg2 harg2 arg3 harg3 arg4 harg4 arg5 harg5 arg6 harg6 arg7 harg7 arg8 harg8 arg9 harg9 arg10 harg10 arg11 harg11 hc0 hc1 x0 x1 x2 x3 x4 x5 x6 xs0 _)).trans (hG h b a)
  have hG0 : ∀ h a b, arg11.view.read (Elt Ideal) (harg11.unread xs0) (ix3 h a b) = ST base h a b := fun h a b => (congrFun (harg11.read_unread xs0) _).trans (h0 h a b)
  have key := loop_state arg2 harg2 arg3 harg3 arg4 harg4 arg5 harg5 arg6 harg6 arg7 harg7 arg8 harg8 arg9 harg9 arg10 harg10 arg11 harg11 c i x4 x5 (harg2.unread x0) (harg3.unread x1) (harg4.unread x2) (harg5.unread x3)
    (harg11.unread xs0) CH ST base hST
    (fun k => by rw [harg2.read_unread, harg3.read_unread, harg4.read_unread, harg5.read_unread, ← hCH]) hG0 8 (by decide)
  have e4 := readAt_all arg6 harg6 ![0, 0] inb_S1x1024_S1x1024_0_0 x4 (by ext a; fin_cases a <;> rfl)
  have e5 := readAt_all arg7 harg7 ![0, 0] inb_S1x128_S1x128_0_0 x5 (by ext a; fin_cases a <;> rfl)
  have e8 : Scf.trips k0_t1_loop.lb k0_t1_loop.ub k0_t1_loop.st = 8 := by decide
  unfold kernelRun0_C
  dsimp only
  simp only [List.forall_mem_cons, List.not_mem_nil, false_imp_iff, implies_true, and_true]
  refine ⟨piece_entry 7 _ _ rfl _ G fun a b => ?_, piece_entry 6 _ _ rfl _ G fun a b => ?_, piece_entry 5 _ _ rfl _ G fun a b => ?_,
    piece_entry 4 _ _ rfl _ G fun a b => ?_, piece_entry 3 _ _ rfl _ G fun a b => ?_, piece_entry 2 _ _ rfl _ G fun a b => ?_,
    piece_entry 1 _ _ rfl _ G fun a b => ?_, piece_entry 0 _ _ rfl _ G fun a b => ?_⟩
  all_goals
    rw [hG]
    unfold_payloads
    pointwise
    dsimp only [kernelRun0_C.sl.v60, kernelRun0_C.sl.v54, kernelRun0_C.sl.v48, kernelRun0_C.sl.v, kernelRun0_C.sl.v36, kernelRun0_C.sl.v30,
      kernelRun0_C.sl.v24, kernelRun0_C.sl.v18]
    rw [readAt_head, e4, e5, e8]
    exact key _ b a

end

end Cert.KernelIdeal.Gen

end
-- ==== Proof.Hgrn.Point.lean ====
module

public import proofs.«01_k».proof.Proof.Hgrn.Case
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Cert.Hgrn

variable (m : (ℓ : Loc nD τ sig) → Buf (Elt Ideal) ℓ) (c : Dev nD)

/-- The sequence a grid point works on. -/
def seqOf (t : Fin cfg0.N) : Fin 16 := ⟨t.val / 8, by have := lt_of_lt_of_eq t.isLt (show cfg0.N = 128 from N_0); omega⟩

/-- The chunks of a sequence, from the arguments. -/
def Ch (b : Fin 16) (n : ℕ) : Chunk :=
  chunkOf (m ((c : Thread nD τ).loc main_arg0)) (m ((c : Thread nD τ).loc main_arg1)) (m ((c : Thread nD τ).loc main_arg2))
    (m ((c : Thread nD τ).loc main_arg3)) b n

/-- The states of a sequence, from the arguments. -/
def St (b : Fin 16) (n : ℕ) : Fin 8 → Fin 128 → Fin 128 → EReal :=
  stateAt (m ((c : Thread nD τ).loc main_arg0)) (m ((c : Thread nD τ).loc main_arg1)) (m ((c : Thread nD τ).loc main_arg2))
    (m ((c : Thread nD τ).loc main_arg3)) (m ((c : Thread nD τ).loc main_arg4)) b n

theorem idx_in : ∀ t : Fin cfg0.N, win0_0.index t = ![0, t.val, 0] ∧ win0_1.index t = ![1, t.val, 0]
    ∧ win0_2.index t = ![0, t.val, 0] ∧ win0_3.index t = ![1, t.val, 0] ∧ win0_4.index t = ![0, 0]
    ∧ win0_5.index t = ![0, 0] ∧ win0_6.index t = ![t.val / 8, 0, 0, 0] :=
  (by decide +kernel : ∀ t : Fin grid0.N, win0_0.index t = ![0, t.val, 0] ∧ win0_1.index t = ![1, t.val, 0]
    ∧ win0_2.index t = ![0, t.val, 0] ∧ win0_3.index t = ![1, t.val, 0] ∧ win0_4.index t = ![0, 0]
    ∧ win0_5.index t = ![0, 0] ∧ win0_6.index t = ![t.val / 8, 0, 0, 0])

/-- The entry state's block of a point, from the argument. -/
theorem blk_entry (t : Fin cfg0.N) (h : Fin 8) (a b : Fin 128) :
    iblk m c 6 t (ix4 0 h b a) = St m c (seqOf t) 0 h a b := by
  show _ = m ((c : Thread nD τ).loc main_arg4) (ix4 (seqOf t) h b a)
  obtain ⟨e0, e1, e2, e3, e4, e5, e6⟩ := idx_in t
  have hs : (seqOf t).val = t.val / 8 := rfl
  blk_ext [iblk, V, e6, hs]

/-- The blocks of a point hold the inputs of the point's chunks. -/
theorem blk_chunk (t : Fin cfg0.N) (k : Fin k0_t1_loop.trips) :
    chunkAt (iblk m c 0 t) (iblk m c 1 t) (iblk m c 2 t) (iblk m c 3 t) (iblk m c 4 t) (iblk m c 5 t) k
      = Ch m c (seqOf t) (8 * (t.val % 8) + k.val) := by
  obtain ⟨e0, e1, e2, e3, e4, e5, e6⟩ := idx_in t
  have hN := lt_of_lt_of_eq t.isLt (show cfg0.N = 128 from N_0)
  have hk := lt_of_lt_of_eq k.isLt (show k0_t1_loop.trips = 8 by decide)
  have hs : (seqOf t).val = t.val / 8 := rfl
  have hr : ∀ r, (rowIx k r).val = 64 * k.val + r.val := fun r => rfl
  have ht : ∀ r : Fin 64, (tok (seqOf t) (8 * (t.val % 8) + k.val) r).val = 512 * t.val + (64 * k.val + r.val) := fun r => by
    show (4096 * (seqOf t).val + 64 * (8 * (t.val % 8) + k.val) + r.val) % 65536 = _
    have := r.isLt
    omega
  unfold chunkAt Ch chunkOf
  congr 1
  · funext r j
    have := hr r; have := ht r
    blk_ext [iblk, V, e0]
  · funext r j
    have := hr r; have := ht r
    blk_ext [iblk, V, e1]
  · funext r j
    have := hr r; have := ht r
    blk_ext [iblk, V, e2]
  · funext r j
    have := hr r; have := ht r
    blk_ext [iblk, V, e3]
  · funext j
    blk_ext [iblk, V, e4]
  · funext j
    blk_ext [iblk, V, e5]

/-- After a grid point the scratch holds the state after the point's eight chunks. -/
theorem state_pt (n : ℕ) (hn : n < cfg0.N) (h : Fin 8) (a b : Fin 128) :
    (outsAt0 m c n hn).2.2 (ix3 h a b) = St m c (seqOf ⟨n, hn⟩) (8 * (n % 8) + 8) h a b := by
  induction n using Nat.strong_induction_on generalizing h a b with
  | _ n ih =>
    obtain ⟨t, ht⟩ : ∃ t : Fin cfg0.N, t = ⟨n, hn⟩ := ⟨_, rfl⟩
    have hv : n = t.val := by rw [ht]
    subst hv
    have hs : ¬t.val % 8 = 0 → ∀ h a b, (outsAt0 m c (t.val - 1) (Nat.lt_of_le_of_lt (Nat.sub_le _ _) t.isLt)).2.2 (ix3 h a b) = St m c (seqOf t) (8 * (t.val % 8)) h a b := fun h0 h a b => by
      rw [ih (t.val - 1) (by omega)]
      have e1 : seqOf ⟨t.val - 1, Nat.lt_of_le_of_lt (Nat.sub_le _ _) t.isLt⟩ = seqOf t := Fin.ext (show (t.val - 1) / 8 = t.val / 8 by omega)
      have e2 : 8 * ((t.val - 1) % 8) + 8 = 8 * (t.val % 8) := by omega
      rw [e1, e2]
    by_cases h0 : t.val % 8 = 0
    · have h1 : ¬t.val % 8 = 7 := by omega
      rw [outsAt0_A m c t h0 h1]
      exact state_A (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) c (grid0.coords t) (iblk m c 0 t) (iblk m c 1 t) (iblk m c 2 t) (iblk m c 3 t) (iblk m c 4 t) (iblk m c 5 t) (iblk m c 6 t) (Ch m c (seqOf t)) (St m c (seqOf t)) (8 * (t.val % 8)) (fun _ => rfl) (blk_chunk m c t) _ _ (fun h a b => by rw [h0]; exact blk_entry m c t h a b) h a b
    · by_cases h1 : t.val % 8 = 7
      · rw [outsAt0_C m c t h0 h1]
        exact state_C (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) c (grid0.coords t) (iblk m c 0 t) (iblk m c 1 t) (iblk m c 2 t) (iblk m c 3 t) (iblk m c 4 t) (iblk m c 5 t) (iblk m c 6 t) _ (Ch m c (seqOf t)) (St m c (seqOf t)) (8 * (t.val % 8)) (fun _ => rfl) (blk_chunk m c t) _ _ (hs h0) h a b
      · rw [outsAt0_B m c t h0 h1]
        exact state_B (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) c (grid0.coords t) (iblk m c 0 t) (iblk m c 1 t) (iblk m c 2 t) (iblk m c 3 t) (iblk m c 4 t) (iblk m c 5 t) (iblk m c 6 t) _ (Ch m c (seqOf t)) (St m c (seqOf t)) (8 * (t.val % 8)) (fun _ => rfl) (blk_chunk m c t) _ _ (hs h0) h a b

/-- Before a grid point that is not a sequence's first the scratch holds the state before the point's chunks. -/
theorem state_prev (t : Fin cfg0.N) (h0 : ¬t.val % 8 = 0) (h : Fin 8) (a b : Fin 128) :
    (outsAt0 m c (t.val - 1) (Nat.lt_of_le_of_lt (Nat.sub_le _ _) t.isLt)).2.2 (ix3 h a b) = St m c (seqOf t) (8 * (t.val % 8)) h a b := by
  rw [state_pt]
  have e1 : seqOf ⟨t.val - 1, Nat.lt_of_le_of_lt (Nat.sub_le _ _) t.isLt⟩ = seqOf t := Fin.ext (show (t.val - 1) / 8 = t.val / 8 by omega)
  have e2 : 8 * ((t.val - 1) % 8) + 8 = 8 * (t.val % 8) := by omega
  rw [e1, e2]

/-- A grid point leaves in the output block the outputs of the point's chunks. -/
theorem out_pt (t : Fin cfg0.N) (k : Fin k0_t1_loop.trips) (h : Fin 8) (a : Fin 64) (b : Fin 128) :
    (outsAt0 m c t.val t.isLt).1 (ix2 (rowIx k a) (col h b))
      = (Ch m c (seqOf t) (8 * (t.val % 8) + k.val)).out (St m c (seqOf t) (8 * (t.val % 8) + k.val)) h a b := by
  by_cases h0 : t.val % 8 = 0
  · have h1 : ¬t.val % 8 = 7 := by omega
    rw [outsAt0_A m c t h0 h1]
    exact out_A (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) c (grid0.coords t) (iblk m c 0 t) (iblk m c 1 t) (iblk m c 2 t) (iblk m c 3 t) (iblk m c 4 t) (iblk m c 5 t) (iblk m c 6 t) (Ch m c (seqOf t)) (St m c (seqOf t)) (8 * (t.val % 8)) (fun _ => rfl) (blk_chunk m c t) _ _ (fun h a b => by rw [h0]; exact blk_entry m c t h a b) k h a b
  · by_cases h1 : t.val % 8 = 7
    · rw [outsAt0_C m c t h0 h1]
      exact out_C (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) c (grid0.coords t) (iblk m c 0 t) (iblk m c 1 t) (iblk m c 2 t) (iblk m c 3 t) (iblk m c 4 t) (iblk m c 5 t) (iblk m c 6 t) _ (Ch m c (seqOf t)) (St m c (seqOf t)) (8 * (t.val % 8)) (fun _ => rfl) (blk_chunk m c t) _ _ (state_prev m c t h0) k h a b
    · rw [outsAt0_B m c t h0 h1]
      exact out_B (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) c (grid0.coords t) (iblk m c 0 t) (iblk m c 1 t) (iblk m c 2 t) (iblk m c 3 t) (iblk m c 4 t) (iblk m c 5 t) (iblk m c 6 t) _ (Ch m c (seqOf t)) (St m c (seqOf t)) (8 * (t.val % 8)) (fun _ => rfl) (blk_chunk m c t) _ _ (state_prev m c t h0) k h a b

/-- A sequence's last grid point leaves in the final state's block the state after all chunks, transposed. -/
theorem final_pt (t : Fin cfg0.N) (h1 : t.val % 8 = 7) (n : ℕ) (hn : n = 8 * (t.val % 8) + 8) (h : Fin 8) (a b : Fin 128) :
    (outsAt0 m c t.val t.isLt).2.1 (ix4 0 h b a) = St m c (seqOf t) n h a b := by
  subst hn
  have h0 : ¬t.val % 8 = 0 := by omega
  rw [outsAt0_C m c t h0 h1]
  refine Eq.trans ?_ (final_C (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) c (grid0.coords t) (iblk m c 0 t) (iblk m c 1 t) (iblk m c 2 t) (iblk m c 3 t) (iblk m c 4 t) (iblk m c 5 t) (iblk m c 6 t) _ (Ch m c (seqOf t)) (St m c (seqOf t)) (8 * (t.val % 8)) (fun _ => rfl) (blk_chunk m c t) (fun hc => h0 ((hcond0_0 t).mp hc)) ((hcond0_1 t).mpr h1) (state_prev m c t h0) h a b)
  dsimp only

/-- The output array at a token and a channel. -/
theorem G7_apply (b : Fin 16) (n : Fin 64) (r : Fin 64) (h : Fin 8) (d : Fin 128) :
    Value.G7 m c (ix2 (tok b n.val r) (col h d)) = (Ch m c b n.val).out (St m c b n.val) h r d := by
  have hk : n.val % 8 < k0_t1_loop.trips := lt_of_lt_of_eq (Nat.mod_lt _ (by decide)) (show 8 = k0_t1_loop.trips by decide)
  have ht : (tok b n.val r).val = 4096 * b.val + 64 * n.val + r.val := by
    show (4096 * b.val + 64 * n.val + r.val) % 65536 = _
    omega
  have hc : (col h d).val = 128 * h.val + d.val := rfl
  have hp : Value.pt7Of (ix2 (tok b n.val r) (col h d)) = 8 * b.val + n.val / 8 := by
    show 1 * ((tok b n.val r).val / 512 - 0) + 1 * ((col h d).val / 1024 - 0) = _
    omega
  have hl : Value.loc7Of (ix2 (tok b n.val r) (col h d)) = ix2 (rowIx ⟨n.val % 8, hk⟩ r) (col h d) := by
    funext a
    fin_cases a
    · refine Fin.ext ?_
      show (tok b n.val r).val % 512 = 64 * (n.val % 8) + r.val
      omega
    · refine Fin.ext ?_
      show (col h d).val % 1024 = (col h d).val
      omega
  have hlt : 8 * b.val + n.val / 8 < cfg0.N := lt_of_lt_of_eq (by omega) (show 128 = cfg0.N from N_0.symm)
  unfold Value.G7
  rw [dif_pos (by rw [hp]; exact hlt), ← Value.outsAt0_sweep m c _ (by rw [hp]; exact hlt), hl]
  have e := out_pt m c ⟨8 * b.val + n.val / 8, hlt⟩ ⟨n.val % 8, hk⟩ h r d
  have e1 : seqOf ⟨8 * b.val + n.val / 8, hlt⟩ = b := Fin.ext (show (8 * b.val + n.val / 8) / 8 = b.val by omega)
  have e2 : 8 * ((8 * b.val + n.val / 8) % 8) + n.val % 8 = n.val := by omega
  dsimp only at e
  rw [e1, e2] at e
  rw [← e]
  congr 2
  simp only [hp]

/-- The final states. -/
theorem G8_apply (b : Fin 16) (h : Fin 8) (d a : Fin 128) :
    Value.G8 m c (ix4 b h d a) = St m c b 64 h a d := by
  have hp : Value.pt8Of (ix4 b h d a) = 8 * b.val + 7 := by
    show 8 * (1 * (b.val / 1 - 0) + 1 * (h.val / 8 - 0) + 1 * (d.val / 128 - 0) + 1 * (a.val / 128 - 0)) + 7 = _
    omega
  have hl : Value.loc8Of (ix4 b h d a) = ix4 0 h d a := by
    funext x
    fin_cases x
    · refine Fin.ext ?_
      show b.val % 1 = 0
      omega
    · refine Fin.ext ?_
      show h.val % 8 = h.val
      omega
    · refine Fin.ext ?_
      show d.val % 128 = d.val
      omega
    · refine Fin.ext ?_
      show a.val % 128 = a.val
      omega
  have hlt : 8 * b.val + 7 < cfg0.N := lt_of_lt_of_eq (by omega) (show 128 = cfg0.N from N_0.symm)
  unfold Value.G8
  rw [dif_pos (by rw [hp]; exact hlt), ← Value.outsAt0_sweep m c _ (by rw [hp]; exact hlt), hl]
  have e := final_pt m c ⟨8 * b.val + 7, hlt⟩ (by dsimp only; omega) 64 (by dsimp only; omega) h a d
  have e1 : seqOf ⟨8 * b.val + 7, hlt⟩ = b := Fin.ext (show (8 * b.val + 7) / 8 = b.val by omega)
  rw [e1] at e
  rw [← e]
  congr 3
  simp only [hp]

end Cert.KernelIdeal.Gen

end
-- ==== Proof.Hgrn.RefOps.lean ====
module

public import proofs.«01_k».proof.Proof.Gen.ReferenceIdeal.Run
public import proofs.«01_k».proof.Proof.Hgrn.Spec

@[expose] public section

set_option maxRecDepth 16384

noncomputable section

namespace Cert.ReferenceIdeal.Value

open Cert.ReferenceIdeal Cert.ReferenceIdeal.Gen Cert.Hgrn
open Idealize.ShloMosaic Idealize.ShloMosaic.TcCoe

/-! The reference's loop operations, read at an index: chunk `n` taken out of the stacked chunks, chunk `n` put into the
stacked outputs, and the running sum over a chunk. -/

/-- The slice of one chunk out of the stacked chunks. -/
theorem slice_chunk (x : S64x16x64x8x128.Idx → EReal) (start : Fin 5 → Int) (hf : S64x16x64x8x128.Slices (fun _ => 0) S1x16x64x8x128)
    (n : Fin 64) (h0 : start 0 = n.val) (h1 : start 1 = 0) (h2 : start 2 = 0) (h3 : start 3 = 0) (h4 : start 4 = 0)
    (b : Fin 16) (r : Fin 64) (h : Fin 8) (d : Fin 128) :
    Host.dynamicSlice S1x16x64x8x128 x start hf (ix5 0 b r h d) = x (ix5 n b r h d) := by
  rw [Host.dynamicSlice_apply]
  refine congrArg x (funext fun a => Fin.ext ?_)
  have e0 := Host.clampedStart_of_le (s := S64x16x64x8x128) (t := S1x16x64x8x128) hf.1 start 0 n.val h0 (by show n.val + 1 ≤ 64; omega)
  have e1 := Host.clampedStart_of_le (s := S64x16x64x8x128) (t := S1x16x64x8x128) hf.1 start 1 0 h1 (show 0 + 16 ≤ 16 by decide)
  have e2 := Host.clampedStart_of_le (s := S64x16x64x8x128) (t := S1x16x64x8x128) hf.1 start 2 0 h2 (show 0 + 64 ≤ 64 by decide)
  have e3 := Host.clampedStart_of_le (s := S64x16x64x8x128) (t := S1x16x64x8x128) hf.1 start 3 0 h3 (show 0 + 8 ≤ 8 by decide)
  have e4 := Host.clampedStart_of_le (s := S64x16x64x8x128) (t := S1x16x64x8x128) hf.1 start 4 0 h4 (show 0 + 128 ≤ 128 by decide)
  fin_cases a
  · show Host.clampedStart S64x16x64x8x128 S1x16x64x8x128 hf.1 start 0 + 0 = n.val
    rw [e0]; rfl
  · show Host.clampedStart S64x16x64x8x128 S1x16x64x8x128 hf.1 start 1 + b.val = b.val
    rw [e1]; omega
  · show Host.clampedStart S64x16x64x8x128 S1x16x64x8x128 hf.1 start 2 + r.val = r.val
    rw [e2]; omega
  · show Host.clampedStart S64x16x64x8x128 S1x16x64x8x128 hf.1 start 3 + h.val = h.val
    rw [e3]; omega
  · show Host.clampedStart S64x16x64x8x128 S1x16x64x8x128 hf.1 start 4 + d.val = d.val
    rw [e4]; omega

/-- One chunk put into the stacked chunks: that chunk is the new one, every other is as it was. -/
theorem update_chunk (x : S64x16x64x8x128.Idx → EReal) (u : S1x16x64x8x128.Idx → EReal) (start : Fin 5 → Int)
    (hf : S64x16x64x8x128.Slices (fun _ => 0) S1x16x64x8x128)
    (n : Fin 64) (h0 : start 0 = n.val) (h1 : start 1 = 0) (h2 : start 2 = 0) (h3 : start 3 = 0) (h4 : start 4 = 0)
    (n' : Fin 64) (b : Fin 16) (r : Fin 64) (h : Fin 8) (d : Fin 128) :
    Host.dynamicUpdateSlice x u start hf (ix5 n' b r h d) = if n' = n then u (ix5 0 b r h d) else x (ix5 n' b r h d) := by
  rw [Host.dynamicUpdateSlice_apply]
  have e0 := Host.clampedStart_of_le (s := S64x16x64x8x128) (t := S1x16x64x8x128) hf.1 start 0 n.val h0 (by show n.val + 1 ≤ 64; omega)
  have e1 := Host.clampedStart_of_le (s := S64x16x64x8x128) (t := S1x16x64x8x128) hf.1 start 1 0 h1 (show 0 + 16 ≤ 16 by decide)
  have e2 := Host.clampedStart_of_le (s := S64x16x64x8x128) (t := S1x16x64x8x128) hf.1 start 2 0 h2 (show 0 + 64 ≤ 64 by decide)
  have e3 := Host.clampedStart_of_le (s := S64x16x64x8x128) (t := S1x16x64x8x128) hf.1 start 3 0 h3 (show 0 + 8 ≤ 8 by decide)
  have e4 := Host.clampedStart_of_le (s := S64x16x64x8x128) (t := S1x16x64x8x128) hf.1 start 4 0 h4 (show 0 + 128 ≤ 128 by decide)
  by_cases hn : n' = n
  · subst hn
    rw [if_pos rfl, dif_pos]
    · refine congrArg u (funext fun a => Fin.ext ?_)
      fin_cases a
      · show n'.val - Host.clampedStart S64x16x64x8x128 S1x16x64x8x128 hf.1 start 0 = 0
        rw [e0]; omega
      · show b.val - Host.clampedStart S64x16x64x8x128 S1x16x64x8x128 hf.1 start 1 = b.val
        rw [e1]; omega
      · show r.val - Host.clampedStart S64x16x64x8x128 S1x16x64x8x128 hf.1 start 2 = r.val
        rw [e2]; omega
      · show h.val - Host.clampedStart S64x16x64x8x128 S1x16x64x8x128 hf.1 start 3 = h.val
        rw [e3]; omega
      · show d.val - Host.clampedStart S64x16x64x8x128 S1x16x64x8x128 hf.1 start 4 = d.val
        rw [e4]; omega
    · intro a
      fin_cases a
      · show Host.clampedStart S64x16x64x8x128 S1x16x64x8x128 hf.1 start 0 ≤ n'.val ∧ n'.val < Host.clampedStart S64x16x64x8x128 S1x16x64x8x128 hf.1 start 0 + 1
        rw [e0]; omega
      · show Host.clampedStart S64x16x64x8x128 S1x16x64x8x128 hf.1 start 1 ≤ b.val ∧ b.val < Host.clampedStart S64x16x64x8x128 S1x16x64x8x128 hf.1 start 1 + 16
        rw [e1]; omega
      · show Host.clampedStart S64x16x64x8x128 S1x16x64x8x128 hf.1 start 2 ≤ r.val ∧ r.val < Host.clampedStart S64x16x64x8x128 S1x16x64x8x128 hf.1 start 2 + 64
        rw [e2]; omega
      · show Host.clampedStart S64x16x64x8x128 S1x16x64x8x128 hf.1 start 3 ≤ h.val ∧ h.val < Host.clampedStart S64x16x64x8x128 S1x16x64x8x128 hf.1 start 3 + 8
        rw [e3]; omega
      · show Host.clampedStart S64x16x64x8x128 S1x16x64x8x128 hf.1 start 4 ≤ d.val ∧ d.val < Host.clampedStart S64x16x64x8x128 S1x16x64x8x128 hf.1 start 4 + 128
        rw [e4]; omega
  · rw [if_neg hn, dif_neg]
    intro hin
    have h0 : Host.clampedStart S64x16x64x8x128 S1x16x64x8x128 hf.1 start 0 ≤ n'.val ∧ n'.val < Host.clampedStart S64x16x64x8x128 S1x16x64x8x128 hf.1 start 0 + 1 := hin 0
    rw [e0] at h0
    exact hn (Fin.ext (by omega))

/-- Adding up terms from the left is their sum. -/
theorem foldl_add {K : ℕ} (g : Fin K → EReal) (v : EReal) : (List.finRange K).foldl (fun r n => r + g n) v = v + ∑ n, g n := by
  have : ∀ (l : List (Fin K)) (v : EReal), l.foldl (fun r n => r + g n) v = v + (l.map g).sum := by
    intro l
    induction l with
    | nil => intro v; simp
    | cons a l ih => intro v; rw [List.foldl_cons, ih, List.map_cons, List.sum_cons, add_assoc]
  rw [this, ← List.ofFn_eq_map, List.sum_ofFn]

/-- A window of `K` tokens that ends at token `r`, as a sum over the tokens up to `r`. -/
theorem sum_window {K W : ℕ} (hW : W + 1 = K) (r : Fin K) (f : Fin K → EReal) :
    (∑ n : Fin K, if h : W ≤ r.val + n.val then f ⟨r.val + n.val - W, by omega⟩ else 0) = ∑ x, if x ≤ r then f x else 0 := by
  rw [← Finset.sum_filter]
  have : ∀ n : Fin K, (if h : W ≤ r.val + n.val then f ⟨r.val + n.val - W, by omega⟩ else 0)
      = if W ≤ r.val + n.val then (if h : r.val + n.val - W < K then f ⟨r.val + n.val - W, h⟩ else 0) else 0 := fun n => by
    by_cases h : W ≤ r.val + n.val
    · rw [dif_pos h, if_pos h, dif_pos]
    · rw [dif_neg h, if_neg h]
  rw [Finset.sum_congr rfl fun n _ => this n, ← Finset.sum_filter]
  refine Finset.sum_bij' (fun n _ => ⟨r.val + n.val - W, by omega⟩)
    (fun x hx => ⟨x.val + W - r.val, by
      have h : x.val ≤ r.val := (Finset.mem_filter.mp hx).2
      omega⟩) ?_ ?_ ?_ ?_ ?_
  · intro n hn
    refine Finset.mem_filter.mpr ⟨Finset.mem_univ _, ?_⟩
    show r.val + n.val - W ≤ r.val
    omega
  · intro x hx
    have h : x.val ≤ r.val := (Finset.mem_filter.mp hx).2
    refine Finset.mem_filter.mpr ⟨Finset.mem_univ _, ?_⟩
    show W ≤ r.val + (x.val + W - r.val)
    omega
  · intro n hn
    have h := (Finset.mem_filter.mp hn).2
    refine Fin.ext ?_
    show (r.val + n.val - W) + W - r.val = n.val
    omega
  · intro x hx
    have h : x.val ≤ r.val := (Finset.mem_filter.mp hx).2
    refine Fin.ext ?_
    show r.val + (x.val + W - r.val) - W = x.val
    omega
  · intro n hn
    rw [dif_pos]

/-- The window's positions are those of its second axis. -/
def winEquiv (K : ℕ) : Fin K ≃ (⟨4, ![1, K, 1, 1]⟩ : Shape).Idx where
  toFun n := ix4 0 n 0 0
  invFun i := i 1
  left_inv _ := rfl
  right_inv i := by
    funext a
    fin_cases a
    · exact Subsingleton.elim (α := Fin 1) _ _
    · rfl
    · exact Subsingleton.elim (α := Fin 1) _ _
    · exact Subsingleton.elim (α := Fin 1) _ _

/-- The running sum over the tokens of a chunk of `K`. -/
theorem cumsum_chunk {K W : ℕ} (hW : W + 1 = K) (x : (⟨4, ![16, K, 8, 128]⟩ : Shape).Idx → EReal) (init : S_.Idx → EReal) (hi : ∀ i, init i = 0)
    (hw : (⟨4, ![16, K, 8, 128]⟩ : Shape).ReduceWindows ![1, K, 1, 1] ![1, 1, 1, 1] ![0, W, 0, 0] ![0, 0, 0, 0] ⟨4, ![16, K, 8, 128]⟩) (hu : 0 < S_.numel)
    (b : Fin 16) (r : Fin K) (h : Fin 8) (d : Fin 128) :
    (Host.reduceWindowAdd (F := Ideal) (φ := .f32) ![1, K, 1, 1] ![1, 1, 1, 1] ![0, W, 0, 0] ![0, 0, 0, 0] x init hw hu
      : (⟨4, ![16, K, 8, 128]⟩ : Shape).Idx → EReal) (ix4 b r h d)
      = ∑ x', if x' ≤ r then x (ix4 b x' h d) else 0 := by
  show Host.reduceWindow (s := ⟨4, ![16, K, 8, 128]⟩) (t := ⟨4, ![16, K, 8, 128]⟩) (u := S_) (fun a b : EReal => a + b) ![1, K, 1, 1] ![1, 1, 1, 1] ![0, W, 0, 0] ![0, 0, 0, 0] x init
      hw hu (ix4 b r h d) = _
  unfold Host.reduceWindow
  dsimp only
  rw [foldl_add, hi, zero_add]
  refine (Finset.sum_congr rfl fun n _ => ?_).trans ((Equiv.sum_comp (Shape.rowMajor ⟨4, ![1, K, 1, 1]⟩).symm (fun w : (⟨4, ![1, K, 1, 1]⟩ : Shape).Idx =>
    if hin : ∀ a : Fin 4, (![0, W, 0, 0] : Fin 4 → ℕ) a ≤ ((ix4 b r h d : (⟨4, ![16, K, 8, 128]⟩ : Shape).Idx) a).val * (![1, 1, 1, 1] : Fin 4 → ℕ) a + (w a).val
        ∧ ((ix4 b r h d : (⟨4, ![16, K, 8, 128]⟩ : Shape).Idx) a).val * (![1, 1, 1, 1] : Fin 4 → ℕ) a + (w a).val - (![0, W, 0, 0] : Fin 4 → ℕ) a < (⟨4, ![16, K, 8, 128]⟩ : Shape).size a
    then x (fun a => ⟨((ix4 b r h d : (⟨4, ![16, K, 8, 128]⟩ : Shape).Idx) a).val * (![1, 1, 1, 1] : Fin 4 → ℕ) a + (w a).val - (![0, W, 0, 0] : Fin 4 → ℕ) a, (hin a).2⟩) else 0)).trans ?_)
  · dsimp only
    congr 1
  rw [← Equiv.sum_comp (winEquiv K), ← sum_window hW r fun x' => x (ix4 b x' h d)]
  refine Finset.sum_congr rfl fun n _ => ?_
  by_cases hr : W ≤ r.val + n.val
  · rw [dif_pos hr, dif_pos]
    · refine congrArg x (funext fun a => Fin.ext ?_)
      fin_cases a
      · show b.val * 1 + 0 - 0 = b.val
        omega
      · show r.val * 1 + n.val - W = r.val + n.val - W
        omega
      · show h.val * 1 + 0 - 0 = h.val
        omega
      · show d.val * 1 + 0 - 0 = d.val
        omega
    · intro a
      fin_cases a
      · show 0 ≤ b.val * 1 + 0 ∧ b.val * 1 + 0 - 0 < 16
        omega
      · show W ≤ r.val * 1 + n.val ∧ r.val * 1 + n.val - W < K
        omega
      · show 0 ≤ h.val * 1 + 0 ∧ h.val * 1 + 0 - 0 < 8
        omega
      · show 0 ≤ d.val * 1 + 0 ∧ d.val * 1 + 0 - 0 < 128
        omega
  · rw [dif_neg hr, dif_neg]
    intro hin
    have h1 : W ≤ r.val * 1 + n.val ∧ r.val * 1 + n.val - W < K := hin 1
    omega

end Cert.ReferenceIdeal.Value

end
-- ==== Proof.Hgrn.RefStep.lean ====
module

public import proofs.«01_k».proof.Proof.Hgrn.RefOps

@[expose] public section

set_option maxRecDepth 16384

noncomputable section

namespace Cert.ReferenceIdeal.Value

open Cert.ReferenceIdeal Cert.ReferenceIdeal.Gen Cert.Hgrn
open Idealize.ShloMosaic Idealize.ShloMosaic.TcCoe

/-! One trip of the reference's loop, at an index. -/

/-- The stacked log gates. -/
def gates (V : Valuation τ sig (Elt Ideal)) : S64x16x64x8x128.Idx → EReal := V (Proc.devRef .tc main_v53_1)

/-- The starts of the trip's slices. -/
def starts (V : Valuation τ sig (Elt Ideal)) : Fin 5 → Int := fun k =>
  (((![V (Proc.devRef .tc main_v53_4), constantI S_ 32 0#32, constantI S_ 32 0#32, constantI S_ 32 0#32, constantI S_ 32 0#32] : Fin 5 → (⟨S_, .i32⟩ : BufTy).Contents (Elt Ideal))) k (Shape.Idx.first h_S_)).toInt

/-- A choice by the mask of the tokens up to `a`. -/
theorem mask_select {K : ℕ} (hK : K ≤ 64) (a x : Fin K) (y z : EReal) (hz : z = 0) :
    Scalar.select (Scalar.select (IntOp.cmpi CmpIPredicate.sge (IntOp.addi (BitVec.ofNat 32 a.val) 0#32) (BitVec.ofNat 32 x.val)) 1#1 0#1) y z
      = if x ≤ a then y else 0 := by
  have h : ∀ a x : Fin 64, Scalar.select (IntOp.cmpi CmpIPredicate.sge (IntOp.addi (BitVec.ofNat 32 a.val) 0#32) (BitVec.ofNat 32 x.val)) 1#1 0#1
      = if x ≤ a then 1#1 else 0#1 := by decide +kernel
  have e := h (a.castLE hK) (x.castLE hK)
  rw [Fin.val_castLE, Fin.val_castLE] at e
  rw [e, hz]
  by_cases hx : x ≤ a
  · rw [if_pos hx, if_pos (show x.castLE hK ≤ a.castLE hK from hx)]
    rfl
  · rw [if_neg hx, if_neg (show ¬x.castLE hK ≤ a.castLE hK from hx)]
    rfl

/-- A stack of one chunk is the chunk. -/
theorem cast_chunk (x : S1x16x64x8x128.Idx → EReal) (b : Fin 16) (r : Fin 64) (h : Fin 8) (d : Fin 128) :
    (shapeCast S16x64x8x128 x shapeCasts_S1x16x64x8x128_S16x64x8x128 : S16x64x8x128.Idx → EReal) (ix4 b r h d) = x (ix5 0 b r h d) := by
  pointwise

section
variable (V : Valuation τ sig (Elt Ideal)) (n : Fin 64) (hn : V (Proc.devRef .tc main_v53_4) = fun _ => BitVec.ofNat 32 n.val)
  (b : Fin 16) (r : Fin 64) (h : Fin 8) (d : Fin 128)

theorem starts_1 : starts V 1 = 0 := rfl
theorem starts_2 : starts V 2 = 0 := rfl
theorem starts_3 : starts V 3 = 0 := rfl
theorem starts_4 : starts V 4 = 0 := rfl

include hn

/-- The first start is the trip's number. -/
theorem starts_0 : starts V 0 = n.val := by
  show (V (Proc.devRef .tc main_v53_4) (Shape.Idx.first h_S_) : BitVec 32).toInt = n.val
  rw [hn]
  have : ∀ n : Fin 64, (BitVec.ofNat 32 n.val).toInt = n.val := by decide
  exact this n

/-- The trip's queries. -/
theorem res77_apply : (res_main_while0b_v77 V : S16x64x8x128.Idx → EReal) (ix4 b r h d) = (V (Proc.devRef .tc main_v53_0) : S64x16x64x8x128.Idx → EReal) (ix5 n b r h d) := by
  unfold res_main_while0b_v77
  refine Eq.trans ?_ (slice_chunk _ (starts V) sliceFits_S64x16x64x8x128_S1x16x64x8x128 n (starts_0 V n hn) (starts_1 V) (starts_2 V) (starts_3 V) (starts_4 V) b r h d)
  exact cast_chunk _ b r h d

/-- The trip's keys. -/
theorem res79_apply : (res_main_while0b_v79 V : S16x64x8x128.Idx → EReal) (ix4 b r h d) = (V (Proc.devRef .tc main_v53_2) : S64x16x64x8x128.Idx → EReal) (ix5 n b r h d) := by
  unfold res_main_while0b_v79
  refine Eq.trans ?_ (slice_chunk _ (starts V) sliceFits_S64x16x64x8x128_S1x16x64x8x128 n (starts_0 V n hn) (starts_1 V) (starts_2 V) (starts_3 V) (starts_4 V) b r h d)
  exact cast_chunk _ b r h d

/-- The trip's values. -/
theorem res80_apply : (res_main_while0b_v80 V : S16x64x8x128.Idx → EReal) (ix4 b r h d) = (V (Proc.devRef .tc main_v53_3) : S64x16x64x8x128.Idx → EReal) (ix5 n b r h d) := by
  unfold res_main_while0b_v80
  refine Eq.trans ?_ (slice_chunk _ (starts V) sliceFits_S64x16x64x8x128_S1x16x64x8x128 n (starts_0 V n hn) (starts_1 V) (starts_2 V) (starts_3 V) (starts_4 V) b r h d)
  exact cast_chunk _ b r h d

/-- The trip's running sums of the log gates. -/
theorem res81_apply : (res_main_while0b_v81 V : S16x64x8x128.Idx → EReal) (ix4 b r h d)
    = ∑ x, if x ≤ r then gates V (ix5 n b x h d) else 0 := by
  unfold res_main_while0b_v81
  refine (cumsum_chunk rfl _ _ (fun i => by pointwise) _ _ b r h d).trans ?_
  refine Finset.sum_congr rfl fun x _ => ?_
  refine if_congr Iff.rfl ?_ rfl
  refine Eq.trans ?_ (slice_chunk _ (starts V) sliceFits_S64x16x64x8x128_S1x16x64x8x128 n (starts_0 V n hn) (starts_1 V) (starts_2 V) (starts_3 V) (starts_4 V) b x h d)
  exact cast_chunk _ b x h d

/-- The running sum at the chunk's middle token. -/
theorem res82_apply : (res_main_while0b_v82 V : S16x1x8x128.Idx → EReal) (ix4 b 0 h d) = (res_main_while0b_v81 V : S16x64x8x128.Idx → EReal) (ix4 b 32 h d) := by
  unfold res_main_while0b_v82
  pointwise

/-- The running sum at the chunk's last token. -/
theorem res83_apply : (res_main_while0b_v83 V : S16x1x8x128.Idx → EReal) (ix4 b 0 h d) = (res_main_while0b_v81 V : S16x64x8x128.Idx → EReal) (ix4 b 63 h d) := by
  unfold res_main_while0b_v83
  pointwise

end

section
variable (V : Valuation τ sig (Elt Ideal)) (n : Fin 64) (hn : V (Proc.devRef .tc main_v53_4) = fun _ => BitVec.ofNat 32 n.val)
  (C : Fin 16 → Chunk) (ST : Fin 16 → Fin 8 → Fin 128 → Fin 128 → EReal)
  (hk : ∀ b r h d, (res_main_while0b_v79 V : S16x64x8x128.Idx → EReal) (ix4 b r h d) = (C b).key r (col h d))
  (hv : ∀ b r h d, (res_main_while0b_v80 V : S16x64x8x128.Idx → EReal) (ix4 b r h d) = (C b).v r (col h d))
  (hL : ∀ b r h d, (res_main_while0b_v81 V : S16x64x8x128.Idx → EReal) (ix4 b r h d) = (C b).L r (col h d))
  (hE : ∀ b h d, (res_main_while0b_v83 V : S16x1x8x128.Idx → EReal) (ix4 b 0 h d) = (C b).L 63 (col h d))
  (hS : ∀ b h d a, (V (Proc.devRef .tc main_v53_5) : S16x8x128x128.Idx → EReal) (ix4 b h d a) = ST b h a d)

include hk hv hL hE hS in
/-- The state after a trip. -/
theorem step_state (b : Fin 16) (h : Fin 8) (d a : Fin 128) :
    (step_main_v53_5 V : S16x8x128x128.Idx → EReal) (ix4 b h d a) = (C b).next (ST b) h a d := by
  unfold step_main_v53_5
  rw [id_eq]
  pointwise
  simp only [hk, hv, hL, hE, hS, Chunk.next]
  refine congrArg₂ _ (mul_comm _ _) (Finset.sum_congr rfl fun x _ => mul_comm _ _)

end

section
variable (V : Valuation τ sig (Elt Ideal)) (n : Fin 64) (hn : V (Proc.devRef .tc main_v53_4) = fun _ => BitVec.ofNat 32 n.val)
  (C : Fin 16 → Chunk) (ST : Fin 16 → Fin 8 → Fin 128 → Fin 128 → EReal)
include hn

/-- The outputs stacked after a trip: the trip's own are the chunk's, the others are as they were. -/
theorem step_out (hq : ∀ b r h d, (res_main_while0b_v77 V : S16x64x8x128.Idx → EReal) (ix4 b r h d) = (C b).zq r (col h d))
  (hk : ∀ b r h d, (res_main_while0b_v79 V : S16x64x8x128.Idx → EReal) (ix4 b r h d) = (C b).key r (col h d))
  (hv : ∀ b r h d, (res_main_while0b_v80 V : S16x64x8x128.Idx → EReal) (ix4 b r h d) = (C b).v r (col h d))
  (hL : ∀ b r h d, (res_main_while0b_v81 V : S16x64x8x128.Idx → EReal) (ix4 b r h d) = (C b).L r (col h d))
  (hM : ∀ b h d, (res_main_while0b_v82 V : S16x1x8x128.Idx → EReal) (ix4 b 0 h d) = (C b).L 32 (col h d))
  (hS : ∀ b h d a, (V (Proc.devRef .tc main_v53_5) : S16x8x128x128.Idx → EReal) (ix4 b h d a) = ST b h a d)
  (n' : Fin 64) (b : Fin 16) (r : Fin 64) (h : Fin 8) (d : Fin 128) :
    (step_main_v53_6 V : S64x16x64x8x128.Idx → EReal) (ix5 n' b r h d)
      = if n' = n then (C b).raw (ST b) h r d else (V (Proc.devRef .tc main_v53_6) : S64x16x64x8x128.Idx → EReal) (ix5 n' b r h d) := by
  unfold step_main_v53_6
  rw [id_eq]
  refine (update_chunk _ _ (starts V) updateFits_S64x16x64x8x128_S1x16x64x8x128 n (starts_0 V n hn) (starts_1 V) (starts_2 V) (starts_3 V) (starts_4 V) n' b r h d).trans (if_congr Iff.rfl ?_ rfl)
  pointwise
  simp only [hq, hk, hv, hL, hM, hS, Chunk.raw, Chunk.att]
  refine congrArg₂ _ (Finset.sum_congr rfl fun x _ => mul_comm _ _) (Finset.sum_congr rfl fun x _ => ?_)
  rw [mask_select le_rfl _ _ _ _ (by rw [id_eq]; pointwise), mul_comm]

end
end Cert.ReferenceIdeal.Value

end
-- ==== Proof.Hgrn.RefEntry.lean ====
module

public import proofs.«01_k».proof.Proof.Hgrn.RefStep

@[expose] public section

set_option maxRecDepth 8192
set_option maxHeartbeats 2000000

noncomputable section

namespace Cert.ReferenceIdeal.Value

open Cert.ReferenceIdeal Cert.ReferenceIdeal.Gen Cert.Hgrn
open Idealize.ShloMosaic Idealize.ShloMosaic.TcCoe
open StableHlo

/-! The stacked chunks at the loop's entry, at an index. -/

/-- Token `r` of chunk `n`, among a sequence's tokens. -/
def tokIn (n r : Fin 64) : Fin 4096 := ⟨64 * n.val + r.val, by omega⟩

/-- Splitting a sequence's tokens into chunks, the chunks first. -/
theorem chunks_apply (x : S16x4096x8x128.Idx → EReal) (n : Fin 64) (b : Fin 16) (r : Fin 64) (h : Fin 8) (d : Fin 128) :
    (transpose S64x16x64x8x128 [1, 0, 2, 3, 4] (shapeCast S16x64x64x8x128 x shapeCasts_S16x4096x8x128_S16x64x64x8x128) transposes_S16x64x64x8x128_S64x16x64x8x128_1_0_2_3_4 : S64x16x64x8x128.Idx → EReal) (ix5 n b r h d)
      = x (ix4 b (tokIn n r) h d) := by
  pointwise
  exact congrArg (fun t => x (ix4 b t h d)) (Fin.ext (by show n.val * 64 + r.val = 64 * n.val + r.val; omega))

/-- Splitting all tokens into sequences and the channels into heads. -/
theorem heads_apply (x : S65536x1024.Idx → EReal) (n : Fin 64) (b : Fin 16) (r : Fin 64) (h : Fin 8) (d : Fin 128) :
    (shapeCast S16x4096x8x128 x shapeCasts_S65536x1024_S16x4096x8x128 : S16x4096x8x128.Idx → EReal) (ix4 b (tokIn n r) h d)
      = x (ix2 (tok b n.val r) (col h d)) := by
  unfold tokIn
  pointwise
  refine congrArg₂ (fun t j => x (ix2 t j)) (Fin.ext ?_) (Fin.ext ?_)
  · show b.val * 4096 + (64 * n.val + r.val) = (4096 * b.val + 64 * n.val + r.val) % 65536
    omega
  · show h.val * 128 + d.val = 128 * h.val + d.val
    omega

/-- The stacked queries, from the queries' projections. -/
theorem ops2_q {F : FTy → Type} [FloatOps F] (V : Valuation τ sig (Elt F)) : after hostOps0_2 V (no_index (Proc.devRef .tc main_v53_0)) =
    id (transpose S64x16x64x8x128 [1, 0, 2, 3, 4] (shapeCast S16x64x64x8x128 (shapeCast S16x4096x8x128 (V (Proc.devRef .tc main_v1)) shapeCasts_S65536x1024_S16x4096x8x128) shapeCasts_S16x4096x8x128_S16x64x64x8x128) transposes_S16x64x64x8x128_S64x16x64x8x128_1_0_2_3_4) := by
  after_results
  rfl

/-- The stacked values, from the values' projections. -/
theorem ops2_v {F : FTy → Type} [FloatOps F] (V : Valuation τ sig (Elt F)) : after hostOps0_2 V (no_index (Proc.devRef .tc main_v53_3)) =
    id (transpose S64x16x64x8x128 [1, 0, 2, 3, 4] (shapeCast S16x64x64x8x128 (shapeCast S16x4096x8x128 (V (Proc.devRef .tc main_v6)) shapeCasts_S65536x1024_S16x4096x8x128) shapeCasts_S16x4096x8x128_S16x64x64x8x128) transposes_S16x64x64x8x128_S64x16x64x8x128_1_0_2_3_4) := by
  after_results
  rfl

/-- The keys, before the split into chunks. -/
def keys (l : FVec Ideal S8x128 .f32) (z : FVec Ideal S16x4096x8x128 .f32) : FVec Ideal S16x4096x8x128 .f32 :=
  mulf (broadcastInDim S16x4096x8x128 ![0, 1, 2, 3] bcast_S1x1x8x128_S16x4096x8x128_0_1_2_3 (broadcastInDim S1x1x8x128 ![2, 3] bcast_S8x128_S1x1x8x128_2_3
      (subf (broadcastInDim S8x128 ![] bcast_S_S8x128 (constant S_ .f32 0x3F800000#32)) l)))
    (Host.divf (broadcastInDim S16x4096x8x128 ![] bcast_S_S16x4096x8x128 (constant S_ .f32 0x3F800000#32))
      (addf (broadcastInDim S16x4096x8x128 ![] bcast_S_S16x4096x8x128 (constant S_ .f32 0x3F800000#32)) (Host.exp (Host.negf (Host.negf z)))))

/-- The stacked keys. -/
theorem ops2_k (V : Valuation τ sig (Elt Ideal)) : after hostOps0_2 V (no_index (Proc.devRef .tc main_v53_2)) =
    transpose S64x16x64x8x128 [1, 0, 2, 3, 4] (shapeCast S16x64x64x8x128 (keys (V (Proc.devRef .tc main_v8)) (V (Proc.devRef .tc main_v7))) shapeCasts_S16x4096x8x128_S16x64x64x8x128) transposes_S16x64x64x8x128_S64x16x64x8x128_1_0_2_3_4 := by
  after_results
  rfl

/-- The logarithm of the sum of the exponentials of two arrays, the first one row for all tokens. -/
def logAdd (a : FVec Ideal S8x128 .f32) (y : FVec Ideal S16x4096x8x128 .f32) : FVec Ideal S16x4096x8x128 .f32 :=
  select (cmpf .une (subf (broadcastInDim S16x4096x8x128 ![0, 1, 2, 3] bcast_S1x1x8x128_S16x4096x8x128_0_1_2_3 (broadcastInDim S1x1x8x128 ![2, 3] bcast_S8x128_S1x1x8x128_2_3 a)) y)
      (subf (broadcastInDim S16x4096x8x128 ![0, 1, 2, 3] bcast_S1x1x8x128_S16x4096x8x128_0_1_2_3 (broadcastInDim S1x1x8x128 ![2, 3] bcast_S8x128_S1x1x8x128_2_3 a)) y))
    (addf (broadcastInDim S16x4096x8x128 ![0, 1, 2, 3] bcast_S1x1x8x128_S16x4096x8x128_0_1_2_3 (broadcastInDim S1x1x8x128 ![2, 3] bcast_S8x128_S1x1x8x128_2_3 a)) y)
    (addf (maximumf (broadcastInDim S16x4096x8x128 ![0, 1, 2, 3] bcast_S1x1x8x128_S16x4096x8x128_0_1_2_3 (broadcastInDim S1x1x8x128 ![2, 3] bcast_S8x128_S1x1x8x128_2_3 a)) y)
      (Host.log1p (Host.exp (Host.negf (Host.absf (subf (broadcastInDim S16x4096x8x128 ![0, 1, 2, 3] bcast_S1x1x8x128_S16x4096x8x128_0_1_2_3 (broadcastInDim S1x1x8x128 ![2, 3] bcast_S8x128_S1x1x8x128_2_3 a)) y))))))

/-- The stacked log gates. -/
theorem ops2_g (V : Valuation τ sig (Elt Ideal)) : after hostOps0_2 V (no_index (Proc.devRef .tc main_v53_1)) =
    transpose S64x16x64x8x128 [1, 0, 2, 3, 4] (shapeCast S16x64x64x8x128 (logAdd (V (Proc.devRef .tc main_v9))
      (addf (broadcastInDim S16x4096x8x128 ![0, 1, 2, 3] bcast_S1x1x8x128_S16x4096x8x128_0_1_2_3 (broadcastInDim S1x1x8x128 ![2, 3] bcast_S8x128_S1x1x8x128_2_3 (V (Proc.devRef .tc main_v11)))) (V (Proc.devRef .tc main_v12))))
      shapeCasts_S16x4096x8x128_S16x64x64x8x128) transposes_S16x64x64x8x128_S64x16x64x8x128_1_0_2_3_4 := by
  after_results
  rfl

/-- The logarithm of the sigmoid, as minus the softplus of the negated argument. -/
def logSig (z : FVec Ideal S16x4096x8x128 .f32) : FVec Ideal S16x4096x8x128 .f32 :=
  Host.negf (select (cmpf .une (subf (Host.negf z) (broadcastInDim S16x4096x8x128 ![] bcast_S_S16x4096x8x128 (constant S_ .f32 0x00000000#32))) (subf (Host.negf z) (broadcastInDim S16x4096x8x128 ![] bcast_S_S16x4096x8x128 (constant S_ .f32 0x00000000#32))))
    (addf (Host.negf z) (broadcastInDim S16x4096x8x128 ![] bcast_S_S16x4096x8x128 (constant S_ .f32 0x00000000#32)))
    (addf (maximumf (Host.negf z) (broadcastInDim S16x4096x8x128 ![] bcast_S_S16x4096x8x128 (constant S_ .f32 0x00000000#32)))
      (Host.log1p (Host.exp (Host.negf (Host.absf (subf (Host.negf z) (broadcastInDim S16x4096x8x128 ![] bcast_S_S16x4096x8x128 (constant S_ .f32 0x00000000#32)))))))))

theorem ops1_z (V : Valuation τ sig (Elt Ideal)) : after hostOps0_1 V (no_index (Proc.devRef .tc main_v12)) = logSig (V (Proc.devRef .tc main_v7)) := by
  after_results
  rfl

section
variable (V : Valuation τ sig (Elt Ideal))

/-- The first stretch: the queries' projections. -/
theorem ops0_q : after hostOps0 V (no_index (Proc.devRef .tc main_v1)) =
    shapeCast S65536x1024 (extractStridedSlice S1x65536x1024 ![0, 0, 0] (V (Proc.devRef .tc main_arg0)) slices_S2x65536x1024_S1x65536x1024_0_0_0) shapeCasts_S1x65536x1024_S65536x1024 := by
  after_results
  rfl

/-- The first stretch: the gates' projections. -/
theorem ops0_z : after hostOps0 V (no_index (Proc.devRef .tc main_v7)) =
    shapeCast S16x4096x8x128 (shapeCast S65536x1024 (extractStridedSlice S1x65536x1024 ![1, 0, 0] (V (Proc.devRef .tc main_arg0)) slices_S2x65536x1024_S1x65536x1024_1_0_0) shapeCasts_S1x65536x1024_S65536x1024) shapeCasts_S65536x1024_S16x4096x8x128 := by
  after_results
  rfl

/-- The first stretch: the values' projections. -/
theorem ops0_v : after hostOps0 V (no_index (Proc.devRef .tc main_v6)) =
    (extf .f32 (shapeCast S65536x1024 (extractStridedSlice S1x65536x1024 ![0, 0, 0] (V (Proc.devRef .tc main_arg1)) slices_S7x65536x1024_S1x65536x1024_0_0_0) shapeCasts_S1x65536x1024_S65536x1024 : FVec Ideal S65536x1024 .bf16) bitsLt_bf16_f32 : FVec Ideal S65536x1024 .f32) := by
  after_results
  rfl

/-- The first stretch: the lower bounds by head. -/
theorem ops0_l : after hostOps0 V (no_index (Proc.devRef .tc main_v8)) = shapeCast S8x128 (V (Proc.devRef .tc main_arg2)) shapeCasts_S1x1024_S8x128 := by
  after_results
  rfl

/-- The first stretch: the logarithms of the lower bounds. -/
theorem ops0_ll : after hostOps0 V (no_index (Proc.devRef .tc main_v9)) = Host.log (shapeCast S8x128 (V (Proc.devRef .tc main_arg2)) shapeCasts_S1x1024_S8x128 : FVec Ideal S8x128 .f32) := by
  after_results
  rfl

/-- The first stretch: the logarithms of one minus the lower bounds. -/
theorem ops0_lm : after hostOps0 V (no_index (Proc.devRef .tc main_v11)) = Host.log1p (Host.negf (shapeCast S8x128 (V (Proc.devRef .tc main_arg2)) shapeCasts_S1x1024_S8x128 : FVec Ideal S8x128 .f32)) := by
  after_results
  rfl

end

section
variable (m : (ℓ : Loc nD τ sig) → Buf (Elt Ideal) ℓ) (c : Dev nD)

/-- The gates' and queries' projections. -/
def zfOf : S2x65536x1024.Idx → EReal := m ((c.tc : Thread nD τ).loc main_arg0)
/-- The other projections. -/
def zbOf : S7x65536x1024.Idx → EReal := m ((c.tc : Thread nD τ).loc main_arg1)
/-- The lower bounds. -/
def lbOf : S1x1024.Idx → EReal := m ((c.tc : Thread nD τ).loc main_arg2)
/-- The norm's weights. -/
def gnOf : S1x128.Idx → EReal := m ((c.tc : Thread nD τ).loc main_arg3)
/-- The states before the call. -/
def s0Of : S16x8x128x128.Idx → EReal := m ((c.tc : Thread nD τ).loc main_arg4)

end

section
variable (m : (ℓ : Loc nD τ sig) → Buf (Elt Ideal) ℓ) (c : Dev nD) (n : Fin 64) (b : Fin 16) (r : Fin 64) (h : Fin 8) (d : Fin 128)

/-- The contents before the second stretch. -/
abbrev E1 : Valuation τ sig (Elt Ideal) := after hostOps0 (launchContents m c)
/-- The contents before the third stretch. -/
abbrev E2 : Valuation τ sig (Elt Ideal) := after hostOps0_1 (E1 m c)

theorem entry_eq : entryContents preI m c = after hostOps0_2 (E2 m c) := by
  simp only [entryContents, afterL_cons, afterL_nil]

theorem keep1 (V : Valuation τ sig (Elt Ideal)) (x : Ref sig .tc) (hx : x ∉ hostOps0_1_W) : after hostOps0_1 V (Proc.devRef .tc x) = V (Proc.devRef .tc x) :=
  after_of_writes_sub hostOps0_1 V hostOps0_1_writes hx

/-- The states at the loop's entry are the call's. -/
theorem entry_s : after hostOps0_2 (E2 m c) (Proc.devRef .tc main_v53_5) = s0Of m c := by
  have e : after hostOps0_2 (E2 m c) (no_index (Proc.devRef .tc main_v53_5)) = E2 m c (Proc.devRef .tc main_arg4) := by
    after_results
    rfl
  rw [e]
  exact (keep_main_arg4_hostOps0_1 _).trans (keep_main_arg4_hostOps0 _)

/-- The queries at the loop's entry. -/
theorem entry_q : (entryContents preI m c (Proc.devRef .tc main_v53_0) : S64x16x64x8x128.Idx → EReal) (ix5 n b r h d)
    = zfOf m c (ix3 0 (tok b n.val r) (col h d)) := by
  rw [entry_eq, ops2_q, id_eq]
  refine (chunks_apply _ n b r h d).trans ((heads_apply _ n b r h d).trans ?_)
  rw [show E2 m c (Proc.devRef .tc main_v1) = _ from (keep1 _ main_v1 (by decide +kernel)).trans (ops0_q _)]
  pointwise
  rfl

/-- The values at the loop's entry. -/
theorem entry_v : (entryContents preI m c (Proc.devRef .tc main_v53_3) : S64x16x64x8x128.Idx → EReal) (ix5 n b r h d)
    = zbOf m c (ix3 0 (tok b n.val r) (col h d)) := by
  rw [entry_eq, ops2_v, id_eq]
  refine (chunks_apply _ n b r h d).trans ((heads_apply _ n b r h d).trans ?_)
  rw [show E2 m c (Proc.devRef .tc main_v6) = _ from (keep1 _ main_v6 (by decide +kernel)).trans (ops0_v _)]
  pointwise
  rfl

/-- The reference's gates' projections, by token and head. -/
theorem E2_z : (E2 m c (Proc.devRef .tc main_v7) : S16x4096x8x128.Idx → EReal) (ix4 b (tokIn n r) h d)
    = zfOf m c (ix3 1 (tok b n.val r) (col h d)) := by
  rw [show E2 m c (Proc.devRef .tc main_v7) = _ from (keep1 _ main_v7 (by decide +kernel)).trans (ops0_z _)]
  refine (heads_apply _ n b r h d).trans ?_
  pointwise
  rfl

/-- The lower bounds, by head. -/
theorem row_apply (x : S1x1024.Idx → EReal) : (shapeCast S8x128 x shapeCasts_S1x1024_S8x128 : S8x128.Idx → EReal) (ix2 h d) = x (ix2 0 (col h d)) := by
  pointwise
  exact congrArg (fun j => x (ix2 0 j)) (Fin.ext (by show h.val * 128 + d.val = 128 * h.val + d.val; omega))

/-- Minus the softplus of the negated argument is the logarithm of the sigmoid. -/
theorem neg_softplus (z : EReal) : -(max (-z) 0 + Ideal.log1p (Ideal.exp (-FloatOps.absf (F := Ideal) (φ := .f32) (-z)))) = lsig z := by
  have ha : FloatOps.absf (F := Ideal) (φ := .f32) (-z) = FloatOps.absf (F := Ideal) (φ := .f32) z := by
    show max (-z) (- -z) = max z (-z)
    rw [neg_neg, max_comm]
  have hm : -max (-z) 0 = min z 0 := by
    rcases le_total z 0 with hz | hz
    · rw [min_eq_left hz, max_eq_left (by simpa using EReal.neg_le_neg_iff.mpr hz), neg_neg]
    · rw [min_eq_right hz, max_eq_right (by simpa using EReal.neg_le_neg_iff.mpr hz), neg_zero]
  have h1 : max (-z) 0 ≠ ⊥ := fun h => absurd (le_max_right (-z) 0) (by rw [h]; simp)
  have h2 : Ideal.log1p (Ideal.exp (-FloatOps.absf (F := Ideal) (φ := .f32) (-z))) ≠ ⊥ := by
    unfold Ideal.log1p
    generalize -FloatOps.absf (F := Ideal) (φ := .f32) (-z) = y
    induction y using EReal.rec with
    | bot =>
      show Ideal.log (1 + (0 : EReal)) ≠ ⊥
      rw [add_zero]
      show (if (1 : ℝ) ≤ 0 then ⊥ else ((Real.log 1 : ℝ) : EReal)) ≠ ⊥
      rw [if_neg (by norm_num)]
      exact EReal.coe_ne_bot _
    | top =>
      show Ideal.log (((1 : ℝ) : EReal) + ⊤) ≠ ⊥
      rw [EReal.coe_add_top]
      show (⊤ : EReal) ≠ ⊥
      exact top_ne_bot
    | coe y =>
      show Ideal.log (((1 : ℝ) : EReal) + ((Real.exp y : ℝ) : EReal)) ≠ ⊥
      rw [← EReal.coe_add]
      show (if 1 + Real.exp y ≤ 0 then ⊥ else ((Real.log (1 + Real.exp y) : ℝ) : EReal)) ≠ ⊥
      rw [if_neg (by have := Real.exp_pos y; linarith)]
      exact EReal.coe_ne_bot _
  rw [EReal.neg_add (Or.inl h1) (Or.inr h2), hm, ha]
  unfold lsig
  rw [zero_sub]
  rfl

/-- The reference's logarithm of the sigmoid, at an index. -/
theorem logSig_apply (z : S16x4096x8x128.Idx → EReal) (i : S16x4096x8x128.Idx) : (logSig z : S16x4096x8x128.Idx → EReal) i = lsig (z i) := by
  unfold logSig
  pointwise
  rw [if_neg (fun h => h rfl)]
  exact neg_softplus (z i)

/-- The keys at the loop's entry. -/
theorem entry_k : (entryContents preI m c (Proc.devRef .tc main_v53_2) : S64x16x64x8x128.Idx → EReal) (ix5 n b r h d)
    = (1 - lbOf m c (ix2 0 (col h d)))
      * sigm (0 - zfOf m c (ix3 1 (tok b n.val r) (col h d))) := by
  rw [entry_eq, ops2_k]
  refine (chunks_apply _ n b r h d).trans ?_
  unfold keys
  pointwise
  rw [E2_z, show E2 m c (Proc.devRef .tc main_v8) = _ from (keep1 _ main_v8 (by decide +kernel)).trans (ops0_l _)]
  refine congrArg₂ _ (congrArg (fun x => 1 - x) (row_apply h d (lbOf m c))) ?_
  unfold sigm
  rw [zero_sub, zero_sub]

/-- The log gates at the loop's entry. -/
theorem entry_g : (entryContents preI m c (Proc.devRef .tc main_v53_1) : S64x16x64x8x128.Idx → EReal) (ix5 n b r h d)
    = gate (lbOf m c (ix2 0 (col h d)))
      (zfOf m c (ix3 1 (tok b n.val r) (col h d))) := by
  rw [entry_eq, ops2_g]
  refine (chunks_apply _ n b r h d).trans ?_
  unfold logAdd
  pointwise
  rw [if_neg (fun h => h rfl), show E2 m c (Proc.devRef .tc main_v9) = _ from (keep1 _ main_v9 (by decide +kernel)).trans (ops0_ll _),
    show E2 m c (Proc.devRef .tc main_v11) = _ from (keep1 _ main_v11 (by decide +kernel)).trans (ops0_lm _),
    show E2 m c (Proc.devRef .tc main_v12) = _ from ops1_z _]
  have hz : (logSig (E1 m c (Proc.devRef .tc main_v7)) : S16x4096x8x128.Idx → EReal) (ix4 b (tokIn n r) h d) = lsig (zfOf m c (ix3 1 (tok b n.val r) (col h d))) :=
    (logSig_apply _ _).trans (congrArg lsig ((congrFun (keep1 _ main_v7 (by decide +kernel)).symm _).trans (E2_z m c n b r h d)))
  have hl : (Host.log (shapeCast S8x128 (lbOf m c) shapeCasts_S1x1024_S8x128 : FVec Ideal S8x128 .f32) : S8x128.Idx → EReal) (ix2 h d) = Ideal.log (lbOf m c (ix2 0 (col h d))) :=
    congrArg Ideal.log (row_apply h d (lbOf m c))
  have hp : (Host.log1p (Host.negf (shapeCast S8x128 (lbOf m c) shapeCasts_S1x1024_S8x128 : FVec Ideal S8x128 .f32)) : S8x128.Idx → EReal) (ix2 h d) = Ideal.log1p (0 - lbOf m c (ix2 0 (col h d))) :=
    congrArg Ideal.log1p ((congrArg (fun x => -x) (row_apply h d (lbOf m c))).trans (zero_sub _).symm)
  rw [hz]
  refine Eq.trans (congrArg₂ (fun x y => max x (y + lsig (zfOf m c (ix3 1 (tok b n.val r) (col h d))))
    + Ideal.log1p (Ideal.exp (-FloatOps.absf (F := Ideal) (φ := .f32) (x - (y + lsig (zfOf m c (ix3 1 (tok b n.val r) (col h d)))))))) hl hp) ?_
  unfold gate
  rw [zero_sub (FloatOps.absf (F := Ideal) (φ := .f32) _)]
  rfl

end

end Cert.ReferenceIdeal.Value

end
-- ==== Proof.Hgrn.Reference.lean ====
module

public import proofs.«01_k».proof.Proof.Hgrn.RefEntry

@[expose] public section

set_option maxRecDepth 8192

noncomputable section

namespace Cert.ReferenceIdeal.Value

open Cert.ReferenceIdeal Cert.ReferenceIdeal.Gen Cert.Hgrn
open Idealize.ShloMosaic Idealize.ShloMosaic.TcCoe
open StableHlo

/-! The reference's loop: before trip `k` the state is the recurrence's before chunk `k`, and the stacked outputs hold
the chunks before `k`. -/

section
variable (m : (ℓ : Loc nD τ sig) → Buf (Elt Ideal) ℓ) (c : Dev nD)

/-- Chunk `n` of sequence `b`. -/
abbrev Ch (b : Fin 16) (n : ℕ) : Chunk := chunkOf (zfOf m c) (zbOf m c) (lbOf m c) (gnOf m c) b n
/-- The state of sequence `b` before chunk `n`. -/
abbrev St (b : Fin 16) (n : ℕ) : Fin 8 → Fin 128 → Fin 128 → EReal := stateAt (zfOf m c) (zbOf m c) (lbOf m c) (gnOf m c) (s0Of m c) b n
/-- The contents before trip `k`. -/
abbrev X (k : ℕ) : Valuation τ sig (Elt Ideal) := STEP^[k] (entryContents preI m c)

theorem X_succ (k : ℕ) : X m c (k + 1) = STEP (X m c k) := Function.iterate_succ_apply' ..

theorem X_0 (k : ℕ) : X m c k (Proc.devRef .tc main_v53_0) = entryContents preI m c (Proc.devRef .tc main_v53_0) := by
  induction k with
  | zero => rfl
  | succ k ih => rw [X_succ, STEP_main_v53_0, ih]
theorem X_1 (k : ℕ) : X m c k (Proc.devRef .tc main_v53_1) = entryContents preI m c (Proc.devRef .tc main_v53_1) := by
  induction k with
  | zero => rfl
  | succ k ih => rw [X_succ, STEP_main_v53_1, ih]
theorem X_2 (k : ℕ) : X m c k (Proc.devRef .tc main_v53_2) = entryContents preI m c (Proc.devRef .tc main_v53_2) := by
  induction k with
  | zero => rfl
  | succ k ih => rw [X_succ, STEP_main_v53_2, ih]
theorem X_3 (k : ℕ) : X m c k (Proc.devRef .tc main_v53_3) = entryContents preI m c (Proc.devRef .tc main_v53_3) := by
  induction k with
  | zero => rfl
  | succ k ih => rw [X_succ, STEP_main_v53_3, ih]

/-- The counter before trip `k`. -/
theorem X_4 (k : ℕ) : X m c k (Proc.devRef .tc main_v53_4) = fun _ => BitVec.ofNat 32 k := by
  induction k with
  | zero => exact ctr_entry m c
  | succ k ih =>
    rw [X_succ, STEP_main_v53_4]
    unfold step_main_v53_4
    rw [ih, id_eq]
    funext i
    show BitVec.ofNat 32 k + 1#32 = BitVec.ofNat 32 (k + 1)
    rw [BitVec.ofNat_add]

section
variable (n : Fin 64)

theorem q_at (b : Fin 16) (r : Fin 64) (h : Fin 8) (d : Fin 128) :
    (res_main_while0b_v77 (X m c n.val) : S16x64x8x128.Idx → EReal) (ix4 b r h d) = (Ch m c b n.val).zq r (col h d) :=
  (res77_apply _ n (X_4 m c n.val) b r h d).trans ((congrFun (X_0 m c n.val) _).trans (entry_q m c n b r h d))
theorem k_at (b : Fin 16) (r : Fin 64) (h : Fin 8) (d : Fin 128) :
    (res_main_while0b_v79 (X m c n.val) : S16x64x8x128.Idx → EReal) (ix4 b r h d) = (Ch m c b n.val).key r (col h d) :=
  (res79_apply _ n (X_4 m c n.val) b r h d).trans ((congrFun (X_2 m c n.val) _).trans (entry_k m c n b r h d))
theorem v_at (b : Fin 16) (r : Fin 64) (h : Fin 8) (d : Fin 128) :
    (res_main_while0b_v80 (X m c n.val) : S16x64x8x128.Idx → EReal) (ix4 b r h d) = (Ch m c b n.val).v r (col h d) :=
  (res80_apply _ n (X_4 m c n.val) b r h d).trans ((congrFun (X_3 m c n.val) _).trans (entry_v m c n b r h d))
theorem L_at (b : Fin 16) (r : Fin 64) (h : Fin 8) (d : Fin 128) :
    (res_main_while0b_v81 (X m c n.val) : S16x64x8x128.Idx → EReal) (ix4 b r h d) = (Ch m c b n.val).L r (col h d) := by
  refine (res81_apply _ n (X_4 m c n.val) b r h d).trans ?_
  unfold Chunk.L cum
  refine Finset.sum_congr (M := EReal) rfl fun x _ => ?_
  rw [show gates (X m c n.val) (ix5 n b x h d) = gate (lbOf m c (ix2 0 (col h d))) (zfOf m c (ix3 1 (tok b n.val x) (col h d)))
    from (congrFun (X_1 m c n.val) _).trans (entry_g m c n b x h d)]
  rfl

end

/-- The state before trip `k`, transposed. -/
theorem X_5 (k : ℕ) (hk : k ≤ 64) (b : Fin 16) (h : Fin 8) (d a : Fin 128) :
    (X m c k (Proc.devRef .tc main_v53_5) : S16x8x128x128.Idx → EReal) (ix4 b h d a) = St m c b k h a d := by
  induction k generalizing b h d a with
  | zero =>
    show (entryContents preI m c (Proc.devRef .tc main_v53_5) : S16x8x128x128.Idx → EReal) (ix4 b h d a) = s0Of m c (ix4 b h d a)
    rw [entry_eq, entry_s]
  | succ k ih =>
    rw [X_succ, STEP_main_v53_5]
    exact step_state (X m c k) (fun b => Ch m c b k) (fun b => St m c b k)
      (k_at m c ⟨k, by omega⟩) (v_at m c ⟨k, by omega⟩) (L_at m c ⟨k, by omega⟩)
      (fun b h d => (res83_apply _ ⟨k, by omega⟩ (X_4 m c k) b h d).trans (L_at m c ⟨k, by omega⟩ b 63 h d)) (ih (by omega)) b h d a

/-- The stacked outputs before trip `k`. -/
theorem X_6 (k : ℕ) (hk : k ≤ 64) (n : Fin 64) (hn : n.val < k) (b : Fin 16) (r : Fin 64) (h : Fin 8) (d : Fin 128) :
    (X m c k (Proc.devRef .tc main_v53_6) : S64x16x64x8x128.Idx → EReal) (ix5 n b r h d) = (Ch m c b n.val).raw (St m c b n.val) h r d := by
  induction k with
  | zero => omega
  | succ k ih =>
    rw [X_succ, STEP_main_v53_6]
    refine (step_out (X m c k) ⟨k, by omega⟩ (X_4 m c k) (fun b => Ch m c b k) (fun b => St m c b k)
      (q_at m c ⟨k, by omega⟩) (k_at m c ⟨k, by omega⟩) (v_at m c ⟨k, by omega⟩) (L_at m c ⟨k, by omega⟩)
      (fun b h d => (res82_apply _ ⟨k, by omega⟩ (X_4 m c k) b h d).trans (L_at m c ⟨k, by omega⟩ b 32 h d)) (X_5 m c k (by omega)) n b r h d).trans ?_
    by_cases e : n = ⟨k, by omega⟩
    · rw [if_pos e, e]
    · rw [if_neg e]
      exact ih (by omega) (by have : n.val ≠ k := fun h => e (Fin.ext h); omega)

/-- The arguments the operations after the loop read. -/
theorem X_gn (k : ℕ) : (X m c k (Proc.devRef .tc main_arg3) : S1x128.Idx → EReal) = gnOf m c := iter_main_arg3 m c k
theorem X_zb (k : ℕ) : (X m c k (Proc.devRef .tc main_arg1) : S7x65536x1024.Idx → EReal) = zbOf m c := iter_main_arg1 m c k

theorem unchunks_apply (x : S64x16x64x8x128.Idx → EReal) (n : Fin 64) (b : Fin 16) (r : Fin 64) (h : Fin 8) (d : Fin 128) :
    (shapeCast S16x4096x8x128 (transpose S16x64x64x8x128 [1, 0, 2, 3, 4] x transposes_S64x16x64x8x128_S16x64x64x8x128_1_0_2_3_4) shapeCasts_S16x64x64x8x128_S16x4096x8x128 : S16x4096x8x128.Idx → EReal)
      (ix4 b (tokIn n r) h d) = x (ix5 n b r h d) := by
  refine Eq.trans ?_ (congrArg x (show (ix5 ⟨n.val, n.isLt⟩ b r h d : S64x16x64x8x128.Idx) = ix5 n b r h d from rfl))
  unfold tokIn
  pointwise

theorem unheads_apply (x : S16x4096x8x128.Idx → EReal) (n : Fin 64) (b : Fin 16) (r : Fin 64) (h : Fin 8) (d : Fin 128) :
    (shapeCast S65536x1024 x shapeCasts_S16x4096x8x128_S65536x1024 : S65536x1024.Idx → EReal) (ix2 (tok b n.val r) (col h d)) = x (ix4 b (tokIn n r) h d) := by
  pointwise
  have ht : (tok b n.val r).val = 4096 * b.val + 64 * n.val + r.val := by
    show (4096 * b.val + 64 * n.val + r.val) % 65536 = _
    omega
  have hc : (col h d).val = 128 * h.val + d.val := rfl
  congr 1
  funext a
  fin_cases a
  · exact Fin.ext (show (tok b n.val r).val / 4096 = b.val by omega)
  · exact Fin.ext (show (tok b n.val r).val % 4096 = 64 * n.val + r.val by omega)
  · exact Fin.ext (show (col h d).val / 128 = h.val by omega)
  · exact Fin.ext (show (col h d).val % 128 = d.val by omega)

/-- The norm over a head's channels, with its weights. -/
def normed (Y : FVec Ideal S16x4096x8x128 .f32) (g : FVec Ideal S1x128 .f32) : FVec Ideal S16x4096x8x128 .f32 :=
  mulf (mulf Y (broadcastInDim S16x4096x8x128 ![0, 1, 2, 3] bcast_S16x4096x8x1_S16x4096x8x128_0_1_2_3
      (Host.rsqrt (addf (Host.divf (broadcastInDim S16x4096x8x1 ![0, 1, 2] bcast_S16x4096x8_S16x4096x8x1_0_1_2
        (Host.reduceAdd (mulf Y Y) (constant S_ FTy.f32 0x00000000#32) reducesTo_S16x4096x8x128_S16x4096x8_d3 h_S_))
        (broadcastInDim S16x4096x8x1 ![] bcast_S_S16x4096x8x1 (constant S_ FTy.f32 0x43000000#32)))
        (broadcastInDim S16x4096x8x1 ![] bcast_S_S16x4096x8x1 (constant S_ FTy.f32 0x358637BD#32))))))
    (broadcastInDim S16x4096x8x128 ![0, 1, 2, 3] bcast_S1x1x1x128_S16x4096x8x128_0_1_2_3
      (broadcastInDim S1x1x1x128 ![3] bcast_S128_S1x1x1x128_3 (shapeCast S128 g shapeCasts_S1x128_S128)))

theorem normed_apply (Y : S16x4096x8x128.Idx → EReal) (g : S1x128.Idx → EReal) (b : Fin 16) (t : Fin 4096) (h : Fin 8) (d : Fin 128) :
    (normed Y g : S16x4096x8x128.Idx → EReal) (ix4 b t h d) = Y (ix4 b t h d) *
      Ideal.rsqrt (Ideal.div (∑ d, Y (ix4 b t h d) * Y (ix4 b t h d)) (Ideal.ofBits FTy.f32 1124073472#32) + Ideal.ofBits FTy.f32 897988541#32) * g (ix2 0 d) := by
  unfold normed
  pointwise

/-- The output gate: its projection times the projection's sigmoid. -/
def silu (z : FVec Ideal S7x65536x1024 .bf16) : FVec Ideal S65536x1024 .f32 :=
  mulf (extf .f32 (shapeCast S65536x1024 (extractStridedSlice S1x65536x1024 ![1, 0, 0] z slices_S7x65536x1024_S1x65536x1024_1_0_0) shapeCasts_S1x65536x1024_S65536x1024 : FVec Ideal S65536x1024 .bf16) bitsLt_bf16_f32)
    (Host.divf (broadcastInDim S65536x1024 ![] bcast_S_S65536x1024 (constant S_ .f32 0x3F800000#32)) (addf (broadcastInDim S65536x1024 ![] bcast_S_S65536x1024 (constant S_ .f32 0x3F800000#32))
      (Host.exp (Host.negf (extf .f32 (shapeCast S65536x1024 (extractStridedSlice S1x65536x1024 ![1, 0, 0] z slices_S7x65536x1024_S1x65536x1024_1_0_0) shapeCasts_S1x65536x1024_S65536x1024 : FVec Ideal S65536x1024 .bf16) bitsLt_bf16_f32)))))

theorem silu_apply (z : S7x65536x1024.Idx → EReal) (t : Fin 65536) (j : Fin 1024) :
    (silu z : S65536x1024.Idx → EReal) (ix2 t j) = z (ix3 1 t j) * sigm (z (ix3 1 t j)) := by
  unfold silu
  pointwise
  unfold sigm
  rw [zero_sub]

/-- The outputs before the norm, all tokens of a sequence together. -/
def outs (V : Valuation τ sig (Elt Ideal)) : FVec Ideal S16x4096x8x128 .f32 :=
  shapeCast S16x4096x8x128 (transpose S16x64x64x8x128 [1, 0, 2, 3, 4] (V (Proc.devRef .tc main_v53_6)) transposes_S64x16x64x8x128_S16x64x64x8x128_1_0_2_3_4) shapeCasts_S16x64x64x8x128_S16x4096x8x128

/-- The operations after the loop: the norm, then the output gate. -/
theorem out_split (V : Valuation τ sig (Elt Ideal)) (i : S65536x1024.Idx) :
    (out_main_v76 V : S65536x1024.Idx → EReal) i
      = (shapeCast S65536x1024 (normed (outs V) (V (Proc.devRef .tc main_arg3))) shapeCasts_S16x4096x8x128_S65536x1024 : S65536x1024.Idx → EReal) i
        * (silu (V (Proc.devRef .tc main_arg1)) : S65536x1024.Idx → EReal) i := rfl

/-- The reference's output at a token and a channel. -/
theorem out_apply (n : Fin 64) (b : Fin 16) (r : Fin 64) (h : Fin 8) (d : Fin 128) :
    (out_main_v76 (X m c 64) : S65536x1024.Idx → EReal) (ix2 (tok b n.val r) (col h d)) = outAt (zfOf m c) (zbOf m c) (lbOf m c) (gnOf m c) (s0Of m c) b n.val h r d := by
  rw [out_split, X_gn, X_zb, unheads_apply, normed_apply, silu_apply]
  have hY : ∀ d, (outs (X m c 64) : S16x4096x8x128.Idx → EReal) (ix4 b (tokIn n r) h d) = (Ch m c b n.val).raw (St m c b n.val) h r d := fun d =>
    (unchunks_apply _ n b r h d).trans (X_6 m c 64 le_rfl n n.isLt b r h d)
  simp only [hY]
  rfl

end
end Cert.ReferenceIdeal.Value

end
-- ==== Proof.Hgrn.Agree.lean ====
module

public import proofs.«01_k».proof.Defs
public import proofs.«01_k».proof.Proof.Hgrn.Point
public import proofs.«01_k».proof.Proof.Hgrn.Reference

@[expose] public section

set_option maxRecDepth 8192

noncomputable section

namespace Cert.Hgrn

open Idealize.ShloMosaic Idealize.ShloMosaic.TcCoe Idealize.SL.Sem

/-! The recurrence's call and its reference end with the same values. -/

/-- Two arrays of outputs that agree at every token (by sequence, chunk and position) and channel (by head) are equal. -/
theorem ext_out (f g : (⟨2, ![65536, 1024]⟩ : Shape).Idx → EReal)
    (h : ∀ (b : Fin 16) (n r : Fin 64) (h : Fin 8) (d : Fin 128), f (ix2 (tok b n.val r) (col h d)) = g (ix2 (tok b n.val r) (col h d))) : f = g := by
  funext i
  have e := h ⟨(i 0).val / 4096, by have := (i 0).isLt; change _ < 65536 at this; omega⟩ ⟨(i 0).val % 4096 / 64, by omega⟩ ⟨(i 0).val % 64, by omega⟩
    ⟨(i 1).val / 128, by have := (i 1).isLt; change _ < 1024 at this; omega⟩ ⟨(i 1).val % 128, by omega⟩
  have hi : i = ix2 (tok ⟨(i 0).val / 4096, by have := (i 0).isLt; change _ < 65536 at this; omega⟩ ((i 0).val % 4096 / 64) ⟨(i 0).val % 64, by omega⟩)
      (col ⟨(i 1).val / 128, by have := (i 1).isLt; change _ < 1024 at this; omega⟩ ⟨(i 1).val % 128, by omega⟩) := by
    funext a
    fin_cases a
    · refine Fin.ext ?_
      have := (i 0).isLt
      change (i 0).val < 65536 at this
      show (i 0).val = (4096 * ((i 0).val / 4096) + 64 * ((i 0).val % 4096 / 64) + (i 0).val % 64) % 65536
      omega
    · refine Fin.ext ?_
      show (i 1).val = 128 * ((i 1).val / 128) + (i 1).val % 128
      omega
  dsimp only at e
  rw [hi]
  exact e

/-- Two arrays of states that agree at every sequence, head and pair of channels are equal. -/
theorem ext_state (f g : (⟨4, ![16, 8, 128, 128]⟩ : Shape).Idx → EReal)
    (h : ∀ (b : Fin 16) (h : Fin 8) (d a : Fin 128), f (ix4 b h d a) = g (ix4 b h d a)) : f = g := by
  funext i
  rw [eq_ix4 i]
  exact h _ _ _ _

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include h0 h1 h2 h3 h4

/-- The same states: the two programs read the same arguments. -/
theorem St_eq (b : Fin 16) (n : ℕ) : Cert.ReferenceIdeal.Value.St m' c b n = Cert.KernelIdeal.Gen.St m c b n := by
  unfold Cert.ReferenceIdeal.Value.St Cert.KernelIdeal.Gen.St Cert.ReferenceIdeal.Value.zfOf Cert.ReferenceIdeal.Value.zbOf
    Cert.ReferenceIdeal.Value.lbOf Cert.ReferenceIdeal.Value.gnOf Cert.ReferenceIdeal.Value.s0Of
  rw [h0, h1, h2, h3, h4]

omit h4 in
/-- The same chunks. -/
theorem Ch_eq (b : Fin 16) (n : ℕ) : Cert.ReferenceIdeal.Value.Ch m' c b n = Cert.KernelIdeal.Gen.Ch m c b n := by
  unfold Cert.ReferenceIdeal.Value.Ch Cert.KernelIdeal.Gen.Ch Cert.ReferenceIdeal.Value.zfOf Cert.ReferenceIdeal.Value.zbOf
    Cert.ReferenceIdeal.Value.lbOf Cert.ReferenceIdeal.Value.gnOf
  rw [h0, h1, h2, h3]

/-- The reference's outputs are the kernel's. -/
theorem out_eq : Cert.ReferenceIdeal.Value.out_main_v76 (Cert.ReferenceIdeal.Value.X m' c 64) = Cert.KernelIdeal.Value.G7 m c := by
  refine ext_out _ _ fun b n r h d => ?_
  rw [Cert.ReferenceIdeal.Value.out_apply, Cert.KernelIdeal.Gen.G7_apply, ← St_eq m m' c h0 h1 h2 h3 h4, ← Ch_eq m m' c h0 h1 h2 h3]
  rfl

/-- The reference's final states are the kernel's. -/
theorem state_eq : Cert.ReferenceIdeal.Value.X m' c 64 (Proc.devRef .tc Cert.ReferenceIdeal.main_v53_5) = Cert.KernelIdeal.Value.G8 m c := by
  refine ext_state _ _ fun b h d a => ?_
  rw [Cert.KernelIdeal.Gen.G8_apply, ← St_eq m m' c h0 h1 h2 h3 h4]
  exact Cert.ReferenceIdeal.Value.X_5 m' c 64 le_rfl b h d a

end

/-- The recurrence's call computes what its reference computes. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Value.G7 m c, fun c => Cert.KernelIdeal.Value.G8 m c, Cert.KernelIdeal.Value.run m g, ?_⟩
  refine (θ_run Cert.ReferenceIdeal.defs _ _).mono (fun r h c => ?_) (Cert.ReferenceIdeal.Value.run m' g')
  obtain ⟨e0, e1, e2, e3, e4⟩ := hm c
  exact ⟨(h c).1.trans (out_eq m m' c e0 e1 e2 e3 e4), (h c).2.1.trans (state_eq m m' c e0 e1 e2 e3 e4), (h c).2.2⟩

end Cert.Hgrn

end
-- ==== Proof.Dense.Spec.lean ====
module

public import proofs.«01_k».proof.Proof.Hgrn.Spec

@[expose] public section

noncomputable section

namespace Cert.Dense

open Idealize.ShloMosaic Cert.Hgrn

/-! The layer's projections, merge and feed-forward part at one token, written as plain functions of extended reals. -/

/-- The root mean square norm of a token's 1024 channels, with its weights. -/
def rms (x g : Fin 1024 → EReal) (j : Fin 1024) : EReal :=
  x j * Ideal.rsqrt (Ideal.div (∑ k, x k * x k) (Ideal.ofBits FTy.f32 0x44800000#32) + Ideal.ofBits FTy.f32 0x358637BD#32) * g j

/-- A token's channels against one column of weights. -/
def col (h w : Fin 1024 → EReal) : EReal := ∑ k, h k * w k

/-- The gated unit of the feed-forward part: `silu a * b` of two columns. -/
def unit (h : Fin 1024 → EReal) (wa wb : Fin 1024 → EReal) : EReal := col h wa * sigm (col h wa) * col h wb

/-- The feed-forward part with its residual at channel `j`: the token plus its 2816 units against the second weights. -/
def ffnAcc (x g : Fin 1024 → EReal) (W : Fin 1024 → Fin 5632 → EReal) (D : Fin 2816 → Fin 1024 → EReal) (j : Fin 1024) : EReal :=
  x j + ∑ f : Fin 2816, unit (rms x g) (fun k => W k ⟨f.val, by omega⟩) (fun k => W k ⟨2816 + f.val, by omega⟩) * D f j

/-- The feed-forward part, its residual and the last norm. -/
def ffn (x g : Fin 1024 → EReal) (W : Fin 1024 → Fin 5632 → EReal) (D : Fin 2816 → Fin 1024 → EReal) (go : Fin 1024 → EReal)
    (j : Fin 1024) : EReal := rms (ffnAcc x g W D) go j

/-- A sum over the 2816 units in two halves. -/
theorem sum_halves (f : Fin 2816 → EReal) :
    ∑ i, f i = (∑ i : Fin 1408, f ⟨i.val, by omega⟩) + ∑ i : Fin 1408, f ⟨1408 + i.val, by omega⟩ :=
  Fin.sum_univ_add (a := 1408) (b := 1408) f

/-- One branch of the merge: the gate times the branch's column. -/
def branch (a g : Fin 1024 → EReal) (w : Fin 1024 → Fin 1024 → EReal) (j : Fin 1024) : EReal := sigm (g j) * col a (fun k => w k j)

/-- The gated merge of three branches, the output projection and the residual. -/
def merge (a1 a2 a3 g1 g2 g3 x : Fin 1024 → EReal) (w1 w2 w3 wo : Fin 1024 → Fin 1024 → EReal) (j : Fin 1024) : EReal :=
  x j + ∑ k, (branch a1 g1 w1 k + branch a2 g2 w2 k + branch a3 g3 w3 k) * wo k j

/-- Column `f` of a projection of the normed token. -/
def projAt {n : ℕ} (x g : Fin 1024 → EReal) (W : Fin 1024 → Fin n → EReal) (f : Fin n) : EReal := col (rms x g) (fun k => W k f)

end Cert.Dense

end
-- ==== Proof.Dense.Ffn.lean ====
module

public import proofs.«01_k».proof.Proof.Gen.Kernel2Ideal.Value
public import proofs.«01_k».proof.Proof.Dense.Spec
public import Idealize.ShloMosaic.Lib.Pipeline.ValueKit

@[expose] public section

set_option maxRecDepth 16384

noncomputable section

namespace Cert.Kernel2Ideal.Gen

open Idealize.ShloMosaic Idealize.ShloMosaic.TcCoe Idealize.ShloMosaic.Tactic Cert.Hgrn Cert.Dense

/-! The feed-forward call: what one block of 512 tokens computes, then the whole array. -/

/-- The normed block. -/
theorem pay2_apply (x : Vec Ideal S512x1024 .f32) (g : Vec Ideal S1x1024 .f32) (r : Fin 512) (j : Fin 1024) :
    (k0_pay2 x g : S512x1024.Idx → EReal) (ix2 r j) = rms (fun k => x (ix2 r k)) (fun k => g (ix2 0 k)) j := by
  unfold k0_pay2
  dsimp only
  pointwise
  unfold rms
  rfl

/-- A block of columns of the normed block. -/
theorem pay4_apply (x : Vec Ideal S512x1024 .f32) (g : Vec Ideal S1x1024 .f32) (w : Vec Ideal S1024x1408 .bf16) (r : Fin 512) (j : Fin 1408) :
    (k0_pay4 x g w : S512x1408.Idx → EReal) (ix2 r j) = col (fun k => rms (fun k => x (ix2 r k)) (fun k => g (ix2 0 k)) k) (fun k => w (ix2 k j)) := by
  unfold k0_pay4
  pointwise
  simp only [pay2_apply]
  rfl

/-- The residual and the first half of the units. -/
theorem pay3_apply (x : Vec Ideal S512x1024 .f32) (g : Vec Ideal S1x1024 .f32) (wa wb : Vec Ideal S1024x1408 .bf16) (d : Vec Ideal S1408x1024 .bf16)
    (r : Fin 512) (j : Fin 1024) :
    (k0_pay3 x g wa wb d : S512x1024.Idx → EReal) (ix2 r j)
      = x (ix2 r j) + ∑ f, unit (rms (fun k => x (ix2 r k)) (fun k => g (ix2 0 k))) (fun k => wa (ix2 k f)) (fun k => wb (ix2 k f)) * d (ix2 f j) := by
  unfold k0_pay3
  pointwise
  simp only [pay2_apply]
  rfl

/-- The second half of the units, then the last norm. -/
theorem pay1_apply (h : FVec Ideal S512x1024 .bf16) (s : FVec Ideal S512x1024 .f32) (a : FVec Ideal S512x1408 .f32) (wb : Vec Ideal S1024x1408 .bf16)
    (d : Vec Ideal S1408x1024 .bf16) (go : Vec Ideal S1x1024 .f32) (r : Fin 512) (j : Fin 1024) :
    (k0_pay1 h s a wb d go : S512x1024.Idx → EReal) (ix2 r j)
      = rms (fun j => s (ix2 r j) + ∑ f, a (ix2 r f) * sigm (a (ix2 r f)) * col (fun k => h (ix2 r k)) (fun k => wb (ix2 k f)) * d (ix2 f j))
          (fun k => go (ix2 0 k)) j := by
  unfold k0_pay1
  dsimp only
  pointwise
  unfold rms
  rfl

/-- What the body leaves in its output block. -/
theorem out_apply (x : Vec Ideal S512x1024 .f32) (g : Vec Ideal S1x1024 .f32) (w : Vec Ideal S1024x5632 .bf16) (d : Vec Ideal S2816x1024 .bf16)
    (go : Vec Ideal S1x1024 .f32) (r : Fin 512) (j : Fin 1024) :
    (out0_5 x g w d go : S512x1024.Idx → EReal) (ix2 r j)
      = ffn (fun k => x (ix2 r k)) (fun k => g (ix2 0 k)) (fun k f => w (ix2 k f)) (fun f k => d (ix2 f k)) (fun k => go (ix2 0 k)) j := by
  unfold out0_5
  rw [View.canon_cons_unit_lit _ _ _ (by decide), View.ld_unit_lit _ _ (by decide), View.ld_unit_lit _ _ (by decide), View.ld_unit_lit _ _ (by decide), pay1_apply]
  simp only [pay2_apply, pay3_apply, pay4_apply]
  have a1 : ∀ k (f : Fin 1408), View.ld w r0_2 (ix2 k f) = w (ix2 k ⟨f.val, by omega⟩) := fun k f => View.ld_unit_apply_of _ _ _ _ _ _ fun i => by
    fin_cases i <;> simp [ix2]
  have a2 : ∀ k (f : Fin 1408), View.ld w r0_3 (ix2 k f) = w (ix2 k ⟨2816 + f.val, by omega⟩) := fun k f => View.ld_unit_apply_of _ _ _ _ _ _ fun i => by
    fin_cases i <;> simp [ix2]
  have a3 : ∀ k (f : Fin 1408), View.ld w r0_5 (ix2 k f) = w (ix2 k ⟨1408 + f.val, by omega⟩) := fun k f => View.ld_unit_apply_of _ _ _ _ _ _ fun i => by
    fin_cases i <;> simp [ix2]
  have a4 : ∀ k (f : Fin 1408), View.ld w r0_6 (ix2 k f) = w (ix2 k ⟨4224 + f.val, by omega⟩) := fun k f => View.ld_unit_apply_of _ _ _ _ _ _ fun i => by
    fin_cases i <;> simp [ix2]
  have b1 : ∀ (f : Fin 1408) k, View.ld d r0_4 (ix2 f k) = d (ix2 ⟨f.val, by omega⟩ k) := fun k f => View.ld_unit_apply_of _ _ _ _ _ _ fun i => by
    fin_cases i <;> simp [ix2]
  have b2 : ∀ (f : Fin 1408) k, View.ld d r0_7 (ix2 f k) = d (ix2 ⟨1408 + f.val, by omega⟩ k) := fun k f => View.ld_unit_apply_of _ _ _ _ _ _ fun i => by
    fin_cases i <;> simp [ix2]
  unfold ffn
  congr 1
  funext j
  unfold ffnAcc
  rw [sum_halves, ← add_assoc]
  congr 1
  · congr 1
    refine Finset.sum_congr rfl fun f _ => ?_
    rw [b1]
    simp only [a1, a2]
  · refine Finset.sum_congr rfl fun f _ => ?_
    rw [b2]
    simp only [a3, a4]
    have e : ∀ h : 2816 + (1408 + f.val) < 5632, (⟨2816 + (1408 + f.val), h⟩ : Fin 5632) = ⟨4224 + f.val, by omega⟩ := fun h => Fin.ext (by show 2816 + (1408 + f.val) = 4224 + f.val; omega)
    simp only [e]
    rfl

variable (m : (ℓ : Loc nD τ sig) → Buf (Elt Ideal) ℓ) (c : Dev nD)

/-- The whole result, from the arguments. -/
def G (i : S65536x1024.Idx) : EReal :=
  ffn (fun k => (m ((c : Thread nD τ).loc main_arg0) : S65536x1024.Idx → EReal) (ix2 (i 0) k))
    (fun k => (m ((c : Thread nD τ).loc main_arg1) : S1x1024.Idx → EReal) (ix2 0 k))
    (fun k f => (m ((c : Thread nD τ).loc main_arg2) : S1024x5632.Idx → EReal) (ix2 k f))
    (fun f k => (m ((c : Thread nD τ).loc main_arg3) : S2816x1024.Idx → EReal) (ix2 f k))
    (fun k => (m ((c : Thread nD τ).loc main_arg4) : S1x1024.Idx → EReal) (ix2 0 k)) (i 1)

theorem idx_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

/-- Token `r` of the block of point `t`. -/
def tokAt (t : Fin cfg0.N) (r : Fin 512) : Fin 65536 :=
  ⟨512 * t.val + r.val, by have := lt_of_lt_of_eq t.isLt (show cfg0.N = 128 from N_0); omega⟩

theorem blk0 (t : Fin cfg0.N) (r : Fin 512) (k : Fin 1024) :
    iblk m c 0 t (ix2 r k) = (m ((c : Thread nD τ).loc main_arg0) : S65536x1024.Idx → EReal) (ix2 (tokAt t r) k) := by
  obtain ⟨e0, e1, e2, e3, e4, e5⟩ := idx_in t
  have h : (tokAt t r).val = 512 * t.val + r.val := rfl
  blk_ext [iblk, V, e0, h]
theorem blk1 (t : Fin cfg0.N) (k : Fin 1024) : iblk m c 1 t (ix2 0 k) = (m ((c : Thread nD τ).loc main_arg1) : S1x1024.Idx → EReal) (ix2 0 k) := by
  obtain ⟨e0, e1, e2, e3, e4, e5⟩ := idx_in t
  blk_ext [iblk, V, e1]
theorem blk2 (t : Fin cfg0.N) (k : Fin 1024) (f : Fin 5632) :
    iblk m c 2 t (ix2 k f) = (m ((c : Thread nD τ).loc main_arg2) : S1024x5632.Idx → EReal) (ix2 k f) := by
  obtain ⟨e0, e1, e2, e3, e4, e5⟩ := idx_in t
  blk_ext [iblk, V, e2]
theorem blk3 (t : Fin cfg0.N) (f : Fin 2816) (k : Fin 1024) :
    iblk m c 3 t (ix2 f k) = (m ((c : Thread nD τ).loc main_arg3) : S2816x1024.Idx → EReal) (ix2 f k) := by
  obtain ⟨e0, e1, e2, e3, e4, e5⟩ := idx_in t
  blk_ext [iblk, V, e3]
theorem blk4 (t : Fin cfg0.N) (k : Fin 1024) : iblk m c 4 t (ix2 0 k) = (m ((c : Thread nD τ).loc main_arg4) : S1x1024.Idx → EReal) (ix2 0 k) := by
  obtain ⟨e0, e1, e2, e3, e4, e5⟩ := idx_in t
  blk_ext [iblk, V, e4]

/-- What point `t` leaves in its output block. -/
theorem point (t : Fin cfg0.N) (r : Fin 512) (j : Fin 1024) :
    (out0_5 (iblk m c 0 t) (iblk m c 1 t) (iblk m c 2 t) (iblk m c 3 t) (iblk m c 4 t) : S512x1024.Idx → EReal) (ix2 r j) = G m c (ix2 (tokAt t r) j) := by
  refine (out_apply _ _ _ _ _ _ _).trans ?_
  simp only [blk0, blk1, blk2, blk3, blk4]
  rfl

theorem emb5 (t : Fin cfg0.N) (r : Fin 512) (j : Fin 1024) :
    ((win0_5.blk t).view.emb (ix2 r j) : S65536x1024.Idx) = ix2 (tokAt t r) j := by
  obtain ⟨e0, e1, e2, e3, e4, e5⟩ := idx_in t
  have h : (tokAt t r).val = 512 * t.val + r.val := rfl
  blk_ext [e5, h]

/-- The result array after the run. -/
theorem final : (dats m 0 c).arrAt 5 cfg0.N = G m c := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, eq_ix2 _⟩
  exact (point m c t r j).trans (congrArg (G m c) (emb5 t r j)).symm

end Cert.Kernel2Ideal.Gen

end
-- ==== Proof.Dense.FfnRef.lean ====
module

public import proofs.«01_k».proof.Proof.Gen.Reference2Ideal.Run
public import proofs.«01_k».proof.Proof.Dense.Spec

@[expose] public section

set_option maxRecDepth 16384

noncomputable section

namespace Cert.Reference2Ideal.Value

open Cert.Reference2Ideal Cert.Reference2Ideal.Gen Cert.Hgrn Cert.Dense
open Idealize.ShloMosaic Idealize.ShloMosaic.TcCoe
open StableHlo

/-! The reference of the feed-forward call, at one token and channel. -/

/-- The reference's norm. -/
def normed (x : FVec Ideal S65536x1024 .f32) (g : FVec Ideal S1x1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast S1024 g shapeCasts_S1x1024_S1024)))

theorem normed_apply (x : FVec Ideal S65536x1024 .f32) (g : FVec Ideal S1x1024 .f32) (t : Fin 65536) (j : Fin 1024) :
    (normed x g : S65536x1024.Idx → EReal) (ix2 t j) = rms (fun k => x (ix2 t k)) (fun k => g (ix2 0 k)) j := by
  unfold normed
  pointwise
  unfold rms
  rfl

/-- The reference's projections of the feed-forward part. -/
def proj (h : FVec Ideal S65536x1024 .f32) (w : FVec Ideal S1024x5632 .bf16) : FVec Ideal S65536x5632 .f32 :=
  Host.dotGeneral dot_S65536x1024_S1024x5632_S65536x5632_1_0_0_1_n_n none h (extf .f32 w bitsLt_bf16_f32)

theorem proj_apply (h : FVec Ideal S65536x1024 .f32) (w : FVec Ideal S1024x5632 .bf16) (t : Fin 65536) (f : Fin 5632) :
    (proj h w : S65536x5632.Idx → EReal) (ix2 t f) = col (fun k => h (ix2 t k)) (fun k => w (ix2 k f)) := by
  unfold proj
  pointwise
  rfl

/-- The reference's gated units. -/
def units (z : FVec Ideal S65536x5632 .f32) : FVec Ideal S65536x2816 .f32 :=
  mulf (mulf (extractStridedSlice S65536x2816 ![0, 0] z slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] z slices_S65536x5632_S65536x2816_0_0)))))) (extractStridedSlice S65536x2816 ![0, 2816] z slices_S65536x5632_S65536x2816_0_2816)

theorem units_apply (z : FVec Ideal S65536x5632 .f32) (t : Fin 65536) (f : Fin 2816) :
    (units z : S65536x2816.Idx → EReal) (ix2 t f)
      = z (ix2 t ⟨f.val, by omega⟩) * sigm (z (ix2 t ⟨f.val, by omega⟩)) * z (ix2 t ⟨2816 + f.val, by omega⟩) := by
  unfold units
  pointwise
  unfold sigm
  rw [zero_sub]

/-- The residual with the reference's second product. -/
def resid (x : FVec Ideal S65536x1024 .f32) (u : FVec Ideal S65536x2816 .f32) (d : FVec Ideal S2816x1024 .bf16) : FVec Ideal S65536x1024 .f32 :=
  addf x (Host.dotGeneral dot_S65536x2816_S2816x1024_S65536x1024_1_0_0_1_n_n none u (extf .f32 d bitsLt_bf16_f32))

theorem resid_apply (x : FVec Ideal S65536x1024 .f32) (u : FVec Ideal S65536x2816 .f32) (d : FVec Ideal S2816x1024 .bf16) (t : Fin 65536) (j : Fin 1024) :
    (resid x u d : S65536x1024.Idx → EReal) (ix2 t j) = x (ix2 t j) + ∑ f : Fin 2816, u (ix2 t f) * d (ix2 f j) := by
  unfold resid
  pointwise

section
variable (m : (ℓ : Loc nD τ sig) → Buf (Elt Ideal) ℓ) (c : Dev nD)

theorem res_split : res_main_v36 m c = normed (resid (m ((c.tc : Thread nD τ).loc main_arg0))
    (units (proj (normed (m ((c.tc : Thread nD τ).loc main_arg0)) (m ((c.tc : Thread nD τ).loc main_arg1))) (m ((c.tc : Thread nD τ).loc main_arg2))))
    (m ((c.tc : Thread nD τ).loc main_arg3))) (m ((c.tc : Thread nD τ).loc main_arg4)) := rfl

/-- The reference's result at a token and a channel. -/
theorem res_apply (t : Fin 65536) (j : Fin 1024) :
    (res_main_v36 m c : S65536x1024.Idx → EReal) (ix2 t j)
      = ffn (fun k => (m ((c.tc : Thread nD τ).loc main_arg0) : S65536x1024.Idx → EReal) (ix2 t k))
    (fun k => (m ((c.tc : Thread nD τ).loc main_arg1) : S1x1024.Idx → EReal) (ix2 0 k))
    (fun k f => (m ((c.tc : Thread nD τ).loc main_arg2) : S1024x5632.Idx → EReal) (ix2 k f))
    (fun f k => (m ((c.tc : Thread nD τ).loc main_arg3) : S2816x1024.Idx → EReal) (ix2 f k))
    (fun k => (m ((c.tc : Thread nD τ).loc main_arg4) : S1x1024.Idx → EReal) (ix2 0 k)) j := by
  rw [res_split, normed_apply]
  simp only [resid_apply, units_apply, proj_apply, normed_apply]
  rfl

end
end Cert.Reference2Ideal.Value

end
-- ==== Proof.Dense.FfnAgree.lean ====
module

public import proofs.«01_k».proof.Defs
public import proofs.«01_k».proof.Proof.Dense.Ffn
public import proofs.«01_k».proof.Proof.Dense.FfnRef

@[expose] public section

noncomputable section

namespace Cert.Dense

open Idealize.ShloMosaic Idealize.ShloMosaic.TcCoe Idealize.SL.Sem

/-- The feed-forward call computes what its reference computes. -/
theorem algebraic2 : Cert.algebraic_Kernel2Ideal_Reference2Ideal (hKernel2Ideal := Cert.Kernel2Ideal.Gen.facts) (hReference2Ideal := Cert.Reference2Ideal.Gen.facts) := by
  intro m g m' g' _ hm
  refine ⟨fun c => Cert.Kernel2Ideal.Gen.G m c, (θ_run Cert.Kernel2Ideal.defs _ _).mono (fun r h c => ?_) (Cert.Kernel2Ideal.Value.run_blocks m g), ?_⟩
  · exact ⟨(h c).1.trans (Cert.Kernel2Ideal.Gen.final m c), (h c).2⟩
  refine (θ_run Cert.Reference2Ideal.defs _ _).mono (fun r h c => ?_) (Cert.Reference2Ideal.Value.run m' g')
  obtain ⟨e0, e1, e2, e3, e4⟩ := hm c
  have hr : Cert.Reference2Ideal.Value.res_main_v36 m' c = Cert.Kernel2Ideal.Gen.G m c := by
    funext i
    obtain ⟨t, j, rfl⟩ : ∃ (t : Fin 65536) (j : Fin 1024), i = ix2 t j := ⟨i 0, i 1, eq_ix2 _⟩
    rw [Cert.Reference2Ideal.Value.res_apply, e0, e1, e2, e3, e4]
    rfl
  exact ⟨(h c).1.trans hr, (h c).2⟩

end Cert.Dense

end
-- ==== Proof.Dense.Cache.lean ====
module

public import proofs.«01_k».proof.Proof.Gen.Kernel4Ideal.Frame
public import proofs.«01_k».proof.Proof.Dense.Spec
public import Idealize.ShloMosaic.Lib.Pipeline.ValueKit

@[expose] public section

set_option maxRecDepth 16384

noncomputable section

namespace Cert.Kernel4Ideal.Gen

open Idealize.ShloMosaic Idealize.ShloMosaic.TcCoe Idealize.ShloMosaic.Tactic Idealize.SL.Sem Cert.Hgrn Cert.Dense

/-! The cache's projections: what one block of 512 tokens computes, then the whole arrays. -/

/-- The normed block. -/
theorem pay7_apply (x : Vec Ideal S512x1024 .f32) (g : Vec Ideal S1x1024 .f32) (r : Fin 512) (j : Fin 1024) :
    (k0_pay7 x g : S512x1024.Idx → EReal) (ix2 r j) = rms (fun k => x (ix2 r k)) (fun k => g (ix2 0 k)) j := by
  unfold k0_pay7
  dsimp only
  pointwise
  unfold rms
  rfl

/-- The normed block as the later stores read it. -/
theorem pay14_apply (x : Vec Ideal S512x1024 .f32) (g : Vec Ideal S1x1024 .f32) (w : Vec Ideal S1024x4096 .bf16) (r : Fin 512) (j : Fin 1024) :
    (k0_pay14 x g w : S512x1024.Idx → EReal) (ix2 r j) = rms (fun k => x (ix2 r k)) (fun k => g (ix2 0 k)) j := by
  unfold k0_pay14
  rw [View.ld_unit_lit _ _ (by decide), View.ld_unit_lit _ _ (by decide), pay7_apply]

/-- A block of columns against a given normed block. -/
theorem pay1_apply (h : FVec Ideal S512x1024 .bf16) (w : Vec Ideal S1024x1024 .bf16) (r : Fin 512) (j : Fin 1024) :
    (k0_pay1 h w : S512x1024.Idx → EReal) (ix2 r j) = Cert.Dense.col (fun k => h (ix2 r k)) (fun k => w (ix2 k j)) := by
  unfold k0_pay1
  pointwise
  rfl
theorem pay4_apply (h : FVec Ideal S512x1024 .bf16) (w : Vec Ideal S1024x1024 .bf16) (r : Fin 512) (j : Fin 1024) :
    (k0_pay4 h w : S512x1024.Idx → EReal) (ix2 r j) = Cert.Dense.col (fun k => h (ix2 r k)) (fun k => w (ix2 k j)) := by
  unfold k0_pay4
  pointwise
  rfl
theorem pay8_apply (x : Vec Ideal S512x1024 .f32) (g : Vec Ideal S1x1024 .f32) (w : Vec Ideal S1024x1024 .bf16) (r : Fin 512) (j : Fin 1024) :
    (k0_pay8 x g w : S512x1024.Idx → EReal) (ix2 r j) = projAt (fun k => x (ix2 r k)) (fun k => g (ix2 0 k)) (fun k l => w (ix2 k l)) j := by
  unfold k0_pay8
  pointwise
  simp only [pay7_apply]
  rfl
theorem pay11_apply (x : Vec Ideal S512x1024 .f32) (g : Vec Ideal S1x1024 .f32) (w : Vec Ideal S1024x1024 .bf16) (r : Fin 512) (j : Fin 1024) :
    (k0_pay11 x g w : S512x1024.Idx → EReal) (ix2 r j) = projAt (fun k => x (ix2 r k)) (fun k => g (ix2 0 k)) (fun k l => w (ix2 k l)) j := by
  unfold k0_pay11
  pointwise
  simp only [pay7_apply]
  rfl

/-- Channel `128 * h + d`: channel `d` of head `h`. -/
def chan (h : Fin 8) (d : Fin 128) : Fin 1024 := ⟨128 * h.val + d.val, by omega⟩

/-- A block of 1024 channels laid out as 8 heads of 128. -/
theorem heads_apply (v : FVec Ideal S512x1024 .f32) (r : Fin 512) (h : Fin 8) (d : Fin 128) :
    (shapeCast S512x8x128 v shapeCasts_S512x1024_S512x8x128 : S512x8x128.Idx → EReal) (ix3 r h d) = v (ix2 r (chan h d)) := by
  refine shapeCast_apply _ _ _ _ ?_
  rw [Shape.rowMajor_val_two, Shape.rowMajor_val_three]
  show r.val * 1024 + (128 * h.val + d.val) = (r.val * 8 + h.val) * 128 + d.val
  omega

/-- A block with a leading axis of one. -/
theorem lead_apply (v : FVec Ideal S512x1024 .bf16) (r : Fin 512) (j : Fin 1024) :
    (shapeCast S1x512x1024 v shapeCasts_S512x1024_S1x512x1024 : S1x512x1024.Idx → EReal) (ix3 0 r j) = v (ix2 r j) := by
  pointwise

/-- Column `1024 * s + j` of the weights: channel `j` of the projection `s`. -/
def slot (s : Fin 4) (j : Fin 1024) : Fin 4096 := ⟨1024 * s.val + j.val, by omega⟩

theorem ld0 (w : Vec Ideal S1024x4096 .bf16) (k j : Fin 1024) : View.ld w r0_2 (ix2 k j) = w (ix2 k (slot 0 j)) :=
  View.ld_unit_apply_of _ _ _ _ _ _ fun i => by fin_cases i <;> simp [ix2, slot]
theorem ld1 (w : Vec Ideal S1024x4096 .bf16) (k j : Fin 1024) : View.ld w r0_5 (ix2 k j) = w (ix2 k (slot 1 j)) :=
  View.ld_unit_apply_of _ _ _ _ _ _ fun i => by fin_cases i <;> simp [ix2, slot]
theorem ld2 (w : Vec Ideal S1024x4096 .bf16) (k j : Fin 1024) : View.ld w r0_7 (ix2 k j) = w (ix2 k (slot 2 j)) :=
  View.ld_unit_apply_of _ _ _ _ _ _ fun i => by fin_cases i <;> simp [ix2, slot]
theorem ld3 (w : Vec Ideal S1024x4096 .bf16) (k j : Fin 1024) : View.ld w r0_9 (ix2 k j) = w (ix2 k (slot 3 j)) :=
  View.ld_unit_apply_of _ _ _ _ _ _ fun i => by fin_cases i <;> simp [ix2, slot]

section
variable (x : Vec Ideal S512x1024 .f32) (g : Vec Ideal S1x1024 .f32) (w : Vec Ideal S1024x4096 .bf16) (r : Fin 512)

/-- What the body computes at token `r`, projection `s` and channel `j` of its block. -/
def val (s : Fin 4) (j : Fin 1024) : EReal := projAt (fun k => x (ix2 r k)) (fun k => g (ix2 0 k)) (fun k f => w (ix2 k f)) (slot s j)

theorem val0 (j : Fin 1024) : (k0_pay8 (View.ld x r0_0) (View.ld g r0_1) (View.ld w r0_2) : S512x1024.Idx → EReal) (ix2 r j) = val x g w r 0 j := by
  rw [View.ld_unit_lit _ _ (by decide), View.ld_unit_lit _ _ (by decide), pay8_apply]
  exact congrArg (Cert.Dense.col _) (funext fun k => ld0 w k j)
theorem val1 (j : Fin 1024) : (k0_pay11 (View.ld x r0_0) (View.ld g r0_1) (View.ld w r0_5) : S512x1024.Idx → EReal) (ix2 r j) = val x g w r 1 j := by
  rw [View.ld_unit_lit _ _ (by decide), View.ld_unit_lit _ _ (by decide), pay11_apply]
  exact congrArg (Cert.Dense.col _) (funext fun k => ld1 w k j)
theorem val2 (j : Fin 1024) : (k0_pay1 (k0_pay14 x g w) (View.ld w r0_7) : S512x1024.Idx → EReal) (ix2 r j) = val x g w r 2 j := by
  rw [pay1_apply]
  simp only [pay14_apply]
  exact congrArg (Cert.Dense.col _) (funext fun k => ld2 w k j)
theorem val3 (j : Fin 1024) : (k0_pay4 (k0_pay14 x g w) (View.ld w r0_9) : S512x1024.Idx → EReal) (ix2 r j) = val x g w r 3 j := by
  rw [pay4_apply]
  simp only [pay14_apply]
  exact congrArg (Cert.Dense.col _) (funext fun k => ld3 w k j)

/-- What the body leaves in its four blocks of heads. -/
theorem out3_apply (h : Fin 8) (d : Fin 128) : (out0_3 x g w : S512x8x128.Idx → EReal) (ix3 r h d) = val x g w r 0 (chan h d) := by
  unfold out0_3
  rw [View.canon_cons_unit_lit _ _ _ (by decide)]
  exact (heads_apply _ r h d).trans (val0 x g w r _)
theorem out4_apply (h : Fin 8) (d : Fin 128) : (out0_4 x g w : S512x8x128.Idx → EReal) (ix3 r h d) = val x g w r 1 (chan h d) := by
  unfold out0_4
  rw [View.canon_cons_unit_lit _ _ _ (by decide)]
  exact (heads_apply _ r h d).trans (val1 x g w r _)
theorem out5_apply (h : Fin 8) (d : Fin 128) : (out0_5 x g w : S512x8x128.Idx → EReal) (ix3 r h d) = val x g w r 2 (chan h d) := by
  unfold out0_5
  rw [View.canon_cons_unit_lit _ _ _ (by decide)]
  exact (heads_apply _ r h d).trans (val2 x g w r _)
theorem out6_apply (h : Fin 8) (d : Fin 128) : (out0_6 x g w : S512x8x128.Idx → EReal) (ix3 r h d) = val x g w r 3 (chan h d) := by
  unfold out0_6
  rw [View.canon_cons_unit_lit _ _ _ (by decide)]
  exact (heads_apply _ r h d).trans (val3 x g w r _)

end

/-- Slot `s` of the stacked block, at the place a store's row and channel land in it. -/
theorem emb0 (r : Fin 512) (j : Fin 1024) : (r0_4.emb (ix3 0 r j) : S4x512x1024.Idx) = ix3 0 r j := by
  funext a
  refine Fin.ext ?_
  match a with
  | ⟨0, _⟩ => rfl
  | ⟨1, _⟩ => show 0 + 1 * r.val = r.val; omega
  | ⟨2, _⟩ => show 0 + 1 * j.val = j.val; omega
theorem emb1 (r : Fin 512) (j : Fin 1024) : (r0_6.emb (ix3 0 r j) : S4x512x1024.Idx) = ix3 1 r j := by
  funext a
  refine Fin.ext ?_
  match a with
  | ⟨0, _⟩ => rfl
  | ⟨1, _⟩ => show 0 + 1 * r.val = r.val; omega
  | ⟨2, _⟩ => show 0 + 1 * j.val = j.val; omega
theorem emb2 (r : Fin 512) (j : Fin 1024) : (r0_8.emb (ix3 0 r j) : S4x512x1024.Idx) = ix3 2 r j := by
  funext a
  refine Fin.ext ?_
  match a with
  | ⟨0, _⟩ => rfl
  | ⟨1, _⟩ => show 0 + 1 * r.val = r.val; omega
  | ⟨2, _⟩ => show 0 + 1 * j.val = j.val; omega
theorem emb3 (r : Fin 512) (j : Fin 1024) : (r0_10.emb (ix3 0 r j) : S4x512x1024.Idx) = ix3 3 r j := by
  funext a
  refine Fin.ext ?_
  match a with
  | ⟨0, _⟩ => rfl
  | ⟨1, _⟩ => show 0 + 1 * r.val = r.val; omega
  | ⟨2, _⟩ => show 0 + 1 * j.val = j.val; omega

/-- An index of a store of one slot is its row and channel. -/
theorem lead_idx (z : S1x512x1024.Idx) : ∃ (r : Fin 512) (j : Fin 1024), z = ix3 0 r j :=
  ⟨z 1, z 2, (eq_ix3 z).trans (congrArg (fun a => ix3 a (z 1) (z 2)) (Subsingleton.elim (α := Fin 1) _ _))⟩

/-- The stacked block, index by index. -/
def stack (x : Vec Ideal S512x1024 .f32) (g : Vec Ideal S1x1024 .f32) (w : Vec Ideal S1024x4096 .bf16) : Vec Ideal S4x512x1024 .bf16 :=
  fun y => val x g w (y 1) (y 0) (y 2)

/-- What the body leaves in its block of the stacked projections. -/
theorem out7_apply (x : Vec Ideal S512x1024 .f32) (g : Vec Ideal S1x1024 .f32) (w : Vec Ideal S1024x4096 .bf16) (y : S4x512x1024.Idx) :
    out0_7 x g w y = stack x g w y := by
  unfold out0_7
  refine View.canon_apply_of_pieces (stack x g w) _ ?_ y (cover0_7 _ _ _ _ y)
  intro pc hpc
  rcases List.mem_cons.mp hpc with rfl | hpc
  · intro z
    obtain ⟨r, j, rfl⟩ := lead_idx z
    exact (lead_apply _ r j).trans ((val3 x g w r j).trans (congrArg (stack x g w) (emb3 r j)).symm)
  rcases List.mem_cons.mp hpc with rfl | hpc
  · intro z
    obtain ⟨r, j, rfl⟩ := lead_idx z
    exact (lead_apply _ r j).trans ((val2 x g w r j).trans (congrArg (stack x g w) (emb2 r j)).symm)
  rcases List.mem_cons.mp hpc with rfl | hpc
  · intro z
    obtain ⟨r, j, rfl⟩ := lead_idx z
    exact (lead_apply _ r j).trans ((val1 x g w r j).trans (congrArg (stack x g w) (emb1 r j)).symm)
  rcases List.mem_cons.mp hpc with rfl | hpc
  · intro z
    obtain ⟨r, j, rfl⟩ := lead_idx z
    exact (lead_apply _ r j).trans ((val0 x g w r j).trans (congrArg (stack x g w) (emb0 r j)).symm)
  nomatch hpc

variable (m : (ℓ : Loc nD τ sig) → Buf (Elt Ideal) ℓ) (c : Dev nD)

/-- The value of projection `s` at a token and a channel, from the arguments. -/
def cached (s : Fin 4) (t : Fin 65536) (j : Fin 1024) : EReal :=
  projAt (fun k => (m ((c : Thread nD τ).loc main_arg0) : S65536x1024.Idx → EReal) (ix2 t k))
    (fun k => (m ((c : Thread nD τ).loc main_arg1) : S1x1024.Idx → EReal) (ix2 0 k))
    (fun k f => (m ((c : Thread nD τ).loc main_arg2) : S1024x4096.Idx → EReal) (ix2 k f)) (slot s j)

/-- Projection `s` by heads: a whole result. -/
def Heads (s : Fin 4) (i : S65536x8x128.Idx) : EReal := cached m c s (i 0) (chan (i 1) (i 2))

/-- The stacked projections: the last whole result. -/
def Stacked (i : S4x65536x1024.Idx) : EReal := cached m c (i 0) (i 1) (i 2)

theorem idx_in : ∀ t : Fin cfg0.N, win0_0.index t = ![t.val, 0] ∧ win0_1.index t = ![0, 0] ∧ win0_2.index t = ![0, 0]
    ∧ win0_3.index t = ![t.val, 0, 0] ∧ win0_4.index t = ![t.val, 0, 0] ∧ win0_5.index t = ![t.val, 0, 0] ∧ win0_6.index t = ![t.val, 0, 0]
    ∧ win0_7.index t = ![0, t.val, 0] :=
  (by decide +kernel : ∀ t : Fin grid0.N, win0_0.index t = ![t.val, 0] ∧ win0_1.index t = ![0, 0] ∧ win0_2.index t = ![0, 0]
    ∧ win0_3.index t = ![t.val, 0, 0] ∧ win0_4.index t = ![t.val, 0, 0] ∧ win0_5.index t = ![t.val, 0, 0] ∧ win0_6.index t = ![t.val, 0, 0]
    ∧ win0_7.index t = ![0, t.val, 0])

/-- Token `r` of the block of point `t`. -/
def tokAt (t : Fin cfg0.N) (r : Fin 512) : Fin 65536 :=
  ⟨512 * t.val + r.val, by have := lt_of_lt_of_eq t.isLt (show cfg0.N = 128 from N_0); omega⟩

theorem blk0 (t : Fin cfg0.N) (r : Fin 512) (k : Fin 1024) :
    iblk m c 0 t (ix2 r k) = (m ((c : Thread nD τ).loc main_arg0) : S65536x1024.Idx → EReal) (ix2 (tokAt t r) k) := by
  obtain ⟨e, -⟩ := idx_in t
  have h : (tokAt t r).val = 512 * t.val + r.val := rfl
  blk_ext [iblk, V, e, h]
theorem blk1 (t : Fin cfg0.N) (k : Fin 1024) : iblk m c 1 t (ix2 0 k) = (m ((c : Thread nD τ).loc main_arg1) : S1x1024.Idx → EReal) (ix2 0 k) := by
  obtain ⟨-, e, -⟩ := idx_in t
  blk_ext [iblk, V, e]
theorem blk2 (t : Fin cfg0.N) (k : Fin 1024) (f : Fin 4096) :
    iblk m c 2 t (ix2 k f) = (m ((c : Thread nD τ).loc main_arg2) : S1024x4096.Idx → EReal) (ix2 k f) := by
  obtain ⟨-, -, e, -⟩ := idx_in t
  blk_ext [iblk, V, e]

/-- What point `t` computes, from the arguments. -/
theorem point (t : Fin cfg0.N) (r : Fin 512) (s : Fin 4) (j : Fin 1024) :
    val (iblk m c 0 t) (iblk m c 1 t) (iblk m c 2 t) r s j = cached m c s (tokAt t r) j := by
  unfold val cached
  simp only [blk0, blk1, blk2]

theorem emb_3 (t : Fin cfg0.N) (r : Fin 512) (h : Fin 8) (d : Fin 128) : ((win0_3.blk t).view.emb (ix3 r h d) : S65536x8x128.Idx) = ix3 (tokAt t r) h d := by
  obtain ⟨-, -, -, e, -⟩ := idx_in t
  have h : (tokAt t r).val = 512 * t.val + r.val := rfl
  blk_ext [e, h]
theorem emb_4 (t : Fin cfg0.N) (r : Fin 512) (h : Fin 8) (d : Fin 128) : ((win0_4.blk t).view.emb (ix3 r h d) : S65536x8x128.Idx) = ix3 (tokAt t r) h d := by
  obtain ⟨-, -, -, -, e, -⟩ := idx_in t
  have h : (tokAt t r).val = 512 * t.val + r.val := rfl
  blk_ext [e, h]
theorem emb_5 (t : Fin cfg0.N) (r : Fin 512) (h : Fin 8) (d : Fin 128) : ((win0_5.blk t).view.emb (ix3 r h d) : S65536x8x128.Idx) = ix3 (tokAt t r) h d := by
  obtain ⟨-, -, -, -, -, e, -⟩ := idx_in t
  have h : (tokAt t r).val = 512 * t.val + r.val := rfl
  blk_ext [e, h]
theorem emb_6 (t : Fin cfg0.N) (r : Fin 512) (h : Fin 8) (d : Fin 128) : ((win0_6.blk t).view.emb (ix3 r h d) : S65536x8x128.Idx) = ix3 (tokAt t r) h d := by
  obtain ⟨-, -, -, -, -, -, e, -⟩ := idx_in t
  have h : (tokAt t r).val = 512 * t.val + r.val := rfl
  blk_ext [e, h]
theorem emb_7 (t : Fin cfg0.N) (s : Fin 4) (r : Fin 512) (j : Fin 1024) : ((win0_7.blk t).view.emb (ix3 s r j) : S4x65536x1024.Idx) = ix3 s (tokAt t r) j := by
  obtain ⟨-, -, -, -, -, -, -, e⟩ := idx_in t
  have h : (tokAt t r).val = 512 * t.val + r.val := rfl
  blk_ext [e, h]

/-- The result arrays after the run. -/
theorem final3 : (dats m 0 c).arrAt 3 cfg0.N = Heads m c 0 := by
  refine (dats m 0 c).arrAt_eq_of_covers 3 _ (by decide +kernel) fun t hf y => ?_
  blk_simp
  rw [after0_3]
  obtain ⟨r, h, d, rfl⟩ : ∃ (r : Fin 512) (h : Fin 8) (d : Fin 128), y = ix3 r h d := ⟨y 0, y 1, y 2, eq_ix3 _⟩
  exact ((out3_apply _ _ _ r h d).trans (point m c t r 0 _)).trans (congrArg (Heads m c 0) (emb_3 t r h d)).symm
theorem final4 : (dats m 0 c).arrAt 4 cfg0.N = Heads m c 1 := by
  refine (dats m 0 c).arrAt_eq_of_covers 4 _ (by decide +kernel) fun t hf y => ?_
  blk_simp
  rw [after0_4]
  obtain ⟨r, h, d, rfl⟩ : ∃ (r : Fin 512) (h : Fin 8) (d : Fin 128), y = ix3 r h d := ⟨y 0, y 1, y 2, eq_ix3 _⟩
  exact ((out4_apply _ _ _ r h d).trans (point m c t r 1 _)).trans (congrArg (Heads m c 1) (emb_4 t r h d)).symm
theorem final5 : (dats m 0 c).arrAt 5 cfg0.N = Heads m c 2 := by
  refine (dats m 0 c).arrAt_eq_of_covers 5 _ (by decide +kernel) fun t hf y => ?_
  blk_simp
  rw [after0_5]
  obtain ⟨r, h, d, rfl⟩ : ∃ (r : Fin 512) (h : Fin 8) (d : Fin 128), y = ix3 r h d := ⟨y 0, y 1, y 2, eq_ix3 _⟩
  exact ((out5_apply _ _ _ r h d).trans (point m c t r 2 _)).trans (congrArg (Heads m c 2) (emb_5 t r h d)).symm
theorem final6 : (dats m 0 c).arrAt 6 cfg0.N = Heads m c 3 := by
  refine (dats m 0 c).arrAt_eq_of_covers 6 _ (by decide +kernel) fun t hf y => ?_
  blk_simp
  rw [after0_6]
  obtain ⟨r, h, d, rfl⟩ : ∃ (r : Fin 512) (h : Fin 8) (d : Fin 128), y = ix3 r h d := ⟨y 0, y 1, y 2, eq_ix3 _⟩
  exact ((out6_apply _ _ _ r h d).trans (point m c t r 3 _)).trans (congrArg (Heads m c 3) (emb_6 t r h d)).symm
theorem final7 : (dats m 0 c).arrAt 7 cfg0.N = Stacked m c := by
  refine (dats m 0 c).arrAt_eq_of_covers 7 _ (by decide +kernel) fun t hf y => ?_
  blk_simp
  rw [after0_7]
  obtain ⟨s, r, j, rfl⟩ : ∃ (s : Fin 4) (r : Fin 512) (j : Fin 1024), y = ix3 s r j := ⟨y 0, y 1, y 2, eq_ix3 _⟩
  exact ((out7_apply _ _ _ (ix3 s r j)).trans (point m c t r s j)).trans (congrArg (Stacked m c) (emb_7 t s r j)).symm

variable (ρ : Dev nD → PrngReg)

/-- The run: the five results, the arguments unchanged. -/
theorem run_results : θ_run defs (onTc (τ := τ) (main (F := Ideal))) ⟨m, fun _ => 0, ρ⟩ fun r => ∀ c : Dev nD,
      r.2.mem ((c.tc : Thread nD τ).loc main_v0_0) = Heads m c 0
      ∧ r.2.mem ((c.tc : Thread nD τ).loc main_v0_1) = Heads m c 1
      ∧ r.2.mem ((c.tc : Thread nD τ).loc main_v0_2) = Heads m c 2
      ∧ r.2.mem ((c.tc : Thread nD τ).loc main_v0_3) = Heads m c 3
      ∧ r.2.mem ((c.tc : Thread nD τ).loc main_v0_4) = Stacked m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c), ((h c).1 4).trans (final4 m c), ((h c).1 5).trans (final5 m c),
    ((h c).1 6).trans (final6 m c), ((h c).1 7).trans (final7 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.Kernel4Ideal.Gen

end
-- ==== Proof.Dense.CacheRef.lean ====
module

public import proofs.«01_k».proof.Proof.Gen.Reference4Ideal.Run
public import proofs.«01_k».proof.Proof.Dense.Spec
public import Idealize.ShloMosaic.Lib.Pipeline.ValueKit

@[expose] public section

set_option maxRecDepth 16384

noncomputable section

namespace Cert.Reference4Ideal.Value

open Cert.Reference4Ideal Cert.Reference4Ideal.Gen Cert.Hgrn Cert.Dense
open Idealize.ShloMosaic Idealize.ShloMosaic.TcCoe
open StableHlo

/-! The reference of the cache's projections, at one token and channel. -/

/-- The reference's norm. -/
def normed (x : FVec Ideal S65536x1024 .f32) (g : FVec Ideal S1x1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast S1024 g shapeCasts_S1x1024_S1024)))

theorem normed_apply (x : FVec Ideal S65536x1024 .f32) (g : FVec Ideal S1x1024 .f32) (t : Fin 65536) (j : Fin 1024) :
    (normed x g : S65536x1024.Idx → EReal) (ix2 t j) = rms (fun k => x (ix2 t k)) (fun k => g (ix2 0 k)) j := by
  unfold normed
  pointwise
  unfold rms
  rfl

/-- The reference's projections, all columns. -/
def proj (x : FVec Ideal S65536x1024 .f32) (g : FVec Ideal S1x1024 .f32) (w : FVec Ideal S1024x4096 .bf16) : FVec Ideal S65536x4096 .f32 :=
  Host.dotGeneral dot_S65536x1024_S1024x4096_S65536x4096_1_0_0_1_n_n none (normed x g) (extf .f32 w bitsLt_bf16_f32)

theorem proj_apply (x : FVec Ideal S65536x1024 .f32) (g : FVec Ideal S1x1024 .f32) (w : FVec Ideal S1024x4096 .bf16) (t : Fin 65536) (f : Fin 4096) :
    (proj x g w : S65536x4096.Idx → EReal) (ix2 t f) = projAt (fun k => x (ix2 t k)) (fun k => g (ix2 0 k)) (fun k f => w (ix2 k f)) f := by
  unfold proj
  pointwise
  simp only [normed_apply]
  rfl

/-- Column `1024 * s + j` of the weights: channel `j` of the projection `s`. -/
def slot (s : Fin 4) (j : Fin 1024) : Fin 4096 := ⟨1024 * s.val + j.val, by omega⟩

/-- Channel `128 * h + d`: channel `d` of head `h`. -/
def chan (h : Fin 8) (d : Fin 128) : Fin 1024 := ⟨128 * h.val + d.val, by omega⟩

/-- The four projections, split off the columns. -/
def part (z : FVec Ideal S65536x4096 .f32) : Fin 4 → FVec Ideal S65536x1024 .f32 :=
  ![extractStridedSlice S65536x1024 ![0, 0] z slices_S65536x4096_S65536x1024_0_0,
    extractStridedSlice S65536x1024 ![0, 1024] z slices_S65536x4096_S65536x1024_0_1024,
    extractStridedSlice S65536x1024 ![0, 2048] z slices_S65536x4096_S65536x1024_0_2048,
    extractStridedSlice S65536x1024 ![0, 3072] z slices_S65536x4096_S65536x1024_0_3072]

theorem slice0 (z : FVec Ideal S65536x4096 .f32) (t : Fin 65536) (j : Fin 1024) :
    (extractStridedSlice S65536x1024 ![0, 0] z slices_S65536x4096_S65536x1024_0_0 : S65536x1024.Idx → EReal) (ix2 t j) = z (ix2 t ⟨j.val, by omega⟩) := by
  pointwise
theorem slice1 (z : FVec Ideal S65536x4096 .f32) (t : Fin 65536) (j : Fin 1024) :
    (extractStridedSlice S65536x1024 ![0, 1024] z slices_S65536x4096_S65536x1024_0_1024 : S65536x1024.Idx → EReal) (ix2 t j) = z (ix2 t ⟨1024 + j.val, by omega⟩) := by
  pointwise
theorem slice2 (z : FVec Ideal S65536x4096 .f32) (t : Fin 65536) (j : Fin 1024) :
    (extractStridedSlice S65536x1024 ![0, 2048] z slices_S65536x4096_S65536x1024_0_2048 : S65536x1024.Idx → EReal) (ix2 t j) = z (ix2 t ⟨2048 + j.val, by omega⟩) := by
  pointwise
theorem slice3 (z : FVec Ideal S65536x4096 .f32) (t : Fin 65536) (j : Fin 1024) :
    (extractStridedSlice S65536x1024 ![0, 3072] z slices_S65536x4096_S65536x1024_0_3072 : S65536x1024.Idx → EReal) (ix2 t j) = z (ix2 t ⟨3072 + j.val, by omega⟩) := by
  pointwise

theorem part_apply (z : FVec Ideal S65536x4096 .f32) (s : Fin 4) (t : Fin 65536) (j : Fin 1024) :
    (part z s : S65536x1024.Idx → EReal) (ix2 t j) = z (ix2 t (slot s j)) := by
  match s with
  | ⟨0, _⟩ => exact (slice0 z t j).trans (congrArg (fun f => z (ix2 t f)) (Fin.ext (by show j.val = 1024 * 0 + j.val; omega)))
  | ⟨1, _⟩ => exact slice1 z t j
  | ⟨2, _⟩ => exact slice2 z t j
  | ⟨3, _⟩ => exact slice3 z t j

/-- 1024 channels laid out as 8 heads of 128. -/
theorem heads_apply (v : FVec Ideal S65536x1024 .f32) (t : Fin 65536) (h : Fin 8) (d : Fin 128) :
    (shapeCast S65536x8x128 v shapeCasts_S65536x1024_S65536x8x128 : S65536x8x128.Idx → EReal) (ix3 t h d) = v (ix2 t (chan h d)) := by
  refine shapeCast_apply _ _ _ _ ?_
  rw [Shape.rowMajor_val_two, Shape.rowMajor_val_three]
  show t.val * 1024 + (128 * h.val + d.val) = (t.val * 8 + h.val) * 128 + d.val
  omega

/-- The four projections stacked. -/
def stacked (p : Fin 4 → FVec Ideal S65536x1024 .f32) : FVec Ideal S4x65536x1024 .bf16 :=
  truncf .bf16 ((concatenate S4x65536x1024 0 [⟨S1x65536x1024, ((broadcastInDim S1x65536x1024 ![1, 2] bcast_S65536x1024_S1x65536x1024_1_2 (p 0)) : (⟨S1x65536x1024, .f32⟩ : BufTy).Contents (Elt Ideal))⟩,
    ⟨S1x65536x1024, ((broadcastInDim S1x65536x1024 ![1, 2] bcast_S65536x1024_S1x65536x1024_1_2 (p 1)) : (⟨S1x65536x1024, .f32⟩ : BufTy).Contents (Elt Ideal))⟩,
    ⟨S1x65536x1024, ((broadcastInDim S1x65536x1024 ![1, 2] bcast_S65536x1024_S1x65536x1024_1_2 (p 2)) : (⟨S1x65536x1024, .f32⟩ : BufTy).Contents (Elt Ideal))⟩,
    ⟨S1x65536x1024, ((broadcastInDim S1x65536x1024 ![1, 2] bcast_S65536x1024_S1x65536x1024_1_2 (p 3)) : (⟨S1x65536x1024, .f32⟩ : BufTy).Contents (Elt Ideal))⟩] concatenates_S1x65536x1024_S1x65536x1024_S1x65536x1024_S1x65536x1024_S4x65536x1024_d0 : (⟨S4x65536x1024, .f32⟩ : BufTy).Contents (Elt Ideal))) bitsLt_bf16_f32

/-- A stacked array with a leading axis of one. -/
theorem lead_apply (v : FVec Ideal S65536x1024 .f32) (t : Fin 65536) (j : Fin 1024) :
    (broadcastInDim S1x65536x1024 ![1, 2] bcast_S65536x1024_S1x65536x1024_1_2 v : S1x65536x1024.Idx → EReal) (ix3 0 t j) = v (ix2 t j) := by
  pointwise

theorem stacked_apply (p : Fin 4 → FVec Ideal S65536x1024 .f32) (s : Fin 4) (t : Fin 65536) (j : Fin 1024) :
    (stacked p : S4x65536x1024.Idx → EReal) (ix3 s t j) = p s (ix2 t j) := by
  unfold stacked
  refine (concatenate_ofFn_unit_apply (t := S4x65536x1024) (s₁ := S1x65536x1024) 0
    (fun n => (broadcastInDim S1x65536x1024 ![1, 2] bcast_S65536x1024_S1x65536x1024_1_2 (p n) : S1x65536x1024.Idx → EReal))
    concatenates_S1x65536x1024_S1x65536x1024_S1x65536x1024_S1x65536x1024_S4x65536x1024_d0 rfl rfl (ix3 s t j) s rfl (ix3 0 t j) ?_).trans (lead_apply _ t j)
  intro b hb
  match b with
  | ⟨0, _⟩ => exact absurd rfl hb
  | ⟨1, _⟩ => rfl
  | ⟨2, _⟩ => rfl

section
variable (m : (ℓ : Loc nD τ sig) → Buf (Elt Ideal) ℓ) (c : Dev nD)

/-- The reference's columns from the arguments. -/
def cols : FVec Ideal S65536x4096 .f32 :=
  proj (m ((c.tc : Thread nD τ).loc main_arg0)) (m ((c.tc : Thread nD τ).loc main_arg1)) (m ((c.tc : Thread nD τ).loc main_arg2))

/-- Projection `s` by heads. -/
def headed (s : Fin 4) : FVec Ideal S65536x8x128 .f32 := shapeCast S65536x8x128 (part (cols m c) s) shapeCasts_S65536x1024_S65536x8x128

theorem res_split : res_main_v29 m c = stacked (part (cols m c)) := rfl

theorem cols_apply (s : Fin 4) (t : Fin 65536) (j : Fin 1024) :
    (part (cols m c) s : S65536x1024.Idx → EReal) (ix2 t j) =
      projAt (fun k => (m ((c.tc : Thread nD τ).loc main_arg0) : S65536x1024.Idx → EReal) (ix2 t k))
    (fun k => (m ((c.tc : Thread nD τ).loc main_arg1) : S1x1024.Idx → EReal) (ix2 0 k))
    (fun k f => (m ((c.tc : Thread nD τ).loc main_arg2) : S1024x4096.Idx → EReal) (ix2 k f)) (slot s j) :=
  (part_apply _ s t j).trans (proj_apply _ _ _ t _)

theorem headed_apply (s : Fin 4) (t : Fin 65536) (h : Fin 8) (d : Fin 128) :
    (headed m c s : S65536x8x128.Idx → EReal) (ix3 t h d) =
      projAt (fun k => (m ((c.tc : Thread nD τ).loc main_arg0) : S65536x1024.Idx → EReal) (ix2 t k))
    (fun k => (m ((c.tc : Thread nD τ).loc main_arg1) : S1x1024.Idx → EReal) (ix2 0 k))
    (fun k f => (m ((c.tc : Thread nD τ).loc main_arg2) : S1024x4096.Idx → EReal) (ix2 k f)) (slot s (chan h d)) :=
  (heads_apply _ t h d).trans (cols_apply m c s t _)

theorem res_apply (s : Fin 4) (t : Fin 65536) (j : Fin 1024) :
    (res_main_v29 m c : S4x65536x1024.Idx → EReal) (ix3 s t j) =
      projAt (fun k => (m ((c.tc : Thread nD τ).loc main_arg0) : S65536x1024.Idx → EReal) (ix2 t k))
    (fun k => (m ((c.tc : Thread nD τ).loc main_arg1) : S1x1024.Idx → EReal) (ix2 0 k))
    (fun k f => (m ((c.tc : Thread nD τ).loc main_arg2) : S1024x4096.Idx → EReal) (ix2 k f)) (slot s j) := by
  rw [res_split]
  exact (stacked_apply _ s t j).trans (cols_apply m c s t j)

end
end Cert.Reference4Ideal.Value

end
-- ==== Proof.Dense.CacheAgree.lean ====
module

public import proofs.«01_k».proof.Defs
public import proofs.«01_k».proof.Proof.Dense.Cache
public import proofs.«01_k».proof.Proof.Dense.CacheRef

@[expose] public section

noncomputable section

namespace Cert.Dense

open Idealize.ShloMosaic Idealize.ShloMosaic.TcCoe Idealize.SL.Sem

/-- The cache's projections are what their reference computes. -/
theorem algebraic4 : Cert.algebraic_Kernel4Ideal_Reference4Ideal (hKernel4Ideal := Cert.Kernel4Ideal.Gen.facts) (hReference4Ideal := Cert.Reference4Ideal.Gen.facts) := by
  intro m g m' g' _ hm
  refine ⟨fun c => Cert.Kernel4Ideal.Gen.Heads m c 0, fun c => Cert.Kernel4Ideal.Gen.Heads m c 1, fun c => Cert.Kernel4Ideal.Gen.Heads m c 2,
    fun c => Cert.Kernel4Ideal.Gen.Heads m c 3, fun c => Cert.Kernel4Ideal.Gen.Stacked m c, Cert.Kernel4Ideal.Gen.run_results m g, ?_⟩
  refine (θ_run Cert.Reference4Ideal.defs _ _).mono (fun r h c => ?_) (Cert.Reference4Ideal.Value.run m' g')
  obtain ⟨e0, e1, e2⟩ := hm c
  have hs : ∀ s, Cert.Reference4Ideal.Value.headed m' c s = Cert.Kernel4Ideal.Gen.Heads m c s := fun s => by
    funext i
    obtain ⟨t, h, d, rfl⟩ : ∃ (t : Fin 65536) (h : Fin 8) (d : Fin 128), i = ix3 t h d := ⟨i 0, i 1, i 2, eq_ix3 _⟩
    rw [Cert.Reference4Ideal.Value.headed_apply, e0, e1, e2]
    rfl
  have hr : Cert.Reference4Ideal.Value.res_main_v29 m' c = Cert.Kernel4Ideal.Gen.Stacked m c := by
    funext i
    obtain ⟨s, t, j, rfl⟩ : ∃ (s : Fin 4) (t : Fin 65536) (j : Fin 1024), i = ix3 s t j := ⟨i 0, i 1, i 2, eq_ix3 _⟩
    rw [Cert.Reference4Ideal.Value.res_apply, e0, e1, e2]
    rfl
  obtain ⟨h0, h1, h2, h3, h4, h5⟩ := h c
  exact ⟨h0.trans (hs 0), h1.trans (hs 1), h2.trans (hs 2), h3.trans (hs 3), h4.trans hr, h5⟩

end Cert.Dense

end
-- ==== Proof.Dense.Merge.lean ====
module

public import proofs.«01_k».proof.Proof.Gen.Kernel5Ideal.Value
public import proofs.«01_k».proof.Proof.Dense.Spec
public import Idealize.ShloMosaic.Lib.Pipeline.ValueKit

@[expose] public section

set_option maxRecDepth 16384

noncomputable section

namespace Cert.Kernel5Ideal.Gen

open Idealize.ShloMosaic Idealize.ShloMosaic.TcCoe Idealize.ShloMosaic.Tactic Cert.Hgrn Cert.Dense

/-! The merge call: what one block of 512 tokens computes, then the whole array. -/

/-- The first two branches of the block. -/
theorem pay2_apply (g1 : Vec Ideal S1x512x1024 .bf16) (a1 : Vec Ideal S512x1024 .bf16) (w1 : Vec Ideal S1024x1024 .bf16)
    (g2 : Vec Ideal S1x512x1024 .bf16) (a2 : Vec Ideal S512x1024 .bf16) (w2 : Vec Ideal S1024x1024 .bf16) (r : Fin 512) (j : Fin 1024) :
    (k0_pay2 g1 a1 w1 g2 a2 w2 : S512x1024.Idx → EReal) (ix2 r j)
      = branch (fun k => a1 (ix2 r k)) (fun k => g1 (ix3 0 r k)) (fun k l => w1 (ix2 k l)) j
        + branch (fun k => a2 (ix2 r k)) (fun k => g2 (ix3 0 r k)) (fun k l => w2 (ix2 k l)) j := by
  unfold k0_pay2
  pointwise
  unfold branch sigm Cert.Dense.col
  rfl

/-- The third gate's block. -/
theorem pay3_apply (g3 : Vec Ideal S1x512x1024 .bf16) (r : Fin 512) (j : Fin 1024) :
    (k0_pay3 g3 : S512x1024.Idx → EReal) (ix2 r j) = g3 (ix3 0 r j) := by
  unfold k0_pay3
  pointwise

/-- The block of zeros. -/
theorem pay4_apply (r : Fin 512) (j : Fin 1024) : (k0_pay4 (F := Ideal) : S512x1024.Idx → EReal) (ix2 r j) = 0 := by
  unfold k0_pay4
  pointwise

/-- The third branch, the output projection and the residual. -/
theorem pay1_apply (s g z : FVec Ideal S512x1024 .f32) (a : Vec Ideal S512x1024 .bf16) (w wo : Vec Ideal S1024x1024 .bf16)
    (x : Vec Ideal S512x1024 .f32) (r : Fin 512) (j : Fin 1024) (hz : ∀ k, z (ix2 r k) = 0) :
    (k0_pay1 s g z a w wo x : S512x1024.Idx → EReal) (ix2 r j)
      = x (ix2 r j) + ∑ k, (s (ix2 r k) + branch (fun k => a (ix2 r k)) (fun k => g (ix2 r k)) (fun k l => w (ix2 k l)) k) * wo (ix2 k j) := by
  unfold k0_pay1
  pointwise
  simp only [hz]
  unfold branch sigm Cert.Dense.col
  rfl

/-- What the body leaves in its output block. -/
theorem out_apply (a1 a2 a3 : Vec Ideal S512x1024 .bf16) (g1 g2 g3 : Vec Ideal S1x512x1024 .bf16) (x : Vec Ideal S512x1024 .f32)
    (w1 w2 w3 wo : Vec Ideal S1024x1024 .bf16) (r : Fin 512) (j : Fin 1024) :
    (out0_11 a1 a2 a3 g1 g2 g3 x w1 w2 w3 wo : S512x1024.Idx → EReal) (ix2 r j)
      = merge (fun k => a1 (ix2 r k)) (fun k => a2 (ix2 r k)) (fun k => a3 (ix2 r k))
          (fun k => g1 (ix3 0 r k)) (fun k => g2 (ix3 0 r k)) (fun k => g3 (ix3 0 r k)) (fun k => x (ix2 r k))
          (fun k l => w1 (ix2 k l)) (fun k l => w2 (ix2 k l)) (fun k l => w3 (ix2 k l)) (fun k l => wo (ix2 k l)) j := by
  unfold out0_11
  rw [View.canon_cons_unit_lit _ _ _ (by decide)]
  repeat rw [View.ld_unit_lit _ _ (by decide)]
  rw [pay1_apply _ _ _ _ _ _ _ _ _ fun k => pay4_apply r k]
  simp only [pay2_apply, pay3_apply]
  rfl

variable (m : (ℓ : Loc nD τ sig) → Buf (Elt Ideal) ℓ) (c : Dev nD)

/-- The whole result, from the arguments. -/
def G (i : S65536x1024.Idx) : EReal :=
  merge (fun k => (m ((c : Thread nD τ).loc main_arg0) : S65536x1024.Idx → EReal) (ix2 (i 0) k))
    (fun k => (m ((c : Thread nD τ).loc main_arg1) : S65536x1024.Idx → EReal) (ix2 (i 0) k))
    (fun k => (m ((c : Thread nD τ).loc main_arg2) : S65536x1024.Idx → EReal) (ix2 (i 0) k))
    (fun k => (m ((c : Thread nD τ).loc main_arg3) : S7x65536x1024.Idx → EReal) (ix3 4 (i 0) k))
    (fun k => (m ((c : Thread nD τ).loc main_arg3) : S7x65536x1024.Idx → EReal) (ix3 5 (i 0) k))
    (fun k => (m ((c : Thread nD τ).loc main_arg3) : S7x65536x1024.Idx → EReal) (ix3 6 (i 0) k))
    (fun k => (m ((c : Thread nD τ).loc main_arg4) : S65536x1024.Idx → EReal) (ix2 (i 0) k))
    (fun k l => (m ((c : Thread nD τ).loc main_arg5) : S1024x1024.Idx → EReal) (ix2 k l))
    (fun k l => (m ((c : Thread nD τ).loc main_arg6) : S1024x1024.Idx → EReal) (ix2 k l))
    (fun k l => (m ((c : Thread nD τ).loc main_arg7) : S1024x1024.Idx → EReal) (ix2 k l))
    (fun k l => (m ((c : Thread nD τ).loc main_arg8) : S1024x1024.Idx → EReal) (ix2 k l)) (i 1)

theorem idx_rows : ∀ t : Fin cfg0.N, win0_0.index t = ![t.val, 0] ∧ win0_1.index t = ![t.val, 0] ∧ win0_2.index t = ![t.val, 0]
    ∧ win0_3.index t = ![4, t.val, 0] ∧ win0_4.index t = ![5, t.val, 0] ∧ win0_5.index t = ![6, t.val, 0] ∧ win0_6.index t = ![t.val, 0]
    ∧ win0_11.index t = ![t.val, 0] :=
  (by decide +kernel : ∀ t : Fin grid0.N, win0_0.index t = ![t.val, 0] ∧ win0_1.index t = ![t.val, 0] ∧ win0_2.index t = ![t.val, 0]
    ∧ win0_3.index t = ![4, t.val, 0] ∧ win0_4.index t = ![5, t.val, 0] ∧ win0_5.index t = ![6, t.val, 0] ∧ win0_6.index t = ![t.val, 0]
    ∧ win0_11.index t = ![t.val, 0])
theorem idx_weights : ∀ t : Fin cfg0.N, win0_7.index t = ![0, 0] ∧ win0_8.index t = ![0, 0] ∧ win0_9.index t = ![0, 0] ∧ win0_10.index t = ![0, 0] :=
  (by decide +kernel : ∀ t : Fin grid0.N, win0_7.index t = ![0, 0] ∧ win0_8.index t = ![0, 0] ∧ win0_9.index t = ![0, 0] ∧ win0_10.index t = ![0, 0])

/-- Token `r` of the block of point `t`. -/
def tokAt (t : Fin cfg0.N) (r : Fin 512) : Fin 65536 :=
  ⟨512 * t.val + r.val, by have := lt_of_lt_of_eq t.isLt (show cfg0.N = 128 from N_0); omega⟩

theorem blk0 (t : Fin cfg0.N) (r : Fin 512) (k : Fin 1024) :
    iblk m c 0 t (ix2 r k) = (m ((c : Thread nD τ).loc main_arg0) : S65536x1024.Idx → EReal) (ix2 (tokAt t r) k) := by
  obtain ⟨e, -⟩ := idx_rows t
  have h : (tokAt t r).val = 512 * t.val + r.val := rfl
  blk_ext [iblk, V, e, h]
theorem blk1 (t : Fin cfg0.N) (r : Fin 512) (k : Fin 1024) :
    iblk m c 1 t (ix2 r k) = (m ((c : Thread nD τ).loc main_arg1) : S65536x1024.Idx → EReal) (ix2 (tokAt t r) k) := by
  obtain ⟨-, e, -⟩ := idx_rows t
  have h : (tokAt t r).val = 512 * t.val + r.val := rfl
  blk_ext [iblk, V, e, h]
theorem blk2 (t : Fin cfg0.N) (r : Fin 512) (k : Fin 1024) :
    iblk m c 2 t (ix2 r k) = (m ((c : Thread nD τ).loc main_arg2) : S65536x1024.Idx → EReal) (ix2 (tokAt t r) k) := by
  obtain ⟨-, -, e, -⟩ := idx_rows t
  have h : (tokAt t r).val = 512 * t.val + r.val := rfl
  blk_ext [iblk, V, e, h]
theorem blk3 (t : Fin cfg0.N) (r : Fin 512) (k : Fin 1024) :
    iblk m c 3 t (ix3 0 r k) = (m ((c : Thread nD τ).loc main_arg3) : S7x65536x1024.Idx → EReal) (ix3 4 (tokAt t r) k) := by
  obtain ⟨-, -, -, e, -⟩ := idx_rows t
  have h : (tokAt t r).val = 512 * t.val + r.val := rfl
  blk_ext [iblk, V, e, h]
theorem blk4 (t : Fin cfg0.N) (r : Fin 512) (k : Fin 1024) :
    iblk m c 4 t (ix3 0 r k) = (m ((c : Thread nD τ).loc main_arg3) : S7x65536x1024.Idx → EReal) (ix3 5 (tokAt t r) k) := by
  obtain ⟨-, -, -, -, e, -⟩ := idx_rows t
  have h : (tokAt t r).val = 512 * t.val + r.val := rfl
  blk_ext [iblk, V, e, h]
theorem blk5 (t : Fin cfg0.N) (r : Fin 512) (k : Fin 1024) :
    iblk m c 5 t (ix3 0 r k) = (m ((c : Thread nD τ).loc main_arg3) : S7x65536x1024.Idx → EReal) (ix3 6 (tokAt t r) k) := by
  obtain ⟨-, -, -, -, -, e, -⟩ := idx_rows t
  have h : (tokAt t r).val = 512 * t.val + r.val := rfl
  blk_ext [iblk, V, e, h]
theorem blk6 (t : Fin cfg0.N) (r : Fin 512) (k : Fin 1024) :
    iblk m c 6 t (ix2 r k) = (m ((c : Thread nD τ).loc main_arg4) : S65536x1024.Idx → EReal) (ix2 (tokAt t r) k) := by
  obtain ⟨-, -, -, -, -, -, e, -⟩ := idx_rows t
  have h : (tokAt t r).val = 512 * t.val + r.val := rfl
  blk_ext [iblk, V, e, h]
theorem blk7 (t : Fin cfg0.N) (k l : Fin 1024) :
    iblk m c 7 t (ix2 k l) = (m ((c : Thread nD τ).loc main_arg5) : S1024x1024.Idx → EReal) (ix2 k l) := by
  obtain ⟨e, -⟩ := idx_weights t
  blk_ext [iblk, V, e]
theorem blk8 (t : Fin cfg0.N) (k l : Fin 1024) :
    iblk m c 8 t (ix2 k l) = (m ((c : Thread nD τ).loc main_arg6) : S1024x1024.Idx → EReal) (ix2 k l) := by
  obtain ⟨-, e, -⟩ := idx_weights t
  blk_ext [iblk, V, e]
theorem blk9 (t : Fin cfg0.N) (k l : Fin 1024) :
    iblk m c 9 t (ix2 k l) = (m ((c : Thread nD τ).loc main_arg7) : S1024x1024.Idx → EReal) (ix2 k l) := by
  obtain ⟨-, -, e, -⟩ := idx_weights t
  blk_ext [iblk, V, e]
theorem blk10 (t : Fin cfg0.N) (k l : Fin 1024) :
    iblk m c 10 t (ix2 k l) = (m ((c : Thread nD τ).loc main_arg8) : S1024x1024.Idx → EReal) (ix2 k l) := by
  obtain ⟨-, -, -, e⟩ := idx_weights t
  blk_ext [iblk, V, e]

/-- What point `t` leaves in its output block. -/
theorem point (t : Fin cfg0.N) (r : Fin 512) (j : Fin 1024) :
    (out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) : S512x1024.Idx → EReal) (ix2 r j) = G m c (ix2 (tokAt t r) j) := by
  refine (out_apply _ _ _ _ _ _ _ _ _ _ _ _ _).trans ?_
  simp only [blk0, blk1, blk2, blk3, blk4, blk5, blk6, blk7, blk8, blk9, blk10]
  rfl

theorem emb11 (t : Fin cfg0.N) (r : Fin 512) (j : Fin 1024) :
    ((win0_11.blk t).view.emb (ix2 r j) : S65536x1024.Idx) = ix2 (tokAt t r) j := by
  obtain ⟨-, -, -, -, -, -, -, e⟩ := idx_rows t
  have h : (tokAt t r).val = 512 * t.val + r.val := rfl
  blk_ext [e, h]

/-- The result array after the run. -/
theorem final : (dats m 0 c).arrAt 11 cfg0.N = G m c := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 _⟩
  exact (point m c t r j).trans (congrArg (G m c) (emb11 t r j)).symm

end Cert.Kernel5Ideal.Gen

end
-- ==== Proof.Dense.MergeRef.lean ====
module

public import proofs.«01_k».proof.Proof.Gen.Reference5Ideal.Run
public import proofs.«01_k».proof.Proof.Dense.Spec

@[expose] public section

set_option maxRecDepth 16384

noncomputable section

namespace Cert.Reference5Ideal.Value

open Cert.Reference5Ideal Cert.Reference5Ideal.Gen Cert.Hgrn Cert.Dense
open Idealize.ShloMosaic Idealize.ShloMosaic.TcCoe
open StableHlo

/-! The reference of the merge call, at one token and channel. -/

/-- One gate of the reference, from its block of the gates' array. -/
def gate (g : FVec Ideal S1x65536x1024 .bf16) : FVec Ideal S65536x1024 .f32 :=
  Host.divf (broadcastInDim S65536x1024 ![] bcast_S_S65536x1024 (constant S_ .f32 0x3F800000#32)) (addf (broadcastInDim S65536x1024 ![] bcast_S_S65536x1024 (constant S_ .f32 0x3F800000#32)) (Host.exp (Host.negf (extf .f32 (shapeCast S65536x1024 g shapeCasts_S1x65536x1024_S65536x1024) bitsLt_bf16_f32))))

theorem gate_apply (g : FVec Ideal S1x65536x1024 .bf16) (t : Fin 65536) (j : Fin 1024) :
    (gate g : S65536x1024.Idx → EReal) (ix2 t j) = sigm (g (ix3 0 t j)) := by
  unfold gate
  pointwise
  unfold sigm
  rw [zero_sub]

/-- One branch's product in the reference. -/
def prod (a : FVec Ideal S65536x1024 .bf16) (w : FVec Ideal S1024x1024 .bf16) : FVec Ideal S65536x1024 .f32 :=
  Host.dotGeneral dot_S65536x1024_S1024x1024_S65536x1024_1_0_0_1_n_n none (extf .f32 a bitsLt_bf16_f32) (extf .f32 w bitsLt_bf16_f32)

theorem prod_apply (a : FVec Ideal S65536x1024 .bf16) (w : FVec Ideal S1024x1024 .bf16) (t : Fin 65536) (j : Fin 1024) :
    (prod a w : S65536x1024.Idx → EReal) (ix2 t j) = col (fun k => a (ix2 t k)) (fun k => w (ix2 k j)) := by
  unfold prod
  pointwise
  rfl

/-- The reference's gated sum of three products. -/
def gated (g1 p1 g2 p2 g3 p3 : FVec Ideal S65536x1024 .f32) : FVec Ideal S65536x1024 .f32 :=
  addf (addf (mulf g1 p1) (mulf g2 p2)) (mulf g3 p3)

theorem gated_apply (g1 p1 g2 p2 g3 p3 : FVec Ideal S65536x1024 .f32) (i : S65536x1024.Idx) :
    (gated g1 p1 g2 p2 g3 p3 : S65536x1024.Idx → EReal) i = g1 i * p1 i + g2 i * p2 i + g3 i * p3 i := rfl

/-- The reference's output projection and residual. -/
def resid (x s : FVec Ideal S65536x1024 .f32) (w : FVec Ideal S1024x1024 .bf16) : FVec Ideal S65536x1024 .f32 :=
  addf x (Host.dotGeneral dot_S65536x1024_S1024x1024_S65536x1024_1_0_0_1_n_n none s (extf .f32 w bitsLt_bf16_f32))

theorem resid_apply (x s : FVec Ideal S65536x1024 .f32) (w : FVec Ideal S1024x1024 .bf16) (t : Fin 65536) (j : Fin 1024) :
    (resid x s w : S65536x1024.Idx → EReal) (ix2 t j) = x (ix2 t j) + ∑ k : Fin 1024, s (ix2 t k) * w (ix2 k j) := by
  unfold resid
  pointwise

section
variable (m : (ℓ : Loc nD τ sig) → Buf (Elt Ideal) ℓ) (c : Dev nD)

/-- The reference's result. -/
def result : FVec Ideal S65536x1024 .f32 :=
  resid (m ((c.tc : Thread nD τ).loc main_arg4))
    (gated
      (gate (extractStridedSlice S1x65536x1024 ![4, 0, 0] (m ((c.tc : Thread nD τ).loc main_arg3)) slices_S7x65536x1024_S1x65536x1024_4_0_0))
      (prod (m ((c.tc : Thread nD τ).loc main_arg0)) (m ((c.tc : Thread nD τ).loc main_arg5)))
      (gate (extractStridedSlice S1x65536x1024 ![5, 0, 0] (m ((c.tc : Thread nD τ).loc main_arg3)) slices_S7x65536x1024_S1x65536x1024_5_0_0))
      (prod (m ((c.tc : Thread nD τ).loc main_arg1)) (m ((c.tc : Thread nD τ).loc main_arg6)))
      (gate (extractStridedSlice S1x65536x1024 ![6, 0, 0] (m ((c.tc : Thread nD τ).loc main_arg3)) slices_S7x65536x1024_S1x65536x1024_6_0_0))
      (prod (m ((c.tc : Thread nD τ).loc main_arg2)) (m ((c.tc : Thread nD τ).loc main_arg7))))
    (m ((c.tc : Thread nD τ).loc main_arg8))

theorem slice4 (g : FVec Ideal S7x65536x1024 .bf16) (t : Fin 65536) (j : Fin 1024) :
    (extractStridedSlice S1x65536x1024 ![4, 0, 0] g slices_S7x65536x1024_S1x65536x1024_4_0_0 : S1x65536x1024.Idx → EReal) (ix3 0 t j) = g (ix3 4 t j) := by
  pointwise
theorem slice5 (g : FVec Ideal S7x65536x1024 .bf16) (t : Fin 65536) (j : Fin 1024) :
    (extractStridedSlice S1x65536x1024 ![5, 0, 0] g slices_S7x65536x1024_S1x65536x1024_5_0_0 : S1x65536x1024.Idx → EReal) (ix3 0 t j) = g (ix3 5 t j) := by
  pointwise
theorem slice6 (g : FVec Ideal S7x65536x1024 .bf16) (t : Fin 65536) (j : Fin 1024) :
    (extractStridedSlice S1x65536x1024 ![6, 0, 0] g slices_S7x65536x1024_S1x65536x1024_6_0_0 : S1x65536x1024.Idx → EReal) (ix3 0 t j) = g (ix3 6 t j) := by
  pointwise

/-- The reference's result at a token and a channel. -/
theorem result_apply (t : Fin 65536) (j : Fin 1024) :
    (result m c : S65536x1024.Idx → EReal) (ix2 t j)
      = merge (fun k => (m ((c.tc : Thread nD τ).loc main_arg0) : S65536x1024.Idx → EReal) (ix2 t k))
    (fun k => (m ((c.tc : Thread nD τ).loc main_arg1) : S65536x1024.Idx → EReal) (ix2 t k))
    (fun k => (m ((c.tc : Thread nD τ).loc main_arg2) : S65536x1024.Idx → EReal) (ix2 t k))
    (fun k => (m ((c.tc : Thread nD τ).loc main_arg3) : S7x65536x1024.Idx → EReal) (ix3 4 t k))
    (fun k => (m ((c.tc : Thread nD τ).loc main_arg3) : S7x65536x1024.Idx → EReal) (ix3 5 t k))
    (fun k => (m ((c.tc : Thread nD τ).loc main_arg3) : S7x65536x1024.Idx → EReal) (ix3 6 t k))
    (fun k => (m ((c.tc : Thread nD τ).loc main_arg4) : S65536x1024.Idx → EReal) (ix2 t k))
    (fun k l => (m ((c.tc : Thread nD τ).loc main_arg5) : S1024x1024.Idx → EReal) (ix2 k l))
    (fun k l => (m ((c.tc : Thread nD τ).loc main_arg6) : S1024x1024.Idx → EReal) (ix2 k l))
    (fun k l => (m ((c.tc : Thread nD τ).loc main_arg7) : S1024x1024.Idx → EReal) (ix2 k l))
    (fun k l => (m ((c.tc : Thread nD τ).loc main_arg8) : S1024x1024.Idx → EReal) (ix2 k l)) j := by
  unfold result
  rw [resid_apply]
  simp only [gated_apply, gate_apply, prod_apply, slice4, slice5, slice6]
  rfl

end
end Cert.Reference5Ideal.Value

end
-- ==== Proof.Dense.MergeAgree.lean ====
module

public import proofs.«01_k».proof.Defs
public import proofs.«01_k».proof.Proof.Dense.Merge
public import proofs.«01_k».proof.Proof.Dense.MergeRef

@[expose] public section

noncomputable section

namespace Cert.Dense

open Idealize.ShloMosaic Idealize.ShloMosaic.TcCoe Idealize.SL.Sem

/-- The merge call computes what its reference computes. -/
theorem algebraic5 : Cert.algebraic_Kernel5Ideal_Reference5Ideal (hKernel5Ideal := Cert.Kernel5Ideal.Gen.facts) (hReference5Ideal := Cert.Reference5Ideal.Gen.facts) := by
  intro m g m' g' _ hm
  refine ⟨fun c => Cert.Kernel5Ideal.Gen.G m c, (θ_run Cert.Kernel5Ideal.defs _ _).mono (fun r h c => ?_) (Cert.Kernel5Ideal.Value.run_blocks m g), ?_⟩
  · exact ⟨(h c).1.trans (Cert.Kernel5Ideal.Gen.final m c), (h c).2⟩
  refine (θ_run Cert.Reference5Ideal.defs _ _).mono (fun r h c => ?_) (Cert.Reference5Ideal.Value.run m' g')
  obtain ⟨e0, e1, e2, e3, e4, e5, e6, e7, e8⟩ := hm c
  have hr : Cert.Reference5Ideal.Value.result m' c = Cert.Kernel5Ideal.Gen.G m c := by
    funext i
    obtain ⟨t, j, rfl⟩ : ∃ (t : Fin 65536) (j : Fin 1024), i = ix2 t j := ⟨i 0, i 1, eq_ix2 _⟩
    rw [Cert.Reference5Ideal.Value.result_apply, e0, e1, e2, e3, e4, e5, e6, e7, e8]
    rfl
  exact ⟨(h c).1.trans hr, (h c).2⟩

end Cert.Dense

end
-- ==== Proof.Proj.Whole.lean ====
module

public import Idealize.ShloMosaic.Lib.Pipeline.ValueKit
public import Idealize.ShloMosaic.Lib.WritesUnit

@[expose] public section

namespace Cert.Proj

open Idealize.ShloMosaic

/-! Loads and stores of a whole staging buffer. -/

variable {Val : EltTy → Type} {sig : RefSig} {κ : Kind} {sp : Space} {S : Shape} {e : EltTy}

/-- A store of the whole buffer, last, leaves its payload. -/
theorem stored (v : View sig κ sp S e) (f : v.ty.Contents Val) {off : Fin S.rank → ℕ} (inb : ∀ a, off a + S.size a ≤ S.size a)
    (w : S.Idx → Val e) (L : List (View.Piece Val S e)) (h : ∀ a, off a = 0) :
    v.read Val (v.writes Val f ((⟨Rect.unit off S.size inb, w⟩ : View.Piece Val S e) :: L)) = w :=
  funext fun y => View.read_writes_cons_unit_of_mem v f inb w L y y rfl fun a => by rw [h a, Nat.zero_add]

/-- A load of the whole buffer reads its contents. -/
theorem loaded {M : Memref sig κ sp S e} (hM : M.IsWhole) {off : Fin S.rank → ℕ} (inb : ∀ a, off a + S.size a ≤ S.size a)
    (x : S.Idx → Val e) (h : ∀ a, off a = 0) :
    M.view.readAt Val (Rect.unit off S.size inb).toLoadRect (hM.unread x) = x := by
  funext y
  rw [View.readAt_apply, hM.read_unread]
  exact congrArg x (funext fun a => Fin.ext (by show off a + 1 * (y a).val = (y a).val; rw [h a]; omega))

end Cert.Proj
-- ==== Proof.Proj.Runs.lean ====
module

public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Proj.Whole
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The runs of the projections' body: at a block's first column block, at its second, and at the later ones. -/

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024x1024 .f32) (harg7 : arg7.IsWhole) (arg8 : Memref sig .tc .vmem S1x1024x1024 .bf16) (harg8 : arg8.IsWhole) (arg9 : Memref sig .tc .vmem S1024x128 .f32) (harg9 : arg9.IsWhole) (arg10 : Memref sig .tc .vmem S1024x1024 .bf16) (harg10 : arg10.IsWhole)
  (x : Vec F S1024x1024 .f32) (g : Vec F S1x1024 .f32) (w : Vec F S1024x1024 .bf16) (wff : Vec F S1024x128 .bf16) (fb : Vec F S1x128 .f32)

/-- The five inputs at their contents. -/
def ins : sProp (MT nD τ sig Unit (Elt F) ℕ (UR sig nD τ) ℕ) :=
  iprop(owns (c : Thread nD τ) arg2 fullShare x ∗ owns (c : Thread nD τ) arg3 fullShare g ∗ owns (c : Thread nD τ) arg4 fullShare w
    ∗ owns (c : Thread nD τ) arg5 fullShare wff ∗ owns (c : Thread nD τ) arg6 fullShare fb)

set_option maxHeartbeats 1000000 in
/-- At a block's first column block: the normed block is stored, the gate and the first columns computed from it. -/
theorem runA (hc1 : k0_cond1 i = 1#1) (hc2 : k0_cond2 i = 1#1) (hc3 : ¬k0_cond3 i = 1#1) (x6 : Vec F S1x1024x1024 .bf16) (E : Set ℕ) (K : PUnit → sProp (MT nD τ sig Unit (Elt F) ℕ (UR sig nD τ) ℕ)) :
    iprop(ins c arg2 arg3 arg4 arg5 arg6 x g w wff fb ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d)
        ∗ (iprop(ins c arg2 arg3 arg4 arg5 arg6 x g w wff fb ∗ owns (c : Thread nD τ) arg7 fullShare (k0_pay5 (k0_pay2 x g) w) ∗ owns (c : Thread nD τ) arg8 fullShare x6 ∗ owns (c : Thread nD τ) arg9 fullShare (k0_pay3 x g wff fb) ∗ owns (c : Thread nD τ) arg10 fullShare (k0_pay2 x g)) -∗ K ⟨⟩))
      ⊢ wp frame (wpE (defs₀ (F := F)) Variants.none c none) E (cc0_proj_in i arg2 harg2 arg3 harg3 arg4 harg4 arg5 harg5 arg6 harg6 arg7 harg7 arg8 harg8 arg9 harg9 arg10 harg10) K := by
  simp only [cc0_proj_in_eq_skeleton]; unfold cc0_proj_in_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%d7, %f7, -, H7⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := first | sl_exact hc1 | sl_exact hc2 | sl_exact hc3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro; exact (Cert.Proj.stored _ _ _ _ _ (by decide)).trans (congrArg₂ k0_pay5 ((View.readCov_unit_lit _ _ _ (by decide)).trans (congrArg₂ k0_pay2 (Cert.Proj.loaded harg2 _ _ (by decide)) (Cert.Proj.loaded harg3 _ _ (by decide)))) (Cert.Proj.loaded harg4 _ _ (by decide)))
  isplitl [H6]
  · iexists _; isplitr; · ipureintro; exact harg8.read_unread _
    iexact H6
  isplitl [H7]
  · iexists _; isplitr
    swap; · iexact H7
    ipureintro; exact (Cert.Proj.stored _ _ _ _ _ (by decide)).trans (congr (congr (congrArg₂ k0_pay3 (Cert.Proj.loaded harg2 _ _ (by decide)) (Cert.Proj.loaded harg3 _ _ (by decide))) (Cert.Proj.loaded harg5 _ _ (by decide))) (Cert.Proj.loaded harg6 _ _ (by decide)))
  iexists _; isplitr
  swap; · iexact HS
  ipureintro; exact (Cert.Proj.stored _ _ _ _ _ (by decide)).trans (congrArg₂ k0_pay2 (Cert.Proj.loaded harg2 _ _ (by decide)) (Cert.Proj.loaded harg3 _ _ (by decide)))

set_option maxHeartbeats 1000000 in
/-- At the second column block: only the columns are computed, from the normed block kept in the scratch. -/
theorem runB (hc1 : ¬k0_cond1 i = 1#1) (hc2 : k0_cond2 i = 1#1) (hc3 : ¬k0_cond3 i = 1#1) (x6 : Vec F S1x1024x1024 .bf16) (x7 : Vec F S1024x128 .f32) (h : Vec F S1024x1024 .bf16) (E : Set ℕ) (K : PUnit → sProp (MT nD τ sig Unit (Elt F) ℕ (UR sig nD τ) ℕ)) :
    iprop(ins c arg2 arg3 arg4 arg5 arg6 x g w wff fb ∗ (∃ d, owns (c : Thread nD τ) arg7 fullShare d) ∗ owns (c : Thread nD τ) arg8 fullShare x6 ∗ owns (c : Thread nD τ) arg9 fullShare x7 ∗ owns (c : Thread nD τ) arg10 fullShare h
        ∗ (iprop(ins c arg2 arg3 arg4 arg5 arg6 x g w wff fb ∗ owns (c : Thread nD τ) arg7 fullShare (k0_pay5 h w) ∗ owns (c : Thread nD τ) arg8 fullShare x6 ∗ owns (c : Thread nD τ) arg9 fullShare x7 ∗ owns (c : Thread nD τ) arg10 fullShare h) -∗ K ⟨⟩))
      ⊢ wp frame (wpE (defs₀ (F := F)) Variants.none c none) E (cc0_proj_in i arg2 harg2 arg3 harg3 arg4 harg4 arg5 harg5 arg6 harg6 arg7 harg7 arg8 harg8 arg9 harg9 arg10 harg10) K := by
  simp only [cc0_proj_in_eq_skeleton]; unfold cc0_proj_in_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs
  sl_exec (disch := first | sl_exact hc1 | sl_exact hc2 | sl_exact hc3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro; exact (Cert.Proj.stored _ _ _ _ _ (by decide)).trans (congrArg₂ k0_pay5 (Cert.Proj.loaded harg10 _ _ (by decide)) (Cert.Proj.loaded harg4 _ _ (by decide)))
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact HS

set_option maxHeartbeats 1000000 in
/-- At a later column block: the columns are rounded and go to the other stacked result. -/
theorem runC (hc1 : ¬k0_cond1 i = 1#1) (hc2 : ¬k0_cond2 i = 1#1) (hc3 : k0_cond3 i = 1#1) (x5 : Vec F S1x1024x1024 .f32) (x7 : Vec F S1024x128 .f32) (h : Vec F S1024x1024 .bf16) (E : Set ℕ) (K : PUnit → sProp (MT nD τ sig Unit (Elt F) ℕ (UR sig nD τ) ℕ)) :
    iprop(ins c arg2 arg3 arg4 arg5 arg6 x g w wff fb ∗ owns (c : Thread nD τ) arg7 fullShare x5 ∗ (∃ d, owns (c : Thread nD τ) arg8 fullShare d) ∗ owns (c : Thread nD τ) arg9 fullShare x7 ∗ owns (c : Thread nD τ) arg10 fullShare h
        ∗ (iprop(ins c arg2 arg3 arg4 arg5 arg6 x g w wff fb ∗ owns (c : Thread nD τ) arg7 fullShare x5 ∗ owns (c : Thread nD τ) arg8 fullShare (k0_pay6 h w) ∗ owns (c : Thread nD τ) arg9 fullShare x7 ∗ owns (c : Thread nD τ) arg10 fullShare h) -∗ K ⟨⟩))
      ⊢ wp frame (wpE (defs₀ (F := F)) Variants.none c none) E (cc0_proj_in i arg2 harg2 arg3 harg3 arg4 harg4 arg5 harg5 arg6 harg6 arg7 harg7 arg8 harg8 arg9 harg9 arg10 harg10) K := by
  simp only [cc0_proj_in_eq_skeleton]; unfold cc0_proj_in_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%d6, %f6, -, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
  sl_exec (disch := first | sl_exact hc1 | sl_exact hc2 | sl_exact hc3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr; · ipureintro; exact harg7.read_unread _
    iexact H5
  isplitl [H6]
  · iexists _; isplitr
    swap; · iexact H6
    ipureintro; exact (Cert.Proj.stored _ _ _ _ _ (by decide)).trans (congrArg₂ k0_pay6 (Cert.Proj.loaded harg10 _ _ (by decide)) (Cert.Proj.loaded harg4 _ _ (by decide)))
  isplitl [H7]
  · iexists _; isplitr; · ipureintro; exact harg9.read_unread _
    iexact H7
  iexists _; isplitr; · ipureintro; exact harg10.read_unread _
  iexact HS

end Cert.Kernel3Ideal.Gen

end
-- ==== Proof.Proj.Frame.lean ====
module

public import proofs.«01_k».proof.Proof.Proj.Runs
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point of `t`'s row of column blocks. -/
def first (t : Fin cfg0.N) : Fin cfg0.N := ⟨9 * (t.val / 9), Nat.lt_of_le_of_lt (by omega) t.isLt⟩
/-- The point of that row whose columns the first result's buffer holds at `t`. -/
def second (t : Fin cfg0.N) : Fin cfg0.N := ⟨9 * (t.val / 9) + min (t.val % 9) 1, Nat.lt_of_le_of_lt (by omega) t.isLt⟩

theorem first_congr {t t' : Fin cfg0.N} (h : t.val / 9 = t'.val / 9) : first t = first t' := by
  unfold first; exact Fin.ext (by simp only [h])
theorem second_congr {t t' : Fin cfg0.N} (h : t.val / 9 = t'.val / 9) (h1 : 1 ≤ t.val % 9) (h2 : 1 ≤ t'.val % 9) : second t = second t' := by
  unfold second; exact Fin.ext (by simp only [h, Nat.min_eq_right h1, Nat.min_eq_right h2])
theorem first_self {t : Fin cfg0.N} (h : t.val % 9 = 0) : first t = t := by
  unfold first; exact Fin.ext (by simp only; omega)
theorem second_self {t : Fin cfg0.N} (h : t.val % 9 < 2) : second t = t := by
  unfold second; exact Fin.ext (by simp only; omega)

/-- The normed block the scratch holds from the row's first point on. -/
def hAt (c : Dev nD) (t : Fin cfg0.N) : Vec F S1024x1024 .bf16 := k0_pay2 (iblk m c 0 (first t)) (iblk m c 1 (first t))
/-- What the first stacked result's buffer holds. -/
def zfAt (c : Dev nD) (t : Fin cfg0.N) : Vec F S1x1024x1024 .f32 := k0_pay5 (hAt m c t) (iblk m c 2 (second t))
/-- What the second stacked result's buffer holds. -/
def zbAt (c : Dev nD) (t : Fin cfg0.N) : Vec F S1x1024x1024 .bf16 := k0_pay6 (hAt m c t) (iblk m c 2 t)
/-- What the gate's buffer holds. -/
def flAt (c : Dev nD) (t : Fin cfg0.N) : Vec F S1024x128 .f32 :=
  k0_pay3 (iblk m c 0 (first t)) (iblk m c 1 (first t)) (iblk m c 3 (first t)) (iblk m c 4 (first t))

theorem hAt_congr (c : Dev nD) {t t' : Fin cfg0.N} (h : t.val / 9 = t'.val / 9) : hAt m c t = hAt m c t' := by
  unfold hAt; rw [first_congr h]
theorem hAt_first (c : Dev nD) {t : Fin cfg0.N} (h : t.val % 9 = 0) : k0_pay2 (iblk m c 0 t) (iblk m c 1 t) = hAt m c t := by
  unfold hAt; rw [first_self h]
theorem zfAt_first (c : Dev nD) {t : Fin cfg0.N} (h : t.val % 9 < 2) : k0_pay5 (hAt m c t) (iblk m c 2 t) = zfAt m c t := by
  unfold zfAt; rw [second_self h]
theorem flAt_first (c : Dev nD) {t : Fin cfg0.N} (h : t.val % 9 = 0) :
    k0_pay3 (iblk m c 0 t) (iblk m c 1 t) (iblk m c 3 t) (iblk m c 4 t) = flAt m c t := by
  unfold flAt; rw [first_self h]

/-- The scratch, a whole buffer of the kernel's own. -/
abbrev scM0_0 : Memref sig .tc .vmem S1024x1024 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Before the first point the scratch holds anything, after a point the row's normed block. -/
def PhiS (c : Dev nD) : (n : ℕ) → n ≤ cfg0.N → sProp 𝕄
  | 0, _ => Pipeline.ΦA spec0 c
  | n + 1, hn => iprop(iprop(owns (c : Thread nD τ) scM0_0 fullShare (hAt m c ⟨n, hn⟩)) ∗ (∃ r, prngReg c r))

theorem PhiS_succ (c : Dev nD) (n : ℕ) (hn : n < cfg0.N) :
    PhiS m c (n + 1) hn = iprop(iprop(owns (c : Thread nD τ) scM0_0 fullShare (hAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (hAt m c ⟨n - 1, by omega⟩)) ∗ (∃ r, prngReg c r)) := by
  cases n with
  | zero => exact absurd rfl hz
  | succ n => rfl

theorem PhiS_any (c : Dev nD) (n : ℕ) (h : n ≤ cfg0.N) :
    PhiS m c n h ⊢ iprop(iprop((∃ d, owns (c : Thread nD τ) scM0_0 fullShare d)) ∗ (∃ r, prngReg c r)) := by
  cases n with
  | zero => unfold PhiS; rw [PhiA0_eq]
  | succ n =>
    rw [PhiS_succ]
    iintro ⟨H, Hg⟩
    isplitl [H]
    · iexists _; iexact H
    iexact Hg

theorem PhiS_hold (c : Dev nD) (t : Fin cfg0.N) (h : t.val % 9 ≠ 0) :
    PhiS m c t.val (Nat.le_of_lt t.isLt) = iprop(iprop(owns (c : Thread nD τ) scM0_0 fullShare (hAt m c t)) ∗ (∃ r, prngReg c r)) := by
  rw [PhiS_pos m c _ _ (by omega), hAt_congr m c (t := ⟨t.val - 1, _⟩) (t' := t) (by simp only; omega)]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zfAt m c t
    | ⟨6, _⟩ => zbAt m c t
    | ⟨7, _⟩ => flAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = zfAt m c t := by dsimp only [dats]
theorem after0_6 (c : Dev nD) (t : Fin cfg0.N) : (dats m 0 c).after 6 t = zbAt m c t := by dsimp only [dats]
theorem after0_7 (c : Dev nD) (t : Fin cfg0.N) : (dats m 0 c).after 7 t = flAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! Where the conditions hold, and where the outputs are written back. -/

theorem hc1 : ∀ t : Fin cfg0.N, k0_cond1 (grid0.coords t) = 1#1 ↔ t.val % 9 = 0 := by decide +kernel
theorem hc2 : ∀ t : Fin cfg0.N, k0_cond2 (grid0.coords t) = 1#1 ↔ t.val % 9 < 2 := by decide +kernel
theorem hc3 : ∀ t : Fin cfg0.N, k0_cond3 (grid0.coords t) = 1#1 ↔ 2 ≤ t.val % 9 := by decide +kernel
theorem idle5 : ∀ t : Fin cfg0.N, cfg0.idle 5 (cfg0.grid.coords t) = decide (1 < t.val % 9) := by decide +kernel
theorem idle6 : ∀ t : Fin cfg0.N, cfg0.idle 6 (cfg0.grid.coords t) = decide (t.val % 9 < 2) := by decide +kernel
theorem idle7 : ∀ t : Fin cfg0.N, cfg0.idle 7 (cfg0.grid.coords t) = decide (0 < t.val % 9) := by decide +kernel
theorem noFlush5 : ∀ t : Fin cfg0.N, 1 ≤ t.val % 9 → t.val % 9 < 8 → (cfg0.win 5).flush t = false := by decide +kernel
theorem noFlush6 : ∀ t : Fin cfg0.N, t.val % 9 < 2 → (cfg0.win 6).flush t = false := by decide +kernel
theorem noFlush7 : ∀ t : Fin cfg0.N, 0 ≤ t.val % 9 → t.val % 9 < 8 → (cfg0.win 7).flush t = false := by decide +kernel

/-- Through a run of idle points a buffer keeps what the last live point left, if the buffer's named contents agree along the run. -/
theorem before_held (c : Dev nD) (w : Fin cfg0.W) (lo : ℕ) (hfetch : ∀ t, (cfg0.win w).fetch t = false)
    (hflush : ∀ t : Fin cfg0.N, lo ≤ t.val % 9 → t.val % 9 < 8 → (cfg0.win w).flush t = false)
    (hidle : ∀ t : Fin cfg0.N, cfg0.idle w (cfg0.grid.coords t) = decide (lo < t.val % 9))
    (hafter : ∀ t t' : Fin cfg0.N, t.val / 9 = t'.val / 9 → lo ≤ t.val % 9 → lo ≤ t'.val % 9 → (dats m 0 c).after w t = (dats m 0 c).after w t')
    (hkept : ∀ t d, (dats m 0 c).kept w t d = (dats m 0 c).after w t) :
    ∀ (n : ℕ) (t : Fin cfg0.N), t.val = n → lo < t.val % 9 → ∀ d, (dats m 0 c).before w t d = (dats m 0 c).after w t
  | n, t, hn, h, d => by
    have hp : t.val ≠ 0 := by omega
    have hlt : t.val - 1 < cfg0.N := Nat.lt_of_le_of_lt (Nat.sub_le _ _) t.isLt
    have hm : (t.val - 1) % 9 + 1 = t.val % 9 := by omega
    have hl : lo ≤ (t.val - 1) % 9 := by omega
    have h8 : (t.val - 1) % 9 < 8 := by omega
    have hr := hafter ⟨t.val - 1, hlt⟩ t (by simp only; omega) hl (Nat.le_of_lt h)
    rw [(dats m 0 c).before_of_pos w t hp (hfetch t) d, hflush ⟨t.val - 1, hlt⟩ hl h8, if_neg Bool.false_ne_true]
    unfold Dat.left
    by_cases hi : lo < (t.val - 1) % 9
    · rw [(hidle ⟨t.val - 1, hlt⟩).trans (decide_eq_true hi)]
      exact (before_held c w lo hfetch hflush hidle hafter hkept (t.val - 1) ⟨t.val - 1, hlt⟩ rfl hi d).trans hr
    · rw [(hidle ⟨t.val - 1, hlt⟩).trans (decide_eq_false hi)]
      exact (hkept _ d).trans hr
  termination_by n => n
  decreasing_by omega

theorem before0_5 (c : Dev nD) (t : Fin cfg0.N) (h : 1 < t.val % 9) (d) : (dats m 0 c).before 5 t d = zfAt m c t :=
  (before_held m c 5 1 (fun _ => rfl) noFlush5 idle5
    (fun t t' hq h1 h2 => by rw [after0_5, after0_5]; unfold zfAt; rw [hAt_congr m c hq, second_congr hq h1 h2])
    (fun _ _ => rfl) t.val t rfl h d).trans (after0_5 m c t)
theorem before0_7 (c : Dev nD) (t : Fin cfg0.N) (h : 0 < t.val % 9) (d) : (dats m 0 c).before 7 t d = flAt m c t :=
  (before_held m c 7 0 (fun _ => rfl) noFlush7 idle7
    (fun t t' hq h1 h2 => by rw [after0_7, after0_7]; unfold flAt; rw [first_congr hq])
    (fun _ _ => rfl) t.val t rfl h d).trans (after0_7 m c t)

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

theorem leaves_held (c : Dev nD) (w : Fin cfg0.W) (t : Fin cfg0.N) (hi : cfg0.idle w (cfg0.grid.coords t) = true)
    (X) (hb : ∀ d, (dats m 0 c).before w t d = X) (ha : (dats m 0 c).after w t = X) :
    owns (c : Thread nD τ) ((cfg0.win w).stage (cfg0.slots t w)) fullShare X ⊢ (dats m 0 c).leavesExact w t := by
  unfold Dat.leavesExact; rw [hi, ha]
  cases (cfg0.win w).flush t
  · iintro H
    iexists X; rw [hb]; iexact H
  · exact Idealize.SL.BI.Entails.refl _

abbrev ms0_0 (t : Fin cfg0.N) : Memref sig .tc .vmem S1024x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S1024x128 .bf16 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S1x1024x1024 .f32 := win0_5.stage (cfg0.slots t 5)
abbrev ms0_6 (t : Fin cfg0.N) : Memref sig .tc .vmem S1x1024x1024 .bf16 := win0_6.stage (cfg0.slots t 6)
abbrev ms0_7 (t : Fin cfg0.N) : Memref sig .tc .vmem S1024x128 .f32 := win0_7.stage (cfg0.slots t 7)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point, by its case: the row's first point, its second, a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, leaves_live m c 1 t rfl, leaves_live m c 2 t rfl, leaves_live m c 3 t rfl, leaves_live m c 4 t rfl,
    after0_0, after0_1, after0_2, after0_3, after0_4]

  have w0 := hstage0_0 ((cfg0.slots t 0).cast nbuf0_0)
  have w1 := hstage0_1 ((cfg0.slots t 1).cast nbuf0_1)
  have w2 := hstage0_2 ((cfg0.slots t 2).cast nbuf0_2)
  have w3 := hstage0_3 ((cfg0.slots t 3).cast nbuf0_3)
  have w4 := hstage0_4 ((cfg0.slots t 4).cast nbuf0_4)
  have w5 := hstage0_5 ((cfg0.slots t 5).cast nbuf0_5)
  have w6 := hstage0_6 ((cfg0.slots t 6).cast nbuf0_6)
  have w7 := hstage0_7 ((cfg0.slots t 7).cast nbuf0_7)
  by_cases h0 : t.val % 9 = 0
  · rw [leaves_live m c 5 t ((idle5 t).trans (decide_eq_false (by omega))), after0_5,
      (dats m 0 c).leavesExact_idle 6 t ((idle6 t).trans (decide_eq_true (by omega))) (noFlush6 t (by omega)),
      leaves_live m c 7 t ((idle7 t).trans (decide_eq_false (by omega))), after0_7]
    have run := fun x6 K => runA (F := F) c (grid0.coords t) _ w0 _ w1 _ w2 _ w3 _ w4 _ w5 _ w6 _ w7 scM0_0 (Memref.isWhole_whole _)
      (iblk m c 0 t) (iblk m c 1 t) (iblk m c 2 t) (iblk m c 3 t) (iblk m c 4 t)
      ((hc1 t).mpr h0) ((hc2 t).mpr (by omega)) (fun h => absurd ((hc3 t).mp h) (by omega)) x6 Set.univ K
    rw [hAt_first m c h0, zfAt_first m c (t := t) (by omega), flAt_first m c h0] at run
    unfold ins at run
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave ⟨HS, Hg⟩ := PhiS_any m c _ _ $$ HP
    iapply run
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    isplitl [H7]; · iexists _; iexact H7
    isplitl [HS]; · iexact HS
    iintro ⟨⟨H0, H1, H2, H3, H4⟩, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact H7
  rw [PhiS_hold m c t h0]
  simp only [before0_7 m c t (Nat.pos_of_ne_zero h0)]
  have l7 := leaves_held m c 7 t ((idle7 t).trans (decide_eq_true (by omega))) _ (before0_7 m c t (Nat.pos_of_ne_zero h0)) (after0_7 m c t)
  by_cases h1 : t.val % 9 < 2
  · rw [leaves_live m c 5 t ((idle5 t).trans (decide_eq_false (by omega))), after0_5,
      (dats m 0 c).leavesExact_idle 6 t ((idle6 t).trans (decide_eq_true (by omega))) (noFlush6 t (by omega))]
    have run := fun x6 K => runB (F := F) c (grid0.coords t) _ w0 _ w1 _ w2 _ w3 _ w4 _ w5 _ w6 _ w7 scM0_0 (Memref.isWhole_whole _)
      (iblk m c 0 t) (iblk m c 1 t) (iblk m c 2 t) (iblk m c 3 t) (iblk m c 4 t)
      (fun h => absurd ((hc1 t).mp h) h0) ((hc2 t).mpr h1) (fun h => absurd ((hc3 t).mp h) (by omega)) x6 (flAt m c t) (hAt m c t) Set.univ K
    rw [zfAt_first m c h1] at run
    unfold ins at run
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply run
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    isplitl [H7]; · iexact H7
    isplitl [HS]; · iexact HS
    iintro ⟨⟨H0, H1, H2, H3, H4⟩, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iapply l7; iexact H7
  · simp only [before0_5 m c t (by omega)]
    have l5 := leaves_held m c 5 t ((idle5 t).trans (decide_eq_true (by omega))) _ (before0_5 m c t (by omega)) (after0_5 m c t)
    rw [leaves_live m c 6 t ((idle6 t).trans (decide_eq_false h1)), after0_6]
    have run := fun K => runC (F := F) c (grid0.coords t) _ w0 _ w1 _ w2 _ w3 _ w4 _ w5 _ w6 _ w7 scM0_0 (Memref.isWhole_whole _)
      (iblk m c 0 t) (iblk m c 1 t) (iblk m c 2 t) (iblk m c 3 t) (iblk m c 4 t)
      (fun h => absurd ((hc1 t).mp h) h0) (fun h => absurd ((hc2 t).mp h) h1) ((hc3 t).mpr (by omega)) (zfAt m c t) (flAt m c t) (hAt m c t) Set.univ K
    unfold ins at run
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply run
    isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexists _; iexact H6
    isplitl [H7]; · iexact H7
    isplitl [HS]; · iexact HS
    iintro ⟨⟨H0, H1, H2, H3, H4⟩, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply l5; iexact H5
    isplitl [H6]; · iexact H6
    iapply l7; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]; unfold PhiS
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel3Ideal.Gen

end
-- ==== Proof.Sample.ProjRuns.lean ====
module

public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Proj.Whole
public import Idealize.ShloMosaic.Lib.Claim

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The runs of the sample's projections' body: at the first column block, at the second, and at the later ones. -/

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x512x1024 .f32) (harg7 : arg7.IsWhole) (arg8 : Memref sig .tc .vmem S1x512x1024 .bf16) (harg8 : arg8.IsWhole) (arg9 : Memref sig .tc .vmem S512x128 .f32) (harg9 : arg9.IsWhole) (arg10 : Memref sig .tc .vmem S512x1024 .bf16) (harg10 : arg10.IsWhole)
  (x : Vec F S512x1024 .f32) (g : Vec F S1x1024 .f32) (w : Vec F S1024x1024 .bf16) (wff : Vec F S1024x128 .bf16) (fb : Vec F S1x128 .f32)

/-- The five inputs at their contents. -/
def ins : sProp (MT nD τ sig Unit (Elt F) ℕ (UR sig nD τ) ℕ) :=
  iprop(owns (c : Thread nD τ) arg2 fullShare x ∗ owns (c : Thread nD τ) arg3 fullShare g ∗ owns (c : Thread nD τ) arg4 fullShare w
    ∗ owns (c : Thread nD τ) arg5 fullShare wff ∗ owns (c : Thread nD τ) arg6 fullShare fb)

set_option maxHeartbeats 1000000 in
/-- At the first column block: the normed block is stored, the gate and the first columns computed from it. -/
theorem runA (hc1 : k0_cond1 i = 1#1) (hc2 : k0_cond2 i = 1#1) (hc3 : ¬k0_cond3 i = 1#1) (x6 : Vec F S1x512x1024 .bf16) (E : Set ℕ) (K : PUnit → sProp (MT nD τ sig Unit (Elt F) ℕ (UR sig nD τ) ℕ)) :
    iprop(ins c arg2 arg3 arg4 arg5 arg6 x g w wff fb ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d)
        ∗ (iprop(ins c arg2 arg3 arg4 arg5 arg6 x g w wff fb ∗ owns (c : Thread nD τ) arg7 fullShare (k0_pay5 (k0_pay2 x g) w) ∗ owns (c : Thread nD τ) arg8 fullShare x6 ∗ owns (c : Thread nD τ) arg9 fullShare (k0_pay3 x g wff fb) ∗ owns (c : Thread nD τ) arg10 fullShare (k0_pay2 x g)) -∗ K ⟨⟩))
      ⊢ wp frame (wpE (defs₀ (F := F)) Variants.none c none) E (cc0_proj_in i arg2 harg2 arg3 harg3 arg4 harg4 arg5 harg5 arg6 harg6 arg7 harg7 arg8 harg8 arg9 harg9 arg10 harg10) K := by
  simp only [cc0_proj_in_eq_skeleton]; unfold cc0_proj_in_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%d7, %f7, -, H7⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := first | sl_exact hc1 | sl_exact hc2 | sl_exact hc3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro; exact (Cert.Proj.stored _ _ _ _ _ (by decide)).trans (congrArg₂ k0_pay5 ((View.readCov_unit_lit _ _ _ (by decide)).trans (congrArg₂ k0_pay2 (Cert.Proj.loaded harg2 _ _ (by decide)) (Cert.Proj.loaded harg3 _ _ (by decide)))) (Cert.Proj.loaded harg4 _ _ (by decide)))
  isplitl [H6]
  · iexists _; isplitr; · ipureintro; exact harg8.read_unread _
    iexact H6
  isplitl [H7]
  · iexists _; isplitr
    swap; · iexact H7
    ipureintro; exact (Cert.Proj.stored _ _ _ _ _ (by decide)).trans (congr (congr (congrArg₂ k0_pay3 (Cert.Proj.loaded harg2 _ _ (by decide)) (Cert.Proj.loaded harg3 _ _ (by decide))) (Cert.Proj.loaded harg5 _ _ (by decide))) (Cert.Proj.loaded harg6 _ _ (by decide)))
  iexists _; isplitr
  swap; · iexact HS
  ipureintro; exact (Cert.Proj.stored _ _ _ _ _ (by decide)).trans (congrArg₂ k0_pay2 (Cert.Proj.loaded harg2 _ _ (by decide)) (Cert.Proj.loaded harg3 _ _ (by decide)))

set_option maxHeartbeats 1000000 in
/-- At the second column block: only the columns are computed, from the normed block kept in the scratch. -/
theorem runB (hc1 : ¬k0_cond1 i = 1#1) (hc2 : k0_cond2 i = 1#1) (hc3 : ¬k0_cond3 i = 1#1) (x6 : Vec F S1x512x1024 .bf16) (x7 : Vec F S512x128 .f32) (h : Vec F S512x1024 .bf16) (E : Set ℕ) (K : PUnit → sProp (MT nD τ sig Unit (Elt F) ℕ (UR sig nD τ) ℕ)) :
    iprop(ins c arg2 arg3 arg4 arg5 arg6 x g w wff fb ∗ (∃ d, owns (c : Thread nD τ) arg7 fullShare d) ∗ owns (c : Thread nD τ) arg8 fullShare x6 ∗ owns (c : Thread nD τ) arg9 fullShare x7 ∗ owns (c : Thread nD τ) arg10 fullShare h
        ∗ (iprop(ins c arg2 arg3 arg4 arg5 arg6 x g w wff fb ∗ owns (c : Thread nD τ) arg7 fullShare (k0_pay5 h w) ∗ owns (c : Thread nD τ) arg8 fullShare x6 ∗ owns (c : Thread nD τ) arg9 fullShare x7 ∗ owns (c : Thread nD τ) arg10 fullShare h) -∗ K ⟨⟩))
      ⊢ wp frame (wpE (defs₀ (F := F)) Variants.none c none) E (cc0_proj_in i arg2 harg2 arg3 harg3 arg4 harg4 arg5 harg5 arg6 harg6 arg7 harg7 arg8 harg8 arg9 harg9 arg10 harg10) K := by
  simp only [cc0_proj_in_eq_skeleton]; unfold cc0_proj_in_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs
  sl_exec (disch := first | sl_exact hc1 | sl_exact hc2 | sl_exact hc3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro; exact (Cert.Proj.stored _ _ _ _ _ (by decide)).trans (congrArg₂ k0_pay5 (Cert.Proj.loaded harg10 _ _ (by decide)) (Cert.Proj.loaded harg4 _ _ (by decide)))
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact HS

set_option maxHeartbeats 1000000 in
/-- At a later column block: the columns are rounded and go to the other stacked result. -/
theorem runC (hc1 : ¬k0_cond1 i = 1#1) (hc2 : ¬k0_cond2 i = 1#1) (hc3 : k0_cond3 i = 1#1) (x5 : Vec F S1x512x1024 .f32) (x7 : Vec F S512x128 .f32) (h : Vec F S512x1024 .bf16) (E : Set ℕ) (K : PUnit → sProp (MT nD τ sig Unit (Elt F) ℕ (UR sig nD τ) ℕ)) :
    iprop(ins c arg2 arg3 arg4 arg5 arg6 x g w wff fb ∗ owns (c : Thread nD τ) arg7 fullShare x5 ∗ (∃ d, owns (c : Thread nD τ) arg8 fullShare d) ∗ owns (c : Thread nD τ) arg9 fullShare x7 ∗ owns (c : Thread nD τ) arg10 fullShare h
        ∗ (iprop(ins c arg2 arg3 arg4 arg5 arg6 x g w wff fb ∗ owns (c : Thread nD τ) arg7 fullShare x5 ∗ owns (c : Thread nD τ) arg8 fullShare (k0_pay6 h w) ∗ owns (c : Thread nD τ) arg9 fullShare x7 ∗ owns (c : Thread nD τ) arg10 fullShare h) -∗ K ⟨⟩))
      ⊢ wp frame (wpE (defs₀ (F := F)) Variants.none c none) E (cc0_proj_in i arg2 harg2 arg3 harg3 arg4 harg4 arg5 harg5 arg6 harg6 arg7 harg7 arg8 harg8 arg9 harg9 arg10 harg10) K := by
  simp only [cc0_proj_in_eq_skeleton]; unfold cc0_proj_in_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%d6, %f6, -, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
  sl_exec (disch := first | sl_exact hc1 | sl_exact hc2 | sl_exact hc3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr; · ipureintro; exact harg7.read_unread _
    iexact H5
  isplitl [H6]
  · iexists _; isplitr
    swap; · iexact H6
    ipureintro; exact (Cert.Proj.stored _ _ _ _ _ (by decide)).trans (congrArg₂ k0_pay6 (Cert.Proj.loaded harg10 _ _ (by decide)) (Cert.Proj.loaded harg4 _ _ (by decide)))
  isplitl [H7]
  · iexists _; isplitr; · ipureintro; exact harg9.read_unread _
    iexact H7
  iexists _; isplitr; · ipureintro; exact harg10.read_unread _
  iexact HS

end Cert.Kernel8Ideal.Gen

end
-- ==== Proof.Sample.ProjFrame.lean ====
module

public import proofs.«01_k».proof.Proof.Sample.ProjRuns
public import proofs.«01_k».proof.Proof.Gen.Kernel8Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first of the nine points. -/
def first : Fin cfg0.N := ⟨0, by decide⟩
/-- The point whose columns the first result's buffer holds at `t`. -/
def second (t : Fin cfg0.N) : Fin cfg0.N := ⟨min t.val 1, Nat.lt_of_le_of_lt (Nat.min_le_left _ _) t.isLt⟩
theorem point_lt (t : Fin cfg0.N) : t.val < 9 := lt_of_lt_of_eq t.isLt N_0

theorem first_self {t : Fin cfg0.N} (h : t.val = 0) : first = t := Fin.ext h.symm
theorem second_congr {t t' : Fin cfg0.N} (h1 : 1 ≤ t.val) (h2 : 1 ≤ t'.val) : second t = second t' := by
  unfold second; exact Fin.ext (by simp only [Nat.min_eq_right h1, Nat.min_eq_right h2])
theorem second_self {t : Fin cfg0.N} (h : t.val < 2) : second t = t := by
  unfold second; exact Fin.ext (by simp only; omega)

/-- The normed block the scratch holds from the first point on. -/
def hAt (c : Dev nD) : Vec F S512x1024 .bf16 := k0_pay2 (iblk m c 0 first) (iblk m c 1 first)
/-- What the first stacked result's buffer holds. -/
def zfAt (c : Dev nD) (t : Fin cfg0.N) : Vec F S1x512x1024 .f32 := k0_pay5 (hAt m c) (iblk m c 2 (second t))
/-- What the second stacked result's buffer holds. -/
def zbAt (c : Dev nD) (t : Fin cfg0.N) : Vec F S1x512x1024 .bf16 := k0_pay6 (hAt m c) (iblk m c 2 t)
/-- What the gate's buffer holds. -/
def flAt (c : Dev nD) : Vec F S512x128 .f32 := k0_pay3 (iblk m c 0 first) (iblk m c 1 first) (iblk m c 3 first) (iblk m c 4 first)

theorem hAt_first (c : Dev nD) {t : Fin cfg0.N} (h : t.val = 0) : k0_pay2 (iblk m c 0 t) (iblk m c 1 t) = hAt m c := by
  rw [← first_self h]; rfl
theorem zfAt_first (c : Dev nD) {t : Fin cfg0.N} (h : t.val < 2) : k0_pay5 (hAt m c) (iblk m c 2 t) = zfAt m c t := by
  unfold zfAt; rw [second_self h]
theorem flAt_first (c : Dev nD) {t : Fin cfg0.N} (h : t.val = 0) : k0_pay3 (iblk m c 0 t) (iblk m c 1 t) (iblk m c 3 t) (iblk m c 4 t) = flAt m c := by
  rw [← first_self h]; rfl

/-- The scratch, a whole buffer of the kernel's own. -/
abbrev scM0_0 : Memref sig .tc .vmem S512x1024 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Before the first point the scratch holds anything, after a point the normed block. -/
def PhiS (c : Dev nD) : (n : ℕ) → n ≤ cfg0.N → sProp 𝕄
  | 0, _ => Pipeline.ΦA spec0 c
  | n + 1, hn => iprop(iprop(owns (c : Thread nD τ) scM0_0 fullShare (hAt m c)) ∗ (∃ r, prngReg c r))

theorem PhiS_succ (c : Dev nD) (n : ℕ) (hn : n < cfg0.N) :
    PhiS m c (n + 1) hn = iprop(iprop(owns (c : Thread nD τ) scM0_0 fullShare (hAt m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (hAt m c)) ∗ (∃ r, prngReg c r)) := by
  cases n with
  | zero => exact absurd rfl hz
  | succ n => rfl

theorem PhiS_any (c : Dev nD) (n : ℕ) (h : n ≤ cfg0.N) :
    PhiS m c n h ⊢ iprop(iprop((∃ d, owns (c : Thread nD τ) scM0_0 fullShare d)) ∗ (∃ r, prngReg c r)) := by
  cases n with
  | zero => unfold PhiS; rw [PhiA0_eq]
  | succ n =>
    rw [PhiS_succ]
    iintro ⟨H, Hg⟩
    isplitl [H]
    · iexists _; iexact H
    iexact Hg

theorem PhiS_hold (c : Dev nD) (t : Fin cfg0.N) (h : t.val ≠ 0) :
    PhiS m c t.val (Nat.le_of_lt t.isLt) = iprop(iprop(owns (c : Thread nD τ) scM0_0 fullShare (hAt m c)) ∗ (∃ r, prngReg c r)) :=
  PhiS_pos m c _ _ h

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zfAt m c t
    | ⟨6, _⟩ => zbAt m c t
    | ⟨7, _⟩ => flAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = zfAt m c t := by dsimp only [dats]
theorem after0_6 (c : Dev nD) (t : Fin cfg0.N) : (dats m 0 c).after 6 t = zbAt m c t := by dsimp only [dats]
theorem after0_7 (c : Dev nD) (t : Fin cfg0.N) : (dats m 0 c).after 7 t = flAt m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! Where the conditions hold, and where the outputs are written back. -/

theorem hc1 : ∀ t : Fin cfg0.N, k0_cond1 (grid0.coords t) = 1#1 ↔ t.val = 0 := by decide +kernel
theorem hc2 : ∀ t : Fin cfg0.N, k0_cond2 (grid0.coords t) = 1#1 ↔ t.val < 2 := by decide +kernel
theorem hc3 : ∀ t : Fin cfg0.N, k0_cond3 (grid0.coords t) = 1#1 ↔ 2 ≤ t.val := by decide +kernel
theorem idle5 : ∀ t : Fin cfg0.N, cfg0.idle 5 (cfg0.grid.coords t) = decide (1 < t.val) := by decide +kernel
theorem idle6 : ∀ t : Fin cfg0.N, cfg0.idle 6 (cfg0.grid.coords t) = decide (t.val < 2) := by decide +kernel
theorem idle7 : ∀ t : Fin cfg0.N, cfg0.idle 7 (cfg0.grid.coords t) = decide (0 < t.val) := by decide +kernel
theorem noFlush5 : ∀ t : Fin cfg0.N, 1 ≤ t.val → t.val < 8 → (cfg0.win 5).flush t = false := by decide +kernel
theorem noFlush6 : ∀ t : Fin cfg0.N, t.val < 2 → (cfg0.win 6).flush t = false := by decide +kernel
theorem noFlush7 : ∀ t : Fin cfg0.N, 0 ≤ t.val → t.val < 8 → (cfg0.win 7).flush t = false := by decide +kernel

/-- From the last live point on a buffer keeps what that point left, if the buffer's named contents agree from there on. -/
theorem before_held (c : Dev nD) (w : Fin cfg0.W) (lo : ℕ) (hfetch : ∀ t, (cfg0.win w).fetch t = false)
    (hflush : ∀ t : Fin cfg0.N, lo ≤ t.val → t.val < 8 → (cfg0.win w).flush t = false)
    (hidle : ∀ t : Fin cfg0.N, cfg0.idle w (cfg0.grid.coords t) = decide (lo < t.val))
    (hafter : ∀ t t' : Fin cfg0.N, lo ≤ t.val → lo ≤ t'.val → (dats m 0 c).after w t = (dats m 0 c).after w t')
    (hkept : ∀ t d, (dats m 0 c).kept w t d = (dats m 0 c).after w t) :
    ∀ (n : ℕ) (t : Fin cfg0.N), t.val = n → lo < t.val → ∀ d, (dats m 0 c).before w t d = (dats m 0 c).after w t
  | n, t, hn, h, d => by
    have h9 := point_lt t
    have hlt : t.val - 1 < cfg0.N := Nat.lt_of_le_of_lt (Nat.sub_le _ _) t.isLt
    have hl : lo ≤ t.val - 1 := by omega
    have hr := hafter ⟨t.val - 1, hlt⟩ t hl (Nat.le_of_lt h)
    rw [(dats m 0 c).before_of_pos w t (by omega) (hfetch t) d, hflush ⟨t.val - 1, hlt⟩ hl (by show t.val - 1 < 8; omega), if_neg Bool.false_ne_true]
    unfold Dat.left
    by_cases hi : lo < t.val - 1
    · rw [(hidle ⟨t.val - 1, hlt⟩).trans (decide_eq_true hi)]
      exact (before_held c w lo hfetch hflush hidle hafter hkept (t.val - 1) ⟨t.val - 1, hlt⟩ rfl hi d).trans hr
    · rw [(hidle ⟨t.val - 1, hlt⟩).trans (decide_eq_false hi)]
      exact (hkept _ d).trans hr
  termination_by n => n
  decreasing_by omega

theorem before0_5 (c : Dev nD) (t : Fin cfg0.N) (h : 1 < t.val) (d) : (dats m 0 c).before 5 t d = zfAt m c t :=
  (before_held m c 5 1 (fun _ => rfl) noFlush5 idle5
    (fun t t' h1 h2 => by rw [after0_5, after0_5]; unfold zfAt; rw [second_congr h1 h2])
    (fun _ _ => rfl) t.val t rfl h d).trans (after0_5 m c t)
theorem before0_7 (c : Dev nD) (t : Fin cfg0.N) (h : 0 < t.val) (d) : (dats m 0 c).before 7 t d = flAt m c :=
  (before_held m c 7 0 (fun _ => rfl) noFlush7 idle7 (fun t t' _ _ => by rw [after0_7, after0_7]) (fun _ _ => rfl) t.val t rfl h d).trans (after0_7 m c t)

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

theorem leaves_held (c : Dev nD) (w : Fin cfg0.W) (t : Fin cfg0.N) (hi : cfg0.idle w (cfg0.grid.coords t) = true)
    (X) (hb : ∀ d, (dats m 0 c).before w t d = X) (ha : (dats m 0 c).after w t = X) :
    owns (c : Thread nD τ) ((cfg0.win w).stage (cfg0.slots t w)) fullShare X ⊢ (dats m 0 c).leavesExact w t := by
  unfold Dat.leavesExact; rw [hi, ha]
  cases (cfg0.win w).flush t
  · iintro H
    iexists X; rw [hb]; iexact H
  · exact Idealize.SL.BI.Entails.refl _

abbrev ms0_0 (t : Fin cfg0.N) : Memref sig .tc .vmem S512x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S1024x128 .bf16 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S1x512x1024 .f32 := win0_5.stage (cfg0.slots t 5)
abbrev ms0_6 (t : Fin cfg0.N) : Memref sig .tc .vmem S1x512x1024 .bf16 := win0_6.stage (cfg0.slots t 6)
abbrev ms0_7 (t : Fin cfg0.N) : Memref sig .tc .vmem S512x128 .f32 := win0_7.stage (cfg0.slots t 7)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point, by its case: the first point, the second, a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, leaves_live m c 1 t rfl, leaves_live m c 2 t rfl, leaves_live m c 3 t rfl, leaves_live m c 4 t rfl,
    after0_0, after0_1, after0_2, after0_3, after0_4]

  have w0 := hstage0_0 ((cfg0.slots t 0).cast nbuf0_0)
  have w1 := hstage0_1 ((cfg0.slots t 1).cast nbuf0_1)
  have w2 := hstage0_2 ((cfg0.slots t 2).cast nbuf0_2)
  have w3 := hstage0_3 ((cfg0.slots t 3).cast nbuf0_3)
  have w4 := hstage0_4 ((cfg0.slots t 4).cast nbuf0_4)
  have w5 := hstage0_5 ((cfg0.slots t 5).cast nbuf0_5)
  have w6 := hstage0_6 ((cfg0.slots t 6).cast nbuf0_6)
  have w7 := hstage0_7 ((cfg0.slots t 7).cast nbuf0_7)
  by_cases h0 : t.val = 0
  · rw [leaves_live m c 5 t ((idle5 t).trans (decide_eq_false (by omega))), after0_5,
      (dats m 0 c).leavesExact_idle 6 t ((idle6 t).trans (decide_eq_true (by omega))) (noFlush6 t (by omega)),
      leaves_live m c 7 t ((idle7 t).trans (decide_eq_false (by omega))), after0_7]
    have run := fun x6 K => runA (F := F) c (grid0.coords t) _ w0 _ w1 _ w2 _ w3 _ w4 _ w5 _ w6 _ w7 scM0_0 (Memref.isWhole_whole _)
      (iblk m c 0 t) (iblk m c 1 t) (iblk m c 2 t) (iblk m c 3 t) (iblk m c 4 t)
      ((hc1 t).mpr h0) ((hc2 t).mpr (by omega)) (fun h => absurd ((hc3 t).mp h) (by omega)) x6 Set.univ K
    rw [hAt_first m c h0, zfAt_first m c (t := t) (by omega), flAt_first m c h0] at run
    unfold ins at run
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave ⟨HS, Hg⟩ := PhiS_any m c _ _ $$ HP
    iapply run
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    isplitl [H7]; · iexists _; iexact H7
    isplitl [HS]; · iexact HS
    iintro ⟨⟨H0, H1, H2, H3, H4⟩, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact H7
  rw [PhiS_hold m c t h0]
  simp only [before0_7 m c t (Nat.pos_of_ne_zero h0)]
  have l7 := leaves_held m c 7 t ((idle7 t).trans (decide_eq_true (by omega))) _ (before0_7 m c t (Nat.pos_of_ne_zero h0)) (after0_7 m c t)
  by_cases h1 : t.val < 2
  · rw [leaves_live m c 5 t ((idle5 t).trans (decide_eq_false (by omega))), after0_5,
      (dats m 0 c).leavesExact_idle 6 t ((idle6 t).trans (decide_eq_true (by omega))) (noFlush6 t (by omega))]
    have run := fun x6 K => runB (F := F) c (grid0.coords t) _ w0 _ w1 _ w2 _ w3 _ w4 _ w5 _ w6 _ w7 scM0_0 (Memref.isWhole_whole _)
      (iblk m c 0 t) (iblk m c 1 t) (iblk m c 2 t) (iblk m c 3 t) (iblk m c 4 t)
      (fun h => absurd ((hc1 t).mp h) h0) ((hc2 t).mpr h1) (fun h => absurd ((hc3 t).mp h) (by omega)) x6 (flAt m c) (hAt m c) Set.univ K
    rw [zfAt_first m c h1] at run
    unfold ins at run
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply run
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    isplitl [H7]; · iexact H7
    isplitl [HS]; · iexact HS
    iintro ⟨⟨H0, H1, H2, H3, H4⟩, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iapply l7; iexact H7
  · simp only [before0_5 m c t (by omega)]
    have l5 := leaves_held m c 5 t ((idle5 t).trans (decide_eq_true (by omega))) _ (before0_5 m c t (by omega)) (after0_5 m c t)
    rw [leaves_live m c 6 t ((idle6 t).trans (decide_eq_false h1)), after0_6]
    have run := fun K => runC (F := F) c (grid0.coords t) _ w0 _ w1 _ w2 _ w3 _ w4 _ w5 _ w6 _ w7 scM0_0 (Memref.isWhole_whole _)
      (iblk m c 0 t) (iblk m c 1 t) (iblk m c 2 t) (iblk m c 3 t) (iblk m c 4 t)
      (fun h => absurd ((hc1 t).mp h) h0) (fun h => absurd ((hc2 t).mp h) h1) ((hc3 t).mpr (by omega)) (zfAt m c t) (flAt m c) (hAt m c) Set.univ K
    unfold ins at run
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply run
    isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexists _; iexact H6
    isplitl [H7]; · iexact H7
    isplitl [HS]; · iexact HS
    iintro ⟨⟨H0, H1, H2, H3, H4⟩, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply l5; iexact H5
    isplitl [H6]; · iexact H6
    iapply l7; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]; unfold PhiS
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel8Ideal.Gen

end
-- ==== Proof.Same.lean ====
/- A program as printed and the one printed for the reals run the same bodies, so they have the same frame. -/
module

public import proofs.«01_k».proof.Defs
public import proofs.«01_k».proof.Proof.Gen.Kernel
public import proofs.«01_k».proof.Proof.Gen.Kernel3
public import proofs.«01_k».proof.Proof.KernIdeal.Frame
public import proofs.«01_k».proof.Proof.Proj.Frame
public import proofs.«01_k».proof.Proof.Gen.Kernel8
public import proofs.«01_k».proof.Proof.Sample.ProjFrame

@[expose] public section

set_option maxRecDepth 16384

noncomputable section

namespace Cert.Same

open Idealize.ShloMosaic Idealize.ShloMosaic.TcCoe Idealize.SL.Sem

instance facts1 : Cert.Kernel.Facts := Cert.Kernel.Gen.facts
instance facts1Ideal : Cert.KernelIdeal.Facts := Cert.KernelIdeal.Gen.facts
instance facts3 : Cert.Kernel3.Facts := Cert.Kernel3.Gen.facts
instance facts3Ideal : Cert.Kernel3Ideal.Facts := Cert.Kernel3Ideal.Gen.facts
instance facts8 : Cert.Kernel8.Facts := Cert.Kernel8.Gen.facts
instance facts8Ideal : Cert.Kernel8Ideal.Facts := Cert.Kernel8Ideal.Gen.facts

variable {F : FTy → Type} [FloatOps F]

theorem bodies1 : Cert.Kernel.defs₀ (F := F) = Cert.KernelIdeal.defs₀ (F := F) := by
  refine congrArg (Defs.onTc (nD := Cert.Kernel.nD) (τ := Cert.Kernel.τ) (sig := Cert.Kernel.sig) (Λ := Cert.Kernel.Λ₀) (Val := Elt F)) (funext fun l => ?_)
  match l with
  | (0 : Fin 1) => funext x; rfl

theorem bodies3 : Cert.Kernel3.defs₀ (F := F) = Cert.Kernel3Ideal.defs₀ (F := F) := by
  refine congrArg (Defs.onTc (nD := Cert.Kernel3.nD) (τ := Cert.Kernel3.τ) (sig := Cert.Kernel3.sig) (Λ := Cert.Kernel3.Λ₀) (Val := Elt F)) (funext fun l => ?_)
  match l with
  | (0 : Fin 1) => funext x; rfl

theorem bodies8 : Cert.Kernel8.defs₀ (F := F) = Cert.Kernel8Ideal.defs₀ (F := F) := by
  refine congrArg (Defs.onTc (nD := Cert.Kernel8.nD) (τ := Cert.Kernel8.τ) (sig := Cert.Kernel8.sig) (Λ := Cert.Kernel8.Λ₀) (Val := Elt F)) (funext fun l => ?_)
  match l with
  | (0 : Fin 1) => funext x; rfl

theorem defs1 : Cert.Kernel.defs (F := F) = Cert.KernelIdeal.defs (F := F) := congrArg (Pipeline.defs (Cert.Kernel.pcfgs (F := F))) bodies1

theorem defs3 : Cert.Kernel3.defs (F := F) = Cert.Kernel3Ideal.defs (F := F) := congrArg (Pipeline.defs (Cert.Kernel3.pcfgs (F := F))) bodies3

theorem defs8 : Cert.Kernel8.defs (F := F) = Cert.Kernel8Ideal.defs (F := F) := congrArg (Pipeline.defs (Cert.Kernel8.pcfgs (F := F))) bodies8

/-- The frame of the recurrence as printed. -/
theorem frame1 : Cert.quiescent_Kernel (hKernel := Cert.Kernel.Gen.facts) := fun m ρ _ => by
  have h := Cert.KernelIdeal.Gen.frame (F := Bits) m ρ
  show θ_run (Cert.Kernel.defs (F := Bits)) _ _ _
  rw [defs1]
  exact h

/-- The frame of the projections as printed. -/
theorem frame3 : Cert.quiescent_Kernel3 (hKernel3 := Cert.Kernel3.Gen.facts) := fun m ρ _ => by
  have h := Cert.Kernel3Ideal.Gen.frame (F := Bits) m ρ
  show θ_run (Cert.Kernel3.defs (F := Bits)) _ _ _
  rw [defs3]
  exact h

/-- The frame of the sample's projections as printed. -/
theorem frame8 : Cert.quiescent_Kernel8 (hKernel8 := Cert.Kernel8.Gen.facts) := fun m ρ _ => by
  have h := Cert.Kernel8Ideal.Gen.frame (F := Bits) m ρ
  show θ_run (Cert.Kernel8.defs (F := Bits)) _ _ _
  rw [defs8]
  exact h

end Cert.Same

end
-- ==== Proof.Dense.Rows.lean ====
module

public import proofs.«01_k».proof.Proof.Dense.Spec
public import proofs.«01_k».proof.Proof.Hgrn.RefEntry
public import Idealize.ShloMosaic.Lib.MatmulPlain
public import Idealize.ShloMosaic.Lib.Pipeline.ValueKit

@[expose] public section

set_option maxRecDepth 16384

noncomputable section

namespace Cert.Dense.Rows

open Idealize.ShloMosaic Idealize.ShloMosaic.TcCoe Cert.Hgrn Cert.Dense
open StableHlo

/-! The operations of the references over any number of rows, at one row and channel. -/

/-- The shape of a matrix. -/
abbrev M (n k : ℕ) : Shape := ⟨2, ![n, k]⟩
/-- The shape of a vector. -/
abbrev V (n : ℕ) : Shape := ⟨1, ![n]⟩
/-- The shape of a scalar. -/
abbrev One : Shape := ⟨0, ![]⟩

variable {n : ℕ}

/-- What the norm of `n` rows takes of its shapes. -/
structure Norm (n : ℕ) : Prop where
  sum : (M n 1024).ReducesTo [1] (V n)
  one : 0 < One.numel
  row : (V n).BroadcastsInDim (M n 1) (![0] : Fin 1 → Fin 2)
  fill : One.BroadcastsInDim (M n 1) (![] : Fin 0 → Fin 2)
  col : (M n 1).BroadcastsInDim (M n 1024) (![0, 1] : Fin 2 → Fin 2)
  wts : (M 1 1024).BroadcastsInDim (M n 1024) (![0, 1] : Fin 2 → Fin 2)
  lead : (V 1024).BroadcastsInDim (M 1 1024) (![1] : Fin 1 → Fin 2)
  flat : (M 1 1024).ShapeCasts (V 1024)

/-- The mean square of each row, as a reference prints it. -/
def meanSq (H : Norm n) (x : FVec Ideal (M n 1024) .f32) : FVec Ideal (V n) .f32 :=
  Host.reduceAdd (mulf x x) (constant One .f32 0x00000000#32) H.sum H.one

theorem meanSq_apply (H : Norm n) (x : FVec Ideal (M n 1024) .f32) (t : Fin n) :
    (meanSq H x : (V n).Idx → EReal) (ix1 t) = ∑ k : Fin 1024, x (ix2 t k) * x (ix2 t k) := by
  unfold meanSq
  pointwise

/-- One over the root of each row's mean square. -/
def scale (H : Norm n) (v : FVec Ideal (V n) .f32) : FVec Ideal (M n 1) .f32 :=
  Host.rsqrt (addf (Host.divf (broadcastInDim (M n 1) ![0] H.row v) (broadcastInDim (M n 1) ![] H.fill (constant One .f32 0x44800000#32))) (broadcastInDim (M n 1) ![] H.fill (constant One .f32 0x358637BD#32)))

theorem scale_apply (H : Norm n) (v : FVec Ideal (V n) .f32) (t : Fin n) :
    (scale H v : (M n 1).Idx → EReal) (ix2 t 0) = Ideal.rsqrt (Ideal.div (v (ix1 t)) (Ideal.ofBits FTy.f32 0x44800000#32) + Ideal.ofBits FTy.f32 0x358637BD#32) := by
  have e : broadcastInDim (M n 1) ![0] H.row v (ix2 t 0) = v (ix1 t) := broadcastInDim_apply _ _ _ _ _ fun a => by
    match a with
    | (0 : Fin 1) =>
      show t.val = if n = 1 then 0 else t.val
      split <;> omega
  rw [← e]
  rfl

/-- The norm of `n` rows, as a reference prints it. -/
def normed (H : Norm n) (x : FVec Ideal (M n 1024) .f32) (g : FVec Ideal (M 1 1024) .f32) : FVec Ideal (M n 1024) .f32 :=
  mulf (mulf x (broadcastInDim (M n 1024) ![0, 1] H.col (scale H (meanSq H x)))) (broadcastInDim (M n 1024) ![0, 1] H.wts (broadcastInDim (M 1 1024) ![1] H.lead (shapeCast (V 1024) g H.flat)))

theorem normed_apply (H : Norm n) (x : FVec Ideal (M n 1024) .f32) (g : FVec Ideal (M 1 1024) .f32) (t : Fin n) (j : Fin 1024) :
    (normed H x g : (M n 1024).Idx → EReal) (ix2 t j) = rms (fun k => x (ix2 t k)) (fun k => g (ix2 0 k)) j := by
  have e : broadcastInDim (M n 1024) ![0, 1] H.col (scale H (meanSq H x)) (ix2 t j) = scale H (meanSq H x) (ix2 t 0) :=
    broadcastInDim_apply _ _ _ _ _ fun a => by
      match a with
      | (0 : Fin 2) =>
        show t.val = if n = 1 then 0 else t.val
        split <;> omega
      | (1 : Fin 2) => rfl
  rw [scale_apply, meanSq_apply] at e
  have e' : (broadcastInDim (M n 1024) ![0, 1] H.wts (broadcastInDim (M 1 1024) ![1] H.lead (shapeCast (V 1024) g H.flat)) : (M n 1024).Idx → EReal) (ix2 t j) = g (ix2 0 j) := by
    pointwise
  exact congrArg₂ (fun a b : EReal => x (ix2 t j) * a * b) e e'

/-- The product of `n` rows of `p` channels with `k` columns. -/
def dims {n p k : ℕ} (wf : DotDims.WF (M n p) (M p k) (M n k) [1] [0] [0] [1] [] []) : DotDims (M n p) (M p k) (M n k) where
  lhsContracting := [1]
  rhsContracting := [0]
  lhsNonContracting := [0]
  rhsNonContracting := [1]
  lhsBatch := []
  rhsBatch := []
  wf := wf

/-- Rows against weights in bfloat16, as a reference prints it. -/
def proj {p k : ℕ} (wf : DotDims.WF (M n p) (M p k) (M n k) [1] [0] [0] [1] [] []) (h : FVec Ideal (M n p) .f32) (w : FVec Ideal (M p k) .bf16) (hb : FTy.bits .bf16 < FTy.bits .f32) : FVec Ideal (M n k) .f32 :=
  Host.dotGeneral (dims wf) none h (extf .f32 w hb)

theorem proj_apply {p k : ℕ} (wf) (h : FVec Ideal (M n p) .f32) (w : FVec Ideal (M p k) .bf16) (hb) (t : Fin n) (f : Fin k) :
    (proj wf h w hb : (M n k).Idx → EReal) (ix2 t f) = ∑ l : Fin p, h (ix2 t l) * w (ix2 l f) :=
  (Ideal.matmul_plain_apply none h (extf .f32 w hb) (fun _ => 0) t f).trans (zero_add _)

/-- Columns of the normed rows. -/
theorem proj_normed_apply (H : Norm n) {k : ℕ} (wf) (x : FVec Ideal (M n 1024) .f32) (g : FVec Ideal (M 1 1024) .f32) (w : FVec Ideal (M 1024 k) .bf16) (hb)
    (t : Fin n) (f : Fin k) :
    (proj wf (normed H x g) w hb : (M n k).Idx → EReal) (ix2 t f) = projAt (fun k => x (ix2 t k)) (fun k => g (ix2 0 k)) (fun k f => w (ix2 k f)) f := by
  rw [proj_apply]
  simp only [normed_apply]
  rfl

/-- A block of columns. -/
theorem slice_apply {α : Type} {p k o : ℕ} (z : (M n p).Idx → α) (hs : (M n p).Slices ![0, o] (M n k)) (ho : o + k ≤ p) (t : Fin n) (f : Fin k) :
    extractStridedSlice (M n k) ![0, o] z hs (ix2 t f) = z (ix2 t ⟨o + f.val, by omega⟩) := by
  refine congrArg z (funext fun a => Fin.ext ?_)
  match a with
  | (0 : Fin 2) => show 0 + t.val = t.val; omega
  | (1 : Fin 2) => rfl

/-- One in every place. -/
def ones {p : ℕ} (H : One.BroadcastsInDim (M n p) (![] : Fin 0 → Fin 2)) : FVec Ideal (M n p) .f32 :=
  broadcastInDim (M n p) ![] H (constant One .f32 0x3F800000#32)

/-- The gated units: the first block of columns times its sigmoid times the second block. -/
def units {p q : ℕ} (H : One.BroadcastsInDim (M n p) (![] : Fin 0 → Fin 2)) (ha : (M n q).Slices ![0, 0] (M n p)) (hb : (M n q).Slices ![0, p] (M n p))
    (z : FVec Ideal (M n q) .f32) : FVec Ideal (M n p) .f32 :=
  mulf (mulf (extractStridedSlice (M n p) ![0, 0] z ha) (Host.divf (ones H) (addf (ones H) (Host.exp (Host.negf (extractStridedSlice (M n p) ![0, 0] z ha))))))
    (extractStridedSlice (M n p) ![0, p] z hb)

theorem units_apply {p q : ℕ} (H) (ha) (hb) (hq : p + p ≤ q) (z : FVec Ideal (M n q) .f32) (t : Fin n) (f : Fin p) :
    (units H ha hb z : (M n p).Idx → EReal) (ix2 t f)
      = z (ix2 t ⟨f.val, by omega⟩) * sigm (z (ix2 t ⟨f.val, by omega⟩)) * z (ix2 t ⟨p + f.val, by omega⟩) := by
  have e : (extractStridedSlice (M n p) ![0, 0] z ha : (M n p).Idx → EReal) (ix2 t f) = z (ix2 t ⟨f.val, by omega⟩) :=
    (slice_apply z ha (by omega) t f).trans (congrArg (fun f => z (ix2 t f)) (Fin.ext (by show 0 + f.val = f.val; omega)))
  have e' := slice_apply z hb hq t f
  rw [← e, ← e']
  unfold units ones
  pointwise
  unfold sigm
  rw [zero_sub]

/-- The residual with a second product. -/
def resid {p k : ℕ} (wf : DotDims.WF (M n p) (M p k) (M n k) [1] [0] [0] [1] [] []) (x : FVec Ideal (M n k) .f32) (u : FVec Ideal (M n p) .f32)
    (d : FVec Ideal (M p k) .bf16) (hb : FTy.bits .bf16 < FTy.bits .f32) : FVec Ideal (M n k) .f32 :=
  addf x (proj wf u d hb)

theorem resid_apply {p k : ℕ} (wf) (x : FVec Ideal (M n k) .f32) (u : FVec Ideal (M n p) .f32) (d : FVec Ideal (M p k) .bf16) (hb) (t : Fin n) (j : Fin k) :
    (resid wf x u d hb : (M n k).Idx → EReal) (ix2 t j) = x (ix2 t j) + ∑ f : Fin p, u (ix2 t f) * d (ix2 f j) :=
  congrArg (fun a : EReal => x (ix2 t j) + a) (proj_apply wf u d hb t j)

/-- Channel `128 * h + d`: channel `d` of head `h`. -/
def chan (h : Fin 8) (d : Fin 128) : Fin 1024 := ⟨128 * h.val + d.val, by omega⟩

/-- 1024 channels laid out as 8 heads of 128. -/
theorem heads_apply {α : Type} (v : (M n 1024).Idx → α) (H : (M n 1024).ShapeCasts ⟨3, ![n, 8, 128]⟩) (t : Fin n) (h : Fin 8) (d : Fin 128) :
    shapeCast ⟨3, ![n, 8, 128]⟩ v H (ix3 t h d) = v (ix2 t (chan h d)) := by
  refine shapeCast_apply _ _ _ _ ?_
  rw [Shape.rowMajor_val_two, Shape.rowMajor_val_three]
  show t.val * 1024 + (128 * h.val + d.val) = (t.val * 8 + h.val) * 128 + d.val
  omega

/-- A matrix with a leading axis of one. -/
def lead {α : Type} (H : (M n 1024).BroadcastsInDim ⟨3, ![1, n, 1024]⟩ (![1, 2] : Fin 2 → Fin 3)) (v : (M n 1024).Idx → α) : (⟨3, ![1, n, 1024]⟩ : Shape).Idx → α :=
  broadcastInDim ⟨3, ![1, n, 1024]⟩ ![1, 2] H v

theorem lead_apply {α : Type} (H) (v : (M n 1024).Idx → α) (t : Fin n) (j : Fin 1024) : lead H v (ix3 0 t j) = v (ix2 t j) :=
  broadcastInDim_apply _ _ _ _ _ fun a => by
    match a with
    | (0 : Fin 2) =>
      show t.val = if n = 1 then 0 else t.val
      split <;> omega
    | (1 : Fin 2) => rfl

/-- Matrices stacked along a leading axis. -/
theorem stack_apply {α : Type} {q : ℕ} (H) (p : Fin q → (M n 1024).Idx → α) (hc) (s : Fin q) (t : Fin n) (j : Fin 1024) :
    concatenate ⟨3, ![q, n, 1024]⟩ 0 (List.ofFn fun s => ⟨⟨3, ![1, n, 1024]⟩, lead H (p s)⟩) hc (ix3 s t j) = p s (ix2 t j) := by
  refine (concatenate_ofFn_unit_apply (t := ⟨3, ![q, n, 1024]⟩) (s₁ := ⟨3, ![1, n, 1024]⟩) 0 (fun s => lead H (p s)) hc rfl rfl (ix3 s t j) s rfl (ix3 0 t j) ?_).trans
    (lead_apply H _ t j)
  intro b hb
  match b with
  | ⟨0, _⟩ => exact absurd rfl hb
  | ⟨1, _⟩ => rfl
  | ⟨2, _⟩ => rfl

/-- Zero in every place. -/
def zeros {p : ℕ} (H : One.BroadcastsInDim (M n p) (![] : Fin 0 → Fin 2)) : FVec Ideal (M n p) .f32 :=
  broadcastInDim (M n p) ![] H (constant One .f32 0x00000000#32)

/-- The logarithm of the sigmoid, as minus the softplus of the negated argument. -/
def logSig {p : ℕ} (H : One.BroadcastsInDim (M n p) (![] : Fin 0 → Fin 2)) (z : FVec Ideal (M n p) .f32) : FVec Ideal (M n p) .f32 :=
  Host.negf (select (cmpf .une (subf (Host.negf z) (zeros H)) (subf (Host.negf z) (zeros H))) (addf (Host.negf z) (zeros H))
    (addf (maximumf (Host.negf z) (zeros H)) (Host.log1p (Host.exp (Host.negf (Host.absf (subf (Host.negf z) (zeros H))))))))

theorem logSig_apply {p : ℕ} (H) (z : FVec Ideal (M n p) .f32) (i : (M n p).Idx) : (logSig H z : (M n p).Idx → EReal) i = lsig (z i) := by
  unfold logSig zeros
  pointwise
  rw [if_neg (fun h => h rfl)]
  exact Cert.ReferenceIdeal.Value.neg_softplus (z i)

/-- A row of biases under every row. -/
theorem bias_apply {p : ℕ} (hc : (M 1 p).BroadcastsInDim (M n p) (![0, 1] : Fin 2 → Fin 2)) (hl : (V p).BroadcastsInDim (M 1 p) (![1] : Fin 1 → Fin 2))
    (hs : (M 1 p).ShapeCasts (V p)) (b : FVec Ideal (M 1 p) .f32) (t : Fin n) (f : Fin p) :
    (broadcastInDim (M n p) ![0, 1] hc (broadcastInDim (M 1 p) ![1] hl (shapeCast (V p) b hs)) : (M n p).Idx → EReal) (ix2 t f) = b (ix2 0 f) := by
  refine (broadcastInDim_apply _ _ _ _ (ix2 0 f) fun a => ?_).trans ((broadcastInDim_apply _ _ _ _ (ix1 f) fun a => ?_).trans (shapeCast_apply _ _ _ _ ?_))
  · match a with
    | (0 : Fin 2) => rfl
    | (1 : Fin 2) =>
      show f.val = if p = 1 then 0 else f.val
      split <;> omega
  · match a with
    | (0 : Fin 1) =>
      show f.val = if p = 1 then 0 else f.val
      split <;> omega
  · rw [Shape.rowMajor_val_two, Shape.rowMajor_val_one]
    show 0 * p + f.val = f.val
    omega

/-- The shape of `q` matrices. -/
abbrev C (q n k : ℕ) : Shape := ⟨3, ![q, n, k]⟩

/-- One matrix of several. -/
theorem layer_apply {α : Type} {q p o : ℕ} (z : (C q n p).Idx → α) (hs : (C q n p).Slices ![o, 0, 0] (C 1 n p)) (ho : o < q) (t : Fin n) (f : Fin p) :
    extractStridedSlice (C 1 n p) ![o, 0, 0] z hs (ix3 0 t f) = z (ix3 ⟨o, ho⟩ t f) := by
  refine congrArg z (funext fun a => Fin.ext ?_)
  match a with
  | (0 : Fin 3) => rfl
  | (1 : Fin 3) => show 0 + t.val = t.val; omega
  | (2 : Fin 3) => show 0 + f.val = f.val; omega

/-- The sigmoid of a matrix of gates. -/
def gate {p : ℕ} (H : One.BroadcastsInDim (M n p) (![] : Fin 0 → Fin 2)) (hs : (C 1 n p).ShapeCasts (M n p)) (g : FVec Ideal (C 1 n p) .bf16)
    (hb : FTy.bits .bf16 < FTy.bits .f32) : FVec Ideal (M n p) .f32 :=
  Host.divf (ones H) (addf (ones H) (Host.exp (Host.negf (extf .f32 (shapeCast (M n p) g hs) hb))))

theorem gate_apply {p : ℕ} (H) (hs) (g : FVec Ideal (C 1 n p) .bf16) (hb) (t : Fin n) (j : Fin p) :
    (gate H hs g hb : (M n p).Idx → EReal) (ix2 t j) = sigm (g (ix3 0 t j)) := by
  have e : (shapeCast (M n p) g hs : (M n p).Idx → EReal) (ix2 t j) = g (ix3 0 t j) := by
    refine shapeCast_apply _ _ _ _ ?_
    rw [Shape.rowMajor_val_two, Shape.rowMajor_val_three]
    show (0 * n + t.val) * p + j.val = t.val * p + j.val
    rw [zero_mul, zero_add]
  rw [← e]
  unfold gate ones
  pointwise
  unfold sigm
  rw [zero_sub]

end Cert.Dense.Rows

end
-- ==== Proof.Sample.Ffn.lean ====
module

public import proofs.«01_k».proof.Defs
public import proofs.«01_k».proof.Proof.Gen.Kernel6Ideal.Value
public import proofs.«01_k».proof.Proof.Gen.Reference6Ideal.Run
public import proofs.«01_k».proof.Proof.Dense.Ffn
public import proofs.«01_k».proof.Proof.Dense.Rows

@[expose] public section

set_option maxRecDepth 16384

noncomputable section

/-! The feed-forward call over the sample's 512 rows: one grid step, its block the block of the prompt's call. -/

namespace Cert.Kernel6Ideal.Gen

open Idealize.ShloMosaic Idealize.ShloMosaic.TcCoe Idealize.ShloMosaic.Tactic Idealize.SL.Sem Cert.Hgrn Cert.Dense

/-- The body is the body of the prompt's call. -/
theorem out_eq : @out0_5 Ideal _ = @Cert.Kernel2Ideal.Gen.out0_5 Ideal _ := rfl

variable (m : (ℓ : Loc nD τ sig) → Buf (Elt Ideal) ℓ) (c : Dev nD)

/-- The result array, from the arguments. -/
def G (i : S512x1024.Idx) : EReal :=
  ffn (fun k => (m ((c : Thread nD τ).loc main_arg0) : S512x1024.Idx → EReal) (ix2 (i 0) k))
    (fun k => (m ((c : Thread nD τ).loc main_arg1) : S1x1024.Idx → EReal) (ix2 0 k))
    (fun k f => (m ((c : Thread nD τ).loc main_arg2) : S1024x5632.Idx → EReal) (ix2 k f))
    (fun f k => (m ((c : Thread nD τ).loc main_arg3) : S2816x1024.Idx → EReal) (ix2 f k))
    (fun k => (m ((c : Thread nD τ).loc main_arg4) : S1x1024.Idx → EReal) (ix2 0 k)) (i 1)

theorem idx_in : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0])

theorem blk0 (t : Fin cfg0.N) (r : Fin 512) (k : Fin 1024) :
    iblk m c 0 t (ix2 r k) = (m ((c : Thread nD τ).loc main_arg0) : S512x1024.Idx → EReal) (ix2 r k) := by
  obtain ⟨e, -⟩ := idx_in t
  blk_ext [iblk, V, e]
theorem blk1 (t : Fin cfg0.N) (k : Fin 1024) : iblk m c 1 t (ix2 0 k) = (m ((c : Thread nD τ).loc main_arg1) : S1x1024.Idx → EReal) (ix2 0 k) := by
  obtain ⟨-, e, -⟩ := idx_in t
  blk_ext [iblk, V, e]
theorem blk2 (t : Fin cfg0.N) (k : Fin 1024) (f : Fin 5632) :
    iblk m c 2 t (ix2 k f) = (m ((c : Thread nD τ).loc main_arg2) : S1024x5632.Idx → EReal) (ix2 k f) := by
  obtain ⟨-, -, e, -⟩ := idx_in t
  blk_ext [iblk, V, e]
theorem blk3 (t : Fin cfg0.N) (f : Fin 2816) (k : Fin 1024) :
    iblk m c 3 t (ix2 f k) = (m ((c : Thread nD τ).loc main_arg3) : S2816x1024.Idx → EReal) (ix2 f k) := by
  obtain ⟨-, -, -, e, -⟩ := idx_in t
  blk_ext [iblk, V, e]
theorem blk4 (t : Fin cfg0.N) (k : Fin 1024) : iblk m c 4 t (ix2 0 k) = (m ((c : Thread nD τ).loc main_arg4) : S1x1024.Idx → EReal) (ix2 0 k) := by
  obtain ⟨-, -, -, -, e, -⟩ := idx_in t
  blk_ext [iblk, V, e]

/-- What the grid step leaves in its output block. -/
theorem point (t : Fin cfg0.N) (r : Fin 512) (j : Fin 1024) :
    (out0_5 (iblk m c 0 t) (iblk m c 1 t) (iblk m c 2 t) (iblk m c 3 t) (iblk m c 4 t) : S512x1024.Idx → EReal) (ix2 r j) = G m c (ix2 r j) := by
  rw [out_eq]
  refine (Cert.Kernel2Ideal.Gen.out_apply _ _ _ _ _ _ _).trans ?_
  simp only [blk0, blk1, blk2, blk3, blk4]
  rfl

theorem emb5 (t : Fin cfg0.N) (r : Fin 512) (j : Fin 1024) : ((win0_5.blk t).view.emb (ix2 r j) : S512x1024.Idx) = ix2 r j := by
  obtain ⟨-, -, -, -, -, e⟩ := idx_in t
  blk_ext [e]

/-- The result array after the run. -/
theorem final : (dats m 0 c).arrAt 5 cfg0.N = G m c := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, eq_ix2 _⟩
  exact (point m c t r j).trans (congrArg (G m c) (emb5 t r j)).symm

end Cert.Kernel6Ideal.Gen

namespace Cert.Reference6Ideal.Value

open Cert.Reference6Ideal Cert.Reference6Ideal.Gen Cert.Hgrn Cert.Dense
open Idealize.ShloMosaic Idealize.ShloMosaic.TcCoe
open StableHlo

/-- The shapes of the norm. -/
theorem norms : Rows.Norm 512 where
  sum := reducesTo_S512x1024_S512_d1
  one := h_S_
  row := bcast_S512_S512x1_0
  fill := bcast_S_S512x1
  col := bcast_S512x1_S512x1024_0_1
  wts := bcast_S1x1024_S512x1024_0_1
  lead := bcast_S1024_S1x1024_1
  flat := shapeCasts_S1x1024_S1024

variable (m : (ℓ : Loc nD τ sig) → Buf (Elt Ideal) ℓ) (c : Dev nD)

/-- The reference over 512 rows. -/
def parts (x : FVec Ideal S512x1024 .f32) (g : FVec Ideal S1x1024 .f32) (w : FVec Ideal S1024x5632 .bf16) (d : FVec Ideal S2816x1024 .bf16)
    (go : FVec Ideal S1x1024 .f32) : FVec Ideal S512x1024 .f32 :=
  Rows.normed norms (Rows.resid dot_S512x2816_S2816x1024_S512x1024_1_0_0_1_n_n.wf x
    (Rows.units bcast_S_S512x2816 slices_S512x5632_S512x2816_0_0 slices_S512x5632_S512x2816_0_2816
      (Rows.proj dot_S512x1024_S1024x5632_S512x5632_1_0_0_1_n_n.wf (Rows.normed norms x g) w bitsLt_bf16_f32)) d bitsLt_bf16_f32) go

theorem res_split : res_main_v36 m c = parts (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

theorem parts_apply (x : FVec Ideal S512x1024 .f32) (g : FVec Ideal S1x1024 .f32) (w : FVec Ideal S1024x5632 .bf16) (d : FVec Ideal S2816x1024 .bf16)
    (go : FVec Ideal S1x1024 .f32) (t : Fin 512) (j : Fin 1024) :
    (parts x g w d go : S512x1024.Idx → EReal) (ix2 t j) = ffn (fun k => x (ix2 t k)) (fun k => g (ix2 0 k)) (fun k f => w (ix2 k f)) (fun f k => d (ix2 f k))
      (fun k => go (ix2 0 k)) j := by
  refine (Rows.normed_apply norms _ go t j).trans (congrArg (fun v => rms v (fun k => go (ix2 0 k)) j) (funext fun k => ?_))
  refine (Rows.resid_apply _ x _ d _ t k).trans (congrArg (fun a : EReal => x (ix2 t k) + a) (Finset.sum_congr rfl fun f _ => congrArg (· * d (ix2 f k)) ?_))
  exact (Rows.units_apply _ _ _ (by omega) _ t f).trans (congrArg₂ (fun a b : EReal => a * sigm a * b)
    (Rows.proj_normed_apply norms _ x g w _ t _) (Rows.proj_normed_apply norms _ x g w _ t _))

end Cert.Reference6Ideal.Value

namespace Cert.Dense

open Idealize.ShloMosaic Idealize.ShloMosaic.TcCoe Idealize.SL.Sem

/-- The sample's feed-forward call computes what its reference computes. -/
theorem algebraic6 : Cert.algebraic_Kernel6Ideal_Reference6Ideal (hKernel6Ideal := Cert.Kernel6Ideal.Gen.facts) (hReference6Ideal := Cert.Reference6Ideal.Gen.facts) := by
  intro m g m' g' _ hm
  refine ⟨fun c => Cert.Kernel6Ideal.Gen.G m c, (θ_run Cert.Kernel6Ideal.defs _ _).mono (fun r h c => ?_) (Cert.Kernel6Ideal.Value.run_blocks m g), ?_⟩
  · exact ⟨(h c).1.trans (Cert.Kernel6Ideal.Gen.final m c), (h c).2⟩
  refine (θ_run Cert.Reference6Ideal.defs _ _).mono (fun r h c => ?_) (Cert.Reference6Ideal.Value.run m' g')
  obtain ⟨e0, e1, e2, e3, e4⟩ := hm c
  have hr : Cert.Reference6Ideal.Value.res_main_v36 m' c = Cert.Kernel6Ideal.Gen.G m c := by
    funext i
    obtain ⟨t, j, rfl⟩ : ∃ (t : Fin 512) (j : Fin 1024), i = ix2 t j := ⟨i 0, i 1, eq_ix2 _⟩
    rw [Cert.Reference6Ideal.Value.res_split, Cert.Reference6Ideal.Value.parts_apply, e0, e1, e2, e3, e4]
    rfl
  exact ⟨(h c).1.trans hr, (h c).2⟩

end Cert.Dense

end
-- ==== Proof.Sample.Cache.lean ====
module

public import proofs.«01_k».proof.Defs
public import proofs.«01_k».proof.Proof.Gen.Kernel7Ideal.Frame
public import proofs.«01_k».proof.Proof.Gen.Reference7Ideal.Run
public import proofs.«01_k».proof.Proof.Dense.Cache
public import proofs.«01_k».proof.Proof.Dense.Rows

@[expose] public section

set_option maxRecDepth 16384

noncomputable section

/-! The cache's projections over the sample's 512 rows: one grid step, its blocks the blocks of the prompt's call. -/

namespace Cert.Kernel7Ideal.Gen

open Idealize.ShloMosaic Idealize.ShloMosaic.TcCoe Idealize.ShloMosaic.Tactic Idealize.SL.Sem Cert.Hgrn Cert.Dense
open Cert.Kernel4Ideal.Gen (chan slot val)

/-- The body is the body of the prompt's call. -/
theorem out3_eq : @out0_3 Ideal _ = @Cert.Kernel4Ideal.Gen.out0_3 Ideal _ := rfl
theorem out4_eq : @out0_4 Ideal _ = @Cert.Kernel4Ideal.Gen.out0_4 Ideal _ := rfl
theorem out5_eq : @out0_5 Ideal _ = @Cert.Kernel4Ideal.Gen.out0_5 Ideal _ := rfl
theorem out6_eq : @out0_6 Ideal _ = @Cert.Kernel4Ideal.Gen.out0_6 Ideal _ := rfl
theorem out7_eq : @out0_7 Ideal _ = @Cert.Kernel4Ideal.Gen.out0_7 Ideal _ := rfl

variable (m : (ℓ : Loc nD τ sig) → Buf (Elt Ideal) ℓ) (c : Dev nD)

/-- The value of projection `s` at a token and a channel, from the arguments. -/
def cached (s : Fin 4) (t : Fin 512) (j : Fin 1024) : EReal :=
  projAt (fun k => (m ((c : Thread nD τ).loc main_arg0) : S512x1024.Idx → EReal) (ix2 t k))
    (fun k => (m ((c : Thread nD τ).loc main_arg1) : S1x1024.Idx → EReal) (ix2 0 k))
    (fun k f => (m ((c : Thread nD τ).loc main_arg2) : S1024x4096.Idx → EReal) (ix2 k f)) (slot s j)

/-- Projection `s` by heads: a whole result. -/
def Heads (s : Fin 4) (i : S512x8x128.Idx) : EReal := cached m c s (i 0) (chan (i 1) (i 2))

/-- The stacked projections: the last whole result. -/
def Stacked (i : S4x512x1024.Idx) : EReal := cached m c (i 0) (i 1) (i 2)

theorem idx_in : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0, 0]
    ∧ win0_7.index t = ![0, 0, 0] :=
  (by decide +kernel : ∀ t : Fin grid0.N, win0_0.index t = ![0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0, 0]
    ∧ win0_7.index t = ![0, 0, 0])

theorem blk0 (t : Fin cfg0.N) (r : Fin 512) (k : Fin 1024) :
    iblk m c 0 t (ix2 r k) = (m ((c : Thread nD τ).loc main_arg0) : S512x1024.Idx → EReal) (ix2 r k) := by
  obtain ⟨e, -⟩ := idx_in t
  blk_ext [iblk, V, e]
theorem blk1 (t : Fin cfg0.N) (k : Fin 1024) : iblk m c 1 t (ix2 0 k) = (m ((c : Thread nD τ).loc main_arg1) : S1x1024.Idx → EReal) (ix2 0 k) := by
  obtain ⟨-, e, -⟩ := idx_in t
  blk_ext [iblk, V, e]
theorem blk2 (t : Fin cfg0.N) (k : Fin 1024) (f : Fin 4096) :
    iblk m c 2 t (ix2 k f) = (m ((c : Thread nD τ).loc main_arg2) : S1024x4096.Idx → EReal) (ix2 k f) := by
  obtain ⟨-, -, e, -⟩ := idx_in t
  blk_ext [iblk, V, e]

/-- What the grid step computes, from the arguments. -/
theorem point (t : Fin cfg0.N) (r : Fin 512) (s : Fin 4) (j : Fin 1024) :
    val (iblk m c 0 t) (iblk m c 1 t) (iblk m c 2 t) r s j = cached m c s r j := by
  unfold val cached
  simp only [blk0, blk1, blk2]

theorem emb_3 (t : Fin cfg0.N) (r : Fin 512) (h : Fin 8) (d : Fin 128) : ((win0_3.blk t).view.emb (ix3 r h d) : S512x8x128.Idx) = ix3 r h d := by
  obtain ⟨-, -, -, e, -⟩ := idx_in t
  blk_ext [e]
theorem emb_4 (t : Fin cfg0.N) (r : Fin 512) (h : Fin 8) (d : Fin 128) : ((win0_4.blk t).view.emb (ix3 r h d) : S512x8x128.Idx) = ix3 r h d := by
  obtain ⟨-, -, -, -, e, -⟩ := idx_in t
  blk_ext [e]
theorem emb_5 (t : Fin cfg0.N) (r : Fin 512) (h : Fin 8) (d : Fin 128) : ((win0_5.blk t).view.emb (ix3 r h d) : S512x8x128.Idx) = ix3 r h d := by
  obtain ⟨-, -, -, -, -, e, -⟩ := idx_in t
  blk_ext [e]
theorem emb_6 (t : Fin cfg0.N) (r : Fin 512) (h : Fin 8) (d : Fin 128) : ((win0_6.blk t).view.emb (ix3 r h d) : S512x8x128.Idx) = ix3 r h d := by
  obtain ⟨-, -, -, -, -, -, e, -⟩ := idx_in t
  blk_ext [e]
theorem emb_7 (t : Fin cfg0.N) (s : Fin 4) (r : Fin 512) (j : Fin 1024) : ((win0_7.blk t).view.emb (ix3 s r j) : S4x512x1024.Idx) = ix3 s r j := by
  obtain ⟨-, -, -, -, -, -, -, e⟩ := idx_in t
  blk_ext [e]

/-- The result arrays after the run. -/
theorem final3 : (dats m 0 c).arrAt 3 cfg0.N = Heads m c 0 := by
  refine (dats m 0 c).arrAt_eq_of_covers 3 _ (by decide +kernel) fun t hf y => ?_
  blk_simp
  rw [after0_3, out3_eq]
  obtain ⟨r, h, d, rfl⟩ : ∃ (r : Fin 512) (h : Fin 8) (d : Fin 128), y = ix3 r h d := ⟨y 0, y 1, y 2, eq_ix3 _⟩
  exact ((Cert.Kernel4Ideal.Gen.out3_apply _ _ _ r h d).trans (point m c t r 0 _)).trans (congrArg (Heads m c 0) (emb_3 t r h d)).symm
theorem final4 : (dats m 0 c).arrAt 4 cfg0.N = Heads m c 1 := by
  refine (dats m 0 c).arrAt_eq_of_covers 4 _ (by decide +kernel) fun t hf y => ?_
  blk_simp
  rw [after0_4, out4_eq]
  obtain ⟨r, h, d, rfl⟩ : ∃ (r : Fin 512) (h : Fin 8) (d : Fin 128), y = ix3 r h d := ⟨y 0, y 1, y 2, eq_ix3 _⟩
  exact ((Cert.Kernel4Ideal.Gen.out4_apply _ _ _ r h d).trans (point m c t r 1 _)).trans (congrArg (Heads m c 1) (emb_4 t r h d)).symm
theorem final5 : (dats m 0 c).arrAt 5 cfg0.N = Heads m c 2 := by
  refine (dats m 0 c).arrAt_eq_of_covers 5 _ (by decide +kernel) fun t hf y => ?_
  blk_simp
  rw [after0_5, out5_eq]
  obtain ⟨r, h, d, rfl⟩ : ∃ (r : Fin 512) (h : Fin 8) (d : Fin 128), y = ix3 r h d := ⟨y 0, y 1, y 2, eq_ix3 _⟩
  exact ((Cert.Kernel4Ideal.Gen.out5_apply _ _ _ r h d).trans (point m c t r 2 _)).trans (congrArg (Heads m c 2) (emb_5 t r h d)).symm
theorem final6 : (dats m 0 c).arrAt 6 cfg0.N = Heads m c 3 := by
  refine (dats m 0 c).arrAt_eq_of_covers 6 _ (by decide +kernel) fun t hf y => ?_
  blk_simp
  rw [after0_6, out6_eq]
  obtain ⟨r, h, d, rfl⟩ : ∃ (r : Fin 512) (h : Fin 8) (d : Fin 128), y = ix3 r h d := ⟨y 0, y 1, y 2, eq_ix3 _⟩
  exact ((Cert.Kernel4Ideal.Gen.out6_apply _ _ _ r h d).trans (point m c t r 3 _)).trans (congrArg (Heads m c 3) (emb_6 t r h d)).symm
theorem final7 : (dats m 0 c).arrAt 7 cfg0.N = Stacked m c := by
  refine (dats m 0 c).arrAt_eq_of_covers 7 _ (by decide +kernel) fun t hf y => ?_
  blk_simp
  rw [after0_7, out7_eq]
  obtain ⟨s, r, j, rfl⟩ : ∃ (s : Fin 4) (r : Fin 512) (j : Fin 1024), y = ix3 s r j := ⟨y 0, y 1, y 2, eq_ix3 _⟩
  exact ((Cert.Kernel4Ideal.Gen.out7_apply _ _ _ (ix3 s r j)).trans (point m c t r s j)).trans (congrArg (Stacked m c) (emb_7 t s r j)).symm

variable (ρ : Dev nD → PrngReg)

/-- The run: the five results, the arguments unchanged. -/
theorem run_results : θ_run defs (onTc (τ := τ) (main (F := Ideal))) ⟨m, fun _ => 0, ρ⟩ fun r => ∀ c : Dev nD,
      r.2.mem ((c.tc : Thread nD τ).loc main_v0_0) = Heads m c 0
      ∧ r.2.mem ((c.tc : Thread nD τ).loc main_v0_1) = Heads m c 1
      ∧ r.2.mem ((c.tc : Thread nD τ).loc main_v0_2) = Heads m c 2
      ∧ r.2.mem ((c.tc : Thread nD τ).loc main_v0_3) = Heads m c 3
      ∧ r.2.mem ((c.tc : Thread nD τ).loc main_v0_4) = Stacked m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c), ((h c).1 4).trans (final4 m c), ((h c).1 5).trans (final5 m c),
    ((h c).1 6).trans (final6 m c), ((h c).1 7).trans (final7 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.Kernel7Ideal.Gen

namespace Cert.Reference7Ideal.Value

open Cert.Reference7Ideal Cert.Reference7Ideal.Gen Cert.Hgrn Cert.Dense
open Idealize.ShloMosaic Idealize.ShloMosaic.TcCoe
open StableHlo
open Cert.Kernel4Ideal.Gen (slot)

/-- The shapes of the norm. -/
theorem norms : Rows.Norm 512 where
  sum := reducesTo_S512x1024_S512_d1
  one := h_S_
  row := bcast_S512_S512x1_0
  fill := bcast_S_S512x1
  col := bcast_S512x1_S512x1024_0_1
  wts := bcast_S1x1024_S512x1024_0_1
  lead := bcast_S1024_S1x1024_1
  flat := shapeCasts_S1x1024_S1024

/-- The reference's columns. -/
def proj (x : FVec Ideal S512x1024 .f32) (g : FVec Ideal S1x1024 .f32) (w : FVec Ideal S1024x4096 .bf16) : FVec Ideal S512x4096 .f32 :=
  Rows.proj dot_S512x1024_S1024x4096_S512x4096_1_0_0_1_n_n.wf (Rows.normed norms x g) w bitsLt_bf16_f32

/-- The four projections, split off the columns. -/
def part (z : FVec Ideal S512x4096 .f32) : Fin 4 → FVec Ideal S512x1024 .f32 :=
  ![extractStridedSlice S512x1024 ![0, 0] z slices_S512x4096_S512x1024_0_0,
    extractStridedSlice S512x1024 ![0, 1024] z slices_S512x4096_S512x1024_0_1024,
    extractStridedSlice S512x1024 ![0, 2048] z slices_S512x4096_S512x1024_0_2048,
    extractStridedSlice S512x1024 ![0, 3072] z slices_S512x4096_S512x1024_0_3072]

theorem part_apply (z : FVec Ideal S512x4096 .f32) (s : Fin 4) (t : Fin 512) (j : Fin 1024) :
    (part z s : S512x1024.Idx → EReal) (ix2 t j) = z (ix2 t (slot s j)) := by
  match s with
  | ⟨0, _⟩ => exact Rows.slice_apply z slices_S512x4096_S512x1024_0_0 (by omega) t j
  | ⟨1, _⟩ => exact Rows.slice_apply z slices_S512x4096_S512x1024_0_1024 (by omega) t j
  | ⟨2, _⟩ => exact Rows.slice_apply z slices_S512x4096_S512x1024_0_2048 (by omega) t j
  | ⟨3, _⟩ => exact Rows.slice_apply z slices_S512x4096_S512x1024_0_3072 (by omega) t j

/-- The four projections stacked. -/
def stacked (p : Fin 4 → FVec Ideal S512x1024 .f32) : FVec Ideal S4x512x1024 .bf16 :=
  truncf .bf16 (concatenate S4x512x1024 0 (List.ofFn fun s => ⟨S1x512x1024, Rows.lead bcast_S512x1024_S1x512x1024_1_2 (p s)⟩)
    concatenates_S1x512x1024_S1x512x1024_S1x512x1024_S1x512x1024_S4x512x1024_d0 : (⟨S4x512x1024, .f32⟩ : BufTy).Contents (Elt Ideal)) bitsLt_bf16_f32

section
variable (m : (ℓ : Loc nD τ sig) → Buf (Elt Ideal) ℓ) (c : Dev nD)

/-- The reference's columns from the arguments. -/
def cols : FVec Ideal S512x4096 .f32 :=
  proj (m ((c.tc : Thread nD τ).loc main_arg0)) (m ((c.tc : Thread nD τ).loc main_arg1)) (m ((c.tc : Thread nD τ).loc main_arg2))

/-- Projection `s` by heads. -/
def headed (s : Fin 4) : FVec Ideal S512x8x128 .f32 := shapeCast S512x8x128 (part (cols m c) s) shapeCasts_S512x1024_S512x8x128

theorem res_split : res_main_v29 m c = stacked (part (cols m c)) := rfl

theorem cols_apply (s : Fin 4) (t : Fin 512) (j : Fin 1024) :
    (part (cols m c) s : S512x1024.Idx → EReal) (ix2 t j) =
      projAt (fun k => (m ((c.tc : Thread nD τ).loc main_arg0) : S512x1024.Idx → EReal) (ix2 t k))
    (fun k => (m ((c.tc : Thread nD τ).loc main_arg1) : S1x1024.Idx → EReal) (ix2 0 k))
    (fun k f => (m ((c.tc : Thread nD τ).loc main_arg2) : S1024x4096.Idx → EReal) (ix2 k f)) (slot s j) :=
  (part_apply _ s t j).trans (Rows.proj_normed_apply norms _ _ _ _ _ t _)

theorem headed_apply (s : Fin 4) (t : Fin 512) (h : Fin 8) (d : Fin 128) :
    (headed m c s : S512x8x128.Idx → EReal) (ix3 t h d) =
      projAt (fun k => (m ((c.tc : Thread nD τ).loc main_arg0) : S512x1024.Idx → EReal) (ix2 t k))
    (fun k => (m ((c.tc : Thread nD τ).loc main_arg1) : S1x1024.Idx → EReal) (ix2 0 k))
    (fun k f => (m ((c.tc : Thread nD τ).loc main_arg2) : S1024x4096.Idx → EReal) (ix2 k f)) (slot s (Rows.chan h d)) :=
  (Rows.heads_apply _ _ t h d).trans (cols_apply m c s t _)

theorem res_apply (s : Fin 4) (t : Fin 512) (j : Fin 1024) :
    (res_main_v29 m c : S4x512x1024.Idx → EReal) (ix3 s t j) =
      projAt (fun k => (m ((c.tc : Thread nD τ).loc main_arg0) : S512x1024.Idx → EReal) (ix2 t k))
    (fun k => (m ((c.tc : Thread nD τ).loc main_arg1) : S1x1024.Idx → EReal) (ix2 0 k))
    (fun k f => (m ((c.tc : Thread nD τ).loc main_arg2) : S1024x4096.Idx → EReal) (ix2 k f)) (slot s j) := by
  rw [res_split]
  exact (Rows.stack_apply bcast_S512x1024_S1x512x1024_1_2 (part (cols m c)) concatenates_S1x512x1024_S1x512x1024_S1x512x1024_S1x512x1024_S4x512x1024_d0 s t j).trans (cols_apply m c s t j)

end
end Cert.Reference7Ideal.Value

namespace Cert.Dense

open Idealize.ShloMosaic Idealize.ShloMosaic.TcCoe Idealize.SL.Sem

/-- The sample's projections of the cache are what their reference computes. -/
theorem algebraic7 : Cert.algebraic_Kernel7Ideal_Reference7Ideal (hKernel7Ideal := Cert.Kernel7Ideal.Gen.facts) (hReference7Ideal := Cert.Reference7Ideal.Gen.facts) := by
  intro m g m' g' _ hm
  refine ⟨fun c => Cert.Kernel7Ideal.Gen.Heads m c 0, fun c => Cert.Kernel7Ideal.Gen.Heads m c 1, fun c => Cert.Kernel7Ideal.Gen.Heads m c 2,
    fun c => Cert.Kernel7Ideal.Gen.Heads m c 3, fun c => Cert.Kernel7Ideal.Gen.Stacked m c, Cert.Kernel7Ideal.Gen.run_results m g, ?_⟩
  refine (θ_run Cert.Reference7Ideal.defs _ _).mono (fun r h c => ?_) (Cert.Reference7Ideal.Value.run m' g')
  obtain ⟨e0, e1, e2⟩ := hm c
  have hs : ∀ s, Cert.Reference7Ideal.Value.headed m' c s = Cert.Kernel7Ideal.Gen.Heads m c s := fun s => by
    funext i
    obtain ⟨t, h, d, rfl⟩ : ∃ (t : Fin 512) (h : Fin 8) (d : Fin 128), i = ix3 t h d := ⟨i 0, i 1, i 2, eq_ix3 _⟩
    rw [Cert.Reference7Ideal.Value.headed_apply, e0, e1, e2]
    rfl
  have hr : Cert.Reference7Ideal.Value.res_main_v29 m' c = Cert.Kernel7Ideal.Gen.Stacked m c := by
    funext i
    obtain ⟨s, t, j, rfl⟩ : ∃ (s : Fin 4) (t : Fin 512) (j : Fin 1024), i = ix3 s t j := ⟨i 0, i 1, i 2, eq_ix3 _⟩
    rw [Cert.Reference7Ideal.Value.res_apply, e0, e1, e2]
    rfl
  obtain ⟨h0, h1, h2, h3, h4, h5⟩ := h c
  exact ⟨h0.trans (hs 0), h1.trans (hs 1), h2.trans (hs 2), h3.trans (hs 3), h4.trans hr, h5⟩

end Cert.Dense

end
-- ==== Proof.Sample.Proj.lean ====
module

public import proofs.«01_k».proof.Defs
public import proofs.«01_k».proof.Proof.Sample.ProjFrame
public import proofs.«01_k».proof.Proof.Gen.Reference8Ideal.Run
public import proofs.«01_k».proof.Proof.Dense.Rows
public import Idealize.ShloMosaic.Lib.Pipeline.ValueKit

@[expose] public section

set_option maxRecDepth 16384

noncomputable section

namespace Cert.Kernel8Ideal.Gen

open Idealize.ShloMosaic Idealize.ShloMosaic.TcCoe Idealize.ShloMosaic.Tactic Idealize.SL.Sem Cert.Hgrn Cert.Dense

/-! The sample's projections: what one grid step computes of the 512 tokens and 1024 columns, then the whole arrays. -/

/-- The normed block. -/
theorem pay1_apply (x : Vec Ideal S512x1024 .f32) (g : Vec Ideal S1x1024 .f32) (r : Fin 512) (j : Fin 1024) :
    (k0_pay1 x g : S512x1024.Idx → EReal) (ix2 r j) = rms (fun k => x (ix2 r k)) (fun k => g (ix2 0 k)) j := by
  unfold k0_pay1
  dsimp only
  pointwise
  unfold rms
  rfl

/-- The normed block as the scratch keeps it. -/
theorem pay2_apply (x : Vec Ideal S512x1024 .f32) (g : Vec Ideal S1x1024 .f32) (r : Fin 512) (j : Fin 1024) :
    (k0_pay2 x g : S512x1024.Idx → EReal) (ix2 r j) = rms (fun k => x (ix2 r k)) (fun k => g (ix2 0 k)) j := by
  unfold k0_pay2
  rw [shapeCast_self]
  exact pay1_apply x g r j

/-- A block of columns against a normed block. -/
theorem pay4_apply (h : Vec Ideal S512x1024 .bf16) (w : Vec Ideal S1024x1024 .bf16) (r : Fin 512) (j : Fin 1024) :
    (k0_pay4 h w : S512x1024.Idx → EReal) (ix2 r j) = Cert.Dense.col (fun k => h (ix2 r k)) (fun k => w (ix2 k j)) := by
  unfold k0_pay4
  pointwise
  rfl

theorem pay5_apply (h : Vec Ideal S512x1024 .bf16) (w : Vec Ideal S1024x1024 .bf16) (r : Fin 512) (j : Fin 1024) :
    (k0_pay5 h w : S1x512x1024.Idx → EReal) (ix3 0 r j) = Cert.Dense.col (fun k => h (ix2 r k)) (fun k => w (ix2 k j)) := by
  unfold k0_pay5
  pointwise
  exact pay4_apply h w r j
theorem pay6_apply (h : Vec Ideal S512x1024 .bf16) (w : Vec Ideal S1024x1024 .bf16) (r : Fin 512) (j : Fin 1024) :
    (k0_pay6 h w : S1x512x1024.Idx → EReal) (ix3 0 r j) = Cert.Dense.col (fun k => h (ix2 r k)) (fun k => w (ix2 k j)) := by
  unfold k0_pay6
  pointwise
  exact pay4_apply h w r j

/-- The gate. -/
theorem pay3_apply (x : Vec Ideal S512x1024 .f32) (g : Vec Ideal S1x1024 .f32) (w : Vec Ideal S1024x128 .bf16) (b : Vec Ideal S1x128 .f32) (r : Fin 512) (j : Fin 128) :
    (k0_pay3 x g w b : S512x128.Idx → EReal) (ix2 r j) = lsig (projAt (fun k => x (ix2 r k)) (fun k => g (ix2 0 k)) (fun k f => w (ix2 k f)) j + b (ix2 0 j)) := by
  unfold k0_pay3
  pointwise
  simp only [pay1_apply]
  rfl

variable (m : (ℓ : Loc nD τ sig) → Buf (Elt Ideal) ℓ) (c : Dev nD)

/-- Column `1024 * s + j` of the weights: channel `j` of the projection `s`. -/
def slot (s : Fin 9) (j : Fin 1024) : Fin 9216 := ⟨1024 * s.val + j.val, by omega⟩

/-- The value of projection `s` at a token and a channel, from the arguments. -/
def projected (s : Fin 9) (t : Fin 512) (j : Fin 1024) : EReal :=
  projAt (fun k => (m ((c : Thread nD τ).loc main_arg0) : S512x1024.Idx → EReal) (ix2 t k))
    (fun k => (m ((c : Thread nD τ).loc main_arg1) : S1x1024.Idx → EReal) (ix2 0 k))
    (fun k f => (m ((c : Thread nD τ).loc main_arg2) : S1024x9216.Idx → EReal) (ix2 k f)) (slot s j)

/-- The gate at a token and a channel, from the arguments. -/
def gated (t : Fin 512) (j : Fin 128) : EReal :=
  lsig (projAt (fun k => (m ((c : Thread nD τ).loc main_arg0) : S512x1024.Idx → EReal) (ix2 t k))
    (fun k => (m ((c : Thread nD τ).loc main_arg1) : S1x1024.Idx → EReal) (ix2 0 k))
    (fun k f => (m ((c : Thread nD τ).loc main_arg3) : S1024x128.Idx → EReal) (ix2 k f)) j
    + (m ((c : Thread nD τ).loc main_arg4) : S1x128.Idx → EReal) (ix2 0 j))

/-- The first two projections stacked. -/
def Zf (i : S2x512x1024.Idx) : EReal := projected m c (Fin.castLE (by decide : 2 ≤ 9) (i 0)) (i 1) (i 2)
/-- The other seven stacked. -/
def Zb (i : S7x512x1024.Idx) : EReal := projected m c (Fin.natAdd 2 (i 0 : Fin 7)) (i 1) (i 2)
/-- The gate. -/
def Fl (i : S512x128.Idx) : EReal := gated m c (i 0) (i 1)

theorem idx_in : ∀ t : Fin cfg0.N, win0_0.index t = ![0, 0] ∧ win0_1.index t = ![0, 0] ∧ win0_2.index t = ![0, t.val]
    ∧ win0_3.index t = ![0, 0] ∧ win0_4.index t = ![0, 0] ∧ win0_5.index t = ![min t.val 1, 0, 0]
    ∧ win0_6.index t = ![t.val - 2, 0, 0] ∧ win0_7.index t = ![0, 0] :=
  (by decide +kernel : ∀ t : Fin grid0.N, win0_0.index t = ![0, 0] ∧ win0_1.index t = ![0, 0] ∧ win0_2.index t = ![0, t.val]
    ∧ win0_3.index t = ![0, 0] ∧ win0_4.index t = ![0, 0] ∧ win0_5.index t = ![min t.val 1, 0, 0]
    ∧ win0_6.index t = ![t.val - 2, 0, 0] ∧ win0_7.index t = ![0, 0])

/-- The projection whose columns point `t` computes. -/
def colAt (t : Fin cfg0.N) : Fin 9 := ⟨t.val, point_lt t⟩

theorem blk0 (t : Fin cfg0.N) (r : Fin 512) (k : Fin 1024) :
    iblk m c 0 t (ix2 r k) = (m ((c : Thread nD τ).loc main_arg0) : S512x1024.Idx → EReal) (ix2 r k) := by
  obtain ⟨e, -⟩ := idx_in t
  blk_ext [iblk, V, e]
theorem blk1 (t : Fin cfg0.N) (k : Fin 1024) : iblk m c 1 t (ix2 0 k) = (m ((c : Thread nD τ).loc main_arg1) : S1x1024.Idx → EReal) (ix2 0 k) := by
  obtain ⟨-, e, -⟩ := idx_in t
  blk_ext [iblk, V, e]
theorem blk2 (t : Fin cfg0.N) (k : Fin 1024) (j : Fin 1024) :
    iblk m c 2 t (ix2 k j) = (m ((c : Thread nD τ).loc main_arg2) : S1024x9216.Idx → EReal) (ix2 k (slot (colAt t) j)) := by
  obtain ⟨-, -, e, -⟩ := idx_in t
  have h : (slot (colAt t) j).val = 1024 * t.val + j.val := rfl
  blk_ext [iblk, V, e, h]
theorem blk3 (t : Fin cfg0.N) (k : Fin 1024) (f : Fin 128) :
    iblk m c 3 t (ix2 k f) = (m ((c : Thread nD τ).loc main_arg3) : S1024x128.Idx → EReal) (ix2 k f) := by
  obtain ⟨-, -, -, e, -⟩ := idx_in t
  blk_ext [iblk, V, e]
theorem blk4 (t : Fin cfg0.N) (k : Fin 128) : iblk m c 4 t (ix2 0 k) = (m ((c : Thread nD τ).loc main_arg4) : S1x128.Idx → EReal) (ix2 0 k) := by
  obtain ⟨-, -, -, -, e, -⟩ := idx_in t
  blk_ext [iblk, V, e]

/-- What the scratch holds, from the arguments. -/
theorem hAt_apply (r : Fin 512) (k : Fin 1024) : (hAt m c : S512x1024.Idx → EReal) (ix2 r k) =
    rms (fun k => (m ((c : Thread nD τ).loc main_arg0) : S512x1024.Idx → EReal) (ix2 r k))
      (fun k => (m ((c : Thread nD τ).loc main_arg1) : S1x1024.Idx → EReal) (ix2 0 k)) k := by
  unfold hAt
  refine (pay2_apply _ _ r k).trans ?_
  simp only [blk0, blk1]

theorem zfAt_apply (t : Fin cfg0.N) (r : Fin 512) (j : Fin 1024) : (zfAt m c t : S1x512x1024.Idx → EReal) (ix3 0 r j) =
    projected m c (colAt (second t)) r j := by
  unfold zfAt
  refine (pay5_apply _ _ r j).trans ?_
  simp only [blk2, hAt_apply]
  rfl
theorem zbAt_apply (t : Fin cfg0.N) (r : Fin 512) (j : Fin 1024) : (zbAt m c t : S1x512x1024.Idx → EReal) (ix3 0 r j) =
    projected m c (colAt t) r j := by
  unfold zbAt
  refine (pay6_apply _ _ r j).trans ?_
  simp only [blk2, hAt_apply]
  rfl
theorem flAt_apply (r : Fin 512) (j : Fin 128) : (flAt m c : S512x128.Idx → EReal) (ix2 r j) = gated m c r j := by
  unfold flAt
  refine (pay3_apply _ _ _ _ r j).trans ?_
  simp only [blk0, blk1, blk3, blk4]
  rfl

/-- The place among the first two projections that point `t` holds. -/
def low (t : Fin cfg0.N) : Fin 2 := ⟨min t.val 1, by omega⟩
/-- The place among the other seven. -/
def high (t : Fin cfg0.N) : Fin 7 := ⟨t.val - 2, by have := point_lt t; omega⟩

theorem colAt_low (t : Fin cfg0.N) : colAt (second t) = Fin.castLE (by omega) (low t) :=
  Fin.ext rfl
theorem colAt_high (t : Fin cfg0.N) (h : 2 ≤ t.val) : colAt t = Fin.natAdd 2 (high t) := by
  unfold colAt high; exact Fin.ext (by simp only [Fin.val_natAdd]; omega)

theorem emb_5 (t : Fin cfg0.N) (r : Fin 512) (j : Fin 1024) : ((win0_5.blk t).view.emb (ix3 0 r j) : S2x512x1024.Idx) = ix3 (low t) r j := by
  obtain ⟨-, -, -, -, -, e, -⟩ := idx_in t
  have h' : (low t).val = min t.val 1 := rfl
  blk_ext [e, h']
theorem emb_6 (t : Fin cfg0.N) (r : Fin 512) (j : Fin 1024) : ((win0_6.blk t).view.emb (ix3 0 r j) : S7x512x1024.Idx) = ix3 (high t) r j := by
  obtain ⟨-, -, -, -, -, -, e, -⟩ := idx_in t
  have h' : (high t).val = t.val - 2 := rfl
  blk_ext [e, h']
theorem emb_7 (t : Fin cfg0.N) (r : Fin 512) (j : Fin 128) : ((win0_7.blk t).view.emb (ix2 r j) : S512x128.Idx) = ix2 r j := by
  obtain ⟨-, -, -, -, -, -, -, e⟩ := idx_in t
  blk_ext [e]

/-- An index of a block with a leading axis of one is its row and channel. -/
theorem lead_idx (z : S1x512x1024.Idx) : ∃ (r : Fin 512) (j : Fin 1024), z = ix3 0 r j :=
  ⟨z 1, z 2, (eq_ix3 z).trans (congrArg (fun a => ix3 a (z 1) (z 2)) (Subsingleton.elim (α := Fin 1) _ _))⟩

/-- The result arrays after the run. -/
theorem final5 : (dats m 0 c).arrAt 5 cfg0.N = Zf m c := by
  refine (dats m 0 c).arrAt_eq_of_covers 5 _ (by decide +kernel) fun t hf y => ?_
  blk_simp
  rw [after0_5]
  obtain ⟨r, j, rfl⟩ := lead_idx y
  exact ((zfAt_apply m c t r j).trans (congrArg (fun s => projected m c s r j) (colAt_low t))).trans (congrArg (Zf m c) (emb_5 t r j)).symm
theorem final6 : (dats m 0 c).arrAt 6 cfg0.N = Zb m c := by
  refine (dats m 0 c).arrAt_eq_of_covers 6 _ (by decide +kernel) fun t hf y => ?_
  have h2 : 2 ≤ t.val := Nat.le_of_not_lt fun h => absurd ((noFlush6 t h).symm.trans hf) (by decide)
  blk_simp
  rw [after0_6]
  obtain ⟨r, j, rfl⟩ := lead_idx y
  exact ((zbAt_apply m c t r j).trans (congrArg (fun s => projected m c s r j) (colAt_high t h2))).trans (congrArg (Zb m c) (emb_6 t r j)).symm
theorem final7 : (dats m 0 c).arrAt 7 cfg0.N = Fl m c := by
  refine (dats m 0 c).arrAt_eq_of_covers 7 _ (by decide +kernel) fun t hf y => ?_
  blk_simp
  rw [after0_7]
  obtain ⟨r, j, rfl⟩ : ∃ (r : Fin 512) (j : Fin 128), y = ix2 r j := ⟨y 0, y 1, eq_ix2 _⟩
  exact (flAt_apply m c r j).trans (congrArg (Fl m c) (emb_7 t r j)).symm

variable (ρ : Dev nD → PrngReg)

/-- The run: the three results, the arguments unchanged. -/
theorem run_results : θ_run defs (onTc (τ := τ) (main (F := Ideal))) ⟨m, fun _ => 0, ρ⟩ fun r => ∀ c : Dev nD,
      r.2.mem ((c.tc : Thread nD τ).loc main_v0_0) = Zf m c
      ∧ r.2.mem ((c.tc : Thread nD τ).loc main_v0_1) = Zb m c
      ∧ r.2.mem ((c.tc : Thread nD τ).loc main_v0_2) = Fl m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.Kernel8Ideal.Gen

namespace Cert.Reference8Ideal.Value

open Cert.Reference8Ideal Cert.Reference8Ideal.Gen Cert.Hgrn Cert.Dense
open Idealize.ShloMosaic Idealize.ShloMosaic.TcCoe
open StableHlo
open Cert.Kernel8Ideal.Gen (slot)

/-- The shapes of the norm. -/
theorem norms : Rows.Norm 512 where
  sum := reducesTo_S512x1024_S512_d1
  one := h_S_
  row := bcast_S512_S512x1_0
  fill := bcast_S_S512x1
  col := bcast_S512x1_S512x1024_0_1
  wts := bcast_S1x1024_S512x1024_0_1
  lead := bcast_S1024_S1x1024_1
  flat := shapeCasts_S1x1024_S1024

/-- The reference's columns. -/
def proj (x : FVec Ideal S512x1024 .f32) (g : FVec Ideal S1x1024 .f32) (w : FVec Ideal S1024x9216 .bf16) : FVec Ideal S512x9216 .f32 :=
  Rows.proj dot_S512x1024_S1024x9216_S512x9216_1_0_0_1_n_n.wf (Rows.normed norms x g) w bitsLt_bf16_f32

/-- The nine projections, split off the columns. -/
def part (z : FVec Ideal S512x9216 .f32) : Fin 9 → FVec Ideal S512x1024 .f32 :=
  ![extractStridedSlice S512x1024 ![0, 0] z slices_S512x9216_S512x1024_0_0,
    extractStridedSlice S512x1024 ![0, 1024] z slices_S512x9216_S512x1024_0_1024,
    extractStridedSlice S512x1024 ![0, 2048] z slices_S512x9216_S512x1024_0_2048,
    extractStridedSlice S512x1024 ![0, 3072] z slices_S512x9216_S512x1024_0_3072,
    extractStridedSlice S512x1024 ![0, 4096] z slices_S512x9216_S512x1024_0_4096,
    extractStridedSlice S512x1024 ![0, 5120] z slices_S512x9216_S512x1024_0_5120,
    extractStridedSlice S512x1024 ![0, 6144] z slices_S512x9216_S512x1024_0_6144,
    extractStridedSlice S512x1024 ![0, 7168] z slices_S512x9216_S512x1024_0_7168,
    extractStridedSlice S512x1024 ![0, 8192] z slices_S512x9216_S512x1024_0_8192]

theorem part_apply (z : FVec Ideal S512x9216 .f32) (s : Fin 9) (t : Fin 512) (j : Fin 1024) :
    (part z s : S512x1024.Idx → EReal) (ix2 t j) = z (ix2 t (slot s j)) := by
  match s with
  | ⟨0, _⟩ => exact Rows.slice_apply z slices_S512x9216_S512x1024_0_0 (by omega) t j
  | ⟨1, _⟩ => exact Rows.slice_apply z slices_S512x9216_S512x1024_0_1024 (by omega) t j
  | ⟨2, _⟩ => exact Rows.slice_apply z slices_S512x9216_S512x1024_0_2048 (by omega) t j
  | ⟨3, _⟩ => exact Rows.slice_apply z slices_S512x9216_S512x1024_0_3072 (by omega) t j
  | ⟨4, _⟩ => exact Rows.slice_apply z slices_S512x9216_S512x1024_0_4096 (by omega) t j
  | ⟨5, _⟩ => exact Rows.slice_apply z slices_S512x9216_S512x1024_0_5120 (by omega) t j
  | ⟨6, _⟩ => exact Rows.slice_apply z slices_S512x9216_S512x1024_0_6144 (by omega) t j
  | ⟨7, _⟩ => exact Rows.slice_apply z slices_S512x9216_S512x1024_0_7168 (by omega) t j
  | ⟨8, _⟩ => exact Rows.slice_apply z slices_S512x9216_S512x1024_0_8192 (by omega) t j

/-- The first two projections stacked. -/
def stacked2 (p : Fin 2 → FVec Ideal S512x1024 .f32) : FVec Ideal S2x512x1024 .f32 :=
  concatenate S2x512x1024 0 (List.ofFn fun s => ⟨S1x512x1024, Rows.lead bcast_S512x1024_S1x512x1024_1_2 (p s)⟩) concatenates_S1x512x1024_S1x512x1024_S2x512x1024_d0

/-- The other seven stacked. -/
def stacked7 (p : Fin 7 → FVec Ideal S512x1024 .f32) : FVec Ideal S7x512x1024 .bf16 :=
  truncf .bf16 (concatenate S7x512x1024 0 (List.ofFn fun s => ⟨S1x512x1024, Rows.lead bcast_S512x1024_S1x512x1024_1_2 (p s)⟩)
    concatenates_S1x512x1024_S1x512x1024_S1x512x1024_S1x512x1024_S1x512x1024_S1x512x1024_S1x512x1024_S7x512x1024_d0 : (⟨S7x512x1024, .f32⟩ : BufTy).Contents (Elt Ideal)) bitsLt_bf16_f32

/-- The gate before the logarithm of the sigmoid. -/
def gate (x : FVec Ideal S512x1024 .f32) (g : FVec Ideal S1x1024 .f32) (w : FVec Ideal S1024x128 .bf16) (b : FVec Ideal S1x128 .f32) : FVec Ideal S512x128 .f32 :=
  addf (Rows.proj dot_S512x1024_S1024x128_S512x128_1_0_0_1_n_n.wf (Rows.normed norms x g) w bitsLt_bf16_f32)
    (broadcastInDim S512x128 ![0, 1] bcast_S1x128_S512x128_0_1 (broadcastInDim S1x128 ![1] bcast_S128_S1x128_1 (shapeCast S128 b shapeCasts_S1x128_S128)))

theorem gate_apply (x : FVec Ideal S512x1024 .f32) (g : FVec Ideal S1x1024 .f32) (w : FVec Ideal S1024x128 .bf16) (b : FVec Ideal S1x128 .f32) (t : Fin 512) (f : Fin 128) :
    (gate x g w b : S512x128.Idx → EReal) (ix2 t f) = projAt (fun k => x (ix2 t k)) (fun k => g (ix2 0 k)) (fun k f => w (ix2 k f)) f + b (ix2 0 f) :=
  congrArg₂ (fun a b : EReal => a + b) (Rows.proj_normed_apply norms _ x g w _ t f) (Rows.bias_apply _ _ _ b t f)

section
variable (m : (ℓ : Loc nD τ sig) → Buf (Elt Ideal) ℓ) (c : Dev nD)

/-- The reference's columns from the arguments. -/
def cols : FVec Ideal S512x9216 .f32 :=
  proj (m ((c.tc : Thread nD τ).loc main_arg0)) (m ((c.tc : Thread nD τ).loc main_arg1)) (m ((c.tc : Thread nD τ).loc main_arg2))

/-- The first stacked result. -/
def res2 : FVec Ideal S2x512x1024 .f32 := stacked2 fun s => part (cols m c) (Fin.castLE (by omega) s)

theorem res7_split : res_main_v36 m c = stacked7 fun s => part (cols m c) (Fin.natAdd 2 s) := rfl

theorem gate_split : res_main_v43 m c = Rows.logSig bcast_S_S512x128 (gate (m ((c.tc : Thread nD τ).loc main_arg0)) (m ((c.tc : Thread nD τ).loc main_arg1))
    (m ((c.tc : Thread nD τ).loc main_arg3)) (m ((c.tc : Thread nD τ).loc main_arg4))) := rfl

theorem cols_apply (s : Fin 9) (t : Fin 512) (j : Fin 1024) :
    (part (cols m c) s : S512x1024.Idx → EReal) (ix2 t j) =
      projAt (fun k => (m ((c.tc : Thread nD τ).loc main_arg0) : S512x1024.Idx → EReal) (ix2 t k))
    (fun k => (m ((c.tc : Thread nD τ).loc main_arg1) : S1x1024.Idx → EReal) (ix2 0 k))
    (fun k f => (m ((c.tc : Thread nD τ).loc main_arg2) : S1024x9216.Idx → EReal) (ix2 k f)) (slot s j) :=
  (part_apply _ s t j).trans (Rows.proj_normed_apply norms _ _ _ _ _ t _)

theorem res2_apply (s : Fin 2) (t : Fin 512) (j : Fin 1024) :
    (res2 m c : S2x512x1024.Idx → EReal) (ix3 s t j) = (part (cols m c) (Fin.castLE (by omega) s) : S512x1024.Idx → EReal) (ix2 t j) :=
  Rows.stack_apply bcast_S512x1024_S1x512x1024_1_2 (fun s : Fin 2 => part (cols m c) (Fin.castLE (by omega) s)) concatenates_S1x512x1024_S1x512x1024_S2x512x1024_d0 s t j

theorem res7_apply (s : Fin 7) (t : Fin 512) (j : Fin 1024) :
    (res_main_v36 m c : S7x512x1024.Idx → EReal) (ix3 s t j) = (part (cols m c) (Fin.natAdd 2 s) : S512x1024.Idx → EReal) (ix2 t j) := by
  rw [res7_split]
  exact Rows.stack_apply bcast_S512x1024_S1x512x1024_1_2 (fun s : Fin 7 => part (cols m c) (Fin.natAdd 2 s))
    concatenates_S1x512x1024_S1x512x1024_S1x512x1024_S1x512x1024_S1x512x1024_S1x512x1024_S1x512x1024_S7x512x1024_d0 s t j

theorem gated_apply (t : Fin 512) (j : Fin 128) :
    (res_main_v43 m c : S512x128.Idx → EReal) (ix2 t j) =
      lsig (projAt (fun k => (m ((c.tc : Thread nD τ).loc main_arg0) : S512x1024.Idx → EReal) (ix2 t k))
    (fun k => (m ((c.tc : Thread nD τ).loc main_arg1) : S1x1024.Idx → EReal) (ix2 0 k))
    (fun k f => (m ((c.tc : Thread nD τ).loc main_arg3) : S1024x128.Idx → EReal) (ix2 k f)) j
      + (m ((c.tc : Thread nD τ).loc main_arg4) : S1x128.Idx → EReal) (ix2 0 j)) := by
  rw [gate_split]
  exact (Rows.logSig_apply _ _ _).trans (congrArg lsig (gate_apply _ _ _ _ t j))

end
end Cert.Reference8Ideal.Value

namespace Cert.Dense

open Idealize.ShloMosaic Idealize.ShloMosaic.TcCoe Idealize.SL.Sem

/-- The sample's projections are what their reference computes. -/
theorem algebraic8 : Cert.algebraic_Kernel8Ideal_Reference8Ideal (hKernel8Ideal := Cert.Kernel8Ideal.Gen.facts) (hReference8Ideal := Cert.Reference8Ideal.Gen.facts) := by
  intro m g m' g' _ hm
  refine ⟨fun c => Cert.Kernel8Ideal.Gen.Zf m c, fun c => Cert.Kernel8Ideal.Gen.Zb m c, fun c => Cert.Kernel8Ideal.Gen.Fl m c,
    Cert.Kernel8Ideal.Gen.run_results m g, ?_⟩
  refine (θ_run Cert.Reference8Ideal.defs _ _).mono (fun r h c => ?_) (Cert.Reference8Ideal.Value.run m' g')
  obtain ⟨e0, e1, e2, e3, e4⟩ := hm c
  have hf : Cert.Reference8Ideal.Value.res2 m' c = Cert.Kernel8Ideal.Gen.Zf m c := by
    funext i
    obtain ⟨s, t, j, rfl⟩ : ∃ (s : Fin 2) (t : Fin 512) (j : Fin 1024), i = ix3 s t j := ⟨i 0, i 1, i 2, eq_ix3 _⟩
    rw [Cert.Reference8Ideal.Value.res2_apply, Cert.Reference8Ideal.Value.cols_apply, e0, e1, e2]
    rfl
  have hb : Cert.Reference8Ideal.Value.res_main_v36 m' c = Cert.Kernel8Ideal.Gen.Zb m c := by
    funext i
    obtain ⟨s, t, j, rfl⟩ : ∃ (s : Fin 7) (t : Fin 512) (j : Fin 1024), i = ix3 s t j := ⟨i 0, i 1, i 2, eq_ix3 _⟩
    rw [Cert.Reference8Ideal.Value.res7_apply, Cert.Reference8Ideal.Value.cols_apply, e0, e1, e2]
    rfl
  have hl : Cert.Reference8Ideal.Value.res_main_v43 m' c = Cert.Kernel8Ideal.Gen.Fl m c := by
    funext i
    obtain ⟨t, j, rfl⟩ : ∃ (t : Fin 512) (j : Fin 128), i = ix2 t j := ⟨i 0, i 1, eq_ix2 _⟩
    rw [Cert.Reference8Ideal.Value.gated_apply, e0, e1, e3, e4]
    rfl
  obtain ⟨h0, h1, h2, h3⟩ := h c
  exact ⟨h0.trans hf, h1.trans hb, h2.trans hl, h3⟩

end Cert.Dense

end
-- ==== Proof.Sample.Merge.lean ====
module

public import proofs.«01_k».proof.Defs
public import proofs.«01_k».proof.Proof.Gen.Kernel9Ideal.Value
public import proofs.«01_k».proof.Proof.Gen.Reference9Ideal.Run
public import proofs.«01_k».proof.Proof.Dense.Merge
public import proofs.«01_k».proof.Proof.Dense.Rows

@[expose] public section

set_option maxRecDepth 16384

noncomputable section

/-! The merge call over the sample's 512 rows: one grid step, its block the block of the prompt's call. -/

namespace Cert.Kernel9Ideal.Gen

open Idealize.ShloMosaic Idealize.ShloMosaic.TcCoe Idealize.ShloMosaic.Tactic Cert.Hgrn Cert.Dense

/-- The body is the body of the prompt's call. -/
theorem out_eq : @out0_11 Ideal _ = @Cert.Kernel5Ideal.Gen.out0_11 Ideal _ := rfl

variable (m : (ℓ : Loc nD τ sig) → Buf (Elt Ideal) ℓ) (c : Dev nD)

/-- The whole result, from the arguments. -/
def G (i : S512x1024.Idx) : EReal :=
  merge (fun k => (m ((c : Thread nD τ).loc main_arg0) : S512x1024.Idx → EReal) (ix2 (i 0) k))
    (fun k => (m ((c : Thread nD τ).loc main_arg1) : S512x1024.Idx → EReal) (ix2 (i 0) k))
    (fun k => (m ((c : Thread nD τ).loc main_arg2) : S512x1024.Idx → EReal) (ix2 (i 0) k))
    (fun k => (m ((c : Thread nD τ).loc main_arg3) : S7x512x1024.Idx → EReal) (ix3 4 (i 0) k))
    (fun k => (m ((c : Thread nD τ).loc main_arg3) : S7x512x1024.Idx → EReal) (ix3 5 (i 0) k))
    (fun k => (m ((c : Thread nD τ).loc main_arg3) : S7x512x1024.Idx → EReal) (ix3 6 (i 0) k))
    (fun k => (m ((c : Thread nD τ).loc main_arg4) : S512x1024.Idx → EReal) (ix2 (i 0) k))
    (fun k l => (m ((c : Thread nD τ).loc main_arg5) : S1024x1024.Idx → EReal) (ix2 k l))
    (fun k l => (m ((c : Thread nD τ).loc main_arg6) : S1024x1024.Idx → EReal) (ix2 k l))
    (fun k l => (m ((c : Thread nD τ).loc main_arg7) : S1024x1024.Idx → EReal) (ix2 k l))
    (fun k l => (m ((c : Thread nD τ).loc main_arg8) : S1024x1024.Idx → EReal) (ix2 k l)) (i 1)

theorem idx_rows : ∀ t : Fin cfg0.N, win0_0.index t = ![0, 0] ∧ win0_1.index t = ![0, 0] ∧ win0_2.index t = ![0, 0]
    ∧ win0_3.index t = ![4, 0, 0] ∧ win0_4.index t = ![5, 0, 0] ∧ win0_5.index t = ![6, 0, 0] ∧ win0_6.index t = ![0, 0]
    ∧ win0_11.index t = ![0, 0] :=
  (by decide +kernel : ∀ t : Fin grid0.N, win0_0.index t = ![0, 0] ∧ win0_1.index t = ![0, 0] ∧ win0_2.index t = ![0, 0]
    ∧ win0_3.index t = ![4, 0, 0] ∧ win0_4.index t = ![5, 0, 0] ∧ win0_5.index t = ![6, 0, 0] ∧ win0_6.index t = ![0, 0]
    ∧ win0_11.index t = ![0, 0])
theorem idx_weights : ∀ t : Fin cfg0.N, win0_7.index t = ![0, 0] ∧ win0_8.index t = ![0, 0] ∧ win0_9.index t = ![0, 0] ∧ win0_10.index t = ![0, 0] :=
  (by decide +kernel : ∀ t : Fin grid0.N, win0_7.index t = ![0, 0] ∧ win0_8.index t = ![0, 0] ∧ win0_9.index t = ![0, 0] ∧ win0_10.index t = ![0, 0])

theorem blk0 (t : Fin cfg0.N) (r : Fin 512) (k : Fin 1024) :
    iblk m c 0 t (ix2 r k) = (m ((c : Thread nD τ).loc main_arg0) : S512x1024.Idx → EReal) (ix2 r k) := by
  obtain ⟨e, -⟩ := idx_rows t
  blk_ext [iblk, V, e]
theorem blk1 (t : Fin cfg0.N) (r : Fin 512) (k : Fin 1024) :
    iblk m c 1 t (ix2 r k) = (m ((c : Thread nD τ).loc main_arg1) : S512x1024.Idx → EReal) (ix2 r k) := by
  obtain ⟨-, e, -⟩ := idx_rows t
  blk_ext [iblk, V, e]
theorem blk2 (t : Fin cfg0.N) (r : Fin 512) (k : Fin 1024) :
    iblk m c 2 t (ix2 r k) = (m ((c : Thread nD τ).loc main_arg2) : S512x1024.Idx → EReal) (ix2 r k) := by
  obtain ⟨-, -, e, -⟩ := idx_rows t
  blk_ext [iblk, V, e]
theorem blk3 (t : Fin cfg0.N) (r : Fin 512) (k : Fin 1024) :
    iblk m c 3 t (ix3 0 r k) = (m ((c : Thread nD τ).loc main_arg3) : S7x512x1024.Idx → EReal) (ix3 4 r k) := by
  obtain ⟨-, -, -, e, -⟩ := idx_rows t
  blk_ext [iblk, V, e]
theorem blk4 (t : Fin cfg0.N) (r : Fin 512) (k : Fin 1024) :
    iblk m c 4 t (ix3 0 r k) = (m ((c : Thread nD τ).loc main_arg3) : S7x512x1024.Idx → EReal) (ix3 5 r k) := by
  obtain ⟨-, -, -, -, e, -⟩ := idx_rows t
  blk_ext [iblk, V, e]
theorem blk5 (t : Fin cfg0.N) (r : Fin 512) (k : Fin 1024) :
    iblk m c 5 t (ix3 0 r k) = (m ((c : Thread nD τ).loc main_arg3) : S7x512x1024.Idx → EReal) (ix3 6 r k) := by
  obtain ⟨-, -, -, -, -, e, -⟩ := idx_rows t
  blk_ext [iblk, V, e]
theorem blk6 (t : Fin cfg0.N) (r : Fin 512) (k : Fin 1024) :
    iblk m c 6 t (ix2 r k) = (m ((c : Thread nD τ).loc main_arg4) : S512x1024.Idx → EReal) (ix2 r k) := by
  obtain ⟨-, -, -, -, -, -, e, -⟩ := idx_rows t
  blk_ext [iblk, V, e]
theorem blk7 (t : Fin cfg0.N) (k l : Fin 1024) :
    iblk m c 7 t (ix2 k l) = (m ((c : Thread nD τ).loc main_arg5) : S1024x1024.Idx → EReal) (ix2 k l) := by
  obtain ⟨e, -⟩ := idx_weights t
  blk_ext [iblk, V, e]
theorem blk8 (t : Fin cfg0.N) (k l : Fin 1024) :
    iblk m c 8 t (ix2 k l) = (m ((c : Thread nD τ).loc main_arg6) : S1024x1024.Idx → EReal) (ix2 k l) := by
  obtain ⟨-, e, -⟩ := idx_weights t
  blk_ext [iblk, V, e]
theorem blk9 (t : Fin cfg0.N) (k l : Fin 1024) :
    iblk m c 9 t (ix2 k l) = (m ((c : Thread nD τ).loc main_arg7) : S1024x1024.Idx → EReal) (ix2 k l) := by
  obtain ⟨-, -, e, -⟩ := idx_weights t
  blk_ext [iblk, V, e]
theorem blk10 (t : Fin cfg0.N) (k l : Fin 1024) :
    iblk m c 10 t (ix2 k l) = (m ((c : Thread nD τ).loc main_arg8) : S1024x1024.Idx → EReal) (ix2 k l) := by
  obtain ⟨-, -, -, e⟩ := idx_weights t
  blk_ext [iblk, V, e]

/-- What the grid step leaves in its output block. -/
theorem point (t : Fin cfg0.N) (r : Fin 512) (j : Fin 1024) :
    (out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) : S512x1024.Idx → EReal) (ix2 r j) = G m c (ix2 r j) := by
  rw [out_eq]
  refine (Cert.Kernel5Ideal.Gen.out_apply _ _ _ _ _ _ _ _ _ _ _ _ _).trans ?_
  simp only [blk0, blk1, blk2, blk3, blk4, blk5, blk6, blk7, blk8, blk9, blk10]
  rfl

theorem emb11 (t : Fin cfg0.N) (r : Fin 512) (j : Fin 1024) :
    ((win0_11.blk t).view.emb (ix2 r j) : S512x1024.Idx) = ix2 r j := by
  obtain ⟨-, -, -, -, -, -, -, e⟩ := idx_rows t
  blk_ext [e]

/-- The result array after the run. -/
theorem final : (dats m 0 c).arrAt 11 cfg0.N = G m c := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 _⟩
  exact (point m c t r j).trans (congrArg (G m c) (emb11 t r j)).symm

end Cert.Kernel9Ideal.Gen

namespace Cert.Reference9Ideal.Value

open Cert.Reference9Ideal Cert.Reference9Ideal.Gen Cert.Hgrn Cert.Dense
open Idealize.ShloMosaic Idealize.ShloMosaic.TcCoe
open StableHlo

/-- One gated product of the reference, its gate one block of the gates' array. -/
def gated {o : ℕ} (a : FVec Ideal S512x1024 .bf16) (z : FVec Ideal S7x512x1024 .bf16) (w : FVec Ideal S1024x1024 .bf16)
    (hs : S7x512x1024.Slices ![o, 0, 0] S1x512x1024) : FVec Ideal S512x1024 .f32 :=
  mulf (Rows.gate bcast_S_S512x1024 shapeCasts_S1x512x1024_S512x1024 (extractStridedSlice S1x512x1024 ![o, 0, 0] z hs) bitsLt_bf16_f32)
    (Rows.proj dot_S512x1024_S1024x1024_S512x1024_1_0_0_1_n_n.wf (extf .f32 a bitsLt_bf16_f32) w bitsLt_bf16_f32)

theorem branch_apply {o : ℕ} (a : FVec Ideal S512x1024 .bf16) (z : FVec Ideal S7x512x1024 .bf16) (w : FVec Ideal S1024x1024 .bf16)
    (hs : S7x512x1024.Slices ![o, 0, 0] S1x512x1024) (ho : o < 7) (t : Fin 512) (j : Fin 1024) :
    (gated a z w hs : S512x1024.Idx → EReal) (ix2 t j)
      = branch (fun k => a (ix2 t k)) (fun k => z (ix3 ⟨o, ho⟩ t k)) (fun k l => w (ix2 k l)) j :=
  congrArg₂ (fun a b : EReal => a * b) ((Rows.gate_apply _ _ _ _ t j).trans (congrArg sigm (Rows.layer_apply z hs ho t j))) (Rows.proj_apply _ _ w _ t j)

section
variable (m : (ℓ : Loc nD τ sig) → Buf (Elt Ideal) ℓ) (c : Dev nD)

/-- The reference's result. -/
def result : FVec Ideal S512x1024 .f32 :=
  Rows.resid dot_S512x1024_S1024x1024_S512x1024_1_0_0_1_n_n.wf (m ((c.tc : Thread nD τ).loc main_arg4))
    (addf (addf
      (gated (m ((c.tc : Thread nD τ).loc main_arg0)) (m ((c.tc : Thread nD τ).loc main_arg3)) (m ((c.tc : Thread nD τ).loc main_arg5)) slices_S7x512x1024_S1x512x1024_4_0_0)
      (gated (m ((c.tc : Thread nD τ).loc main_arg1)) (m ((c.tc : Thread nD τ).loc main_arg3)) (m ((c.tc : Thread nD τ).loc main_arg6)) slices_S7x512x1024_S1x512x1024_5_0_0))
      (gated (m ((c.tc : Thread nD τ).loc main_arg2)) (m ((c.tc : Thread nD τ).loc main_arg3)) (m ((c.tc : Thread nD τ).loc main_arg7)) slices_S7x512x1024_S1x512x1024_6_0_0))
    (m ((c.tc : Thread nD τ).loc main_arg8)) bitsLt_bf16_f32

/-- The reference's result at a token and a channel. -/
theorem result_apply (t : Fin 512) (j : Fin 1024) :
    (result m c : S512x1024.Idx → EReal) (ix2 t j)
      = merge (fun k => (m ((c.tc : Thread nD τ).loc main_arg0) : S512x1024.Idx → EReal) (ix2 t k))
    (fun k => (m ((c.tc : Thread nD τ).loc main_arg1) : S512x1024.Idx → EReal) (ix2 t k))
    (fun k => (m ((c.tc : Thread nD τ).loc main_arg2) : S512x1024.Idx → EReal) (ix2 t k))
    (fun k => (m ((c.tc : Thread nD τ).loc main_arg3) : S7x512x1024.Idx → EReal) (ix3 4 t k))
    (fun k => (m ((c.tc : Thread nD τ).loc main_arg3) : S7x512x1024.Idx → EReal) (ix3 5 t k))
    (fun k => (m ((c.tc : Thread nD τ).loc main_arg3) : S7x512x1024.Idx → EReal) (ix3 6 t k))
    (fun k => (m ((c.tc : Thread nD τ).loc main_arg4) : S512x1024.Idx → EReal) (ix2 t k))
    (fun k l => (m ((c.tc : Thread nD τ).loc main_arg5) : S1024x1024.Idx → EReal) (ix2 k l))
    (fun k l => (m ((c.tc : Thread nD τ).loc main_arg6) : S1024x1024.Idx → EReal) (ix2 k l))
    (fun k l => (m ((c.tc : Thread nD τ).loc main_arg7) : S1024x1024.Idx → EReal) (ix2 k l))
    (fun k l => (m ((c.tc : Thread nD τ).loc main_arg8) : S1024x1024.Idx → EReal) (ix2 k l)) j := by
  refine (Rows.resid_apply _ _ _ _ _ t j).trans (congrArg₂ (fun a b : EReal => a + b) rfl
    (Finset.sum_congr rfl fun k _ => congrArg₂ (fun a b : EReal => a * b) ?_ rfl))
  exact congrArg₂ (fun a b : EReal => a + b) (congrArg₂ (fun a b : EReal => a + b)
    (branch_apply _ _ _ _ (by omega) t k) (branch_apply _ _ _ _ (by omega) t k)) (branch_apply _ _ _ _ (by omega) t k)

end
end Cert.Reference9Ideal.Value

namespace Cert.Dense

open Idealize.ShloMosaic Idealize.ShloMosaic.TcCoe Idealize.SL.Sem

/-- The sample's merge call computes what its reference computes. -/
theorem algebraic9 : Cert.algebraic_Kernel9Ideal_Reference9Ideal (hKernel9Ideal := Cert.Kernel9Ideal.Gen.facts) (hReference9Ideal := Cert.Reference9Ideal.Gen.facts) := by
  intro m g m' g' _ hm
  refine ⟨fun c => Cert.Kernel9Ideal.Gen.G m c, (θ_run Cert.Kernel9Ideal.defs _ _).mono (fun r h c => ?_) (Cert.Kernel9Ideal.Value.run_blocks m g), ?_⟩
  · exact ⟨(h c).1.trans (Cert.Kernel9Ideal.Gen.final m c), (h c).2⟩
  refine (θ_run Cert.Reference9Ideal.defs _ _).mono (fun r h c => ?_) (Cert.Reference9Ideal.Value.run m' g')
  obtain ⟨e0, e1, e2, e3, e4, e5, e6, e7, e8⟩ := hm c
  have hr : Cert.Reference9Ideal.Value.result m' c = Cert.Kernel9Ideal.Gen.G m c := by
    funext i
    obtain ⟨t, j, rfl⟩ : ∃ (t : Fin 512) (j : Fin 1024), i = ix2 t j := ⟨i 0, i 1, eq_ix2 _⟩
    rw [Cert.Reference9Ideal.Value.result_apply, e0, e1, e2, e3, e4, e5, e6, e7, e8]
    rfl
  exact ⟨(h c).1.trans hr, (h c).2⟩

end Cert.Dense

end
-- ==== Proof.Sample.HgrnSpec.lean ====
module

public import proofs.«01_k».proof.Proof.Hgrn.Spec

@[expose] public section

noncomputable section

namespace Cert.Hgrn

open Idealize.ShloMosaic

/-! The gated recurrence over the sample's sequences: each is one chunk of 32 tokens, written as plain functions of
extended reals. -/

/-- The inputs of one chunk of 32 tokens: the queries' and gates' projections, the values, the output gate's
projection, the two parameter rows and the state before the chunk, value channel by key channel. -/
structure Short where
  zq : Fin 32 → Fin 1024 → EReal
  zf : Fin 32 → Fin 1024 → EReal
  v : Fin 32 → Fin 1024 → EReal
  og : Fin 32 → Fin 1024 → EReal
  lb : Fin 1024 → EReal
  gn : Fin 128 → EReal
  st : Fin 8 → Fin 128 → Fin 128 → EReal

namespace Short

variable (C : Short)

/-- The running sum of the log gates of channel `j`, from the first token to token `r`. -/
def L (r : Fin 32) (j : Fin 1024) : EReal := ∑ x, if x ≤ r then gate (C.lb j) (C.zf x j) else 0

/-- The key of a token. -/
def key (r : Fin 32) (j : Fin 1024) : EReal := (1 - C.lb j) * sigm (0 - C.zf r j)

/-- The state after the chunk, value channel by key channel. -/
def next (h : Fin 8) (a b : Fin 128) : EReal :=
  C.st h a b * Ideal.exp (C.L 31 (col h b)) +
    ∑ x, C.v x (col h a) * (C.key x (col h b) * Ideal.exp (C.L 31 (col h b) - C.L x (col h b)))

/-- The weight of token `x` in the output of token `r`. -/
def att (h : Fin 8) (r x : Fin 32) : EReal :=
  if x ≤ r then
    ∑ d, C.zq r (col h d) * Ideal.exp (C.L r (col h d) - C.L 16 (col h d)) *
      (C.key x (col h d) * Ideal.exp (C.L 16 (col h d) - C.L x (col h d)))
  else 0

/-- The output of token `r` before the norm. -/
def raw (h : Fin 8) (r : Fin 32) (b : Fin 128) : EReal :=
  (∑ d, C.zq r (col h d) * Ideal.exp (C.L r (col h d)) * C.st h b d) + ∑ x, C.att h r x * C.v x (col h b)

/-- The output of token `r`: normalised over the head's channels and gated. -/
def out (h : Fin 8) (r : Fin 32) (b : Fin 128) : EReal :=
  C.raw h r b *
      Ideal.rsqrt
        (Ideal.div (∑ d, C.raw h r d * C.raw h r d) (Ideal.ofBits FTy.f32 1124073472#32) +
          Ideal.ofBits FTy.f32 897988541#32) *
      C.gn b *
    (C.og r (col h b) * sigm (C.og r (col h b)))

end Short

/-- Token `r` of sequence `b`, among the sample's tokens. -/
def stok (b : Fin 16) (r : Fin 32) : Fin 512 := ⟨32 * b.val + r.val, by omega⟩

/-- The inputs of sequence `b`. -/
def shortOf (zf : (⟨3, ![2, 512, 1024]⟩ : Shape).Idx → EReal) (zb : (⟨3, ![7, 512, 1024]⟩ : Shape).Idx → EReal)
    (lb : (⟨2, ![1, 1024]⟩ : Shape).Idx → EReal) (gn : (⟨2, ![1, 128]⟩ : Shape).Idx → EReal)
    (s0 : (⟨4, ![16, 8, 128, 128]⟩ : Shape).Idx → EReal) (b : Fin 16) : Short where
  zq := fun r j => zf (ix3 0 (stok b r) j)
  zf := fun r j => zf (ix3 1 (stok b r) j)
  v := fun r j => zb (ix3 0 (stok b r) j)
  og := fun r j => zb (ix3 1 (stok b r) j)
  lb := fun j => lb (ix2 0 j)
  gn := fun j => gn (ix2 0 j)
  st := fun h a d => s0 (ix4 b h d a)

end Cert.Hgrn

end
-- ==== Proof.Sample.Hgrn.lean ====
module

public import proofs.«01_k».proof.Proof.Gen.Kernel10Ideal.Frame
public import proofs.«01_k».proof.Proof.Sample.HgrnSpec
public import Idealize.ShloMosaic.Lib.WritesUnit
public import Idealize.ShloMosaic.Lib.Pipeline.ValueKit.Tiles

@[expose] public section

set_option maxRecDepth 16384

noncomputable section

namespace Cert.Kernel10Ideal.Gen

open Idealize.ShloMosaic Idealize.ShloMosaic.TcCoe Idealize.ShloMosaic.Tactic Cert.Hgrn

/-! One point of the sample's recurrence call: what it leaves in the carried state and in its two output blocks, head
by head. -/

/-- A comparison of two tokens, as the number one or zero, times a value. -/
theorem tril_mul (a x : Fin 32) (y : EReal) :
    FloatOps.sitofp (F := Ideal) FTy.f32
        (BitVec.setWidth 32 (IntOp.cmpi CmpIPredicate.sge (BitVec.ofNat 32 a.val) (BitVec.ofNat 32 x.val))) * y
      = if x ≤ a then y else 0 := by
  have h : ∀ a x : Fin 32, BitVec.setWidth 32 (IntOp.cmpi CmpIPredicate.sge (BitVec.ofNat 32 a.val) (BitVec.ofNat 32 x.val))
      = if x ≤ a then 1#32 else 0#32 := by decide +kernel
  rw [h]
  split
  · exact (congrArg (· * y) (show FloatOps.sitofp (F := Ideal) FTy.f32 1#32 = (1 : EReal) by simp [FloatOps.sitofp])).trans (one_mul y)
  · exact (congrArg (· * y) (show FloatOps.sitofp (F := Ideal) FTy.f32 0#32 = (0 : EReal) by simp [FloatOps.sitofp])).trans (zero_mul y)

/-- The same at the last token. -/
theorem tril_mul_31 (x : Fin 32) (y : EReal) :
    FloatOps.sitofp (F := Ideal) FTy.f32
        (BitVec.setWidth 32 (IntOp.cmpi CmpIPredicate.sge 31#32 (BitVec.ofNat 32 x.val))) * y
      = if x ≤ 31 then y else 0 := tril_mul 31 x y

/-- The same at the middle token. -/
theorem tril_mul_16 (x : Fin 32) (y : EReal) :
    FloatOps.sitofp (F := Ideal) FTy.f32
        (BitVec.setWidth 32 (IntOp.cmpi CmpIPredicate.sge 16#32 (BitVec.ofNat 32 x.val))) * y
      = if x ≤ 16 then y else 0 := tril_mul 16 x y

/-- A choice by a comparison of two tokens. -/
theorem tril_select (a x : Fin 32) (y : EReal) :
    Scalar.select (IntOp.cmpi CmpIPredicate.sge (BitVec.ofNat 32 a.val) (BitVec.ofNat 32 x.val)) y 0
      = if x ≤ a then y else 0 := by
  have h : ∀ a x : Fin 32, IntOp.cmpi CmpIPredicate.sge (BitVec.ofNat 32 a.val) (BitVec.ofNat 32 x.val)
      = if x ≤ a then 1#1 else 0#1 := by decide +kernel
  rw [h]
  split <;> rfl

/-- A read of all rows and some columns of a block of 32 rows. -/
theorem readAt_rows {e : EltTy} (m : Memref sig .tc .vmem S1x32x1024 e) (hm : m.IsWhole) {w : ℕ} (off : Fin 3 → ℕ)
    (inb : ∀ a, off a + (![1, 32, w] : Fin 3 → ℕ) a ≤ S1x32x1024.size a) (p : ℕ) (hoff : off = ![0, 0, p])
    (X : Vec Ideal S1x32x1024 e) (z : Fin 1) (a : Fin 32) (b : Fin w) :
    View.readAt (Elt Ideal) m.view (Rect.unit (s := S1x32x1024) off ![1, 32, w] inb).toLoadRect (hm.unread X) (ix3 z a b)
      = X (ix3 0 a ⟨p + b.val, by subst hoff; have := inb 2; simp at this; omega⟩) := by
  subst hoff
  rw [View.readAt_eq_ld, hm.read_unread]
  refine View.ld_unit_apply_of _ _ _ _ _ _ fun i => ?_
  fin_cases i
  · have := z.isLt
    simp
  · simp
  · simp

/-- A load of a whole row reads the row. -/
theorem readAt_row {e : EltTy} {w : ℕ} (m : Memref sig .tc .vmem ⟨2, ![1, w]⟩ e) (hm : m.IsWhole)
    (inb : ∀ a, (![0, 0] : Fin 2 → ℕ) a + (![1, w] : Fin 2 → ℕ) a ≤ (![1, w] : Fin 2 → ℕ) a) (x : Vec Ideal ⟨2, ![1, w]⟩ e) (z : Fin 1) (j : Fin w) :
    View.readAt (Elt Ideal) m.view (Rect.unit (s := ⟨2, ![1, w]⟩) ![0, 0] ![1, w] inb).toLoadRect (hm.unread x) (ix2 z j) = x (ix2 0 j) := by
  rw [View.readAt_eq_ld, hm.read_unread]
  refine View.ld_unit_apply_of _ _ _ _ _ _ fun i => ?_
  fin_cases i
  · have := z.isLt
    simp
  · simp

/-- A read of one head of a block of states. -/
theorem readAt_entry (m : Memref sig .tc .vmem S1x8x128x128 .f32) (hm : m.IsWhole) (h : ℕ)
    (inb : ∀ a, (![0, h, 0, 0] : Fin 4 → ℕ) a + (![1, 1, 128, 128] : Fin 4 → ℕ) a ≤ S1x8x128x128.size a)
    (X : Vec Ideal S1x8x128x128 .f32) (y z : Fin 1) (a b : Fin 128) :
    View.readAt (Elt Ideal) m.view (Rect.unit (s := S1x8x128x128) ![0, h, 0, 0] ![1, 1, 128, 128] inb).toLoadRect (hm.unread X) (ix4 y z a b)
      = X (ix4 0 ⟨h, by have := inb 1; simp at this; omega⟩ a b) := by
  rw [View.readAt_eq_ld, hm.read_unread]
  refine View.ld_unit_apply_of _ _ _ _ _ _ fun i => ?_
  have := y.isLt
  have := z.isLt
  fin_cases i <;> simp

/-- A read of one head of the carried state, after some stores. -/
theorem readCov_head (m : Memref sig .tc .vmem S8x128x128 .f32) (L : List (View.Piece (Elt Ideal) S8x128x128 .f32)) (h : ℕ)
    (inb : ∀ a, (![h, 0, 0] : Fin 3 → ℕ) a + (![1, 128, 128] : Fin 3 → ℕ) a ≤ S8x128x128.size a) (z : Fin 1) (a b : Fin 128) :
    m.view.readCov L (Rect.unit (s := S8x128x128) ![h, 0, 0] ![1, 128, 128] inb).toLoadRect (ix3 z a b)
      = m.view.read (Elt Ideal) (m.view.writes (Elt Ideal) m.view.junk L) (ix3 ⟨h, by have := inb 0; simp at this; omega⟩ a b) := by
  unfold View.readCov
  rw [View.readAt_eq_ld]
  refine View.ld_unit_apply_of _ _ _ _ _ _ fun i => ?_
  fin_cases i
  · have := z.isLt
    simp
  · simp
  · simp

/-- A store of one head, read at that head. -/
theorem store_same (m : Memref sig .tc .vmem S8x128x128 .f32) (f : BufTy.Contents (Elt Ideal) m.view.ty) (L : List (View.Piece (Elt Ideal) S8x128x128 .f32)) (h : ℕ)
    (inb : ∀ a, (![h, 0, 0] : Fin 3 → ℕ) a + (![1, 128, 128] : Fin 3 → ℕ) a ≤ S8x128x128.size a)
    (w : (⟨3, ![1, 128, 128]⟩ : Shape).Idx → EReal) (h' : Fin 8) (e : h'.val = h) (a b : Fin 128) :
    m.view.read (Elt Ideal) (m.view.writes (Elt Ideal) f
      ((⟨Rect.unit (s := S8x128x128) ![h, 0, 0] ![1, 128, 128] inb, w⟩ : View.Piece (Elt Ideal) S8x128x128 .f32) :: L)) (ix3 h' a b) = w (ix3 0 a b) := by
  refine View.read_writes_cons_unit_of_mem (off := ![h, 0, 0]) (off' := ![h, 0, 0]) (size := ![1, 128, 128]) m.view f inb w L (ix3 h' a b) (ix3 0 a b) rfl fun i => ?_
  fin_cases i <;> simp [e]

/-- A store of one head, read at another head. -/
theorem store_other (m : Memref sig .tc .vmem S8x128x128 .f32) (f : BufTy.Contents (Elt Ideal) m.view.ty) (L : List (View.Piece (Elt Ideal) S8x128x128 .f32)) (h : ℕ)
    (inb : ∀ a, (![h, 0, 0] : Fin 3 → ℕ) a + (![1, 128, 128] : Fin 3 → ℕ) a ≤ S8x128x128.size a)
    (w : (⟨3, ![1, 128, 128]⟩ : Shape).Idx → EReal) (h' : Fin 8) (e : h'.val ≠ h) (a b : Fin 128) :
    m.view.read (Elt Ideal) (m.view.writes (Elt Ideal) f
      ((⟨Rect.unit (s := S8x128x128) ![h, 0, 0] ![1, 128, 128] inb, w⟩ : View.Piece (Elt Ideal) S8x128x128 .f32) :: L)) (ix3 h' a b)
      = m.view.read (Elt Ideal) (m.view.writes (Elt Ideal) f L) (ix3 h' a b) := by
  refine View.read_writes_cons_unit_of_not_mem (off := ![h, 0, 0]) (off' := ![h, 0, 0]) (size := ![1, 128, 128]) m.view f inb w L (ix3 h' a b) rfl 0 ?_
  simp
  omega

theorem col_mk (n : ℕ) (h : Fin 8) (hn : n = 128 * h.val) (b : Fin 128) (hl) : (⟨n + b.val, hl⟩ : Fin 1024) = col h b := Fin.ext (by simp [col, hn])

theorem col_mk_0 (b : Fin 128) (h) : (⟨b.val, h⟩ : Fin 1024) = col 0 b := Fin.ext (by simp [col])

/-- The inputs of a point's chunk, from its blocks. -/
def shortAt (x0 x1 x2 x3 : S1x32x1024.Idx → EReal) (lb : S1x1024.Idx → EReal) (gn : S1x128.Idx → EReal)
    (s0 : S1x8x128x128.Idx → EReal) : Short where
  zq := fun r j => x0 (ix3 0 r j)
  zf := fun r j => x1 (ix3 0 r j)
  v := fun r j => x2 (ix3 0 r j)
  og := fun r j => x3 (ix3 0 r j)
  lb := fun j => lb (ix2 0 j)
  gn := fun j => gn (ix2 0 j)
  st := fun h a d => s0 (ix4 0 h d a)

section
variable (arg2 : Memref sig .tc .vmem S1x32x1024 .f32) (harg2 : arg2.IsWhole) (arg3 : Memref sig .tc .vmem S1x32x1024 .f32) (harg3 : arg3.IsWhole) (arg4 : Memref sig .tc .vmem S1x32x1024 .bf16) (harg4 : arg4.IsWhole) (arg5 : Memref sig .tc .vmem S1x32x1024 .bf16) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x8x128x128 .f32) (harg8 : arg8.IsWhole)
  (arg11 : Memref sig .tc .vmem S8x128x128 .f32) (c : Dev nD)
  (x0 : Vec Ideal S1x32x1024 .f32) (x1 : Vec Ideal S1x32x1024 .f32) (x2 : Vec Ideal S1x32x1024 .bf16) (x3 : Vec Ideal S1x32x1024 .bf16) (x4 : Vec Ideal S1x1024 .f32) (x5 : Vec Ideal S1x128 .f32) (x6 : Vec Ideal S1x8x128x128 .f32)

open kernelRun0_A.sl in
/-- The running sum of log gates, as the point computes it. -/
theorem sum_apply (r : Fin 32) (j : Fin 1024) :
    kernelRun0_A.sl.r_6 c arg3 harg3 arg6 harg6 x1 x4 (ix2 r j) = (shortAt x0 x1 x2 x3 x4 x5 x6).L r j := by
  unfold kernelRun0_A.sl.r_6
  unfold_payloads
  pointwise
  dsimp only [r_3, r_4]
  unfold_payloads
  pointwise
  simp only [tril_mul, readAt_rows _ _ _ _ _ k0_off1_eq, readAt_row, Nat.zero_add, Fin.eta]
  rfl

open kernelRun0_A.sl in
/-- The reset leaves the entry state, transposed. -/
theorem reset_apply (h : Fin 8) (a b : Fin 128) :
    arg11.view.read (Elt Ideal) (arg11.view.writes (Elt Ideal) arg11.view.junk (kernelRun0_A.sl.HS0_8 c arg8 harg8 x6)) (ix3 h a b)
      = x6 (ix4 0 h b a) := by
  unfold kernelRun0_A.sl.HS0_8
  fin_cases h
  all_goals
    iterate 7 (try refine (store_other _ _ _ _ _ _ _ (by decide) a b).trans ?_)
    refine (store_same _ _ _ _ _ _ _ (by rfl) a b).trans ?_
    try dsimp only [v675, v672, v671, v669, v666, v665, v663, v660, v659, v657, v654, v653]
    try unfold_payloads
    pointwise
    exact readAt_entry _ _ _ _ _ _ _ _ _

/-- A head not yet stored into still holds the entry state. -/
theorem kept (n : ℕ) (L L' : List (View.Piece (Elt Ideal) S8x128x128 .f32))
    (inb : ∀ a, (![n, 0, 0] : Fin 3 → ℕ) a + (![1, 128, 128] : Fin 3 → ℕ) a ≤ S8x128x128.size a)
    (w : (⟨3, ![1, 128, 128]⟩ : Shape).Idx → EReal)
    (e : L' = (⟨Rect.unit (s := S8x128x128) ![n, 0, 0] ![1, 128, 128] inb, w⟩ : View.Piece (Elt Ideal) S8x128x128 .f32) :: L)
    (hL : ∀ h : Fin 8, n ≤ h.val → ∀ a b, arg11.view.read (Elt Ideal) (arg11.view.writes (Elt Ideal) arg11.view.junk L) (ix3 h a b) = x6 (ix4 0 h b a))
    (h : Fin 8) (hh : n + 1 ≤ h.val) (a b : Fin 128) :
    arg11.view.read (Elt Ideal) (arg11.view.writes (Elt Ideal) arg11.view.junk L') (ix3 h a b) = x6 (ix4 0 h b a) := by
  subst e
  exact (store_other _ _ _ _ _ _ _ (by omega) a b).trans (hL h (by omega) a b)

theorem kept_1 : ∀ h : Fin 8, 1 ≤ h.val → ∀ a b, arg11.view.read (Elt Ideal) (arg11.view.writes (Elt Ideal) arg11.view.junk (kernelRun0_A.sl.HS0_9 c arg3 harg3 arg4 harg4 arg6 harg6 arg8 harg8 arg11 x1 x2 x4 x6)) (ix3 h a b) = x6 (ix4 0 h b a) :=
  kept arg11 x6 0 _ _ _ _ rfl (fun h _ => reset_apply arg8 harg8 arg11 c x6 h)

theorem kept_2 : ∀ h : Fin 8, 2 ≤ h.val → ∀ a b, arg11.view.read (Elt Ideal) (arg11.view.writes (Elt Ideal) arg11.view.junk (kernelRun0_A.sl.HS0_10 c arg3 harg3 arg4 harg4 arg6 harg6 arg8 harg8 arg11 x1 x2 x4 x6)) (ix3 h a b) = x6 (ix4 0 h b a) :=
  kept arg11 x6 1 _ _ _ _ rfl (kept_1 arg3 harg3 arg4 harg4 arg6 harg6 arg8 harg8 arg11 c x1 x2 x4 x6)

theorem kept_3 : ∀ h : Fin 8, 3 ≤ h.val → ∀ a b, arg11.view.read (Elt Ideal) (arg11.view.writes (Elt Ideal) arg11.view.junk (kernelRun0_A.sl.HS0_11 c arg3 harg3 arg4 harg4 arg6 harg6 arg8 harg8 arg11 x1 x2 x4 x6)) (ix3 h a b) = x6 (ix4 0 h b a) :=
  kept arg11 x6 2 _ _ _ _ rfl (kept_2 arg3 harg3 arg4 harg4 arg6 harg6 arg8 harg8 arg11 c x1 x2 x4 x6)

theorem kept_4 : ∀ h : Fin 8, 4 ≤ h.val → ∀ a b, arg11.view.read (Elt Ideal) (arg11.view.writes (Elt Ideal) arg11.view.junk (kernelRun0_A.sl.HS0_12 c arg3 harg3 arg4 harg4 arg6 harg6 arg8 harg8 arg11 x1 x2 x4 x6)) (ix3 h a b) = x6 (ix4 0 h b a) :=
  kept arg11 x6 3 _ _ _ _ rfl (kept_3 arg3 harg3 arg4 harg4 arg6 harg6 arg8 harg8 arg11 c x1 x2 x4 x6)

theorem kept_5 : ∀ h : Fin 8, 5 ≤ h.val → ∀ a b, arg11.view.read (Elt Ideal) (arg11.view.writes (Elt Ideal) arg11.view.junk (kernelRun0_A.sl.HS0_13 c arg3 harg3 arg4 harg4 arg6 harg6 arg8 harg8 arg11 x1 x2 x4 x6)) (ix3 h a b) = x6 (ix4 0 h b a) :=
  kept arg11 x6 4 _ _ _ _ rfl (kept_4 arg3 harg3 arg4 harg4 arg6 harg6 arg8 harg8 arg11 c x1 x2 x4 x6)

theorem kept_6 : ∀ h : Fin 8, 6 ≤ h.val → ∀ a b, arg11.view.read (Elt Ideal) (arg11.view.writes (Elt Ideal) arg11.view.junk (kernelRun0_A.sl.HS0_14 c arg3 harg3 arg4 harg4 arg6 harg6 arg8 harg8 arg11 x1 x2 x4 x6)) (ix3 h a b) = x6 (ix4 0 h b a) :=
  kept arg11 x6 5 _ _ _ _ rfl (kept_5 arg3 harg3 arg4 harg4 arg6 harg6 arg8 harg8 arg11 c x1 x2 x4 x6)

theorem kept_7 : ∀ h : Fin 8, 7 ≤ h.val → ∀ a b, arg11.view.read (Elt Ideal) (arg11.view.writes (Elt Ideal) arg11.view.junk (kernelRun0_A.sl.HS0_15 c arg3 harg3 arg4 harg4 arg6 harg6 arg8 harg8 arg11 x1 x2 x4 x6)) (ix3 h a b) = x6 (ix4 0 h b a) :=
  kept arg11 x6 6 _ _ _ _ rfl (kept_6 arg3 harg3 arg4 harg4 arg6 harg6 arg8 harg8 arg11 c x1 x2 x4 x6)

theorem v89_apply (z : Fin 1) (a b : Fin 128) : kernelRun0_A.sl.v89 c arg8 harg8 arg11 x6 (ix3 z a b) = x6 (ix4 0 0 b a) :=
  (readCov_head _ _ 0 _ z a b).trans (reset_apply arg8 harg8 arg11 c x6 0 a b)

theorem v163_apply (z : Fin 1) (a b : Fin 128) : kernelRun0_A.sl.v163 c arg3 harg3 arg4 harg4 arg6 harg6 arg8 harg8 arg11 x1 x2 x4 x6 (ix3 z a b) = x6 (ix4 0 1 b a) :=
  (readCov_head _ _ 1 _ z a b).trans (kept_1 arg3 harg3 arg4 harg4 arg6 harg6 arg8 harg8 arg11 c x1 x2 x4 x6 1 (by decide) a b)

theorem v237_apply (z : Fin 1) (a b : Fin 128) : kernelRun0_A.sl.v237 c arg3 harg3 arg4 harg4 arg6 harg6 arg8 harg8 arg11 x1 x2 x4 x6 (ix3 z a b) = x6 (ix4 0 2 b a) :=
  (readCov_head _ _ 2 _ z a b).trans (kept_2 arg3 harg3 arg4 harg4 arg6 harg6 arg8 harg8 arg11 c x1 x2 x4 x6 2 (by decide) a b)

theorem v311_apply (z : Fin 1) (a b : Fin 128) : kernelRun0_A.sl.v311 c arg3 harg3 arg4 harg4 arg6 harg6 arg8 harg8 arg11 x1 x2 x4 x6 (ix3 z a b) = x6 (ix4 0 3 b a) :=
  (readCov_head _ _ 3 _ z a b).trans (kept_3 arg3 harg3 arg4 harg4 arg6 harg6 arg8 harg8 arg11 c x1 x2 x4 x6 3 (by decide) a b)

theorem v385_apply (z : Fin 1) (a b : Fin 128) : kernelRun0_A.sl.v385 c arg3 harg3 arg4 harg4 arg6 harg6 arg8 harg8 arg11 x1 x2 x4 x6 (ix3 z a b) = x6 (ix4 0 4 b a) :=
  (readCov_head _ _ 4 _ z a b).trans (kept_4 arg3 harg3 arg4 harg4 arg6 harg6 arg8 harg8 arg11 c x1 x2 x4 x6 4 (by decide) a b)

theorem v459_apply (z : Fin 1) (a b : Fin 128) : kernelRun0_A.sl.v459 c arg3 harg3 arg4 harg4 arg6 harg6 arg8 harg8 arg11 x1 x2 x4 x6 (ix3 z a b) = x6 (ix4 0 5 b a) :=
  (readCov_head _ _ 5 _ z a b).trans (kept_5 arg3 harg3 arg4 harg4 arg6 harg6 arg8 harg8 arg11 c x1 x2 x4 x6 5 (by decide) a b)

theorem v533_apply (z : Fin 1) (a b : Fin 128) : kernelRun0_A.sl.v533 c arg3 harg3 arg4 harg4 arg6 harg6 arg8 harg8 arg11 x1 x2 x4 x6 (ix3 z a b) = x6 (ix4 0 6 b a) :=
  (readCov_head _ _ 6 _ z a b).trans (kept_6 arg3 harg3 arg4 harg4 arg6 harg6 arg8 harg8 arg11 c x1 x2 x4 x6 6 (by decide) a b)

theorem v607_apply (z : Fin 1) (a b : Fin 128) : kernelRun0_A.sl.v607 c arg3 harg3 arg4 harg4 arg6 harg6 arg8 harg8 arg11 x1 x2 x4 x6 (ix3 z a b) = x6 (ix4 0 7 b a) :=
  (readCov_head _ _ 7 _ z a b).trans (kept_7 arg3 harg3 arg4 harg4 arg6 harg6 arg8 harg8 arg11 c x1 x2 x4 x6 7 (by decide) a b)

open kernelRun0_A.sl in
set_option maxHeartbeats 4000000 in
/-- The stores leave in the carried state the state after the chunk. -/
theorem state_apply (h : Fin 8) (a b : Fin 128) :
    arg11.view.read (Elt Ideal) (arg11.view.writes (Elt Ideal) arg11.view.junk (kernelRun0_A.sl.HS0_16 c arg3 harg3 arg4 harg4 arg6 harg6 arg8 harg8 arg11 x1 x2 x4 x6)) (ix3 h a b)
      = (shortAt x0 x1 x2 x3 x4 x5 x6).next h a b := by
  fin_cases h
  all_goals
    iterate 7 (try refine (store_other _ _ _ _ _ _ _ (by decide) a b).trans ?_)
    refine (store_same _ _ _ _ _ _ _ (by rfl) a b).trans ?_
    dsimp only [r_52, r_51, r_50, r_49, r_48, r_47, r_46, r_45, r_44, r_43, r_42, r_41, r_40, r_39, r_38, r_37, r_36, r_35, r_34, r_33, r_32, r_31, r_30, r_29, r_28, r_27, r_26, r_25, r_24, r_23, r_22, r_21, r_20, r_19, r_18, r_17, r_16, r_15, r_14, r_13, r_12, r_11, r_10, r_9, r_8, r_7, r_5, r_4, r_3, r_2, r_1, r]
    unfold_payloads
    pointwise
    simp only [tril_mul, tril_mul_31, tril_mul_16, tril_select, readAt_rows _ _ _ _ _ k0_off1_eq, readAt_rows _ _ _ _ _ k0_off2_eq, readAt_rows _ _ _ _ _ k0_off4_eq, readAt_rows _ _ _ _ _ k0_off6_eq, readAt_rows _ _ _ _ _ k0_off8_eq, readAt_rows _ _ _ _ _ k0_off10_eq, readAt_rows _ _ _ _ _ k0_off12_eq, readAt_rows _ _ _ _ _ k0_off14_eq, readAt_rows _ _ _ _ _ k0_off16_eq, readAt_row, v89_apply, v163_apply, v237_apply, v311_apply, v385_apply, v459_apply, v533_apply, v607_apply,
      sum_apply arg3 harg3 arg6 harg6 c x0 x1 x2 x3 x4 x5 x6, Nat.zero_add, col_mk_0, col_mk 128 1 rfl, col_mk 256 2 rfl, col_mk 384 3 rfl, col_mk 512 4 rfl, col_mk 640 5 rfl, col_mk 768 6 rfl, col_mk 896 7 rfl, Fin.eta]
    simp only [Short.next, Short.L, Short.key, shortAt, sigm, gate, lsig]
    try rfl

/-- A piece of the output block, one head's channels, that holds the values of `G`. -/
theorem piece_rows (h : Fin 8) (off : Fin 2 → ℕ)
    (inb : ∀ a, off a + (![32, 128] : Fin 2 → ℕ) a ≤ S32x1024.size a) (hoff : off = ![0, 128 * h.val])
    (w : (⟨2, ![32, 128]⟩ : Shape).Idx → EReal) (G : S32x1024.Idx → EReal) (hw : ∀ a b, w (ix2 a b) = G (ix2 a (col h b)))
    (x : (⟨2, ![32, 128]⟩ : Shape).Idx) : w x = G ((Rect.unit (s := S32x1024) off ![32, 128] inb).emb x) := by
  subst hoff
  refine (congrArg w (eq_ix2 x)).trans ((hw (x 0) (x 1)).trans ?_)
  refine congrArg G (funext fun i => Fin.ext ?_)
  refine Eq.trans ?_ (Rect.idx_unit_val _ _ _ _ _).symm
  fin_cases i
  · exact (Nat.zero_add _).symm
  · rfl

/-- A piece of a block of states, one head of it, that holds the values of `G`. -/
theorem piece_entry (h : Fin 8) (inb : ∀ a, (![0, h.val, 0, 0] : Fin 4 → ℕ) a + (![1, 1, 128, 128] : Fin 4 → ℕ) a ≤ S1x8x128x128.size a)
    (w : (⟨4, ![1, 1, 128, 128]⟩ : Shape).Idx → EReal) (G : S1x8x128x128.Idx → EReal)
    (hw : ∀ a b, w (ix4 0 0 a b) = G (ix4 0 h a b))
    (x : (⟨4, ![1, 1, 128, 128]⟩ : Shape).Idx) : w x = G ((Rect.unit (s := S1x8x128x128) ![0, h.val, 0, 0] ![1, 1, 128, 128] inb).emb x) := by
  obtain ⟨a, b, rfl⟩ : ∃ a b, x = ix4 0 0 a b := ⟨x 2, x 3, by
    ext i
    have h0 : (x 0).val < 1 := (x 0).isLt
    have h1 : (x 1).val < 1 := (x 1).isLt
    fin_cases i <;> first | rfl | (simp; omega)⟩
  rw [hw]
  refine congrArg G (funext fun i => Fin.ext ?_)
  refine Eq.trans ?_ (Rect.idx_unit_val _ _ _ _ _).symm
  fin_cases i <;> simp

section
variable (arg9 : Memref sig .tc .vmem S32x1024 .bf16) (harg9 : arg9.IsWhole) (arg10 : Memref sig .tc .vmem S1x8x128x128 .f32) (harg10 : arg10.IsWhole) (harg11 : arg11.IsWhole)
  (i : grid0.Coords) (hc0 : cond0_0 i) (hc1 : cond0_1 i)

/-- The point leaves in the final states' block the state after the chunk, transposed. -/
theorem final_apply (h : Fin 8) (a b : Fin 128) :
    out0_A_8 c i arg2 harg2 arg3 harg3 arg4 harg4 arg5 harg5 arg6 harg6 arg7 harg7 arg8 harg8 arg9 harg9 arg10 harg10 arg11 harg11 hc0 hc1 x0 x1 x2 x3 x4 x5 x6 (ix4 0 h b a) = (shortAt x0 x1 x2 x3 x4 x5 x6).next h a b := by
  obtain ⟨G, hG⟩ : ∃ G : S1x8x128x128.Idx → EReal, ∀ h a b, G (ix4 0 h a b) = (shortAt x0 x1 x2 x3 x4 x5 x6).next h b a :=
    ⟨fun y => (shortAt x0 x1 x2 x3 x4 x5 x6).next (y 1) (y 3) (y 2), fun _ _ _ => rfl⟩
  refine (View.read_writes_apply_of_pieces VO0_8 VO0_8.junk G _ ?_ _
    (cover0_A_8 c i arg2 harg2 arg3 harg3 arg4 harg4 arg5 harg5 arg6 harg6 arg7 harg7 arg8 harg8 arg9 harg9 arg10 harg10 arg11 harg11 hc0 hc1 x0 x1 x2 x3 x4 x5 x6 _)).trans (hG h b a)
  have hS := state_apply arg3 harg3 arg4 harg4 arg6 harg6 arg8 harg8 arg11 c x0 x1 x2 x3 x4 x5 x6
  unfold kernelRun0_A
  dsimp only
  simp only [List.forall_mem_cons, List.not_mem_nil, false_imp_iff, implies_true, and_true]
  refine ⟨piece_entry 7 _ _ G fun a b => ?_, piece_entry 6 _ _ G fun a b => ?_, piece_entry 5 _ _ G fun a b => ?_, piece_entry 4 _ _ G fun a b => ?_,
    piece_entry 3 _ _ G fun a b => ?_, piece_entry 2 _ _ G fun a b => ?_, piece_entry 1 _ _ G fun a b => ?_, piece_entry 0 _ _ G fun a b => ?_⟩
  all_goals
    rw [hG]
    unfold_payloads
    pointwise
    exact (readCov_head _ _ _ _ _ _ _).trans (hS _ b a)

open kernelRun0_A.sl in
set_option maxHeartbeats 4000000 in
/-- The point leaves in the output block the chunk's outputs. -/
theorem out_apply (h : Fin 8) (a : Fin 32) (b : Fin 128) :
    out0_A_7 c i arg2 harg2 arg3 harg3 arg4 harg4 arg5 harg5 arg6 harg6 arg7 harg7 arg8 harg8 arg9 harg9 arg10 harg10 arg11 harg11 hc0 hc1 x0 x1 x2 x3 x4 x5 x6 (ix2 a (col h b)) = (shortAt x0 x1 x2 x3 x4 x5 x6).out h a b := by
  obtain ⟨G, hG⟩ : ∃ G : S32x1024.Idx → EReal, ∀ h a b, G (ix2 a (col h b)) = (shortAt x0 x1 x2 x3 x4 x5 x6).out h a b :=
    ⟨fun y => (shortAt x0 x1 x2 x3 x4 x5 x6).out ⟨(y 1).val / 128, by have h : (y 1).val < 1024 := (y 1).isLt
                                                                      omega⟩ (y 0) ⟨(y 1).val % 128, by omega⟩, fun h a b => by
      have e : ((ix2 a (col h b) : S32x1024.Idx) 1).val = 128 * h.val + b.val := rfl
      have hb := b.isLt
      dsimp only
      congr 1
      · exact Fin.ext (by dsimp only; omega)
      · exact Fin.ext (by dsimp only; omega)⟩
  refine (View.read_writes_apply_of_pieces VO0_7 VO0_7.junk G _ ?_ _
    (cover0_A_7 c i arg2 harg2 arg3 harg3 arg4 harg4 arg5 harg5 arg6 harg6 arg7 harg7 arg8 harg8 arg9 harg9 arg10 harg10 arg11 harg11 hc0 hc1 x0 x1 x2 x3 x4 x5 x6 _)).trans (hG h a b)
  unfold kernelRun0_A
  dsimp only
  simp only [List.forall_mem_cons, List.not_mem_nil, false_imp_iff, implies_true, and_true]
  refine ⟨piece_rows 7 _ _ k0_off17_eq _ G fun a b => ?_, piece_rows 6 _ _ k0_off15_eq _ G fun a b => ?_, piece_rows 5 _ _ k0_off13_eq _ G fun a b => ?_,
    piece_rows 4 _ _ k0_off11_eq _ G fun a b => ?_, piece_rows 3 _ _ k0_off9_eq _ G fun a b => ?_, piece_rows 2 _ _ k0_off7_eq _ G fun a b => ?_,
    piece_rows 1 _ _ k0_off5_eq _ G fun a b => ?_, piece_rows 0 _ _ k0_off3_eq _ G fun a b => ?_⟩
  all_goals
    rw [hG]
    try dsimp only [r_50, r_31, r_12]
    unfold_payloads
    pointwise
    dsimp only [r_52, r_51, r_50, r_49, r_48, r_47, r_46, r_45, r_44, r_43, r_42, r_41, r_40, r_39, r_38, r_37, r_36, r_35, r_34, r_33, r_32, r_31, r_30, r_29, r_28, r_27, r_26, r_25, r_24, r_23, r_22, r_21, r_20, r_19, r_18, r_17, r_16, r_15, r_14, r_13, r_12, r_11, r_10, r_9, r_8, r_7, r_5, r_4, r_3, r_2, r_1, r]
    try unfold_payloads
    try pointwise
    simp only [tril_mul, tril_mul_31, tril_mul_16, tril_select, readAt_rows _ _ _ _ _ k0_off1_eq, readAt_rows _ _ _ _ _ k0_off2_eq, readAt_rows _ _ _ _ _ k0_off4_eq, readAt_rows _ _ _ _ _ k0_off6_eq, readAt_rows _ _ _ _ _ k0_off8_eq, readAt_rows _ _ _ _ _ k0_off10_eq, readAt_rows _ _ _ _ _ k0_off12_eq, readAt_rows _ _ _ _ _ k0_off14_eq, readAt_rows _ _ _ _ _ k0_off16_eq, readAt_row, v89_apply, v163_apply, v237_apply, v311_apply, v385_apply, v459_apply, v533_apply, v607_apply,
      sum_apply arg3 harg3 arg6 harg6 c x0 x1 x2 x3 x4 x5 x6, Nat.zero_add, col_mk_0, col_mk 128 1 rfl, col_mk 256 2 rfl, col_mk 384 3 rfl, col_mk 512 4 rfl, col_mk 640 5 rfl, col_mk 768 6 rfl, col_mk 896 7 rfl, Fin.eta]
    simp only [Short.out, Short.raw, Short.att, Short.L, Short.key, shortAt, sigm, gate, lsig, ite_mul, zero_mul]
    try rfl

end

end

end Cert.Kernel10Ideal.Gen

end
-- ==== Proof.Sample.HgrnPoint.lean ====
module

public import proofs.«01_k».proof.Proof.Sample.Hgrn
public import proofs.«01_k».proof.Proof.Gen.Kernel10Ideal.Value
public import Idealize.ShloMosaic.Lib.Pipeline.ValueKit

@[expose] public section

set_option maxRecDepth 16384

noncomputable section

namespace Cert.Kernel10Ideal.Gen

open Idealize.ShloMosaic Idealize.ShloMosaic.TcCoe Idealize.ShloMosaic.Tactic Idealize.SL.Sem Cert.Hgrn

/-! The sample's recurrence call: each grid step is one sequence, and the blocks it leaves make up the result arrays. -/

variable (m : (ℓ : Loc nD τ sig) → Buf (Elt Ideal) ℓ) (c : Dev nD)

/-- The sequence a grid step works on. -/
def seqOf (t : Fin cfg0.N) : Fin 16 := ⟨t.val, lt_of_lt_of_eq t.isLt (show cfg0.N = 16 from N_0)⟩

/-- The inputs of a sequence, from the arguments. -/
def In (b : Fin 16) : Short :=
  shortOf (m ((c : Thread nD τ).loc main_arg0)) (m ((c : Thread nD τ).loc main_arg1)) (m ((c : Thread nD τ).loc main_arg2))
    (m ((c : Thread nD τ).loc main_arg3)) (m ((c : Thread nD τ).loc main_arg4)) b

theorem idx_in : ∀ t : Fin cfg0.N, win0_0.index t = ![0, t.val, 0] ∧ win0_1.index t = ![1, t.val, 0]
    ∧ win0_2.index t = ![0, t.val, 0] ∧ win0_3.index t = ![1, t.val, 0] ∧ win0_4.index t = ![0, 0]
    ∧ win0_5.index t = ![0, 0] ∧ win0_6.index t = ![t.val, 0, 0, 0] ∧ win0_7.index t = ![t.val, 0] ∧ win0_8.index t = ![t.val, 0, 0, 0] :=
  (by decide +kernel : ∀ t : Fin grid0.N, win0_0.index t = ![0, t.val, 0] ∧ win0_1.index t = ![1, t.val, 0]
    ∧ win0_2.index t = ![0, t.val, 0] ∧ win0_3.index t = ![1, t.val, 0] ∧ win0_4.index t = ![0, 0]
    ∧ win0_5.index t = ![0, 0] ∧ win0_6.index t = ![t.val, 0, 0, 0] ∧ win0_7.index t = ![t.val, 0] ∧ win0_8.index t = ![t.val, 0, 0, 0])

/-- The blocks of a grid step hold the inputs of its sequence. -/
theorem blk_short (t : Fin cfg0.N) :
    shortAt (iblk m c 0 t) (iblk m c 1 t) (iblk m c 2 t) (iblk m c 3 t) (iblk m c 4 t) (iblk m c 5 t) (iblk m c 6 t) = In m c (seqOf t) := by
  obtain ⟨e0, e1, e2, e3, e4, e5, e6, -, -⟩ := idx_in t
  have hs : (seqOf t).val = t.val := rfl
  have ht : ∀ r : Fin 32, (stok (seqOf t) r).val = 32 * t.val + r.val := fun r => rfl
  unfold shortAt In shortOf
  congr 1
  · funext r j
    have := ht r
    blk_ext [iblk, V, e0]
  · funext r j
    have := ht r
    blk_ext [iblk, V, e1]
  · funext r j
    have := ht r
    blk_ext [iblk, V, e2]
  · funext r j
    have := ht r
    blk_ext [iblk, V, e3]
  · funext j
    blk_ext [iblk, V, e4]
  · funext j
    blk_ext [iblk, V, e5]
  · funext h a b
    blk_ext [iblk, V, e6, hs]

/-- A grid step leaves in the output block its sequence's outputs. -/
theorem out_pt (t : Fin cfg0.N) (r : Fin 32) (h : Fin 8) (d : Fin 128) :
    (outsAt0 m c t).1 (ix2 r (col h d)) = (In m c (seqOf t)).out h r d := by
  rw [← blk_short m c t]
  unfold outsAt0
  dsimp only
  exact out_apply (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 c (iblk m c 0 t) (iblk m c 1 t) (iblk m c 2 t) (iblk m c 3 t) (iblk m c 4 t) (iblk m c 5 t) (iblk m c 6 t) (ms0_7 t) (hs0_7 t) (ms0_8 t) (hs0_8 t) (Memref.isWhole_whole _) (grid0.coords t) (hcond0_0 t) (hcond0_1 t) h r d

/-- A grid step leaves in the final states' block its sequence's state after the tokens, transposed. -/
theorem next_pt (t : Fin cfg0.N) (h : Fin 8) (d a : Fin 128) :
    (outsAt0 m c t).2 (ix4 0 h d a) = (In m c (seqOf t)).next h a d := by
  rw [← blk_short m c t]
  unfold outsAt0
  dsimp only
  exact final_apply (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 c (iblk m c 0 t) (iblk m c 1 t) (iblk m c 2 t) (iblk m c 3 t) (iblk m c 4 t) (iblk m c 5 t) (iblk m c 6 t) (ms0_7 t) (hs0_7 t) (ms0_8 t) (hs0_8 t) (Memref.isWhole_whole _) (grid0.coords t) (hcond0_0 t) (hcond0_1 t) h a d

/-- The output array, from the arguments. -/
def Out (i : S512x1024.Idx) : EReal :=
  (In m c ⟨(i 0).val / 32, by have h : (i 0).val < 512 := (i 0).isLt
                              omega⟩).out
    ⟨(i 1).val / 128, by have h : (i 1).val < 1024 := (i 1).isLt
                         omega⟩ ⟨(i 0).val % 32, by omega⟩ ⟨(i 1).val % 128, by omega⟩

/-- The output array at a token (by sequence and position) and a channel (by head). -/
theorem Out_apply (b : Fin 16) (r : Fin 32) (h : Fin 8) (d : Fin 128) : Out m c (ix2 (stok b r) (col h d)) = (In m c b).out h r d := by
  have e0 : ((ix2 (stok b r) (col h d) : S512x1024.Idx) 0).val = 32 * b.val + r.val := rfl
  have e1 : ((ix2 (stok b r) (col h d) : S512x1024.Idx) 1).val = 128 * h.val + d.val := rfl
  unfold Out
  congr 1
  · exact congrArg _ (Fin.ext (by dsimp only; omega))
  · exact Fin.ext (by dsimp only; omega)
  · exact Fin.ext (by dsimp only; omega)
  · exact Fin.ext (by dsimp only; omega)

/-- The final states' array, from the arguments. -/
def Next (i : S16x8x128x128.Idx) : EReal := (In m c (i 0)).next (i 1) (i 3) (i 2)

theorem emb_7 (t : Fin cfg0.N) (r : Fin 32) (h : Fin 8) (d : Fin 128) :
    ((win0_7.blk t).view.emb (ix2 r (col h d)) : S512x1024.Idx) = ix2 (stok (seqOf t) r) (col h d) := by
  obtain ⟨-, -, -, -, -, -, -, e, -⟩ := idx_in t
  have ht : (stok (seqOf t) r).val = 32 * t.val + r.val := rfl
  blk_ext [e]
theorem emb_8 (t : Fin cfg0.N) (h : Fin 8) (d a : Fin 128) :
    ((win0_8.blk t).view.emb (ix4 0 h d a) : S16x8x128x128.Idx) = ix4 (seqOf t) h d a := by
  obtain ⟨-, -, -, -, -, -, -, -, e⟩ := idx_in t
  have hs : (seqOf t).val = t.val := rfl
  blk_ext [e, hs]

theorem row_idx (y : S32x1024.Idx) : ∃ (r : Fin 32) (h : Fin 8) (d : Fin 128), y = ix2 r (col h d) := by
  have h1 : (y 1).val < 1024 := (y 1).isLt
  refine ⟨y 0, ⟨(y 1).val / 128, by omega⟩, ⟨(y 1).val % 128, by omega⟩, (eq_ix2 y).trans (congrArg (fun j => ix2 (y 0) j) (Fin.ext ?_))⟩
  show (y 1).val = 128 * ((y 1).val / 128) + (y 1).val % 128
  omega

/-- The output array after the run. -/
theorem final7 : (dats m 0 c).arrAt 7 cfg0.N = Out m c := by
  refine (dats m 0 c).arrAt_eq_of_covers 7 _ (by decide +kernel) fun t hf y => ?_
  blk_simp
  rw [after0_7]
  obtain ⟨r, h, d, rfl⟩ := row_idx y
  exact (out_pt m c t r h d).trans ((Out_apply m c (seqOf t) r h d).symm.trans (congrArg (Out m c) (emb_7 t r h d)).symm)

/-- The final states' array after the run. -/
theorem final8 : (dats m 0 c).arrAt 8 cfg0.N = Next m c := by
  refine (dats m 0 c).arrAt_eq_of_covers 8 _ (by decide +kernel) fun t hf y => ?_
  blk_simp
  rw [after0_8]
  obtain ⟨h, d, a, rfl⟩ : ∃ (h : Fin 8) (d a : Fin 128), y = ix4 0 h d a :=
    ⟨y 1, y 2, y 3, (eq_ix4 y).trans (congrArg (fun b => ix4 b (y 1) (y 2) (y 3)) (Subsingleton.elim (α := Fin 1) _ _))⟩
  exact (next_pt m c t h d a).trans (congrArg (Next m c) (emb_8 t h d a)).symm

end Cert.Kernel10Ideal.Gen

end
-- ==== Proof.Sample.HgrnRef.lean ====
module

public import proofs.«01_k».proof.Defs
public import proofs.«01_k».proof.Proof.Hgrn.RefEntry
public import proofs.«01_k».proof.Proof.Gen.Reference10Ideal.Run
public import proofs.«01_k».proof.Proof.Sample.HgrnPoint

@[expose] public section

set_option maxRecDepth 16384
set_option maxHeartbeats 2000000

noncomputable section

namespace Cert.Reference10Ideal.Value

open Cert.Reference10Ideal Cert.Reference10Ideal.Gen Cert.Hgrn
open Idealize.ShloMosaic Idealize.ShloMosaic.TcCoe
open Cert.ReferenceIdeal.Value (cumsum_chunk mask_select neg_softplus)

/-! The reference of the sample's recurrence, read at an index. -/

/-- Splitting all tokens into sequences and the channels into heads. -/
theorem heads_apply (x : S512x1024.Idx → EReal) (b : Fin 16) (r : Fin 32) (h : Fin 8) (d : Fin 128) :
    (shapeCast S16x32x8x128 x shapeCasts_S512x1024_S16x32x8x128 : S16x32x8x128.Idx → EReal) (ix4 b r h d) = x (ix2 (stok b r) (col h d)) := by
  pointwise
  refine congrArg₂ (fun t j => x (ix2 t j)) (Fin.ext ?_) (Fin.ext ?_)
  · show b.val * 32 + r.val = 32 * b.val + r.val
    omega
  · show h.val * 128 + d.val = 128 * h.val + d.val
    omega

theorem unheads_apply (x : S16x32x8x128.Idx → EReal) (b : Fin 16) (r : Fin 32) (h : Fin 8) (d : Fin 128) :
    (shapeCast S512x1024 x shapeCasts_S16x32x8x128_S512x1024 : S512x1024.Idx → EReal) (ix2 (stok b r) (col h d)) = x (ix4 b r h d) := by
  pointwise
  have ht : (stok b r).val = 32 * b.val + r.val := rfl
  have hc : (col h d).val = 128 * h.val + d.val := rfl
  congr 1
  funext a
  fin_cases a
  · exact Fin.ext (show (stok b r).val / 32 = b.val by omega)
  · exact Fin.ext (show (stok b r).val % 32 = r.val by omega)
  · exact Fin.ext (show (col h d).val / 128 = h.val by omega)
  · exact Fin.ext (show (col h d).val % 128 = d.val by omega)

section
variable (V : Valuation τ sig (Elt Ideal))

/-- The inputs of a sequence, from the arguments. -/
def In (b : Fin 16) : Short :=
  shortOf (V (Proc.devRef .tc main_arg0)) (V (Proc.devRef .tc main_arg1)) (V (Proc.devRef .tc main_arg2))
    (V (Proc.devRef .tc main_arg3)) (V (Proc.devRef .tc main_arg4)) b

variable (b : Fin 16) (r : Fin 32) (h : Fin 8) (d : Fin 128)

theorem z_apply : (res_main_v7 V : S16x32x8x128.Idx → EReal) (ix4 b r h d) = (In V b).zf r (col h d) := by
  unfold res_main_v7
  refine (heads_apply _ b r h d).trans ?_
  pointwise
  rfl

theorem q_apply : (res_main_v42 V : S16x32x8x128.Idx → EReal) (ix4 b r h d) = (In V b).zq r (col h d) := by
  unfold res_main_v42
  refine (heads_apply _ b r h d).trans ?_
  pointwise
  rfl

theorem v_apply : (res_main_v43 V : S16x32x8x128.Idx → EReal) (ix4 b r h d) = (In V b).v r (col h d) := by
  unfold res_main_v43
  refine (heads_apply _ b r h d).trans ?_
  pointwise
  rfl

theorem og_apply : (res_main_v79 V : S512x1024.Idx → EReal) (ix2 (stok b r) (col h d)) = (In V b).og r (col h d) := by
  unfold res_main_v79
  pointwise
  rfl

theorem lb_apply : (res_main_v8 V : S8x128.Idx → EReal) (ix2 h d) = (In V b).lb (col h d) := by
  unfold res_main_v8
  exact Cert.ReferenceIdeal.Value.row_apply h d _

/-- The keys. -/
theorem k_apply : (res_main_v41 V : S16x32x8x128.Idx → EReal) (ix4 b r h d) = (In V b).key r (col h d) := by
  unfold res_main_v41
  pointwise
  rw [z_apply, lb_apply V b]
  unfold Short.key sigm
  rw [zero_sub, zero_sub]

/-- The second argument of the gate's log-sum. -/
theorem arg_apply : (res_main_v15 V : S16x32x8x128.Idx → EReal) (ix4 b r h d)
    = Ideal.log1p (0 - (In V b).lb (col h d)) + lsig ((In V b).zf r (col h d)) := by
  unfold res_main_v15 res_main_call0_call0_v3 res_main_call0_v0 res_main_call0_call0_cst
  pointwise
  rw [if_neg (fun h => h rfl), z_apply, lb_apply V b, zero_sub]
  exact congrArg _ (neg_softplus _)

/-- The first argument of the gate's log-sum. -/
theorem log_apply : (res_main_v16 V : S1x1x8x128.Idx → EReal) (ix4 0 0 h d) = Ideal.log ((In V b).lb (col h d)) := by
  unfold res_main_v16
  pointwise
  rw [lb_apply V b]

/-- The running sums of the log gates. -/
theorem L_apply : (res_main_v44 V : S16x32x8x128.Idx → EReal) (ix4 b r h d) = (In V b).L r (col h d) := by
  unfold res_main_v44
  refine (cumsum_chunk rfl _ _ (fun i => by pointwise) _ _ b r h d).trans ?_
  unfold Short.L
  refine Finset.sum_congr rfl fun x _ => if_congr Iff.rfl ?_ rfl
  unfold res_main_v20
  pointwise
  rw [if_neg (fun h => h rfl), arg_apply, log_apply V b]
  unfold gate
  rw [zero_sub (FloatOps.absf (F := Ideal) (φ := .f32) _)]
  rfl

theorem mid_apply : (res_main_v45 V : S16x1x8x128.Idx → EReal) (ix4 b 0 h d) = (In V b).L 16 (col h d) := by
  refine Eq.trans ?_ (L_apply V b 16 h d)
  unfold res_main_v45
  pointwise

theorem end_apply : (res_main_v46 V : S16x1x8x128.Idx → EReal) (ix4 b 0 h d) = (In V b).L 31 (col h d) := by
  refine Eq.trans ?_ (L_apply V b 31 h d)
  unfold res_main_v46
  pointwise

theorem st_apply (a : Fin 128) : (V (Proc.devRef .tc main_arg4) : S16x8x128x128.Idx → EReal) (ix4 b h d a) = (In V b).st h a d := rfl

/-- The outputs before the norm. -/
theorem raw_apply : (res_main_v69 V : S16x32x8x128.Idx → EReal) (ix4 b r h d) = (In V b).raw h r d := by
  unfold res_main_v69
  pointwise
  simp only [q_apply, k_apply, v_apply, L_apply, mid_apply, st_apply, Short.raw, Short.att]
  refine congrArg₂ _ (Finset.sum_congr rfl fun x _ => mul_comm _ _) (Finset.sum_congr rfl fun x _ => ?_)
  rw [mask_select (by decide) _ _ _ _ (by rw [id_eq]; pointwise), mul_comm]

/-- The final states. -/
def states : FVec Ideal S16x8x128x128 .f32 :=
  addf (mulf (broadcastInDim S16x8x128x128 ![0, 1, 2, 3] bcast_S16x8x128x1_S16x8x128x128_0_1_2_3 (broadcastInDim S16x8x128x1 ![0, 1, 2] bcast_S16x8x128_S16x8x128x1_0_1_2 (Host.exp (shapeCast S16x8x128 (res_main_v46 V) shapeCasts_S16x1x8x128_S16x8x128)))) (V (Proc.devRef .tc main_arg4))) (Host.dotGeneral (φ₁ := .f32) (φ₂ := .f32) dot_S16x32x8x128_S16x32x8x128_S16x8x128x128_1_1_3_3_02_02 none (mulf (res_main_v41 V) (Host.exp (subf (broadcastInDim S16x32x8x128 ![0, 1, 2, 3] bcast_S16x1x8x128_S16x32x8x128_0_1_2_3 (res_main_v46 V)) (res_main_v44 V)))) (res_main_v43 V))

theorem states_apply (a : Fin 128) : (states V : S16x8x128x128.Idx → EReal) (ix4 b h d a) = (In V b).next h a d := by
  unfold states
  pointwise
  simp only [k_apply, v_apply, L_apply, end_apply, st_apply, Short.next]
  refine congrArg₂ _ (mul_comm _ _) (Finset.sum_congr rfl fun x _ => mul_comm _ _)

/-- The outputs: the norm over a head's channels with its weights, then the output gate. -/
def result : FVec Ideal S512x1024 .bf16 :=
  truncf .bf16 (mulf (shapeCast S512x1024 (mulf (mulf (res_main_v69 V) (broadcastInDim S16x32x8x128 ![0, 1, 2, 3] bcast_S16x32x8x1_S16x32x8x128_0_1_2_3 (Host.rsqrt (addf (Host.divf (broadcastInDim S16x32x8x1 ![0, 1, 2] bcast_S16x32x8_S16x32x8x1_0_1_2 (Host.reduceAdd (mulf (res_main_v69 V) (res_main_v69 V)) (constant S_ .f32 0x00000000#32) reducesTo_S16x32x8x128_S16x32x8_d3 h_S_)) (broadcastInDim S16x32x8x1 ![] bcast_S_S16x32x8x1 (constant S_ .f32 0x43000000#32))) (broadcastInDim S16x32x8x1 ![] bcast_S_S16x32x8x1 (constant S_ .f32 0x358637BD#32)))))) (broadcastInDim S16x32x8x128 ![0, 1, 2, 3] bcast_S1x1x1x128_S16x32x8x128_0_1_2_3 (broadcastInDim S1x1x1x128 ![3] bcast_S128_S1x1x1x128_3 (shapeCast S128 (V (Proc.devRef .tc main_arg3)) shapeCasts_S1x128_S128)))) shapeCasts_S16x32x8x128_S512x1024) (mulf (res_main_v79 V) (Host.divf (broadcastInDim S512x1024 ![] bcast_S_S512x1024 (constant S_ .f32 0x3F800000#32)) (addf (broadcastInDim S512x1024 ![] bcast_S_S512x1024 (constant S_ .f32 0x3F800000#32)) (Host.exp (Host.negf (res_main_v79 V))))))) bitsLt_bf16_f32

theorem result_apply : (result V : S512x1024.Idx → EReal) (ix2 (stok b r) (col h d)) = (In V b).out h r d := by
  unfold result
  refine (congrArg₂ (fun x y : EReal => x * y) (unheads_apply _ b r h d) rfl).trans ?_
  pointwise
  simp only [raw_apply, og_apply, Short.out, sigm]
  rw [zero_sub]
  rfl

end
end Cert.Reference10Ideal.Value

namespace Cert.Hgrn

open Idealize.ShloMosaic Idealize.ShloMosaic.TcCoe Idealize.SL.Sem

/-- The sample's recurrence call computes what its reference computes. -/
theorem algebraic10 : Cert.algebraic_Kernel10Ideal_Reference10Ideal (hKernel10Ideal := Cert.Kernel10Ideal.Gen.facts) (hReference10Ideal := Cert.Reference10Ideal.Gen.facts) := by
  intro m g m' g' _ hm
  refine ⟨fun c => Cert.Kernel10Ideal.Gen.Out m c, fun c => Cert.Kernel10Ideal.Gen.Next m c,
    (θ_run Cert.Kernel10Ideal.defs _ _).mono (fun r h c => ?_) (Cert.Kernel10Ideal.Value.run_blocks m g), ?_⟩
  · exact ⟨(h c).1.trans (Cert.Kernel10Ideal.Gen.final7 m c), (h c).2.1.trans (Cert.Kernel10Ideal.Gen.final8 m c), (h c).2.2⟩
  refine (θ_run Cert.Reference10Ideal.defs _ _).mono (fun r h c => ?_) (Cert.Reference10Ideal.Value.run m' g')
  obtain ⟨e0, e1, e2, e3, e4⟩ := hm c
  have hI : ∀ b, Cert.Reference10Ideal.Value.In (StableHlo.launchContents m' c) b = Cert.Kernel10Ideal.Gen.In m c b := fun b => by
    unfold Cert.Kernel10Ideal.Gen.In
    rw [← e0, ← e1, ← e2, ← e3, ← e4]
    rfl
  have hr : Cert.Reference10Ideal.Value.result (StableHlo.launchContents m' c) = Cert.Kernel10Ideal.Gen.Out m c := by
    funext i
    have h0 : (i 0).val < 512 := (i 0).isLt
    have h1 : (i 1).val < 1024 := (i 1).isLt
    obtain ⟨b, r, h, d, rfl⟩ : ∃ (b : Fin 16) (r : Fin 32) (h : Fin 8) (d : Fin 128), i = ix2 (stok b r) (col h d) :=
      ⟨⟨(i 0).val / 32, by omega⟩, ⟨(i 0).val % 32, by omega⟩, ⟨(i 1).val / 128, by omega⟩, ⟨(i 1).val % 128, by omega⟩,
        (eq_ix2 i).trans (congrArg₂ (fun t j => ix2 t j) (Fin.ext (by show (i 0).val = 32 * ((i 0).val / 32) + (i 0).val % 32; omega))
          (Fin.ext (by show (i 1).val = 128 * ((i 1).val / 128) + (i 1).val % 128; omega)))⟩
    exact (Cert.Reference10Ideal.Value.result_apply _ b r h d).trans ((congrArg (fun C : Short => C.out h r d) (hI b)).trans (Cert.Kernel10Ideal.Gen.Out_apply m c b r h d).symm)
  have hn : Cert.Reference10Ideal.Value.states (StableHlo.launchContents m' c) = Cert.Kernel10Ideal.Gen.Next m c := by
    funext i
    obtain ⟨b, h, d, a, rfl⟩ : ∃ (b : Fin 16) (h : Fin 8) (d a : Fin 128), i = ix4 b h d a := ⟨i 0, i 1, i 2, i 3, eq_ix4 _⟩
    exact (Cert.Reference10Ideal.Value.states_apply _ b h d a).trans (congrArg (fun C : Short => C.next h a d) (hI b))
  exact ⟨(h c).1.trans hr, (h c).2.1.trans hn, (h c).2.2⟩

end Cert.Hgrn

end
-- ==== Proof.Proj.Value.lean ====
module

public import proofs.«01_k».proof.Proof.Proj.Frame
public import proofs.«01_k».proof.Proof.Dense.Spec
public import Idealize.ShloMosaic.Lib.Pipeline.ValueKit

@[expose] public section

set_option maxRecDepth 16384

noncomputable section

namespace Cert.Kernel3Ideal.Gen

open Idealize.ShloMosaic Idealize.ShloMosaic.TcCoe Idealize.ShloMosaic.Tactic Idealize.SL.Sem Cert.Hgrn Cert.Dense

/-! The projections: what one block of 1024 tokens and 1024 columns computes, then the whole arrays. -/

/-- The normed block. -/
theorem pay1_apply (x : Vec Ideal S1024x1024 .f32) (g : Vec Ideal S1x1024 .f32) (r : Fin 1024) (j : Fin 1024) :
    (k0_pay1 x g : S1024x1024.Idx → EReal) (ix2 r j) = rms (fun k => x (ix2 r k)) (fun k => g (ix2 0 k)) j := by
  unfold k0_pay1
  dsimp only
  pointwise
  unfold rms
  rfl

/-- The normed block as the scratch keeps it. -/
theorem pay2_apply (x : Vec Ideal S1024x1024 .f32) (g : Vec Ideal S1x1024 .f32) (r : Fin 1024) (j : Fin 1024) :
    (k0_pay2 x g : S1024x1024.Idx → EReal) (ix2 r j) = rms (fun k => x (ix2 r k)) (fun k => g (ix2 0 k)) j := by
  unfold k0_pay2
  rw [shapeCast_self]
  exact pay1_apply x g r j

/-- A block of columns against a normed block. -/
theorem pay4_apply (h : Vec Ideal S1024x1024 .bf16) (w : Vec Ideal S1024x1024 .bf16) (r : Fin 1024) (j : Fin 1024) :
    (k0_pay4 h w : S1024x1024.Idx → EReal) (ix2 r j) = Cert.Dense.col (fun k => h (ix2 r k)) (fun k => w (ix2 k j)) := by
  unfold k0_pay4
  pointwise
  rfl

theorem pay5_apply (h : Vec Ideal S1024x1024 .bf16) (w : Vec Ideal S1024x1024 .bf16) (r : Fin 1024) (j : Fin 1024) :
    (k0_pay5 h w : S1x1024x1024.Idx → EReal) (ix3 0 r j) = Cert.Dense.col (fun k => h (ix2 r k)) (fun k => w (ix2 k j)) := by
  unfold k0_pay5
  pointwise
  exact pay4_apply h w r j
theorem pay6_apply (h : Vec Ideal S1024x1024 .bf16) (w : Vec Ideal S1024x1024 .bf16) (r : Fin 1024) (j : Fin 1024) :
    (k0_pay6 h w : S1x1024x1024.Idx → EReal) (ix3 0 r j) = Cert.Dense.col (fun k => h (ix2 r k)) (fun k => w (ix2 k j)) := by
  unfold k0_pay6
  pointwise
  exact pay4_apply h w r j

/-- The gate. -/
theorem pay3_apply (x : Vec Ideal S1024x1024 .f32) (g : Vec Ideal S1x1024 .f32) (w : Vec Ideal S1024x128 .bf16) (b : Vec Ideal S1x128 .f32) (r : Fin 1024) (j : Fin 128) :
    (k0_pay3 x g w b : S1024x128.Idx → EReal) (ix2 r j) = lsig (projAt (fun k => x (ix2 r k)) (fun k => g (ix2 0 k)) (fun k f => w (ix2 k f)) j + b (ix2 0 j)) := by
  unfold k0_pay3
  pointwise
  simp only [pay1_apply]
  rfl

variable (m : (ℓ : Loc nD τ sig) → Buf (Elt Ideal) ℓ) (c : Dev nD)

/-- Column `1024 * s + j` of the weights: channel `j` of the projection `s`. -/
def slot (s : Fin 9) (j : Fin 1024) : Fin 9216 := ⟨1024 * s.val + j.val, by omega⟩

/-- The value of projection `s` at a token and a channel, from the arguments. -/
def projected (s : Fin 9) (t : Fin 65536) (j : Fin 1024) : EReal :=
  projAt (fun k => (m ((c : Thread nD τ).loc main_arg0) : S65536x1024.Idx → EReal) (ix2 t k))
    (fun k => (m ((c : Thread nD τ).loc main_arg1) : S1x1024.Idx → EReal) (ix2 0 k))
    (fun k f => (m ((c : Thread nD τ).loc main_arg2) : S1024x9216.Idx → EReal) (ix2 k f)) (slot s j)

/-- The gate at a token and a channel, from the arguments. -/
def gated (t : Fin 65536) (j : Fin 128) : EReal :=
  lsig (projAt (fun k => (m ((c : Thread nD τ).loc main_arg0) : S65536x1024.Idx → EReal) (ix2 t k))
    (fun k => (m ((c : Thread nD τ).loc main_arg1) : S1x1024.Idx → EReal) (ix2 0 k))
    (fun k f => (m ((c : Thread nD τ).loc main_arg3) : S1024x128.Idx → EReal) (ix2 k f)) j
    + (m ((c : Thread nD τ).loc main_arg4) : S1x128.Idx → EReal) (ix2 0 j))

/-- The first two projections stacked. -/
def Zf (i : S2x65536x1024.Idx) : EReal := projected m c (Fin.castLE (by decide : 2 ≤ 9) (i 0)) (i 1) (i 2)
/-- The other seven stacked. -/
def Zb (i : S7x65536x1024.Idx) : EReal := projected m c (Fin.natAdd 2 (i 0 : Fin 7)) (i 1) (i 2)
/-- The gate. -/
def Fl (i : S65536x128.Idx) : EReal := gated m c (i 0) (i 1)

theorem idx_in : ∀ t : Fin cfg0.N, win0_0.index t = ![t.val / 9, 0] ∧ win0_1.index t = ![0, 0] ∧ win0_2.index t = ![0, t.val % 9]
    ∧ win0_3.index t = ![0, 0] ∧ win0_4.index t = ![0, 0] ∧ win0_5.index t = ![min (t.val % 9) 1, t.val / 9, 0]
    ∧ win0_6.index t = ![t.val % 9 - 2, t.val / 9, 0] ∧ win0_7.index t = ![t.val / 9, 0] :=
  (by decide +kernel : ∀ t : Fin grid0.N, win0_0.index t = ![t.val / 9, 0] ∧ win0_1.index t = ![0, 0] ∧ win0_2.index t = ![0, t.val % 9]
    ∧ win0_3.index t = ![0, 0] ∧ win0_4.index t = ![0, 0] ∧ win0_5.index t = ![min (t.val % 9) 1, t.val / 9, 0]
    ∧ win0_6.index t = ![t.val % 9 - 2, t.val / 9, 0] ∧ win0_7.index t = ![t.val / 9, 0])

/-- Token `r` of the block of point `t`. -/
def tokAt (t : Fin cfg0.N) (r : Fin 1024) : Fin 65536 :=
  ⟨1024 * (t.val / 9) + r.val, by have := lt_of_lt_of_eq t.isLt (show cfg0.N = 576 from N_0); omega⟩
/-- The projection whose columns point `t` computes. -/
def colAt (t : Fin cfg0.N) : Fin 9 := ⟨t.val % 9, by omega⟩

theorem tokAt_first (t : Fin cfg0.N) (r : Fin 1024) : tokAt (first t) r = tokAt t r := by
  unfold tokAt first; exact Fin.ext (by simp only; omega)

theorem blk0 (t : Fin cfg0.N) (r : Fin 1024) (k : Fin 1024) :
    iblk m c 0 t (ix2 r k) = (m ((c : Thread nD τ).loc main_arg0) : S65536x1024.Idx → EReal) (ix2 (tokAt t r) k) := by
  obtain ⟨e, -⟩ := idx_in t
  have h : (tokAt t r).val = 1024 * (t.val / 9) + r.val := rfl
  blk_ext [iblk, V, e, h]
theorem blk1 (t : Fin cfg0.N) (k : Fin 1024) : iblk m c 1 t (ix2 0 k) = (m ((c : Thread nD τ).loc main_arg1) : S1x1024.Idx → EReal) (ix2 0 k) := by
  obtain ⟨-, e, -⟩ := idx_in t
  blk_ext [iblk, V, e]
theorem blk2 (t : Fin cfg0.N) (k : Fin 1024) (j : Fin 1024) :
    iblk m c 2 t (ix2 k j) = (m ((c : Thread nD τ).loc main_arg2) : S1024x9216.Idx → EReal) (ix2 k (slot (colAt t) j)) := by
  obtain ⟨-, -, e, -⟩ := idx_in t
  have h : (slot (colAt t) j).val = 1024 * (t.val % 9) + j.val := rfl
  blk_ext [iblk, V, e, h]
theorem blk3 (t : Fin cfg0.N) (k : Fin 1024) (f : Fin 128) :
    iblk m c 3 t (ix2 k f) = (m ((c : Thread nD τ).loc main_arg3) : S1024x128.Idx → EReal) (ix2 k f) := by
  obtain ⟨-, -, -, e, -⟩ := idx_in t
  blk_ext [iblk, V, e]
theorem blk4 (t : Fin cfg0.N) (k : Fin 128) : iblk m c 4 t (ix2 0 k) = (m ((c : Thread nD τ).loc main_arg4) : S1x128.Idx → EReal) (ix2 0 k) := by
  obtain ⟨-, -, -, -, e, -⟩ := idx_in t
  blk_ext [iblk, V, e]

/-- What the scratch holds, from the arguments. -/
theorem hAt_apply (t : Fin cfg0.N) (r k : Fin 1024) : (hAt m c t : S1024x1024.Idx → EReal) (ix2 r k) =
    rms (fun k => (m ((c : Thread nD τ).loc main_arg0) : S65536x1024.Idx → EReal) (ix2 (tokAt t r) k))
      (fun k => (m ((c : Thread nD τ).loc main_arg1) : S1x1024.Idx → EReal) (ix2 0 k)) k := by
  unfold hAt
  refine (pay2_apply _ _ r k).trans ?_
  simp only [blk0, blk1, tokAt_first]

theorem zfAt_apply (t : Fin cfg0.N) (r j : Fin 1024) : (zfAt m c t : S1x1024x1024.Idx → EReal) (ix3 0 r j) =
    projected m c (colAt (second t)) (tokAt t r) j := by
  unfold zfAt
  refine (pay5_apply _ _ r j).trans ?_
  simp only [blk2, hAt_apply]
  rfl
theorem zbAt_apply (t : Fin cfg0.N) (r j : Fin 1024) : (zbAt m c t : S1x1024x1024.Idx → EReal) (ix3 0 r j) =
    projected m c (colAt t) (tokAt t r) j := by
  unfold zbAt
  refine (pay6_apply _ _ r j).trans ?_
  simp only [blk2, hAt_apply]
  rfl
theorem flAt_apply (t : Fin cfg0.N) (r : Fin 1024) (j : Fin 128) : (flAt m c t : S1024x128.Idx → EReal) (ix2 r j) = gated m c (tokAt t r) j := by
  unfold flAt
  refine (pay3_apply _ _ _ _ r j).trans ?_
  simp only [blk0, blk1, blk3, blk4, tokAt_first]
  rfl

/-- The place among the first two projections that point `t` holds. -/
def low (t : Fin cfg0.N) : Fin 2 := ⟨min (t.val % 9) 1, by omega⟩
/-- The place among the other seven. -/
def high (t : Fin cfg0.N) : Fin 7 := ⟨t.val % 9 - 2, by omega⟩

theorem colAt_low (t : Fin cfg0.N) : colAt (second t) = Fin.castLE (by omega) (low t) := by
  unfold colAt second low; exact Fin.ext (by simp only [Fin.val_castLE]; omega)
theorem colAt_high (t : Fin cfg0.N) (h : 2 ≤ t.val % 9) : colAt t = Fin.natAdd 2 (high t) := by
  unfold colAt high; exact Fin.ext (by simp only [Fin.val_natAdd]; omega)

theorem emb_5 (t : Fin cfg0.N) (r j : Fin 1024) : ((win0_5.blk t).view.emb (ix3 0 r j) : S2x65536x1024.Idx) = ix3 (low t) (tokAt t r) j := by
  obtain ⟨-, -, -, -, -, e, -⟩ := idx_in t
  have h : (tokAt t r).val = 1024 * (t.val / 9) + r.val := rfl
  have h' : (low t).val = min (t.val % 9) 1 := rfl
  blk_ext [e, h, h']
theorem emb_6 (t : Fin cfg0.N) (r j : Fin 1024) : ((win0_6.blk t).view.emb (ix3 0 r j) : S7x65536x1024.Idx) = ix3 (high t) (tokAt t r) j := by
  obtain ⟨-, -, -, -, -, -, e, -⟩ := idx_in t
  have h : (tokAt t r).val = 1024 * (t.val / 9) + r.val := rfl
  have h' : (high t).val = t.val % 9 - 2 := rfl
  blk_ext [e, h, h']
theorem emb_7 (t : Fin cfg0.N) (r : Fin 1024) (j : Fin 128) : ((win0_7.blk t).view.emb (ix2 r j) : S65536x128.Idx) = ix2 (tokAt t r) j := by
  obtain ⟨-, -, -, -, -, -, -, e⟩ := idx_in t
  have h : (tokAt t r).val = 1024 * (t.val / 9) + r.val := rfl
  blk_ext [e, h]

/-- An index of a block with a leading axis of one is its row and channel. -/
theorem lead_idx (z : S1x1024x1024.Idx) : ∃ (r : Fin 1024) (j : Fin 1024), z = ix3 0 r j :=
  ⟨z 1, z 2, (eq_ix3 z).trans (congrArg (fun a => ix3 a (z 1) (z 2)) (Subsingleton.elim (α := Fin 1) _ _))⟩

/-- The result arrays after the run. -/
theorem final5 : (dats m 0 c).arrAt 5 cfg0.N = Zf m c := by
  refine (dats m 0 c).arrAt_eq_of_covers 5 _ (by decide +kernel) fun t hf y => ?_
  blk_simp
  rw [after0_5]
  obtain ⟨r, j, rfl⟩ := lead_idx y
  exact ((zfAt_apply m c t r j).trans (congrArg (fun s => projected m c s (tokAt t r) j) (colAt_low t))).trans (congrArg (Zf m c) (emb_5 t r j)).symm
theorem final6 : (dats m 0 c).arrAt 6 cfg0.N = Zb m c := by
  refine (dats m 0 c).arrAt_eq_of_covers 6 _ (by decide +kernel) fun t hf y => ?_
  have h2 : 2 ≤ t.val % 9 := Nat.le_of_not_lt fun h => absurd ((noFlush6 t h).symm.trans hf) (by decide)
  blk_simp
  rw [after0_6]
  obtain ⟨r, j, rfl⟩ := lead_idx y
  exact ((zbAt_apply m c t r j).trans (congrArg (fun s => projected m c s (tokAt t r) j) (colAt_high t h2))).trans (congrArg (Zb m c) (emb_6 t r j)).symm
theorem final7 : (dats m 0 c).arrAt 7 cfg0.N = Fl m c := by
  refine (dats m 0 c).arrAt_eq_of_covers 7 _ (by decide +kernel) fun t hf y => ?_
  blk_simp
  rw [after0_7]
  obtain ⟨r, j, rfl⟩ : ∃ (r : Fin 1024) (j : Fin 128), y = ix2 r j := ⟨y 0, y 1, eq_ix2 _⟩
  exact (flAt_apply m c t r j).trans (congrArg (Fl m c) (emb_7 t r j)).symm

variable (ρ : Dev nD → PrngReg)

/-- The run: the three results, the arguments unchanged. -/
theorem run_results : θ_run defs (onTc (τ := τ) (main (F := Ideal))) ⟨m, fun _ => 0, ρ⟩ fun r => ∀ c : Dev nD,
      r.2.mem ((c.tc : Thread nD τ).loc main_v0_0) = Zf m c
      ∧ r.2.mem ((c.tc : Thread nD τ).loc main_v0_1) = Zb m c
      ∧ r.2.mem ((c.tc : Thread nD τ).loc main_v0_2) = Fl m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.Kernel3Ideal.Gen

end
-- ==== Proof.Proj.Ref.lean ====
module

public import proofs.«01_k».proof.Proof.Gen.Reference3Ideal.Run
public import proofs.«01_k».proof.Proof.Dense.Spec
public import proofs.«01_k».proof.Proof.Hgrn.RefEntry
public import Idealize.ShloMosaic.Lib.Pipeline.ValueKit

@[expose] public section

set_option maxRecDepth 16384

noncomputable section

namespace Cert.Reference3Ideal.Value

open Cert.Reference3Ideal Cert.Reference3Ideal.Gen Cert.Hgrn Cert.Dense
open Idealize.ShloMosaic Idealize.ShloMosaic.TcCoe
open StableHlo

/-! The reference of the projections, at one token and channel. -/

/-- The reference's norm. -/
def normed (x : FVec Ideal S65536x1024 .f32) (g : FVec Ideal S1x1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast S1024 g shapeCasts_S1x1024_S1024)))

theorem normed_apply (x : FVec Ideal S65536x1024 .f32) (g : FVec Ideal S1x1024 .f32) (t : Fin 65536) (j : Fin 1024) :
    (normed x g : S65536x1024.Idx → EReal) (ix2 t j) = rms (fun k => x (ix2 t k)) (fun k => g (ix2 0 k)) j := by
  unfold normed
  pointwise
  unfold rms
  rfl

/-- The reference's projections, all columns. -/
def proj (x : FVec Ideal S65536x1024 .f32) (g : FVec Ideal S1x1024 .f32) (w : FVec Ideal S1024x9216 .bf16) : FVec Ideal S65536x9216 .f32 :=
  Host.dotGeneral dot_S65536x1024_S1024x9216_S65536x9216_1_0_0_1_n_n none (normed x g) (extf .f32 w bitsLt_bf16_f32)

theorem proj_apply (x : FVec Ideal S65536x1024 .f32) (g : FVec Ideal S1x1024 .f32) (w : FVec Ideal S1024x9216 .bf16) (t : Fin 65536) (f : Fin 9216) :
    (proj x g w : S65536x9216.Idx → EReal) (ix2 t f) = projAt (fun k => x (ix2 t k)) (fun k => g (ix2 0 k)) (fun k f => w (ix2 k f)) f := by
  unfold proj
  pointwise
  simp only [normed_apply]
  rfl

/-- Column `1024 * s + j` of the weights: channel `j` of the projection `s`. -/
def slot (s : Fin 9) (j : Fin 1024) : Fin 9216 := ⟨1024 * s.val + j.val, by omega⟩

/-- The nine projections, split off the columns. -/
def part (z : FVec Ideal S65536x9216 .f32) : Fin 9 → FVec Ideal S65536x1024 .f32 :=
  ![extractStridedSlice S65536x1024 ![0, 0] z slices_S65536x9216_S65536x1024_0_0,
    extractStridedSlice S65536x1024 ![0, 1024] z slices_S65536x9216_S65536x1024_0_1024,
    extractStridedSlice S65536x1024 ![0, 2048] z slices_S65536x9216_S65536x1024_0_2048,
    extractStridedSlice S65536x1024 ![0, 3072] z slices_S65536x9216_S65536x1024_0_3072,
    extractStridedSlice S65536x1024 ![0, 4096] z slices_S65536x9216_S65536x1024_0_4096,
    extractStridedSlice S65536x1024 ![0, 5120] z slices_S65536x9216_S65536x1024_0_5120,
    extractStridedSlice S65536x1024 ![0, 6144] z slices_S65536x9216_S65536x1024_0_6144,
    extractStridedSlice S65536x1024 ![0, 7168] z slices_S65536x9216_S65536x1024_0_7168,
    extractStridedSlice S65536x1024 ![0, 8192] z slices_S65536x9216_S65536x1024_0_8192]

/-- One of them: `o` is where it begins. -/
theorem slice_apply (o : ℕ) (ho : o + 1024 ≤ 9216) (hs : S65536x9216.Slices ![0, o] S65536x1024) (z : FVec Ideal S65536x9216 .f32) (t : Fin 65536) (j : Fin 1024) :
    (extractStridedSlice S65536x1024 ![0, o] z hs : S65536x1024.Idx → EReal) (ix2 t j) = z (ix2 t ⟨o + j.val, by omega⟩) := by
  pointwise

theorem part_apply (z : FVec Ideal S65536x9216 .f32) (s : Fin 9) (t : Fin 65536) (j : Fin 1024) :
    (part z s : S65536x1024.Idx → EReal) (ix2 t j) = z (ix2 t (slot s j)) := by
  match s with
  | ⟨0, _⟩ => exact slice_apply 0 (by omega) slices_S65536x9216_S65536x1024_0_0 z t j
  | ⟨1, _⟩ => exact slice_apply 1024 (by omega) slices_S65536x9216_S65536x1024_0_1024 z t j
  | ⟨2, _⟩ => exact slice_apply 2048 (by omega) slices_S65536x9216_S65536x1024_0_2048 z t j
  | ⟨3, _⟩ => exact slice_apply 3072 (by omega) slices_S65536x9216_S65536x1024_0_3072 z t j
  | ⟨4, _⟩ => exact slice_apply 4096 (by omega) slices_S65536x9216_S65536x1024_0_4096 z t j
  | ⟨5, _⟩ => exact slice_apply 5120 (by omega) slices_S65536x9216_S65536x1024_0_5120 z t j
  | ⟨6, _⟩ => exact slice_apply 6144 (by omega) slices_S65536x9216_S65536x1024_0_6144 z t j
  | ⟨7, _⟩ => exact slice_apply 7168 (by omega) slices_S65536x9216_S65536x1024_0_7168 z t j
  | ⟨8, _⟩ => exact slice_apply 8192 (by omega) slices_S65536x9216_S65536x1024_0_8192 z t j

/-- A stacked array with a leading axis of one. -/
theorem lead_apply (v : FVec Ideal S65536x1024 .f32) (t : Fin 65536) (j : Fin 1024) :
    (broadcastInDim S1x65536x1024 ![1, 2] bcast_S65536x1024_S1x65536x1024_1_2 v : S1x65536x1024.Idx → EReal) (ix3 0 t j) = v (ix2 t j) := by
  pointwise

/-- The first two projections stacked. -/
def stacked2 (p : Fin 2 → FVec Ideal S65536x1024 .f32) : FVec Ideal S2x65536x1024 .f32 :=
  (concatenate S2x65536x1024 0 [⟨S1x65536x1024, ((broadcastInDim S1x65536x1024 ![1, 2] bcast_S65536x1024_S1x65536x1024_1_2 (p 0)) : (⟨S1x65536x1024, .f32⟩ : BufTy).Contents (Elt Ideal))⟩,
    ⟨S1x65536x1024, ((broadcastInDim S1x65536x1024 ![1, 2] bcast_S65536x1024_S1x65536x1024_1_2 (p 1)) : (⟨S1x65536x1024, .f32⟩ : BufTy).Contents (Elt Ideal))⟩] concatenates_S1x65536x1024_S1x65536x1024_S2x65536x1024_d0 : (⟨S2x65536x1024, .f32⟩ : BufTy).Contents (Elt Ideal))

/-- The other seven stacked. -/
def stacked7 (p : Fin 7 → FVec Ideal S65536x1024 .f32) : FVec Ideal S7x65536x1024 .bf16 :=
  truncf .bf16 ((concatenate S7x65536x1024 0 [⟨S1x65536x1024, ((broadcastInDim S1x65536x1024 ![1, 2] bcast_S65536x1024_S1x65536x1024_1_2 (p 0)) : (⟨S1x65536x1024, .f32⟩ : BufTy).Contents (Elt Ideal))⟩,
    ⟨S1x65536x1024, ((broadcastInDim S1x65536x1024 ![1, 2] bcast_S65536x1024_S1x65536x1024_1_2 (p 1)) : (⟨S1x65536x1024, .f32⟩ : BufTy).Contents (Elt Ideal))⟩,
    ⟨S1x65536x1024, ((broadcastInDim S1x65536x1024 ![1, 2] bcast_S65536x1024_S1x65536x1024_1_2 (p 2)) : (⟨S1x65536x1024, .f32⟩ : BufTy).Contents (Elt Ideal))⟩,
    ⟨S1x65536x1024, ((broadcastInDim S1x65536x1024 ![1, 2] bcast_S65536x1024_S1x65536x1024_1_2 (p 3)) : (⟨S1x65536x1024, .f32⟩ : BufTy).Contents (Elt Ideal))⟩,
    ⟨S1x65536x1024, ((broadcastInDim S1x65536x1024 ![1, 2] bcast_S65536x1024_S1x65536x1024_1_2 (p 4)) : (⟨S1x65536x1024, .f32⟩ : BufTy).Contents (Elt Ideal))⟩,
    ⟨S1x65536x1024, ((broadcastInDim S1x65536x1024 ![1, 2] bcast_S65536x1024_S1x65536x1024_1_2 (p 5)) : (⟨S1x65536x1024, .f32⟩ : BufTy).Contents (Elt Ideal))⟩,
    ⟨S1x65536x1024, ((broadcastInDim S1x65536x1024 ![1, 2] bcast_S65536x1024_S1x65536x1024_1_2 (p 6)) : (⟨S1x65536x1024, .f32⟩ : BufTy).Contents (Elt Ideal))⟩] concatenates_S1x65536x1024_S1x65536x1024_S1x65536x1024_S1x65536x1024_S1x65536x1024_S1x65536x1024_S1x65536x1024_S7x65536x1024_d0 : (⟨S7x65536x1024, .f32⟩ : BufTy).Contents (Elt Ideal))) bitsLt_bf16_f32

theorem stacked2_apply (p : Fin 2 → FVec Ideal S65536x1024 .f32) (s : Fin 2) (t : Fin 65536) (j : Fin 1024) :
    (stacked2 p : S2x65536x1024.Idx → EReal) (ix3 s t j) = p s (ix2 t j) := by
  unfold stacked2
  refine (concatenate_ofFn_unit_apply (t := S2x65536x1024) (s₁ := S1x65536x1024) 0
    (fun n => (broadcastInDim S1x65536x1024 ![1, 2] bcast_S65536x1024_S1x65536x1024_1_2 (p n) : S1x65536x1024.Idx → EReal))
    concatenates_S1x65536x1024_S1x65536x1024_S2x65536x1024_d0 rfl rfl (ix3 s t j) s rfl (ix3 0 t j) ?_).trans (lead_apply _ t j)
  intro b hb
  match b with
  | ⟨0, _⟩ => exact absurd rfl hb
  | ⟨1, _⟩ => rfl
  | ⟨2, _⟩ => rfl

theorem stacked7_apply (p : Fin 7 → FVec Ideal S65536x1024 .f32) (s : Fin 7) (t : Fin 65536) (j : Fin 1024) :
    (stacked7 p : S7x65536x1024.Idx → EReal) (ix3 s t j) = p s (ix2 t j) := by
  unfold stacked7
  refine (concatenate_ofFn_unit_apply (t := S7x65536x1024) (s₁ := S1x65536x1024) 0
    (fun n => (broadcastInDim S1x65536x1024 ![1, 2] bcast_S65536x1024_S1x65536x1024_1_2 (p n) : S1x65536x1024.Idx → EReal))
    concatenates_S1x65536x1024_S1x65536x1024_S1x65536x1024_S1x65536x1024_S1x65536x1024_S1x65536x1024_S1x65536x1024_S7x65536x1024_d0 rfl rfl (ix3 s t j) s rfl (ix3 0 t j) ?_).trans (lead_apply _ t j)
  intro b hb
  match b with
  | ⟨0, _⟩ => exact absurd rfl hb
  | ⟨1, _⟩ => rfl
  | ⟨2, _⟩ => rfl

/-- The logarithm of the sigmoid, as minus the softplus of the negated argument. -/
def logSig (z : FVec Ideal S65536x128 .f32) : FVec Ideal S65536x128 .f32 :=
  Host.negf (select (cmpf .une (subf (Host.negf z) (broadcastInDim S65536x128 ![] bcast_S_S65536x128 (constant S_ .f32 0x00000000#32))) (subf (Host.negf z) (broadcastInDim S65536x128 ![] bcast_S_S65536x128 (constant S_ .f32 0x00000000#32))))
    (addf (Host.negf z) (broadcastInDim S65536x128 ![] bcast_S_S65536x128 (constant S_ .f32 0x00000000#32)))
    (addf (maximumf (Host.negf z) (broadcastInDim S65536x128 ![] bcast_S_S65536x128 (constant S_ .f32 0x00000000#32)))
      (Host.log1p (Host.exp (Host.negf (Host.absf (subf (Host.negf z) (broadcastInDim S65536x128 ![] bcast_S_S65536x128 (constant S_ .f32 0x00000000#32)))))))))

theorem logSig_apply (z : S65536x128.Idx → EReal) (i : S65536x128.Idx) : (logSig z : S65536x128.Idx → EReal) i = lsig (z i) := by
  unfold logSig
  pointwise
  rw [if_neg (fun h => h rfl)]
  exact Cert.ReferenceIdeal.Value.neg_softplus (z i)

/-- The gate before the logarithm of the sigmoid. -/
def gate (x : FVec Ideal S65536x1024 .f32) (g : FVec Ideal S1x1024 .f32) (w : FVec Ideal S1024x128 .bf16) (b : FVec Ideal S1x128 .f32) : FVec Ideal S65536x128 .f32 :=
  addf (Host.dotGeneral dot_S65536x1024_S1024x128_S65536x128_1_0_0_1_n_n none (normed x g) (extf .f32 w bitsLt_bf16_f32))
    (broadcastInDim S65536x128 ![0, 1] bcast_S1x128_S65536x128_0_1 (broadcastInDim S1x128 ![1] bcast_S128_S1x128_1 (shapeCast S128 b shapeCasts_S1x128_S128)))

theorem gate_apply (x : FVec Ideal S65536x1024 .f32) (g : FVec Ideal S1x1024 .f32) (w : FVec Ideal S1024x128 .bf16) (b : FVec Ideal S1x128 .f32) (t : Fin 65536) (f : Fin 128) :
    (gate x g w b : S65536x128.Idx → EReal) (ix2 t f) = projAt (fun k => x (ix2 t k)) (fun k => g (ix2 0 k)) (fun k f => w (ix2 k f)) f + b (ix2 0 f) := by
  unfold gate
  pointwise
  simp only [normed_apply]
  rfl

section
variable (m : (ℓ : Loc nD τ sig) → Buf (Elt Ideal) ℓ) (c : Dev nD)

/-- The reference's columns from the arguments. -/
def cols : FVec Ideal S65536x9216 .f32 :=
  proj (m ((c.tc : Thread nD τ).loc main_arg0)) (m ((c.tc : Thread nD τ).loc main_arg1)) (m ((c.tc : Thread nD τ).loc main_arg2))

/-- The first stacked result. -/
def res2 : FVec Ideal S2x65536x1024 .f32 := stacked2 fun s => part (cols m c) (Fin.castLE (by omega) s)

theorem res7_split : res_main_v36 m c = stacked7 fun s => part (cols m c) (Fin.natAdd 2 s) := rfl

theorem gate_split : res_main_v43 m c = logSig (gate (m ((c.tc : Thread nD τ).loc main_arg0)) (m ((c.tc : Thread nD τ).loc main_arg1))
    (m ((c.tc : Thread nD τ).loc main_arg3)) (m ((c.tc : Thread nD τ).loc main_arg4))) := rfl

theorem cols_apply (s : Fin 9) (t : Fin 65536) (j : Fin 1024) :
    (part (cols m c) s : S65536x1024.Idx → EReal) (ix2 t j) =
      projAt (fun k => (m ((c.tc : Thread nD τ).loc main_arg0) : S65536x1024.Idx → EReal) (ix2 t k))
    (fun k => (m ((c.tc : Thread nD τ).loc main_arg1) : S1x1024.Idx → EReal) (ix2 0 k))
    (fun k f => (m ((c.tc : Thread nD τ).loc main_arg2) : S1024x9216.Idx → EReal) (ix2 k f)) (slot s j) :=
  (part_apply _ s t j).trans (proj_apply _ _ _ t _)

theorem res2_apply (s : Fin 2) (t : Fin 65536) (j : Fin 1024) :
    (res2 m c : S2x65536x1024.Idx → EReal) (ix3 s t j) =
      projAt (fun k => (m ((c.tc : Thread nD τ).loc main_arg0) : S65536x1024.Idx → EReal) (ix2 t k))
    (fun k => (m ((c.tc : Thread nD τ).loc main_arg1) : S1x1024.Idx → EReal) (ix2 0 k))
    (fun k f => (m ((c.tc : Thread nD τ).loc main_arg2) : S1024x9216.Idx → EReal) (ix2 k f)) (slot (Fin.castLE (by omega) s) j) :=
  (stacked2_apply _ s t j).trans (cols_apply m c _ t j)

theorem res7_apply (s : Fin 7) (t : Fin 65536) (j : Fin 1024) :
    (res_main_v36 m c : S7x65536x1024.Idx → EReal) (ix3 s t j) =
      projAt (fun k => (m ((c.tc : Thread nD τ).loc main_arg0) : S65536x1024.Idx → EReal) (ix2 t k))
    (fun k => (m ((c.tc : Thread nD τ).loc main_arg1) : S1x1024.Idx → EReal) (ix2 0 k))
    (fun k f => (m ((c.tc : Thread nD τ).loc main_arg2) : S1024x9216.Idx → EReal) (ix2 k f)) (slot (Fin.natAdd 2 s) j) := by
  rw [res7_split]
  exact (stacked7_apply _ s t j).trans (cols_apply m c _ t j)

theorem gated_apply (t : Fin 65536) (j : Fin 128) :
    (res_main_v43 m c : S65536x128.Idx → EReal) (ix2 t j) =
      lsig (projAt (fun k => (m ((c.tc : Thread nD τ).loc main_arg0) : S65536x1024.Idx → EReal) (ix2 t k))
    (fun k => (m ((c.tc : Thread nD τ).loc main_arg1) : S1x1024.Idx → EReal) (ix2 0 k))
    (fun k f => (m ((c.tc : Thread nD τ).loc main_arg3) : S1024x128.Idx → EReal) (ix2 k f)) j
      + (m ((c.tc : Thread nD τ).loc main_arg4) : S1x128.Idx → EReal) (ix2 0 j)) := by
  rw [gate_split]
  exact (logSig_apply _ _).trans (congrArg lsig (gate_apply _ _ _ _ t j))

end
end Cert.Reference3Ideal.Value

end
-- ==== Proof.Proj.Agree.lean ====
module

public import proofs.«01_k».proof.Defs
public import proofs.«01_k».proof.Proof.Proj.Value
public import proofs.«01_k».proof.Proof.Proj.Ref

@[expose] public section

noncomputable section

namespace Cert.Proj

open Idealize.ShloMosaic Idealize.ShloMosaic.TcCoe Idealize.SL.Sem

/-- The projections are what their reference computes. -/
theorem algebraic3 : Cert.algebraic_Kernel3Ideal_Reference3Ideal (hKernel3Ideal := Cert.Kernel3Ideal.Gen.facts) (hReference3Ideal := Cert.Reference3Ideal.Gen.facts) := by
  intro m g m' g' _ hm
  refine ⟨fun c => Cert.Kernel3Ideal.Gen.Zf m c, fun c => Cert.Kernel3Ideal.Gen.Zb m c, fun c => Cert.Kernel3Ideal.Gen.Fl m c,
    Cert.Kernel3Ideal.Gen.run_results m g, ?_⟩
  refine (θ_run Cert.Reference3Ideal.defs _ _).mono (fun r h c => ?_) (Cert.Reference3Ideal.Value.run m' g')
  obtain ⟨e0, e1, e2, e3, e4⟩ := hm c
  have hf : Cert.Reference3Ideal.Value.res2 m' c = Cert.Kernel3Ideal.Gen.Zf m c := by
    funext i
    obtain ⟨s, t, j, rfl⟩ : ∃ (s : Fin 2) (t : Fin 65536) (j : Fin 1024), i = ix3 s t j := ⟨i 0, i 1, i 2, eq_ix3 _⟩
    rw [Cert.Reference3Ideal.Value.res2_apply, e0, e1, e2]
    rfl
  have hb : Cert.Reference3Ideal.Value.res_main_v36 m' c = Cert.Kernel3Ideal.Gen.Zb m c := by
    funext i
    obtain ⟨s, t, j, rfl⟩ : ∃ (s : Fin 7) (t : Fin 65536) (j : Fin 1024), i = ix3 s t j := ⟨i 0, i 1, i 2, eq_ix3 _⟩
    rw [Cert.Reference3Ideal.Value.res7_apply, e0, e1, e2]
    rfl
  have hl : Cert.Reference3Ideal.Value.res_main_v43 m' c = Cert.Kernel3Ideal.Gen.Fl m c := by
    funext i
    obtain ⟨t, j, rfl⟩ : ∃ (t : Fin 65536) (j : Fin 128), i = ix2 t j := ⟨i 0, i 1, eq_ix2 _⟩
    rw [Cert.Reference3Ideal.Value.gated_apply, e0, e1, e3, e4]
    rfl
  obtain ⟨h0, h1, h2, h3⟩ := h c
  exact ⟨h0.trans hf, h1.trans hb, h2.trans hl, h3⟩

end Cert.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Hgrn.Agree
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel6Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel2Ideal.Value
public import proofs.«01_k».proof.Proof.Gen.Kernel5Ideal.Value
public import proofs.«01_k».proof.Proof.Dense.FfnAgree
public import proofs.«01_k».proof.Proof.Dense.CacheAgree
public import proofs.«01_k».proof.Proof.Dense.MergeAgree
public import proofs.«01_k».proof.Proof.Same
public import proofs.«01_k».proof.Proof.Sample.Ffn
public import proofs.«01_k».proof.Proof.Sample.Cache
public import proofs.«01_k».proof.Proof.Sample.Proj
public import proofs.«01_k».proof.Proof.Sample.Merge
public import proofs.«01_k».proof.Proof.Sample.HgrnRef
public import proofs.«01_k».proof.Proof.Proj.Agree
public import Idealize.ShloMosaic.Adequacy
public import Idealize.ShloMosaic.Init

@[expose] public section

noncomputable section

namespace Cert.Proof

open Idealize.ShloMosaic Idealize.SL.Sem

/-- The reference of the recurrence runs, keeps its arguments and ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)

/-- The reference of the feed-forward call runs, keeps its arguments and ends with every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The reference of the projections runs, keeps its arguments and ends with every counter at zero. -/
theorem frame_reference3 : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run m ρ)

/-- The reference of the cache's projections runs, keeps its arguments and ends with every counter at zero. -/
theorem frame_reference4 : Cert.quiescent_Reference4Ideal (hReference4Ideal := Cert.Reference4Ideal.Gen.facts) := fun m ρ _ =>
  (θ_run Cert.Reference4Ideal.defs _ _).mono (fun r h => ⟨fun c => (h c).2.2.2.2.2, sem_eq_zero_of_no_sems (by decide) r.2⟩)
    (Cert.Reference4Ideal.Value.run m ρ)

/-- The reference of the merge runs, keeps its arguments and ends with every counter at zero. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The reference of the sample's feed-forward call runs, keeps its arguments and ends with every counter at zero. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- The reference of the sample's projections of the cache runs, keeps its arguments and ends with every counter at zero. -/
theorem frame_reference7 : Cert.quiescent_Reference7Ideal (hReference7Ideal := Cert.Reference7Ideal.Gen.facts) := fun m ρ _ =>
  (θ_run Cert.Reference7Ideal.defs _ _).mono (fun r h => ⟨fun c => (h c).2.2.2.2.2, sem_eq_zero_of_no_sems (by decide) r.2⟩)
    (Cert.Reference7Ideal.Value.run m ρ)

/-- The reference of the sample's projections runs, keeps its arguments and ends with every counter at zero. -/
theorem frame_reference8 : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems (by decide) r.2⟩)
    (Cert.Reference8Ideal.Value.run m ρ)

/-- The reference of the sample's merge runs, keeps its arguments and ends with every counter at zero. -/
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run m ρ)

/-- The reference of the sample's recurrence runs, keeps its arguments and ends with every counter at zero. -/
theorem frame_reference10 : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run m ρ)

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Same.frame1, fun m ρ _ => Cert.KernelIdeal.Gen.frame m ρ, frame_reference,
  fun m ρ _ => Cert.Kernel2.Gen.frame m ρ, fun m ρ _ => Cert.Kernel2Ideal.Gen.frame m ρ, frame_reference2,
  Cert.Same.frame3, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  Cert.Same.frame8, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  trivial, Cert.Hgrn.algebraic, trivial, Cert.Dense.algebraic2, trivial, Cert.Proj.algebraic3, trivial, Cert.Dense.algebraic4, trivial, Cert.Dense.algebraic5,
  trivial, Cert.Dense.algebraic6, trivial, Cert.Dense.algebraic7, trivial, Cert.Dense.algebraic8, trivial, Cert.Dense.algebraic9, trivial, Cert.Hgrn.algebraic10⟩

end Cert.Proof

end
